-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UpBwdW (m : (ℓ : Loc Cert.UpBwdW.nD Cert.UpBwdW.τ Cert.UpBwdW.sig) → Buf (Elt Bits) ℓ) : Prop :=
  True

def Pre_UpBwdWIdeal (m : (ℓ : Loc Cert.UpBwdWIdeal.nD Cert.UpBwdWIdeal.τ Cert.UpBwdWIdeal.sig) → Buf (Elt Ideal) ℓ) : Prop :=
  True

def Pre_UpBwdWRefIdeal (m : (ℓ : Loc Cert.UpBwdWRefIdeal.nD Cert.UpBwdWRefIdeal.τ Cert.UpBwdWRefIdeal.sig) → Buf (Elt Ideal) ℓ) : Prop :=
  True

def Pre_UpBwdX (m : (ℓ : Loc Cert.UpBwdX.nD Cert.UpBwdX.τ Cert.UpBwdX.sig) → Buf (Elt Bits) ℓ) : Prop :=
  True

def Pre_UpBwdXIdeal (m : (ℓ : Loc Cert.UpBwdXIdeal.nD Cert.UpBwdXIdeal.τ Cert.UpBwdXIdeal.sig) → Buf (Elt Ideal) ℓ) : Prop :=
  True

def Pre_UpBwdXRefIdeal (m : (ℓ : Loc Cert.UpBwdXRefIdeal.nD Cert.UpBwdXRefIdeal.τ Cert.UpBwdXRefIdeal.sig) → Buf (Elt Ideal) ℓ) : Prop :=
  True

def Pre_DownBwdW (m : (ℓ : Loc Cert.DownBwdW.nD Cert.DownBwdW.τ Cert.DownBwdW.sig) → Buf (Elt Bits) ℓ) : Prop :=
  True

def Pre_DownBwdWIdeal (m : (ℓ : Loc Cert.DownBwdWIdeal.nD Cert.DownBwdWIdeal.τ Cert.DownBwdWIdeal.sig) → Buf (Elt Ideal) ℓ) : Prop :=
  True

def Pre_DownBwdWRefIdeal (m : (ℓ : Loc Cert.DownBwdWRefIdeal.nD Cert.DownBwdWRefIdeal.τ Cert.DownBwdWRefIdeal.sig) → Buf (Elt Ideal) ℓ) : Prop :=
  True

def Pre_DownBwdX (m : (ℓ : Loc Cert.DownBwdX.nD Cert.DownBwdX.τ Cert.DownBwdX.sig) → Buf (Elt Bits) ℓ) : Prop :=
  True

def Pre_DownBwdXIdeal (m : (ℓ : Loc Cert.DownBwdXIdeal.nD Cert.DownBwdXIdeal.τ Cert.DownBwdXIdeal.sig) → Buf (Elt Ideal) ℓ) : Prop :=
  True

def Pre_DownBwdXRefIdeal (m : (ℓ : Loc Cert.DownBwdXRefIdeal.nD Cert.DownBwdXRefIdeal.τ Cert.DownBwdXRefIdeal.sig) → Buf (Elt Ideal) ℓ) : Prop :=
  True

def Pre_ProjBwdW0 (m : (ℓ : Loc Cert.ProjBwdW0.nD Cert.ProjBwdW0.τ Cert.ProjBwdW0.sig) → Buf (Elt Bits) ℓ) : Prop :=
  True

def Pre_ProjBwdW0Ideal (m : (ℓ : Loc Cert.ProjBwdW0Ideal.nD Cert.ProjBwdW0Ideal.τ Cert.ProjBwdW0Ideal.sig) → Buf (Elt Ideal) ℓ) : Prop :=
  True

def Pre_ProjBwdW0RefIdeal (m : (ℓ : Loc Cert.ProjBwdW0RefIdeal.nD Cert.ProjBwdW0RefIdeal.τ Cert.ProjBwdW0RefIdeal.sig) → Buf (Elt Ideal) ℓ) : Prop :=
  True

def Pre_ProjBwdW1 (m : (ℓ : Loc Cert.ProjBwdW1.nD Cert.ProjBwdW1.τ Cert.ProjBwdW1.sig) → Buf (Elt Bits) ℓ) : Prop :=
  True

def Pre_ProjBwdW1Ideal (m : (ℓ : Loc Cert.ProjBwdW1Ideal.nD Cert.ProjBwdW1Ideal.τ Cert.ProjBwdW1Ideal.sig) → Buf (Elt Ideal) ℓ) : Prop :=
  True

def Pre_ProjBwdW1RefIdeal (m : (ℓ : Loc Cert.ProjBwdW1RefIdeal.nD Cert.ProjBwdW1RefIdeal.τ Cert.ProjBwdW1RefIdeal.sig) → Buf (Elt Ideal) ℓ) : Prop :=
  True

def Pre_ProjBwdX (m : (ℓ : Loc Cert.ProjBwdX.nD Cert.ProjBwdX.τ Cert.ProjBwdX.sig) → Buf (Elt Bits) ℓ) : Prop :=
  True

def Pre_ProjBwdXIdeal (m : (ℓ : Loc Cert.ProjBwdXIdeal.nD Cert.ProjBwdXIdeal.τ Cert.ProjBwdXIdeal.sig) → Buf (Elt Ideal) ℓ) : Prop :=
  True

def Pre_ProjBwdXRefIdeal (m : (ℓ : Loc Cert.ProjBwdXRefIdeal.nD Cert.ProjBwdXRefIdeal.τ Cert.ProjBwdXRefIdeal.sig) → Buf (Elt Ideal) ℓ) : Prop :=
  True

def Pre_MixBwdW (m : (ℓ : Loc Cert.MixBwdW.nD Cert.MixBwdW.τ Cert.MixBwdW.sig) → Buf (Elt Bits) ℓ) : Prop :=
  True

def Pre_MixBwdWIdeal (m : (ℓ : Loc Cert.MixBwdWIdeal.nD Cert.MixBwdWIdeal.τ Cert.MixBwdWIdeal.sig) → Buf (Elt Ideal) ℓ) : Prop :=
  True

def Pre_MixBwdWRefIdeal (m : (ℓ : Loc Cert.MixBwdWRefIdeal.nD Cert.MixBwdWRefIdeal.τ Cert.MixBwdWRefIdeal.sig) → Buf (Elt Ideal) ℓ) : Prop :=
  True

def Pre_MixBwdX (m : (ℓ : Loc Cert.MixBwdX.nD Cert.MixBwdX.τ Cert.MixBwdX.sig) → Buf (Elt Bits) ℓ) : Prop :=
  True

def Pre_MixBwdXIdeal (m : (ℓ : Loc Cert.MixBwdXIdeal.nD Cert.MixBwdXIdeal.τ Cert.MixBwdXIdeal.sig) → Buf (Elt Ideal) ℓ) : Prop :=
  True

def Pre_MixBwdXRefIdeal (m : (ℓ : Loc Cert.MixBwdXRefIdeal.nD Cert.MixBwdXRefIdeal.τ Cert.MixBwdXRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamBAda (m : (ℓ : Loc Cert.AdamBAda.nD Cert.AdamBAda.τ Cert.AdamBAda.sig) → Buf (Elt Bits) ℓ) : Prop :=
  True

def Pre_AdamBAdaIdeal (m : (ℓ : Loc Cert.AdamBAdaIdeal.nD Cert.AdamBAdaIdeal.τ Cert.AdamBAdaIdeal.sig) → Buf (Elt Ideal) ℓ) : Prop :=
  True

def Pre_AdamBAdaRefIdeal (m : (ℓ : Loc Cert.AdamBAdaRefIdeal.nD Cert.AdamBAdaRefIdeal.τ Cert.AdamBAdaRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamLb (m : (ℓ : Loc Cert.AdamLb.nD Cert.AdamLb.τ Cert.AdamLb.sig) → Buf (Elt Bits) ℓ) : Prop :=
  True

def Pre_AdamLbIdeal (m : (ℓ : Loc Cert.AdamLbIdeal.nD Cert.AdamLbIdeal.τ Cert.AdamLbIdeal.sig) → Buf (Elt Ideal) ℓ) : Prop :=
  True

def Pre_AdamLbRefIdeal (m : (ℓ : Loc Cert.AdamLbRefIdeal.nD Cert.AdamLbRefIdeal.τ Cert.AdamLbRefIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadRefIdeal (m : (ℓ : Loc Cert.AdamHeadRefIdeal.nD Cert.AdamHeadRefIdeal.τ Cert.AdamHeadRefIdeal.sig) → Buf (Elt Ideal) ℓ) : Prop :=
  True

def Pre_AdamConvW (m : (ℓ : Loc Cert.AdamConvW.nD Cert.AdamConvW.τ Cert.AdamConvW.sig) → Buf (Elt Bits) ℓ) : Prop :=
  True

def Pre_AdamConvWIdeal (m : (ℓ : Loc Cert.AdamConvWIdeal.nD Cert.AdamConvWIdeal.τ Cert.AdamConvWIdeal.sig) → Buf (Elt Ideal) ℓ) : Prop :=
  True

def Pre_AdamConvWRefIdeal (m : (ℓ : Loc Cert.AdamConvWRefIdeal.nD Cert.AdamConvWRefIdeal.τ Cert.AdamConvWRefIdeal.sig) → Buf (Elt Ideal) ℓ) : Prop :=
  True

def Pre_AdamConvB (m : (ℓ : Loc Cert.AdamConvB.nD Cert.AdamConvB.τ Cert.AdamConvB.sig) → Buf (Elt Bits) ℓ) : Prop :=
  True

def Pre_AdamConvBIdeal (m : (ℓ : Loc Cert.AdamConvBIdeal.nD Cert.AdamConvBIdeal.τ Cert.AdamConvBIdeal.sig) → Buf (Elt Ideal) ℓ) : Prop :=
  True

def Pre_AdamConvBRefIdeal (m : (ℓ : Loc Cert.AdamConvBRefIdeal.nD Cert.AdamConvBRefIdeal.τ Cert.AdamConvBRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumBAda (m : (ℓ : Loc Cert.SumBAda.nD Cert.SumBAda.τ Cert.SumBAda.sig) → Buf (Elt Bits) ℓ) : Prop :=
  True

def Pre_SumBAdaIdeal (m : (ℓ : Loc Cert.SumBAdaIdeal.nD Cert.SumBAdaIdeal.τ Cert.SumBAdaIdeal.sig) → Buf (Elt Ideal) ℓ) : Prop :=
  True

def Pre_SumBAdaRefIdeal (m : (ℓ : Loc Cert.SumBAdaRefIdeal.nD Cert.SumBAdaRefIdeal.τ Cert.SumBAdaRefIdeal.sig) → Buf (Elt Ideal) ℓ) : Prop :=
  True

def Pre_LbGrad (m : (ℓ : Loc Cert.LbGrad.nD Cert.LbGrad.τ Cert.LbGrad.sig) → Buf (Elt Bits) ℓ) : Prop :=
  True

def Pre_LbGradIdeal (m : (ℓ : Loc Cert.LbGradIdeal.nD Cert.LbGradIdeal.τ Cert.LbGradIdeal.sig) → Buf (Elt Ideal) ℓ) : Prop :=
  True

def Pre_LbGradIdeal_all_finite [hPre_all_finite : Cert.Pre_all_finite.Facts] (m : (ℓ : Loc Cert.LbGradIdeal.nD Cert.LbGradIdeal.τ Cert.LbGradIdeal.sig) → Buf (Elt Ideal) ℓ) : Prop :=
  ∀ c : Dev Cert.LbGradIdeal.nD,
    (Cert.Pre_all_finite.fn (F := Ideal) (m ((c.tc : Thread Cert.LbGradIdeal.nD Cert.LbGradIdeal.τ).loc Cert.LbGradIdeal.main_arg0)) (m ((c.tc : Thread Cert.LbGradIdeal.nD Cert.LbGradIdeal.τ).loc Cert.LbGradIdeal.main_arg1))) = (fun _ => 1#1)

def Pre_LbGradRefIdeal (m : (ℓ : Loc Cert.LbGradRefIdeal.nD Cert.LbGradRefIdeal.τ Cert.LbGradRefIdeal.sig) → Buf (Elt Ideal) ℓ) : Prop :=
  True

def Pre_LbGradRefIdeal_all_finite [hPre_all_finite : Cert.Pre_all_finite.Facts] (m : (ℓ : Loc Cert.LbGradRefIdeal.nD Cert.LbGradRefIdeal.τ Cert.LbGradRefIdeal.sig) → Buf (Elt Ideal) ℓ) : Prop :=
  ∀ c : Dev Cert.LbGradRefIdeal.nD,
    (Cert.Pre_all_finite.fn (F := Ideal) (m ((c.tc : Thread Cert.LbGradRefIdeal.nD Cert.LbGradRefIdeal.τ).loc Cert.LbGradRefIdeal.main_arg0)) (m ((c.tc : Thread Cert.LbGradRefIdeal.nD Cert.LbGradRefIdeal.τ).loc Cert.LbGradRefIdeal.main_arg1))) = (fun _ => 1#1)

def Pre_OutLoss (m : (ℓ : Loc Cert.OutLoss.nD Cert.OutLoss.τ Cert.OutLoss.sig) → Buf (Elt Bits) ℓ) : Prop :=
  True

def Pre_OutLossIdeal (m : (ℓ : Loc Cert.OutLossIdeal.nD Cert.OutLossIdeal.τ Cert.OutLossIdeal.sig) → Buf (Elt Ideal) ℓ) : Prop :=
  True

def Pre_OutLossRefIdeal (m : (ℓ : Loc Cert.OutLossRefIdeal.nD Cert.OutLossRefIdeal.τ Cert.OutLossRefIdeal.sig) → Buf (Elt Ideal) ℓ) : Prop :=
  True

def Pre_Norm1Bwd (m : (ℓ : Loc Cert.Norm1Bwd.nD Cert.Norm1Bwd.τ Cert.Norm1Bwd.sig) → Buf (Elt Bits) ℓ) : Prop :=
  True

def Pre_Norm1BwdIdeal (m : (ℓ : Loc Cert.Norm1BwdIdeal.nD Cert.Norm1BwdIdeal.τ Cert.Norm1BwdIdeal.sig) → Buf (Elt Ideal) ℓ) : Prop :=
  True

def Pre_Norm1BwdRefIdeal (m : (ℓ : Loc Cert.Norm1BwdRefIdeal.nD Cert.Norm1BwdRefIdeal.τ Cert.Norm1BwdRefIdeal.sig) → Buf (Elt Ideal) ℓ) : Prop :=
  True

def Pre_Norm2Bwd (m : (ℓ : Loc Cert.Norm2Bwd.nD Cert.Norm2Bwd.τ Cert.Norm2Bwd.sig) → Buf (Elt Bits) ℓ) : Prop :=
  True

def Pre_Norm2BwdIdeal (m : (ℓ : Loc Cert.Norm2BwdIdeal.nD Cert.Norm2BwdIdeal.τ Cert.Norm2BwdIdeal.sig) → Buf (Elt Ideal) ℓ) : Prop :=
  True

def Pre_Norm2BwdRefIdeal (m : (ℓ : Loc Cert.Norm2BwdRefIdeal.nD Cert.Norm2BwdRefIdeal.τ Cert.Norm2BwdRefIdeal.sig) → Buf (Elt Ideal) ℓ) : Prop :=
  True

def Pre_QkNormBwd (m : (ℓ : Loc Cert.QkNormBwd.nD Cert.QkNormBwd.τ Cert.QkNormBwd.sig) → Buf (Elt Bits) ℓ) : Prop :=
  True

def Pre_QkNormBwdIdeal (m : (ℓ : Loc Cert.QkNormBwdIdeal.nD Cert.QkNormBwdIdeal.τ Cert.QkNormBwdIdeal.sig) → Buf (Elt Ideal) ℓ) : Prop :=
  True

def Pre_QkNormBwdRefIdeal (m : (ℓ : Loc Cert.QkNormBwdRefIdeal.nD Cert.QkNormBwdRefIdeal.τ Cert.QkNormBwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ResidFwd (m : (ℓ : Loc Cert.ResidFwd.nD Cert.ResidFwd.τ Cert.ResidFwd.sig) → Buf (Elt Bits) ℓ) : Prop :=
  True

def Pre_ResidFwdIdeal (m : (ℓ : Loc Cert.ResidFwdIdeal.nD Cert.ResidFwdIdeal.τ Cert.ResidFwdIdeal.sig) → Buf (Elt Ideal) ℓ) : Prop :=
  True

def Pre_ResidFwdRefIdeal (m : (ℓ : Loc Cert.ResidFwdRefIdeal.nD Cert.ResidFwdRefIdeal.τ Cert.ResidFwdRefIdeal.sig) → Buf (Elt Ideal) ℓ) : Prop :=
  True

def Pre_QkPrep (m : (ℓ : Loc Cert.QkPrep.nD Cert.QkPrep.τ Cert.QkPrep.sig) → Buf (Elt Bits) ℓ) : Prop :=
  True

def Pre_QkPrepIdeal (m : (ℓ : Loc Cert.QkPrepIdeal.nD Cert.QkPrepIdeal.τ Cert.QkPrepIdeal.sig) → Buf (Elt Ideal) ℓ) : Prop :=
  True

def Pre_QkPrepRefIdeal (m : (ℓ : Loc Cert.QkPrepRefIdeal.nD Cert.QkPrepRefIdeal.τ Cert.QkPrepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_UpBwdW [hUpBwdW : Cert.UpBwdW.Facts] : Prop :=
  ∀ (m : (ℓ : Loc Cert.UpBwdW.nD Cert.UpBwdW.τ Cert.UpBwdW.sig) → Buf (Elt Bits) ℓ) (g : Dev Cert.UpBwdW.nD → PrngReg), Pre_UpBwdW m →
    θ_run (Cert.UpBwdW.defs (F := Bits)) (onTc (τ := Cert.UpBwdW.τ) (Cert.UpBwdW.main (F := Bits))) ⟨m, fun _ => 0, g⟩ (fun r => (∀ c : Dev Cert.UpBwdW.nD,
      r.2.mem ((c.tc : Thread Cert.UpBwdW.nD Cert.UpBwdW.τ).loc Cert.UpBwdW.main_arg0) = m ((c.tc : Thread Cert.UpBwdW.nD Cert.UpBwdW.τ).loc Cert.UpBwdW.main_arg0)
      ∧ r.2.mem ((c.tc : Thread Cert.UpBwdW.nD Cert.UpBwdW.τ).loc Cert.UpBwdW.main_arg1) = m ((c.tc : Thread Cert.UpBwdW.nD Cert.UpBwdW.τ).loc Cert.UpBwdW.main_arg1))
      ∧ r.2.sem = fun _ => 0)

def quiescent_UpBwdWIdeal [hUpBwdWIdeal : Cert.UpBwdWIdeal.Facts] : Prop :=
  ∀ (m : (ℓ : Loc Cert.UpBwdWIdeal.nD Cert.UpBwdWIdeal.τ Cert.UpBwdWIdeal.sig) → Buf (Elt Ideal) ℓ) (g : Dev Cert.UpBwdWIdeal.nD → PrngReg), Pre_UpBwdWIdeal m →
    θ_run (Cert.UpBwdWIdeal.defs (F := Ideal)) (onTc (τ := Cert.UpBwdWIdeal.τ) (Cert.UpBwdWIdeal.main (F := Ideal))) ⟨m, fun _ => 0, g⟩ (fun r => (∀ c : Dev Cert.UpBwdWIdeal.nD,
      r.2.mem ((c.tc : Thread Cert.UpBwdWIdeal.nD Cert.UpBwdWIdeal.τ).loc Cert.UpBwdWIdeal.main_arg0) = m ((c.tc : Thread Cert.UpBwdWIdeal.nD Cert.UpBwdWIdeal.τ).loc Cert.UpBwdWIdeal.main_arg0)
      ∧ r.2.mem ((c.tc : Thread Cert.UpBwdWIdeal.nD Cert.UpBwdWIdeal.τ).loc Cert.UpBwdWIdeal.main_arg1) = m ((c.tc : Thread Cert.UpBwdWIdeal.nD Cert.UpBwdWIdeal.τ).loc Cert.UpBwdWIdeal.main_arg1))
      ∧ r.2.sem = fun _ => 0)

def quiescent_UpBwdWRefIdeal [hUpBwdWRefIdeal : Cert.UpBwdWRefIdeal.Facts] : Prop :=
  ∀ (m : (ℓ : Loc Cert.UpBwdWRefIdeal.nD Cert.UpBwdWRefIdeal.τ Cert.UpBwdWRefIdeal.sig) → Buf (Elt Ideal) ℓ) (g : Dev Cert.UpBwdWRefIdeal.nD → PrngReg), Pre_UpBwdWRefIdeal m →
    θ_run (Cert.UpBwdWRefIdeal.defs (F := Ideal)) (onTc (τ := Cert.UpBwdWRefIdeal.τ) (Cert.UpBwdWRefIdeal.main (F := Ideal))) ⟨m, fun _ => 0, g⟩ (fun r => (∀ c : Dev Cert.UpBwdWRefIdeal.nD,
      r.2.mem ((c.tc : Thread Cert.UpBwdWRefIdeal.nD Cert.UpBwdWRefIdeal.τ).loc Cert.UpBwdWRefIdeal.main_arg0) = m ((c.tc : Thread Cert.UpBwdWRefIdeal.nD Cert.UpBwdWRefIdeal.τ).loc Cert.UpBwdWRefIdeal.main_arg0)
      ∧ r.2.mem ((c.tc : Thread Cert.UpBwdWRefIdeal.nD Cert.UpBwdWRefIdeal.τ).loc Cert.UpBwdWRefIdeal.main_arg1) = m ((c.tc : Thread Cert.UpBwdWRefIdeal.nD Cert.UpBwdWRefIdeal.τ).loc Cert.UpBwdWRefIdeal.main_arg1))
      ∧ r.2.sem = fun _ => 0)

def quiescent_UpBwdX [hUpBwdX : Cert.UpBwdX.Facts] : Prop :=
  ∀ (m : (ℓ : Loc Cert.UpBwdX.nD Cert.UpBwdX.τ Cert.UpBwdX.sig) → Buf (Elt Bits) ℓ) (g : Dev Cert.UpBwdX.nD → PrngReg), Pre_UpBwdX m →
    θ_run (Cert.UpBwdX.defs (F := Bits)) (onTc (τ := Cert.UpBwdX.τ) (Cert.UpBwdX.main (F := Bits))) ⟨m, fun _ => 0, g⟩ (fun r => (∀ c : Dev Cert.UpBwdX.nD,
      r.2.mem ((c.tc : Thread Cert.UpBwdX.nD Cert.UpBwdX.τ).loc Cert.UpBwdX.main_arg0) = m ((c.tc : Thread Cert.UpBwdX.nD Cert.UpBwdX.τ).loc Cert.UpBwdX.main_arg0)
      ∧ r.2.mem ((c.tc : Thread Cert.UpBwdX.nD Cert.UpBwdX.τ).loc Cert.UpBwdX.main_arg1) = m ((c.tc : Thread Cert.UpBwdX.nD Cert.UpBwdX.τ).loc Cert.UpBwdX.main_arg1))
      ∧ r.2.sem = fun _ => 0)

def quiescent_UpBwdXIdeal [hUpBwdXIdeal : Cert.UpBwdXIdeal.Facts] : Prop :=
  ∀ (m : (ℓ : Loc Cert.UpBwdXIdeal.nD Cert.UpBwdXIdeal.τ Cert.UpBwdXIdeal.sig) → Buf (Elt Ideal) ℓ) (g : Dev Cert.UpBwdXIdeal.nD → PrngReg), Pre_UpBwdXIdeal m →
    θ_run (Cert.UpBwdXIdeal.defs (F := Ideal)) (onTc (τ := Cert.UpBwdXIdeal.τ) (Cert.UpBwdXIdeal.main (F := Ideal))) ⟨m, fun _ => 0, g⟩ (fun r => (∀ c : Dev Cert.UpBwdXIdeal.nD,
      r.2.mem ((c.tc : Thread Cert.UpBwdXIdeal.nD Cert.UpBwdXIdeal.τ).loc Cert.UpBwdXIdeal.main_arg0) = m ((c.tc : Thread Cert.UpBwdXIdeal.nD Cert.UpBwdXIdeal.τ).loc Cert.UpBwdXIdeal.main_arg0)
      ∧ r.2.mem ((c.tc : Thread Cert.UpBwdXIdeal.nD Cert.UpBwdXIdeal.τ).loc Cert.UpBwdXIdeal.main_arg1) = m ((c.tc : Thread Cert.UpBwdXIdeal.nD Cert.UpBwdXIdeal.τ).loc Cert.UpBwdXIdeal.main_arg1))
      ∧ r.2.sem = fun _ => 0)

def quiescent_UpBwdXRefIdeal [hUpBwdXRefIdeal : Cert.UpBwdXRefIdeal.Facts] : Prop :=
  ∀ (m : (ℓ : Loc Cert.UpBwdXRefIdeal.nD Cert.UpBwdXRefIdeal.τ Cert.UpBwdXRefIdeal.sig) → Buf (Elt Ideal) ℓ) (g : Dev Cert.UpBwdXRefIdeal.nD → PrngReg), Pre_UpBwdXRefIdeal m →
    θ_run (Cert.UpBwdXRefIdeal.defs (F := Ideal)) (onTc (τ := Cert.UpBwdXRefIdeal.τ) (Cert.UpBwdXRefIdeal.main (F := Ideal))) ⟨m, fun _ => 0, g⟩ (fun r => (∀ c : Dev Cert.UpBwdXRefIdeal.nD,
      r.2.mem ((c.tc : Thread Cert.UpBwdXRefIdeal.nD Cert.UpBwdXRefIdeal.τ).loc Cert.UpBwdXRefIdeal.main_arg0) = m ((c.tc : Thread Cert.UpBwdXRefIdeal.nD Cert.UpBwdXRefIdeal.τ).loc Cert.UpBwdXRefIdeal.main_arg0)
      ∧ r.2.mem ((c.tc : Thread Cert.UpBwdXRefIdeal.nD Cert.UpBwdXRefIdeal.τ).loc Cert.UpBwdXRefIdeal.main_arg1) = m ((c.tc : Thread Cert.UpBwdXRefIdeal.nD Cert.UpBwdXRefIdeal.τ).loc Cert.UpBwdXRefIdeal.main_arg1))
      ∧ r.2.sem = fun _ => 0)

def quiescent_DownBwdW [hDownBwdW : Cert.DownBwdW.Facts] : Prop :=
  ∀ (m : (ℓ : Loc Cert.DownBwdW.nD Cert.DownBwdW.τ Cert.DownBwdW.sig) → Buf (Elt Bits) ℓ) (g : Dev Cert.DownBwdW.nD → PrngReg), Pre_DownBwdW m →
    θ_run (Cert.DownBwdW.defs (F := Bits)) (onTc (τ := Cert.DownBwdW.τ) (Cert.DownBwdW.main (F := Bits))) ⟨m, fun _ => 0, g⟩ (fun r => (∀ c : Dev Cert.DownBwdW.nD,
      r.2.mem ((c.tc : Thread Cert.DownBwdW.nD Cert.DownBwdW.τ).loc Cert.DownBwdW.main_arg0) = m ((c.tc : Thread Cert.DownBwdW.nD Cert.DownBwdW.τ).loc Cert.DownBwdW.main_arg0)
      ∧ r.2.mem ((c.tc : Thread Cert.DownBwdW.nD Cert.DownBwdW.τ).loc Cert.DownBwdW.main_arg1) = m ((c.tc : Thread Cert.DownBwdW.nD Cert.DownBwdW.τ).loc Cert.DownBwdW.main_arg1))
      ∧ r.2.sem = fun _ => 0)

def quiescent_DownBwdWIdeal [hDownBwdWIdeal : Cert.DownBwdWIdeal.Facts] : Prop :=
  ∀ (m : (ℓ : Loc Cert.DownBwdWIdeal.nD Cert.DownBwdWIdeal.τ Cert.DownBwdWIdeal.sig) → Buf (Elt Ideal) ℓ) (g : Dev Cert.DownBwdWIdeal.nD → PrngReg), Pre_DownBwdWIdeal m →
    θ_run (Cert.DownBwdWIdeal.defs (F := Ideal)) (onTc (τ := Cert.DownBwdWIdeal.τ) (Cert.DownBwdWIdeal.main (F := Ideal))) ⟨m, fun _ => 0, g⟩ (fun r => (∀ c : Dev Cert.DownBwdWIdeal.nD,
      r.2.mem ((c.tc : Thread Cert.DownBwdWIdeal.nD Cert.DownBwdWIdeal.τ).loc Cert.DownBwdWIdeal.main_arg0) = m ((c.tc : Thread Cert.DownBwdWIdeal.nD Cert.DownBwdWIdeal.τ).loc Cert.DownBwdWIdeal.main_arg0)
      ∧ r.2.mem ((c.tc : Thread Cert.DownBwdWIdeal.nD Cert.DownBwdWIdeal.τ).loc Cert.DownBwdWIdeal.main_arg1) = m ((c.tc : Thread Cert.DownBwdWIdeal.nD Cert.DownBwdWIdeal.τ).loc Cert.DownBwdWIdeal.main_arg1))
      ∧ r.2.sem = fun _ => 0)

def quiescent_DownBwdWRefIdeal [hDownBwdWRefIdeal : Cert.DownBwdWRefIdeal.Facts] : Prop :=
  ∀ (m : (ℓ : Loc Cert.DownBwdWRefIdeal.nD Cert.DownBwdWRefIdeal.τ Cert.DownBwdWRefIdeal.sig) → Buf (Elt Ideal) ℓ) (g : Dev Cert.DownBwdWRefIdeal.nD → PrngReg), Pre_DownBwdWRefIdeal m →
    θ_run (Cert.DownBwdWRefIdeal.defs (F := Ideal)) (onTc (τ := Cert.DownBwdWRefIdeal.τ) (Cert.DownBwdWRefIdeal.main (F := Ideal))) ⟨m, fun _ => 0, g⟩ (fun r => (∀ c : Dev Cert.DownBwdWRefIdeal.nD,
      r.2.mem ((c.tc : Thread Cert.DownBwdWRefIdeal.nD Cert.DownBwdWRefIdeal.τ).loc Cert.DownBwdWRefIdeal.main_arg0) = m ((c.tc : Thread Cert.DownBwdWRefIdeal.nD Cert.DownBwdWRefIdeal.τ).loc Cert.DownBwdWRefIdeal.main_arg0)
      ∧ r.2.mem ((c.tc : Thread Cert.DownBwdWRefIdeal.nD Cert.DownBwdWRefIdeal.τ).loc Cert.DownBwdWRefIdeal.main_arg1) = m ((c.tc : Thread Cert.DownBwdWRefIdeal.nD Cert.DownBwdWRefIdeal.τ).loc Cert.DownBwdWRefIdeal.main_arg1))
      ∧ r.2.sem = fun _ => 0)

def quiescent_DownBwdX [hDownBwdX : Cert.DownBwdX.Facts] : Prop :=
  ∀ (m : (ℓ : Loc Cert.DownBwdX.nD Cert.DownBwdX.τ Cert.DownBwdX.sig) → Buf (Elt Bits) ℓ) (g : Dev Cert.DownBwdX.nD → PrngReg), Pre_DownBwdX m →
    θ_run (Cert.DownBwdX.defs (F := Bits)) (onTc (τ := Cert.DownBwdX.τ) (Cert.DownBwdX.main (F := Bits))) ⟨m, fun _ => 0, g⟩ (fun r => (∀ c : Dev Cert.DownBwdX.nD,
      r.2.mem ((c.tc : Thread Cert.DownBwdX.nD Cert.DownBwdX.τ).loc Cert.DownBwdX.main_arg0) = m ((c.tc : Thread Cert.DownBwdX.nD Cert.DownBwdX.τ).loc Cert.DownBwdX.main_arg0)
      ∧ r.2.mem ((c.tc : Thread Cert.DownBwdX.nD Cert.DownBwdX.τ).loc Cert.DownBwdX.main_arg1) = m ((c.tc : Thread Cert.DownBwdX.nD Cert.DownBwdX.τ).loc Cert.DownBwdX.main_arg1))
      ∧ r.2.sem = fun _ => 0)

def quiescent_DownBwdXIdeal [hDownBwdXIdeal : Cert.DownBwdXIdeal.Facts] : Prop :=
  ∀ (m : (ℓ : Loc Cert.DownBwdXIdeal.nD Cert.DownBwdXIdeal.τ Cert.DownBwdXIdeal.sig) → Buf (Elt Ideal) ℓ) (g : Dev Cert.DownBwdXIdeal.nD → PrngReg), Pre_DownBwdXIdeal m →
    θ_run (Cert.DownBwdXIdeal.defs (F := Ideal)) (onTc (τ := Cert.DownBwdXIdeal.τ) (Cert.DownBwdXIdeal.main (F := Ideal))) ⟨m, fun _ => 0, g⟩ (fun r => (∀ c : Dev Cert.DownBwdXIdeal.nD,
      r.2.mem ((c.tc : Thread Cert.DownBwdXIdeal.nD Cert.DownBwdXIdeal.τ).loc Cert.DownBwdXIdeal.main_arg0) = m ((c.tc : Thread Cert.DownBwdXIdeal.nD Cert.DownBwdXIdeal.τ).loc Cert.DownBwdXIdeal.main_arg0)
      ∧ r.2.mem ((c.tc : Thread Cert.DownBwdXIdeal.nD Cert.DownBwdXIdeal.τ).loc Cert.DownBwdXIdeal.main_arg1) = m ((c.tc : Thread Cert.DownBwdXIdeal.nD Cert.DownBwdXIdeal.τ).loc Cert.DownBwdXIdeal.main_arg1))
      ∧ r.2.sem = fun _ => 0)

def quiescent_DownBwdXRefIdeal [hDownBwdXRefIdeal : Cert.DownBwdXRefIdeal.Facts] : Prop :=
  ∀ (m : (ℓ : Loc Cert.DownBwdXRefIdeal.nD Cert.DownBwdXRefIdeal.τ Cert.DownBwdXRefIdeal.sig) → Buf (Elt Ideal) ℓ) (g : Dev Cert.DownBwdXRefIdeal.nD → PrngReg), Pre_DownBwdXRefIdeal m →
    θ_run (Cert.DownBwdXRefIdeal.defs (F := Ideal)) (onTc (τ := Cert.DownBwdXRefIdeal.τ) (Cert.DownBwdXRefIdeal.main (F := Ideal))) ⟨m, fun _ => 0, g⟩ (fun r => (∀ c : Dev Cert.DownBwdXRefIdeal.nD,
      r.2.mem ((c.tc : Thread Cert.DownBwdXRefIdeal.nD Cert.DownBwdXRefIdeal.τ).loc Cert.DownBwdXRefIdeal.main_arg0) = m ((c.tc : Thread Cert.DownBwdXRefIdeal.nD Cert.DownBwdXRefIdeal.τ).loc Cert.DownBwdXRefIdeal.main_arg0)
      ∧ r.2.mem ((c.tc : Thread Cert.DownBwdXRefIdeal.nD Cert.DownBwdXRefIdeal.τ).loc Cert.DownBwdXRefIdeal.main_arg1) = m ((c.tc : Thread Cert.DownBwdXRefIdeal.nD Cert.DownBwdXRefIdeal.τ).loc Cert.DownBwdXRefIdeal.main_arg1))
      ∧ r.2.sem = fun _ => 0)

def quiescent_ProjBwdW0 [hProjBwdW0 : Cert.ProjBwdW0.Facts] : Prop :=
  ∀ (m : (ℓ : Loc Cert.ProjBwdW0.nD Cert.ProjBwdW0.τ Cert.ProjBwdW0.sig) → Buf (Elt Bits) ℓ) (g : Dev Cert.ProjBwdW0.nD → PrngReg), Pre_ProjBwdW0 m →
    θ_run (Cert.ProjBwdW0.defs (F := Bits)) (onTc (τ := Cert.ProjBwdW0.τ) (Cert.ProjBwdW0.main (F := Bits))) ⟨m, fun _ => 0, g⟩ (fun r => (∀ c : Dev Cert.ProjBwdW0.nD,
      r.2.mem ((c.tc : Thread Cert.ProjBwdW0.nD Cert.ProjBwdW0.τ).loc Cert.ProjBwdW0.main_arg0) = m ((c.tc : Thread Cert.ProjBwdW0.nD Cert.ProjBwdW0.τ).loc Cert.ProjBwdW0.main_arg0)
      ∧ r.2.mem ((c.tc : Thread Cert.ProjBwdW0.nD Cert.ProjBwdW0.τ).loc Cert.ProjBwdW0.main_arg1) = m ((c.tc : Thread Cert.ProjBwdW0.nD Cert.ProjBwdW0.τ).loc Cert.ProjBwdW0.main_arg1))
      ∧ r.2.sem = fun _ => 0)

def quiescent_ProjBwdW0Ideal [hProjBwdW0Ideal : Cert.ProjBwdW0Ideal.Facts] : Prop :=
  ∀ (m : (ℓ : Loc Cert.ProjBwdW0Ideal.nD Cert.ProjBwdW0Ideal.τ Cert.ProjBwdW0Ideal.sig) → Buf (Elt Ideal) ℓ) (g : Dev Cert.ProjBwdW0Ideal.nD → PrngReg), Pre_ProjBwdW0Ideal m →
    θ_run (Cert.ProjBwdW0Ideal.defs (F := Ideal)) (onTc (τ := Cert.ProjBwdW0Ideal.τ) (Cert.ProjBwdW0Ideal.main (F := Ideal))) ⟨m, fun _ => 0, g⟩ (fun r => (∀ c : Dev Cert.ProjBwdW0Ideal.nD,
      r.2.mem ((c.tc : Thread Cert.ProjBwdW0Ideal.nD Cert.ProjBwdW0Ideal.τ).loc Cert.ProjBwdW0Ideal.main_arg0) = m ((c.tc : Thread Cert.ProjBwdW0Ideal.nD Cert.ProjBwdW0Ideal.τ).loc Cert.ProjBwdW0Ideal.main_arg0)
      ∧ r.2.mem ((c.tc : Thread Cert.ProjBwdW0Ideal.nD Cert.ProjBwdW0Ideal.τ).loc Cert.ProjBwdW0Ideal.main_arg1) = m ((c.tc : Thread Cert.ProjBwdW0Ideal.nD Cert.ProjBwdW0Ideal.τ).loc Cert.ProjBwdW0Ideal.main_arg1))
      ∧ r.2.sem = fun _ => 0)

def quiescent_ProjBwdW0RefIdeal [hProjBwdW0RefIdeal : Cert.ProjBwdW0RefIdeal.Facts] : Prop :=
  ∀ (m : (ℓ : Loc Cert.ProjBwdW0RefIdeal.nD Cert.ProjBwdW0RefIdeal.τ Cert.ProjBwdW0RefIdeal.sig) → Buf (Elt Ideal) ℓ) (g : Dev Cert.ProjBwdW0RefIdeal.nD → PrngReg), Pre_ProjBwdW0RefIdeal m →
    θ_run (Cert.ProjBwdW0RefIdeal.defs (F := Ideal)) (onTc (τ := Cert.ProjBwdW0RefIdeal.τ) (Cert.ProjBwdW0RefIdeal.main (F := Ideal))) ⟨m, fun _ => 0, g⟩ (fun r => (∀ c : Dev Cert.ProjBwdW0RefIdeal.nD,
      r.2.mem ((c.tc : Thread Cert.ProjBwdW0RefIdeal.nD Cert.ProjBwdW0RefIdeal.τ).loc Cert.ProjBwdW0RefIdeal.main_arg0) = m ((c.tc : Thread Cert.ProjBwdW0RefIdeal.nD Cert.ProjBwdW0RefIdeal.τ).loc Cert.ProjBwdW0RefIdeal.main_arg0)
      ∧ r.2.mem ((c.tc : Thread Cert.ProjBwdW0RefIdeal.nD Cert.ProjBwdW0RefIdeal.τ).loc Cert.ProjBwdW0RefIdeal.main_arg1) = m ((c.tc : Thread Cert.ProjBwdW0RefIdeal.nD Cert.ProjBwdW0RefIdeal.τ).loc Cert.ProjBwdW0RefIdeal.main_arg1))
      ∧ r.2.sem = fun _ => 0)

def quiescent_ProjBwdW1 [hProjBwdW1 : Cert.ProjBwdW1.Facts] : Prop :=
  ∀ (m : (ℓ : Loc Cert.ProjBwdW1.nD Cert.ProjBwdW1.τ Cert.ProjBwdW1.sig) → Buf (Elt Bits) ℓ) (g : Dev Cert.ProjBwdW1.nD → PrngReg), Pre_ProjBwdW1 m →
    θ_run (Cert.ProjBwdW1.defs (F := Bits)) (onTc (τ := Cert.ProjBwdW1.τ) (Cert.ProjBwdW1.main (F := Bits))) ⟨m, fun _ => 0, g⟩ (fun r => (∀ c : Dev Cert.ProjBwdW1.nD,
      r.2.mem ((c.tc : Thread Cert.ProjBwdW1.nD Cert.ProjBwdW1.τ).loc Cert.ProjBwdW1.main_arg0) = m ((c.tc : Thread Cert.ProjBwdW1.nD Cert.ProjBwdW1.τ).loc Cert.ProjBwdW1.main_arg0)
      ∧ r.2.mem ((c.tc : Thread Cert.ProjBwdW1.nD Cert.ProjBwdW1.τ).loc Cert.ProjBwdW1.main_arg1) = m ((c.tc : Thread Cert.ProjBwdW1.nD Cert.ProjBwdW1.τ).loc Cert.ProjBwdW1.main_arg1))
      ∧ r.2.sem = fun _ => 0)

def quiescent_ProjBwdW1Ideal [hProjBwdW1Ideal : Cert.ProjBwdW1Ideal.Facts] : Prop :=
  ∀ (m : (ℓ : Loc Cert.ProjBwdW1Ideal.nD Cert.ProjBwdW1Ideal.τ Cert.ProjBwdW1Ideal.sig) → Buf (Elt Ideal) ℓ) (g : Dev Cert.ProjBwdW1Ideal.nD → PrngReg), Pre_ProjBwdW1Ideal m →
    θ_run (Cert.ProjBwdW1Ideal.defs (F := Ideal)) (onTc (τ := Cert.ProjBwdW1Ideal.τ) (Cert.ProjBwdW1Ideal.main (F := Ideal))) ⟨m, fun _ => 0, g⟩ (fun r => (∀ c : Dev Cert.ProjBwdW1Ideal.nD,
      r.2.mem ((c.tc : Thread Cert.ProjBwdW1Ideal.nD Cert.ProjBwdW1Ideal.τ).loc Cert.ProjBwdW1Ideal.main_arg0) = m ((c.tc : Thread Cert.ProjBwdW1Ideal.nD Cert.ProjBwdW1Ideal.τ).loc Cert.ProjBwdW1Ideal.main_arg0)
      ∧ r.2.mem ((c.tc : Thread Cert.ProjBwdW1Ideal.nD Cert.ProjBwdW1Ideal.τ).loc Cert.ProjBwdW1Ideal.main_arg1) = m ((c.tc : Thread Cert.ProjBwdW1Ideal.nD Cert.ProjBwdW1Ideal.τ).loc Cert.ProjBwdW1Ideal.main_arg1))
      ∧ r.2.sem = fun _ => 0)

def quiescent_ProjBwdW1RefIdeal [hProjBwdW1RefIdeal : Cert.ProjBwdW1RefIdeal.Facts] : Prop :=
  ∀ (m : (ℓ : Loc Cert.ProjBwdW1RefIdeal.nD Cert.ProjBwdW1RefIdeal.τ Cert.ProjBwdW1RefIdeal.sig) → Buf (Elt Ideal) ℓ) (g : Dev Cert.ProjBwdW1RefIdeal.nD → PrngReg), Pre_ProjBwdW1RefIdeal m →
    θ_run (Cert.ProjBwdW1RefIdeal.defs (F := Ideal)) (onTc (τ := Cert.ProjBwdW1RefIdeal.τ) (Cert.ProjBwdW1RefIdeal.main (F := Ideal))) ⟨m, fun _ => 0, g⟩ (fun r => (∀ c : Dev Cert.ProjBwdW1RefIdeal.nD,
      r.2.mem ((c.tc : Thread Cert.ProjBwdW1RefIdeal.nD Cert.ProjBwdW1RefIdeal.τ).loc Cert.ProjBwdW1RefIdeal.main_arg0) = m ((c.tc : Thread Cert.ProjBwdW1RefIdeal.nD Cert.ProjBwdW1RefIdeal.τ).loc Cert.ProjBwdW1RefIdeal.main_arg0)
      ∧ r.2.mem ((c.tc : Thread Cert.ProjBwdW1RefIdeal.nD Cert.ProjBwdW1RefIdeal.τ).loc Cert.ProjBwdW1RefIdeal.main_arg1) = m ((c.tc : Thread Cert.ProjBwdW1RefIdeal.nD Cert.ProjBwdW1RefIdeal.τ).loc Cert.ProjBwdW1RefIdeal.main_arg1))
      ∧ r.2.sem = fun _ => 0)

def quiescent_ProjBwdX [hProjBwdX : Cert.ProjBwdX.Facts] : Prop :=
  ∀ (m : (ℓ : Loc Cert.ProjBwdX.nD Cert.ProjBwdX.τ Cert.ProjBwdX.sig) → Buf (Elt Bits) ℓ) (g : Dev Cert.ProjBwdX.nD → PrngReg), Pre_ProjBwdX m →
    θ_run (Cert.ProjBwdX.defs (F := Bits)) (onTc (τ := Cert.ProjBwdX.τ) (Cert.ProjBwdX.main (F := Bits))) ⟨m, fun _ => 0, g⟩ (fun r => (∀ c : Dev Cert.ProjBwdX.nD,
      r.2.mem ((c.tc : Thread Cert.ProjBwdX.nD Cert.ProjBwdX.τ).loc Cert.ProjBwdX.main_arg0) = m ((c.tc : Thread Cert.ProjBwdX.nD Cert.ProjBwdX.τ).loc Cert.ProjBwdX.main_arg0)
      ∧ r.2.mem ((c.tc : Thread Cert.ProjBwdX.nD Cert.ProjBwdX.τ).loc Cert.ProjBwdX.main_arg1) = m ((c.tc : Thread Cert.ProjBwdX.nD Cert.ProjBwdX.τ).loc Cert.ProjBwdX.main_arg1))
      ∧ r.2.sem = fun _ => 0)

def quiescent_ProjBwdXIdeal [hProjBwdXIdeal : Cert.ProjBwdXIdeal.Facts] : Prop :=
  ∀ (m : (ℓ : Loc Cert.ProjBwdXIdeal.nD Cert.ProjBwdXIdeal.τ Cert.ProjBwdXIdeal.sig) → Buf (Elt Ideal) ℓ) (g : Dev Cert.ProjBwdXIdeal.nD → PrngReg), Pre_ProjBwdXIdeal m →
    θ_run (Cert.ProjBwdXIdeal.defs (F := Ideal)) (onTc (τ := Cert.ProjBwdXIdeal.τ) (Cert.ProjBwdXIdeal.main (F := Ideal))) ⟨m, fun _ => 0, g⟩ (fun r => (∀ c : Dev Cert.ProjBwdXIdeal.nD,
      r.2.mem ((c.tc : Thread Cert.ProjBwdXIdeal.nD Cert.ProjBwdXIdeal.τ).loc Cert.ProjBwdXIdeal.main_arg0) = m ((c.tc : Thread Cert.ProjBwdXIdeal.nD Cert.ProjBwdXIdeal.τ).loc Cert.ProjBwdXIdeal.main_arg0)
      ∧ r.2.mem ((c.tc : Thread Cert.ProjBwdXIdeal.nD Cert.ProjBwdXIdeal.τ).loc Cert.ProjBwdXIdeal.main_arg1) = m ((c.tc : Thread Cert.ProjBwdXIdeal.nD Cert.ProjBwdXIdeal.τ).loc Cert.ProjBwdXIdeal.main_arg1))
      ∧ r.2.sem = fun _ => 0)

def quiescent_ProjBwdXRefIdeal [hProjBwdXRefIdeal : Cert.ProjBwdXRefIdeal.Facts] : Prop :=
  ∀ (m : (ℓ : Loc Cert.ProjBwdXRefIdeal.nD Cert.ProjBwdXRefIdeal.τ Cert.ProjBwdXRefIdeal.sig) → Buf (Elt Ideal) ℓ) (g : Dev Cert.ProjBwdXRefIdeal.nD → PrngReg), Pre_ProjBwdXRefIdeal m →
    θ_run (Cert.ProjBwdXRefIdeal.defs (F := Ideal)) (onTc (τ := Cert.ProjBwdXRefIdeal.τ) (Cert.ProjBwdXRefIdeal.main (F := Ideal))) ⟨m, fun _ => 0, g⟩ (fun r => (∀ c : Dev Cert.ProjBwdXRefIdeal.nD,
      r.2.mem ((c.tc : Thread Cert.ProjBwdXRefIdeal.nD Cert.ProjBwdXRefIdeal.τ).loc Cert.ProjBwdXRefIdeal.main_arg0) = m ((c.tc : Thread Cert.ProjBwdXRefIdeal.nD Cert.ProjBwdXRefIdeal.τ).loc Cert.ProjBwdXRefIdeal.main_arg0)
      ∧ r.2.mem ((c.tc : Thread Cert.ProjBwdXRefIdeal.nD Cert.ProjBwdXRefIdeal.τ).loc Cert.ProjBwdXRefIdeal.main_arg1) = m ((c.tc : Thread Cert.ProjBwdXRefIdeal.nD Cert.ProjBwdXRefIdeal.τ).loc Cert.ProjBwdXRefIdeal.main_arg1))
      ∧ r.2.sem = fun _ => 0)

def quiescent_MixBwdW [hMixBwdW : Cert.MixBwdW.Facts] : Prop :=
  ∀ (m : (ℓ : Loc Cert.MixBwdW.nD Cert.MixBwdW.τ Cert.MixBwdW.sig) → Buf (Elt Bits) ℓ) (g : Dev Cert.MixBwdW.nD → PrngReg), Pre_MixBwdW m →
    θ_run (Cert.MixBwdW.defs (F := Bits)) (onTc (τ := Cert.MixBwdW.τ) (Cert.MixBwdW.main (F := Bits))) ⟨m, fun _ => 0, g⟩ (fun r => (∀ c : Dev Cert.MixBwdW.nD,
      r.2.mem ((c.tc : Thread Cert.MixBwdW.nD Cert.MixBwdW.τ).loc Cert.MixBwdW.main_arg0) = m ((c.tc : Thread Cert.MixBwdW.nD Cert.MixBwdW.τ).loc Cert.MixBwdW.main_arg0)
      ∧ r.2.mem ((c.tc : Thread Cert.MixBwdW.nD Cert.MixBwdW.τ).loc Cert.MixBwdW.main_arg1) = m ((c.tc : Thread Cert.MixBwdW.nD Cert.MixBwdW.τ).loc Cert.MixBwdW.main_arg1))
      ∧ r.2.sem = fun _ => 0)

def quiescent_MixBwdWIdeal [hMixBwdWIdeal : Cert.MixBwdWIdeal.Facts] : Prop :=
  ∀ (m : (ℓ : Loc Cert.MixBwdWIdeal.nD Cert.MixBwdWIdeal.τ Cert.MixBwdWIdeal.sig) → Buf (Elt Ideal) ℓ) (g : Dev Cert.MixBwdWIdeal.nD → PrngReg), Pre_MixBwdWIdeal m →
    θ_run (Cert.MixBwdWIdeal.defs (F := Ideal)) (onTc (τ := Cert.MixBwdWIdeal.τ) (Cert.MixBwdWIdeal.main (F := Ideal))) ⟨m, fun _ => 0, g⟩ (fun r => (∀ c : Dev Cert.MixBwdWIdeal.nD,
      r.2.mem ((c.tc : Thread Cert.MixBwdWIdeal.nD Cert.MixBwdWIdeal.τ).loc Cert.MixBwdWIdeal.main_arg0) = m ((c.tc : Thread Cert.MixBwdWIdeal.nD Cert.MixBwdWIdeal.τ).loc Cert.MixBwdWIdeal.main_arg0)
      ∧ r.2.mem ((c.tc : Thread Cert.MixBwdWIdeal.nD Cert.MixBwdWIdeal.τ).loc Cert.MixBwdWIdeal.main_arg1) = m ((c.tc : Thread Cert.MixBwdWIdeal.nD Cert.MixBwdWIdeal.τ).loc Cert.MixBwdWIdeal.main_arg1))
      ∧ r.2.sem = fun _ => 0)

def quiescent_MixBwdWRefIdeal [hMixBwdWRefIdeal : Cert.MixBwdWRefIdeal.Facts] : Prop :=
  ∀ (m : (ℓ : Loc Cert.MixBwdWRefIdeal.nD Cert.MixBwdWRefIdeal.τ Cert.MixBwdWRefIdeal.sig) → Buf (Elt Ideal) ℓ) (g : Dev Cert.MixBwdWRefIdeal.nD → PrngReg), Pre_MixBwdWRefIdeal m →
    θ_run (Cert.MixBwdWRefIdeal.defs (F := Ideal)) (onTc (τ := Cert.MixBwdWRefIdeal.τ) (Cert.MixBwdWRefIdeal.main (F := Ideal))) ⟨m, fun _ => 0, g⟩ (fun r => (∀ c : Dev Cert.MixBwdWRefIdeal.nD,
      r.2.mem ((c.tc : Thread Cert.MixBwdWRefIdeal.nD Cert.MixBwdWRefIdeal.τ).loc Cert.MixBwdWRefIdeal.main_arg0) = m ((c.tc : Thread Cert.MixBwdWRefIdeal.nD Cert.MixBwdWRefIdeal.τ).loc Cert.MixBwdWRefIdeal.main_arg0)
      ∧ r.2.mem ((c.tc : Thread Cert.MixBwdWRefIdeal.nD Cert.MixBwdWRefIdeal.τ).loc Cert.MixBwdWRefIdeal.main_arg1) = m ((c.tc : Thread Cert.MixBwdWRefIdeal.nD Cert.MixBwdWRefIdeal.τ).loc Cert.MixBwdWRefIdeal.main_arg1))
      ∧ r.2.sem = fun _ => 0)

def quiescent_MixBwdX [hMixBwdX : Cert.MixBwdX.Facts] : Prop :=
  ∀ (m : (ℓ : Loc Cert.MixBwdX.nD Cert.MixBwdX.τ Cert.MixBwdX.sig) → Buf (Elt Bits) ℓ) (g : Dev Cert.MixBwdX.nD → PrngReg), Pre_MixBwdX m →
    θ_run (Cert.MixBwdX.defs (F := Bits)) (onTc (τ := Cert.MixBwdX.τ) (Cert.MixBwdX.main (F := Bits))) ⟨m, fun _ => 0, g⟩ (fun r => (∀ c : Dev Cert.MixBwdX.nD,
      r.2.mem ((c.tc : Thread Cert.MixBwdX.nD Cert.MixBwdX.τ).loc Cert.MixBwdX.main_arg0) = m ((c.tc : Thread Cert.MixBwdX.nD Cert.MixBwdX.τ).loc Cert.MixBwdX.main_arg0)
      ∧ r.2.mem ((c.tc : Thread Cert.MixBwdX.nD Cert.MixBwdX.τ).loc Cert.MixBwdX.main_arg1) = m ((c.tc : Thread Cert.MixBwdX.nD Cert.MixBwdX.τ).loc Cert.MixBwdX.main_arg1))
      ∧ r.2.sem = fun _ => 0)

def quiescent_MixBwdXIdeal [hMixBwdXIdeal : Cert.MixBwdXIdeal.Facts] : Prop :=
  ∀ (m : (ℓ : Loc Cert.MixBwdXIdeal.nD Cert.MixBwdXIdeal.τ Cert.MixBwdXIdeal.sig) → Buf (Elt Ideal) ℓ) (g : Dev Cert.MixBwdXIdeal.nD → PrngReg), Pre_MixBwdXIdeal m →
    θ_run (Cert.MixBwdXIdeal.defs (F := Ideal)) (onTc (τ := Cert.MixBwdXIdeal.τ) (Cert.MixBwdXIdeal.main (F := Ideal))) ⟨m, fun _ => 0, g⟩ (fun r => (∀ c : Dev Cert.MixBwdXIdeal.nD,
      r.2.mem ((c.tc : Thread Cert.MixBwdXIdeal.nD Cert.MixBwdXIdeal.τ).loc Cert.MixBwdXIdeal.main_arg0) = m ((c.tc : Thread Cert.MixBwdXIdeal.nD Cert.MixBwdXIdeal.τ).loc Cert.MixBwdXIdeal.main_arg0)
      ∧ r.2.mem ((c.tc : Thread Cert.MixBwdXIdeal.nD Cert.MixBwdXIdeal.τ).loc Cert.MixBwdXIdeal.main_arg1) = m ((c.tc : Thread Cert.MixBwdXIdeal.nD Cert.MixBwdXIdeal.τ).loc Cert.MixBwdXIdeal.main_arg1))
      ∧ r.2.sem = fun _ => 0)

def quiescent_MixBwdXRefIdeal [hMixBwdXRefIdeal : Cert.MixBwdXRefIdeal.Facts] : Prop :=
  ∀ (m : (ℓ : Loc Cert.MixBwdXRefIdeal.nD Cert.MixBwdXRefIdeal.τ Cert.MixBwdXRefIdeal.sig) → Buf (Elt Ideal) ℓ) (g : Dev Cert.MixBwdXRefIdeal.nD → PrngReg), Pre_MixBwdXRefIdeal m →
    θ_run (Cert.MixBwdXRefIdeal.defs (F := Ideal)) (onTc (τ := Cert.MixBwdXRefIdeal.τ) (Cert.MixBwdXRefIdeal.main (F := Ideal))) ⟨m, fun _ => 0, g⟩ (fun r => (∀ c : Dev Cert.MixBwdXRefIdeal.nD,
      r.2.mem ((c.tc : Thread Cert.MixBwdXRefIdeal.nD Cert.MixBwdXRefIdeal.τ).loc Cert.MixBwdXRefIdeal.main_arg0) = m ((c.tc : Thread Cert.MixBwdXRefIdeal.nD Cert.MixBwdXRefIdeal.τ).loc Cert.MixBwdXRefIdeal.main_arg0)
      ∧ r.2.mem ((c.tc : Thread Cert.MixBwdXRefIdeal.nD Cert.MixBwdXRefIdeal.τ).loc Cert.MixBwdXRefIdeal.main_arg1) = m ((c.tc : Thread Cert.MixBwdXRefIdeal.nD Cert.MixBwdXRefIdeal.τ).loc Cert.MixBwdXRefIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamBAda [hAdamBAda : Cert.AdamBAda.Facts] : Prop :=
  ∀ (m : (ℓ : Loc Cert.AdamBAda.nD Cert.AdamBAda.τ Cert.AdamBAda.sig) → Buf (Elt Bits) ℓ) (g : Dev Cert.AdamBAda.nD → PrngReg), Pre_AdamBAda m →
    θ_run (Cert.AdamBAda.defs (F := Bits)) (onTc (τ := Cert.AdamBAda.τ) (Cert.AdamBAda.main (F := Bits))) ⟨m, fun _ => 0, g⟩ (fun r => (∀ c : Dev Cert.AdamBAda.nD,
      r.2.mem ((c.tc : Thread Cert.AdamBAda.nD Cert.AdamBAda.τ).loc Cert.AdamBAda.main_arg0) = m ((c.tc : Thread Cert.AdamBAda.nD Cert.AdamBAda.τ).loc Cert.AdamBAda.main_arg0)
      ∧ r.2.mem ((c.tc : Thread Cert.AdamBAda.nD Cert.AdamBAda.τ).loc Cert.AdamBAda.main_arg1) = m ((c.tc : Thread Cert.AdamBAda.nD Cert.AdamBAda.τ).loc Cert.AdamBAda.main_arg1)
      ∧ r.2.mem ((c.tc : Thread Cert.AdamBAda.nD Cert.AdamBAda.τ).loc Cert.AdamBAda.main_arg2) = m ((c.tc : Thread Cert.AdamBAda.nD Cert.AdamBAda.τ).loc Cert.AdamBAda.main_arg2)
      ∧ r.2.mem ((c.tc : Thread Cert.AdamBAda.nD Cert.AdamBAda.τ).loc Cert.AdamBAda.main_arg3) = m ((c.tc : Thread Cert.AdamBAda.nD Cert.AdamBAda.τ).loc Cert.AdamBAda.main_arg3))
      ∧ r.2.sem = fun _ => 0)

def quiescent_AdamBAdaIdeal [hAdamBAdaIdeal : Cert.AdamBAdaIdeal.Facts] : Prop :=
  ∀ (m : (ℓ : Loc Cert.AdamBAdaIdeal.nD Cert.AdamBAdaIdeal.τ Cert.AdamBAdaIdeal.sig) → Buf (Elt Ideal) ℓ) (g : Dev Cert.AdamBAdaIdeal.nD → PrngReg), Pre_AdamBAdaIdeal m →
    θ_run (Cert.AdamBAdaIdeal.defs (F := Ideal)) (onTc (τ := Cert.AdamBAdaIdeal.τ) (Cert.AdamBAdaIdeal.main (F := Ideal))) ⟨m, fun _ => 0, g⟩ (fun r => (∀ c : Dev Cert.AdamBAdaIdeal.nD,
      r.2.mem ((c.tc : Thread Cert.AdamBAdaIdeal.nD Cert.AdamBAdaIdeal.τ).loc Cert.AdamBAdaIdeal.main_arg0) = m ((c.tc : Thread Cert.AdamBAdaIdeal.nD Cert.AdamBAdaIdeal.τ).loc Cert.AdamBAdaIdeal.main_arg0)
      ∧ r.2.mem ((c.tc : Thread Cert.AdamBAdaIdeal.nD Cert.AdamBAdaIdeal.τ).loc Cert.AdamBAdaIdeal.main_arg1) = m ((c.tc : Thread Cert.AdamBAdaIdeal.nD Cert.AdamBAdaIdeal.τ).loc Cert.AdamBAdaIdeal.main_arg1)
      ∧ r.2.mem ((c.tc : Thread Cert.AdamBAdaIdeal.nD Cert.AdamBAdaIdeal.τ).loc Cert.AdamBAdaIdeal.main_arg2) = m ((c.tc : Thread Cert.AdamBAdaIdeal.nD Cert.AdamBAdaIdeal.τ).loc Cert.AdamBAdaIdeal.main_arg2)
      ∧ r.2.mem ((c.tc : Thread Cert.AdamBAdaIdeal.nD Cert.AdamBAdaIdeal.τ).loc Cert.AdamBAdaIdeal.main_arg3) = m ((c.tc : Thread Cert.AdamBAdaIdeal.nD Cert.AdamBAdaIdeal.τ).loc Cert.AdamBAdaIdeal.main_arg3))
      ∧ r.2.sem = fun _ => 0)

def quiescent_AdamBAdaRefIdeal [hAdamBAdaRefIdeal : Cert.AdamBAdaRefIdeal.Facts] : Prop :=
  ∀ (m : (ℓ : Loc Cert.AdamBAdaRefIdeal.nD Cert.AdamBAdaRefIdeal.τ Cert.AdamBAdaRefIdeal.sig) → Buf (Elt Ideal) ℓ) (g : Dev Cert.AdamBAdaRefIdeal.nD → PrngReg), Pre_AdamBAdaRefIdeal m →
    θ_run (Cert.AdamBAdaRefIdeal.defs (F := Ideal)) (onTc (τ := Cert.AdamBAdaRefIdeal.τ) (Cert.AdamBAdaRefIdeal.main (F := Ideal))) ⟨m, fun _ => 0, g⟩ (fun r => (∀ c : Dev Cert.AdamBAdaRefIdeal.nD,
      r.2.mem ((c.tc : Thread Cert.AdamBAdaRefIdeal.nD Cert.AdamBAdaRefIdeal.τ).loc Cert.AdamBAdaRefIdeal.main_arg0) = m ((c.tc : Thread Cert.AdamBAdaRefIdeal.nD Cert.AdamBAdaRefIdeal.τ).loc Cert.AdamBAdaRefIdeal.main_arg0)
      ∧ r.2.mem ((c.tc : Thread Cert.AdamBAdaRefIdeal.nD Cert.AdamBAdaRefIdeal.τ).loc Cert.AdamBAdaRefIdeal.main_arg1) = m ((c.tc : Thread Cert.AdamBAdaRefIdeal.nD Cert.AdamBAdaRefIdeal.τ).loc Cert.AdamBAdaRefIdeal.main_arg1)
      ∧ r.2.mem ((c.tc : Thread Cert.AdamBAdaRefIdeal.nD Cert.AdamBAdaRefIdeal.τ).loc Cert.AdamBAdaRefIdeal.main_arg2) = m ((c.tc : Thread Cert.AdamBAdaRefIdeal.nD Cert.AdamBAdaRefIdeal.τ).loc Cert.AdamBAdaRefIdeal.main_arg2)
      ∧ r.2.mem ((c.tc : Thread Cert.AdamBAdaRefIdeal.nD Cert.AdamBAdaRefIdeal.τ).loc Cert.AdamBAdaRefIdeal.main_arg3) = m ((c.tc : Thread Cert.AdamBAdaRefIdeal.nD Cert.AdamBAdaRefIdeal.τ).loc Cert.AdamBAdaRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamLb [hAdamLb : Cert.AdamLb.Facts] : Prop :=
  ∀ (m : (ℓ : Loc Cert.AdamLb.nD Cert.AdamLb.τ Cert.AdamLb.sig) → Buf (Elt Bits) ℓ) (g : Dev Cert.AdamLb.nD → PrngReg), Pre_AdamLb m →
    θ_run (Cert.AdamLb.defs (F := Bits)) (onTc (τ := Cert.AdamLb.τ) (Cert.AdamLb.main (F := Bits))) ⟨m, fun _ => 0, g⟩ (fun r => (∀ c : Dev Cert.AdamLb.nD,
      r.2.mem ((c.tc : Thread Cert.AdamLb.nD Cert.AdamLb.τ).loc Cert.AdamLb.main_arg0) = m ((c.tc : Thread Cert.AdamLb.nD Cert.AdamLb.τ).loc Cert.AdamLb.main_arg0)
      ∧ r.2.mem ((c.tc : Thread Cert.AdamLb.nD Cert.AdamLb.τ).loc Cert.AdamLb.main_arg1) = m ((c.tc : Thread Cert.AdamLb.nD Cert.AdamLb.τ).loc Cert.AdamLb.main_arg1)
      ∧ r.2.mem ((c.tc : Thread Cert.AdamLb.nD Cert.AdamLb.τ).loc Cert.AdamLb.main_arg2) = m ((c.tc : Thread Cert.AdamLb.nD Cert.AdamLb.τ).loc Cert.AdamLb.main_arg2)
      ∧ r.2.mem ((c.tc : Thread Cert.AdamLb.nD Cert.AdamLb.τ).loc Cert.AdamLb.main_arg3) = m ((c.tc : Thread Cert.AdamLb.nD Cert.AdamLb.τ).loc Cert.AdamLb.main_arg3))
      ∧ r.2.sem = fun _ => 0)

def quiescent_AdamLbIdeal [hAdamLbIdeal : Cert.AdamLbIdeal.Facts] : Prop :=
  ∀ (m : (ℓ : Loc Cert.AdamLbIdeal.nD Cert.AdamLbIdeal.τ Cert.AdamLbIdeal.sig) → Buf (Elt Ideal) ℓ) (g : Dev Cert.AdamLbIdeal.nD → PrngReg), Pre_AdamLbIdeal m →
    θ_run (Cert.AdamLbIdeal.defs (F := Ideal)) (onTc (τ := Cert.AdamLbIdeal.τ) (Cert.AdamLbIdeal.main (F := Ideal))) ⟨m, fun _ => 0, g⟩ (fun r => (∀ c : Dev Cert.AdamLbIdeal.nD,
      r.2.mem ((c.tc : Thread Cert.AdamLbIdeal.nD Cert.AdamLbIdeal.τ).loc Cert.AdamLbIdeal.main_arg0) = m ((c.tc : Thread Cert.AdamLbIdeal.nD Cert.AdamLbIdeal.τ).loc Cert.AdamLbIdeal.main_arg0)
      ∧ r.2.mem ((c.tc : Thread Cert.AdamLbIdeal.nD Cert.AdamLbIdeal.τ).loc Cert.AdamLbIdeal.main_arg1) = m ((c.tc : Thread Cert.AdamLbIdeal.nD Cert.AdamLbIdeal.τ).loc Cert.AdamLbIdeal.main_arg1)
      ∧ r.2.mem ((c.tc : Thread Cert.AdamLbIdeal.nD Cert.AdamLbIdeal.τ).loc Cert.AdamLbIdeal.main_arg2) = m ((c.tc : Thread Cert.AdamLbIdeal.nD Cert.AdamLbIdeal.τ).loc Cert.AdamLbIdeal.main_arg2)
      ∧ r.2.mem ((c.tc : Thread Cert.AdamLbIdeal.nD Cert.AdamLbIdeal.τ).loc Cert.AdamLbIdeal.main_arg3) = m ((c.tc : Thread Cert.AdamLbIdeal.nD Cert.AdamLbIdeal.τ).loc Cert.AdamLbIdeal.main_arg3))
      ∧ r.2.sem = fun _ => 0)

def quiescent_AdamLbRefIdeal [hAdamLbRefIdeal : Cert.AdamLbRefIdeal.Facts] : Prop :=
  ∀ (m : (ℓ : Loc Cert.AdamLbRefIdeal.nD Cert.AdamLbRefIdeal.τ Cert.AdamLbRefIdeal.sig) → Buf (Elt Ideal) ℓ) (g : Dev Cert.AdamLbRefIdeal.nD → PrngReg), Pre_AdamLbRefIdeal m →
    θ_run (Cert.AdamLbRefIdeal.defs (F := Ideal)) (onTc (τ := Cert.AdamLbRefIdeal.τ) (Cert.AdamLbRefIdeal.main (F := Ideal))) ⟨m, fun _ => 0, g⟩ (fun r => (∀ c : Dev Cert.AdamLbRefIdeal.nD,
      r.2.mem ((c.tc : Thread Cert.AdamLbRefIdeal.nD Cert.AdamLbRefIdeal.τ).loc Cert.AdamLbRefIdeal.main_arg0) = m ((c.tc : Thread Cert.AdamLbRefIdeal.nD Cert.AdamLbRefIdeal.τ).loc Cert.AdamLbRefIdeal.main_arg0)
      ∧ r.2.mem ((c.tc : Thread Cert.AdamLbRefIdeal.nD Cert.AdamLbRefIdeal.τ).loc Cert.AdamLbRefIdeal.main_arg1) = m ((c.tc : Thread Cert.AdamLbRefIdeal.nD Cert.AdamLbRefIdeal.τ).loc Cert.AdamLbRefIdeal.main_arg1)
      ∧ r.2.mem ((c.tc : Thread Cert.AdamLbRefIdeal.nD Cert.AdamLbRefIdeal.τ).loc Cert.AdamLbRefIdeal.main_arg2) = m ((c.tc : Thread Cert.AdamLbRefIdeal.nD Cert.AdamLbRefIdeal.τ).loc Cert.AdamLbRefIdeal.main_arg2)
      ∧ r.2.mem ((c.tc : Thread Cert.AdamLbRefIdeal.nD Cert.AdamLbRefIdeal.τ).loc Cert.AdamLbRefIdeal.main_arg3) = m ((c.tc : Thread Cert.AdamLbRefIdeal.nD Cert.AdamLbRefIdeal.τ).loc Cert.AdamLbRefIdeal.main_arg3))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_AdamHeadRefIdeal [hAdamHeadRefIdeal : Cert.AdamHeadRefIdeal.Facts] : Prop :=
  ∀ (m : (ℓ : Loc Cert.AdamHeadRefIdeal.nD Cert.AdamHeadRefIdeal.τ Cert.AdamHeadRefIdeal.sig) → Buf (Elt Ideal) ℓ) (g : Dev Cert.AdamHeadRefIdeal.nD → PrngReg), Pre_AdamHeadRefIdeal m →
    θ_run (Cert.AdamHeadRefIdeal.defs (F := Ideal)) (onTc (τ := Cert.AdamHeadRefIdeal.τ) (Cert.AdamHeadRefIdeal.main (F := Ideal))) ⟨m, fun _ => 0, g⟩ (fun r => (∀ c : Dev Cert.AdamHeadRefIdeal.nD,
      r.2.mem ((c.tc : Thread Cert.AdamHeadRefIdeal.nD Cert.AdamHeadRefIdeal.τ).loc Cert.AdamHeadRefIdeal.main_arg0) = m ((c.tc : Thread Cert.AdamHeadRefIdeal.nD Cert.AdamHeadRefIdeal.τ).loc Cert.AdamHeadRefIdeal.main_arg0)
      ∧ r.2.mem ((c.tc : Thread Cert.AdamHeadRefIdeal.nD Cert.AdamHeadRefIdeal.τ).loc Cert.AdamHeadRefIdeal.main_arg1) = m ((c.tc : Thread Cert.AdamHeadRefIdeal.nD Cert.AdamHeadRefIdeal.τ).loc Cert.AdamHeadRefIdeal.main_arg1)
      ∧ r.2.mem ((c.tc : Thread Cert.AdamHeadRefIdeal.nD Cert.AdamHeadRefIdeal.τ).loc Cert.AdamHeadRefIdeal.main_arg2) = m ((c.tc : Thread Cert.AdamHeadRefIdeal.nD Cert.AdamHeadRefIdeal.τ).loc Cert.AdamHeadRefIdeal.main_arg2)
      ∧ r.2.mem ((c.tc : Thread Cert.AdamHeadRefIdeal.nD Cert.AdamHeadRefIdeal.τ).loc Cert.AdamHeadRefIdeal.main_arg3) = m ((c.tc : Thread Cert.AdamHeadRefIdeal.nD Cert.AdamHeadRefIdeal.τ).loc Cert.AdamHeadRefIdeal.main_arg3))
      ∧ r.2.sem = fun _ => 0)

def quiescent_AdamConvW [hAdamConvW : Cert.AdamConvW.Facts] : Prop :=
  ∀ (m : (ℓ : Loc Cert.AdamConvW.nD Cert.AdamConvW.τ Cert.AdamConvW.sig) → Buf (Elt Bits) ℓ) (g : Dev Cert.AdamConvW.nD → PrngReg), Pre_AdamConvW m →
    θ_run (Cert.AdamConvW.defs (F := Bits)) (onTc (τ := Cert.AdamConvW.τ) (Cert.AdamConvW.main (F := Bits))) ⟨m, fun _ => 0, g⟩ (fun r => (∀ c : Dev Cert.AdamConvW.nD,
      r.2.mem ((c.tc : Thread Cert.AdamConvW.nD Cert.AdamConvW.τ).loc Cert.AdamConvW.main_arg0) = m ((c.tc : Thread Cert.AdamConvW.nD Cert.AdamConvW.τ).loc Cert.AdamConvW.main_arg0)
      ∧ r.2.mem ((c.tc : Thread Cert.AdamConvW.nD Cert.AdamConvW.τ).loc Cert.AdamConvW.main_arg1) = m ((c.tc : Thread Cert.AdamConvW.nD Cert.AdamConvW.τ).loc Cert.AdamConvW.main_arg1)
      ∧ r.2.mem ((c.tc : Thread Cert.AdamConvW.nD Cert.AdamConvW.τ).loc Cert.AdamConvW.main_arg2) = m ((c.tc : Thread Cert.AdamConvW.nD Cert.AdamConvW.τ).loc Cert.AdamConvW.main_arg2)
      ∧ r.2.mem ((c.tc : Thread Cert.AdamConvW.nD Cert.AdamConvW.τ).loc Cert.AdamConvW.main_arg3) = m ((c.tc : Thread Cert.AdamConvW.nD Cert.AdamConvW.τ).loc Cert.AdamConvW.main_arg3))
      ∧ r.2.sem = fun _ => 0)

def quiescent_AdamConvWIdeal [hAdamConvWIdeal : Cert.AdamConvWIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg), Pre_AdamConvWIdeal m →
    θ_run (Cert.AdamConvWIdeal.defs (F := Ideal)) (onTc (τ := Cert.AdamConvWIdeal.τ) (Cert.AdamConvWIdeal.main (F := Ideal))) ⟨m, fun _ => 0, g⟩ (fun r => (∀ c : Dev Cert.AdamConvWIdeal.nD,
      r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
      ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
      ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
      ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ r.2.sem = fun _ => 0)

def quiescent_AdamConvWRefIdeal [hAdamConvWRefIdeal : Cert.AdamConvWRefIdeal.Facts] : Prop :=
  ∀ (m : (ℓ : Loc Cert.AdamConvWRefIdeal.nD Cert.AdamConvWRefIdeal.τ Cert.AdamConvWRefIdeal.sig) → Buf (Elt Ideal) ℓ) (g : Dev Cert.AdamConvWRefIdeal.nD → PrngReg), Pre_AdamConvWRefIdeal m →
    θ_run (Cert.AdamConvWRefIdeal.defs (F := Ideal)) (onTc (τ := Cert.AdamConvWRefIdeal.τ) (Cert.AdamConvWRefIdeal.main (F := Ideal))) ⟨m, fun _ => 0, g⟩ (fun r => (∀ c : Dev Cert.AdamConvWRefIdeal.nD,
      r.2.mem ((c.tc : Thread Cert.AdamConvWRefIdeal.nD Cert.AdamConvWRefIdeal.τ).loc Cert.AdamConvWRefIdeal.main_arg0) = m ((c.tc : Thread Cert.AdamConvWRefIdeal.nD Cert.AdamConvWRefIdeal.τ).loc Cert.AdamConvWRefIdeal.main_arg0)
      ∧ r.2.mem ((c.tc : Thread Cert.AdamConvWRefIdeal.nD Cert.AdamConvWRefIdeal.τ).loc Cert.AdamConvWRefIdeal.main_arg1) = m ((c.tc : Thread Cert.AdamConvWRefIdeal.nD Cert.AdamConvWRefIdeal.τ).loc Cert.AdamConvWRefIdeal.main_arg1)
      ∧ r.2.mem ((c.tc : Thread Cert.AdamConvWRefIdeal.nD Cert.AdamConvWRefIdeal.τ).loc Cert.AdamConvWRefIdeal.main_arg2) = m ((c.tc : Thread Cert.AdamConvWRefIdeal.nD Cert.AdamConvWRefIdeal.τ).loc Cert.AdamConvWRefIdeal.main_arg2)
      ∧ r.2.mem ((c.tc : Thread Cert.AdamConvWRefIdeal.nD Cert.AdamConvWRefIdeal.τ).loc Cert.AdamConvWRefIdeal.main_arg3) = m ((c.tc : Thread Cert.AdamConvWRefIdeal.nD Cert.AdamConvWRefIdeal.τ).loc Cert.AdamConvWRefIdeal.main_arg3))
      ∧ r.2.sem = fun _ => 0)

def quiescent_AdamConvB [hAdamConvB : Cert.AdamConvB.Facts] : Prop :=
  ∀ (m : (ℓ : Loc Cert.AdamConvB.nD Cert.AdamConvB.τ Cert.AdamConvB.sig) → Buf (Elt Bits) ℓ) (g : Dev Cert.AdamConvB.nD → PrngReg), Pre_AdamConvB m →
    θ_run (Cert.AdamConvB.defs (F := Bits)) (onTc (τ := Cert.AdamConvB.τ) (Cert.AdamConvB.main (F := Bits))) ⟨m, fun _ => 0, g⟩ (fun r => (∀ c : Dev Cert.AdamConvB.nD,
      r.2.mem ((c.tc : Thread Cert.AdamConvB.nD Cert.AdamConvB.τ).loc Cert.AdamConvB.main_arg0) = m ((c.tc : Thread Cert.AdamConvB.nD Cert.AdamConvB.τ).loc Cert.AdamConvB.main_arg0)
      ∧ r.2.mem ((c.tc : Thread Cert.AdamConvB.nD Cert.AdamConvB.τ).loc Cert.AdamConvB.main_arg1) = m ((c.tc : Thread Cert.AdamConvB.nD Cert.AdamConvB.τ).loc Cert.AdamConvB.main_arg1)
      ∧ r.2.mem ((c.tc : Thread Cert.AdamConvB.nD Cert.AdamConvB.τ).loc Cert.AdamConvB.main_arg2) = m ((c.tc : Thread Cert.AdamConvB.nD Cert.AdamConvB.τ).loc Cert.AdamConvB.main_arg2)
      ∧ r.2.mem ((c.tc : Thread Cert.AdamConvB.nD Cert.AdamConvB.τ).loc Cert.AdamConvB.main_arg3) = m ((c.tc : Thread Cert.AdamConvB.nD Cert.AdamConvB.τ).loc Cert.AdamConvB.main_arg3))
      ∧ r.2.sem = fun _ => 0)

def quiescent_AdamConvBIdeal [hAdamConvBIdeal : Cert.AdamConvBIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg), Pre_AdamConvBIdeal m →
    θ_run (Cert.AdamConvBIdeal.defs (F := Ideal)) (onTc (τ := Cert.AdamConvBIdeal.τ) (Cert.AdamConvBIdeal.main (F := Ideal))) ⟨m, fun _ => 0, g⟩ (fun r => (∀ c : Dev Cert.AdamConvBIdeal.nD,
      r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
      ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
      ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
      ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ r.2.sem = fun _ => 0)

def quiescent_AdamConvBRefIdeal [hAdamConvBRefIdeal : Cert.AdamConvBRefIdeal.Facts] : Prop :=
  ∀ (m : (ℓ : Loc Cert.AdamConvBRefIdeal.nD Cert.AdamConvBRefIdeal.τ Cert.AdamConvBRefIdeal.sig) → Buf (Elt Ideal) ℓ) (g : Dev Cert.AdamConvBRefIdeal.nD → PrngReg), Pre_AdamConvBRefIdeal m →
    θ_run (Cert.AdamConvBRefIdeal.defs (F := Ideal)) (onTc (τ := Cert.AdamConvBRefIdeal.τ) (Cert.AdamConvBRefIdeal.main (F := Ideal))) ⟨m, fun _ => 0, g⟩ (fun r => (∀ c : Dev Cert.AdamConvBRefIdeal.nD,
      r.2.mem ((c.tc : Thread Cert.AdamConvBRefIdeal.nD Cert.AdamConvBRefIdeal.τ).loc Cert.AdamConvBRefIdeal.main_arg0) = m ((c.tc : Thread Cert.AdamConvBRefIdeal.nD Cert.AdamConvBRefIdeal.τ).loc Cert.AdamConvBRefIdeal.main_arg0)
      ∧ r.2.mem ((c.tc : Thread Cert.AdamConvBRefIdeal.nD Cert.AdamConvBRefIdeal.τ).loc Cert.AdamConvBRefIdeal.main_arg1) = m ((c.tc : Thread Cert.AdamConvBRefIdeal.nD Cert.AdamConvBRefIdeal.τ).loc Cert.AdamConvBRefIdeal.main_arg1)
      ∧ r.2.mem ((c.tc : Thread Cert.AdamConvBRefIdeal.nD Cert.AdamConvBRefIdeal.τ).loc Cert.AdamConvBRefIdeal.main_arg2) = m ((c.tc : Thread Cert.AdamConvBRefIdeal.nD Cert.AdamConvBRefIdeal.τ).loc Cert.AdamConvBRefIdeal.main_arg2)
      ∧ r.2.mem ((c.tc : Thread Cert.AdamConvBRefIdeal.nD Cert.AdamConvBRefIdeal.τ).loc Cert.AdamConvBRefIdeal.main_arg3) = m ((c.tc : Thread Cert.AdamConvBRefIdeal.nD Cert.AdamConvBRefIdeal.τ).loc Cert.AdamConvBRefIdeal.main_arg3))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2)
      ∧ r.2.mem ((c.tc : Thread Cert.AdaBwd.nD Cert.AdaBwd.τ).loc Cert.AdaBwd.main_arg3) = m ((c.tc : Thread Cert.AdaBwd.nD Cert.AdaBwd.τ).loc Cert.AdaBwd.main_arg3)
      ∧ r.2.mem ((c.tc : Thread Cert.AdaBwd.nD Cert.AdaBwd.τ).loc Cert.AdaBwd.main_arg4) = m ((c.tc : Thread Cert.AdaBwd.nD Cert.AdaBwd.τ).loc Cert.AdaBwd.main_arg4))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
      ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
      ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2)
      ∧ r.2.mem ((c.tc : Thread Cert.AdaBwdRefIdeal.nD Cert.AdaBwdRefIdeal.τ).loc Cert.AdaBwdRefIdeal.main_arg3) = m ((c.tc : Thread Cert.AdaBwdRefIdeal.nD Cert.AdaBwdRefIdeal.τ).loc Cert.AdaBwdRefIdeal.main_arg3)
      ∧ r.2.mem ((c.tc : Thread Cert.AdaBwdRefIdeal.nD Cert.AdaBwdRefIdeal.τ).loc Cert.AdaBwdRefIdeal.main_arg4) = m ((c.tc : Thread Cert.AdaBwdRefIdeal.nD Cert.AdaBwdRefIdeal.τ).loc Cert.AdaBwdRefIdeal.main_arg4))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumBAda [hSumBAda : Cert.SumBAda.Facts] : Prop :=
  ∀ (m : (ℓ : Loc Cert.SumBAda.nD Cert.SumBAda.τ Cert.SumBAda.sig) → Buf (Elt Bits) ℓ) (g : Dev Cert.SumBAda.nD → PrngReg), Pre_SumBAda m →
    θ_run (Cert.SumBAda.defs (F := Bits)) (onTc (τ := Cert.SumBAda.τ) (Cert.SumBAda.main (F := Bits))) ⟨m, fun _ => 0, g⟩ (fun r => (∀ c : Dev Cert.SumBAda.nD,
      r.2.mem ((c.tc : Thread Cert.SumBAda.nD Cert.SumBAda.τ).loc Cert.SumBAda.main_arg0) = m ((c.tc : Thread Cert.SumBAda.nD Cert.SumBAda.τ).loc Cert.SumBAda.main_arg0))
      ∧ r.2.sem = fun _ => 0)

def quiescent_SumBAdaIdeal [hSumBAdaIdeal : Cert.SumBAdaIdeal.Facts] : Prop :=
  ∀ (m : (ℓ : Loc Cert.SumBAdaIdeal.nD Cert.SumBAdaIdeal.τ Cert.SumBAdaIdeal.sig) → Buf (Elt Ideal) ℓ) (g : Dev Cert.SumBAdaIdeal.nD → PrngReg), Pre_SumBAdaIdeal m →
    θ_run (Cert.SumBAdaIdeal.defs (F := Ideal)) (onTc (τ := Cert.SumBAdaIdeal.τ) (Cert.SumBAdaIdeal.main (F := Ideal))) ⟨m, fun _ => 0, g⟩ (fun r => (∀ c : Dev Cert.SumBAdaIdeal.nD,
      r.2.mem ((c.tc : Thread Cert.SumBAdaIdeal.nD Cert.SumBAdaIdeal.τ).loc Cert.SumBAdaIdeal.main_arg0) = m ((c.tc : Thread Cert.SumBAdaIdeal.nD Cert.SumBAdaIdeal.τ).loc Cert.SumBAdaIdeal.main_arg0))
      ∧ r.2.sem = fun _ => 0)

def quiescent_SumBAdaRefIdeal [hSumBAdaRefIdeal : Cert.SumBAdaRefIdeal.Facts] : Prop :=
  ∀ (m : (ℓ : Loc Cert.SumBAdaRefIdeal.nD Cert.SumBAdaRefIdeal.τ Cert.SumBAdaRefIdeal.sig) → Buf (Elt Ideal) ℓ) (g : Dev Cert.SumBAdaRefIdeal.nD → PrngReg), Pre_SumBAdaRefIdeal m →
    θ_run (Cert.SumBAdaRefIdeal.defs (F := Ideal)) (onTc (τ := Cert.SumBAdaRefIdeal.τ) (Cert.SumBAdaRefIdeal.main (F := Ideal))) ⟨m, fun _ => 0, g⟩ (fun r => (∀ c : Dev Cert.SumBAdaRefIdeal.nD,
      r.2.mem ((c.tc : Thread Cert.SumBAdaRefIdeal.nD Cert.SumBAdaRefIdeal.τ).loc Cert.SumBAdaRefIdeal.main_arg0) = m ((c.tc : Thread Cert.SumBAdaRefIdeal.nD Cert.SumBAdaRefIdeal.τ).loc Cert.SumBAdaRefIdeal.main_arg0))
      ∧ r.2.sem = fun _ => 0)

def quiescent_LbGrad [hLbGrad : Cert.LbGrad.Facts] : Prop :=
  ∀ (m : (ℓ : Loc Cert.LbGrad.nD Cert.LbGrad.τ Cert.LbGrad.sig) → Buf (Elt Bits) ℓ) (g : Dev Cert.LbGrad.nD → PrngReg), Pre_LbGrad m →
    θ_run (Cert.LbGrad.defs (F := Bits)) (onTc (τ := Cert.LbGrad.τ) (Cert.LbGrad.main (F := Bits))) ⟨m, fun _ => 0, g⟩ (fun r => (∀ c : Dev Cert.LbGrad.nD,
      r.2.mem ((c.tc : Thread Cert.LbGrad.nD Cert.LbGrad.τ).loc Cert.LbGrad.main_arg0) = m ((c.tc : Thread Cert.LbGrad.nD Cert.LbGrad.τ).loc Cert.LbGrad.main_arg0)
      ∧ r.2.mem ((c.tc : Thread Cert.LbGrad.nD Cert.LbGrad.τ).loc Cert.LbGrad.main_arg1) = m ((c.tc : Thread Cert.LbGrad.nD Cert.LbGrad.τ).loc Cert.LbGrad.main_arg1))
      ∧ r.2.sem = fun _ => 0)

def quiescent_LbGradIdeal [hLbGradIdeal : Cert.LbGradIdeal.Facts] : Prop :=
  ∀ (m : (ℓ : Loc Cert.LbGradIdeal.nD Cert.LbGradIdeal.τ Cert.LbGradIdeal.sig) → Buf (Elt Ideal) ℓ) (g : Dev Cert.LbGradIdeal.nD → PrngReg), Pre_LbGradIdeal m →
    θ_run (Cert.LbGradIdeal.defs (F := Ideal)) (onTc (τ := Cert.LbGradIdeal.τ) (Cert.LbGradIdeal.main (F := Ideal))) ⟨m, fun _ => 0, g⟩ (fun r => (∀ c : Dev Cert.LbGradIdeal.nD,
      r.2.mem ((c.tc : Thread Cert.LbGradIdeal.nD Cert.LbGradIdeal.τ).loc Cert.LbGradIdeal.main_arg0) = m ((c.tc : Thread Cert.LbGradIdeal.nD Cert.LbGradIdeal.τ).loc Cert.LbGradIdeal.main_arg0)
      ∧ r.2.mem ((c.tc : Thread Cert.LbGradIdeal.nD Cert.LbGradIdeal.τ).loc Cert.LbGradIdeal.main_arg1) = m ((c.tc : Thread Cert.LbGradIdeal.nD Cert.LbGradIdeal.τ).loc Cert.LbGradIdeal.main_arg1))
      ∧ r.2.sem = fun _ => 0)

def quiescent_LbGradIdeal_pre_all_finite [hLbGradIdeal : Cert.LbGradIdeal.Facts] [hPre_all_finite : Cert.Pre_all_finite.Facts] : Prop :=
  ∀ (m : (ℓ : Loc Cert.LbGradIdeal.nD Cert.LbGradIdeal.τ Cert.LbGradIdeal.sig) → Buf (Elt Ideal) ℓ) (g : Dev Cert.LbGradIdeal.nD → PrngReg), Pre_LbGradIdeal_all_finite m →
    θ_run (Cert.LbGradIdeal.defs (F := Ideal)) (onTc (τ := Cert.LbGradIdeal.τ) (Cert.LbGradIdeal.main (F := Ideal))) ⟨m, fun _ => 0, g⟩ (fun r => (∀ c : Dev Cert.LbGradIdeal.nD,
      r.2.mem ((c.tc : Thread Cert.LbGradIdeal.nD Cert.LbGradIdeal.τ).loc Cert.LbGradIdeal.main_arg0) = m ((c.tc : Thread Cert.LbGradIdeal.nD Cert.LbGradIdeal.τ).loc Cert.LbGradIdeal.main_arg0)
      ∧ r.2.mem ((c.tc : Thread Cert.LbGradIdeal.nD Cert.LbGradIdeal.τ).loc Cert.LbGradIdeal.main_arg1) = m ((c.tc : Thread Cert.LbGradIdeal.nD Cert.LbGradIdeal.τ).loc Cert.LbGradIdeal.main_arg1))
      ∧ r.2.sem = fun _ => 0)

def quiescent_LbGradRefIdeal [hLbGradRefIdeal : Cert.LbGradRefIdeal.Facts] : Prop :=
  ∀ (m : (ℓ : Loc Cert.LbGradRefIdeal.nD Cert.LbGradRefIdeal.τ Cert.LbGradRefIdeal.sig) → Buf (Elt Ideal) ℓ) (g : Dev Cert.LbGradRefIdeal.nD → PrngReg), Pre_LbGradRefIdeal m →
    θ_run (Cert.LbGradRefIdeal.defs (F := Ideal)) (onTc (τ := Cert.LbGradRefIdeal.τ) (Cert.LbGradRefIdeal.main (F := Ideal))) ⟨m, fun _ => 0, g⟩ (fun r => (∀ c : Dev Cert.LbGradRefIdeal.nD,
      r.2.mem ((c.tc : Thread Cert.LbGradRefIdeal.nD Cert.LbGradRefIdeal.τ).loc Cert.LbGradRefIdeal.main_arg0) = m ((c.tc : Thread Cert.LbGradRefIdeal.nD Cert.LbGradRefIdeal.τ).loc Cert.LbGradRefIdeal.main_arg0)
      ∧ r.2.mem ((c.tc : Thread Cert.LbGradRefIdeal.nD Cert.LbGradRefIdeal.τ).loc Cert.LbGradRefIdeal.main_arg1) = m ((c.tc : Thread Cert.LbGradRefIdeal.nD Cert.LbGradRefIdeal.τ).loc Cert.LbGradRefIdeal.main_arg1))
      ∧ r.2.sem = fun _ => 0)

def quiescent_LbGradRefIdeal_pre_all_finite [hLbGradRefIdeal : Cert.LbGradRefIdeal.Facts] [hPre_all_finite : Cert.Pre_all_finite.Facts] : Prop :=
  ∀ (m : (ℓ : Loc Cert.LbGradRefIdeal.nD Cert.LbGradRefIdeal.τ Cert.LbGradRefIdeal.sig) → Buf (Elt Ideal) ℓ) (g : Dev Cert.LbGradRefIdeal.nD → PrngReg), Pre_LbGradRefIdeal_all_finite m →
    θ_run (Cert.LbGradRefIdeal.defs (F := Ideal)) (onTc (τ := Cert.LbGradRefIdeal.τ) (Cert.LbGradRefIdeal.main (F := Ideal))) ⟨m, fun _ => 0, g⟩ (fun r => (∀ c : Dev Cert.LbGradRefIdeal.nD,
      r.2.mem ((c.tc : Thread Cert.LbGradRefIdeal.nD Cert.LbGradRefIdeal.τ).loc Cert.LbGradRefIdeal.main_arg0) = m ((c.tc : Thread Cert.LbGradRefIdeal.nD Cert.LbGradRefIdeal.τ).loc Cert.LbGradRefIdeal.main_arg0)
      ∧ r.2.mem ((c.tc : Thread Cert.LbGradRefIdeal.nD Cert.LbGradRefIdeal.τ).loc Cert.LbGradRefIdeal.main_arg1) = m ((c.tc : Thread Cert.LbGradRefIdeal.nD Cert.LbGradRefIdeal.τ).loc Cert.LbGradRefIdeal.main_arg1))
      ∧ r.2.sem = fun _ => 0)

def quiescent_OutLoss [hOutLoss : Cert.OutLoss.Facts] : Prop :=
  ∀ (m : (ℓ : Loc Cert.OutLoss.nD Cert.OutLoss.τ Cert.OutLoss.sig) → Buf (Elt Bits) ℓ) (g : Dev Cert.OutLoss.nD → PrngReg), Pre_OutLoss m →
    θ_run (Cert.OutLoss.defs (F := Bits)) (onTc (τ := Cert.OutLoss.τ) (Cert.OutLoss.main (F := Bits))) ⟨m, fun _ => 0, g⟩ (fun r => (∀ c : Dev Cert.OutLoss.nD,
      r.2.mem ((c.tc : Thread Cert.OutLoss.nD Cert.OutLoss.τ).loc Cert.OutLoss.main_arg0) = m ((c.tc : Thread Cert.OutLoss.nD Cert.OutLoss.τ).loc Cert.OutLoss.main_arg0)
      ∧ r.2.mem ((c.tc : Thread Cert.OutLoss.nD Cert.OutLoss.τ).loc Cert.OutLoss.main_arg1) = m ((c.tc : Thread Cert.OutLoss.nD Cert.OutLoss.τ).loc Cert.OutLoss.main_arg1)
      ∧ r.2.mem ((c.tc : Thread Cert.OutLoss.nD Cert.OutLoss.τ).loc Cert.OutLoss.main_arg2) = m ((c.tc : Thread Cert.OutLoss.nD Cert.OutLoss.τ).loc Cert.OutLoss.main_arg2)
      ∧ r.2.mem ((c.tc : Thread Cert.OutLoss.nD Cert.OutLoss.τ).loc Cert.OutLoss.main_arg3) = m ((c.tc : Thread Cert.OutLoss.nD Cert.OutLoss.τ).loc Cert.OutLoss.main_arg3))
      ∧ r.2.sem = fun _ => 0)

def quiescent_OutLossIdeal [hOutLossIdeal : Cert.OutLossIdeal.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3))
      ∧ r.2.sem = fun _ => 0)

def quiescent_OutLossRefIdeal [hOutLossRefIdeal : Cert.OutLossRefIdeal.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3))
      ∧ r.2.sem = fun _ => 0)

def quiescent_Norm1Bwd [hNorm1Bwd : Cert.Norm1Bwd.Facts] : Prop :=
  ∀ (m : (ℓ : Loc Cert.Norm1Bwd.nD Cert.Norm1Bwd.τ Cert.Norm1Bwd.sig) → Buf (Elt Bits) ℓ) (g : Dev Cert.Norm1Bwd.nD → PrngReg), Pre_Norm1Bwd m →
    θ_run (Cert.Norm1Bwd.defs (F := Bits)) (onTc (τ := Cert.Norm1Bwd.τ) (Cert.Norm1Bwd.main (F := Bits))) ⟨m, fun _ => 0, g⟩ (fun r => (∀ c : Dev Cert.Norm1Bwd.nD,
      r.2.mem ((c.tc : Thread Cert.Norm1Bwd.nD Cert.Norm1Bwd.τ).loc Cert.Norm1Bwd.main_arg0) = m ((c.tc : Thread Cert.Norm1Bwd.nD Cert.Norm1Bwd.τ).loc Cert.Norm1Bwd.main_arg0)
      ∧ r.2.mem ((c.tc : Thread Cert.Norm1Bwd.nD Cert.Norm1Bwd.τ).loc Cert.Norm1Bwd.main_arg1) = m ((c.tc : Thread Cert.Norm1Bwd.nD Cert.Norm1Bwd.τ).loc Cert.Norm1Bwd.main_arg1)
      ∧ r.2.mem ((c.tc : Thread Cert.Norm1Bwd.nD Cert.Norm1Bwd.τ).loc Cert.Norm1Bwd.main_arg2) = m ((c.tc : Thread Cert.Norm1Bwd.nD Cert.Norm1Bwd.τ).loc Cert.Norm1Bwd.main_arg2)
      ∧ r.2.mem ((c.tc : Thread Cert.Norm1Bwd.nD Cert.Norm1Bwd.τ).loc Cert.Norm1Bwd.main_arg3) = m ((c.tc : Thread Cert.Norm1Bwd.nD Cert.Norm1Bwd.τ).loc Cert.Norm1Bwd.main_arg3)
      ∧ r.2.mem ((c.tc : Thread Cert.Norm1Bwd.nD Cert.Norm1Bwd.τ).loc Cert.Norm1Bwd.main_arg4) = m ((c.tc : Thread Cert.Norm1Bwd.nD Cert.Norm1Bwd.τ).loc Cert.Norm1Bwd.main_arg4)
      ∧ r.2.mem ((c.tc : Thread Cert.Norm1Bwd.nD Cert.Norm1Bwd.τ).loc Cert.Norm1Bwd.main_arg5) = m ((c.tc : Thread Cert.Norm1Bwd.nD Cert.Norm1Bwd.τ).loc Cert.Norm1Bwd.main_arg5))
      ∧ r.2.sem = fun _ => 0)

def quiescent_Norm1BwdIdeal [hNorm1BwdIdeal : Cert.Norm1BwdIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg), Pre_Norm1BwdIdeal m →
    θ_run (Cert.Norm1BwdIdeal.defs (F := Ideal)) (onTc (τ := Cert.Norm1BwdIdeal.τ) (Cert.Norm1BwdIdeal.main (F := Ideal))) ⟨m, fun _ => 0, g⟩ (fun r => (∀ c : Dev Cert.Norm1BwdIdeal.nD,
      r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
      ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
      ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
      ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
      ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
      ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5))
      ∧ r.2.sem = fun _ => 0)

def quiescent_Norm1BwdRefIdeal [hNorm1BwdRefIdeal : Cert.Norm1BwdRefIdeal.Facts] : Prop :=
  ∀ (m : (ℓ : Loc Cert.Norm1BwdRefIdeal.nD Cert.Norm1BwdRefIdeal.τ Cert.Norm1BwdRefIdeal.sig) → Buf (Elt Ideal) ℓ) (g : Dev Cert.Norm1BwdRefIdeal.nD → PrngReg), Pre_Norm1BwdRefIdeal m →
    θ_run (Cert.Norm1BwdRefIdeal.defs (F := Ideal)) (onTc (τ := Cert.Norm1BwdRefIdeal.τ) (Cert.Norm1BwdRefIdeal.main (F := Ideal))) ⟨m, fun _ => 0, g⟩ (fun r => (∀ c : Dev Cert.Norm1BwdRefIdeal.nD,
      r.2.mem ((c.tc : Thread Cert.Norm1BwdRefIdeal.nD Cert.Norm1BwdRefIdeal.τ).loc Cert.Norm1BwdRefIdeal.main_arg0) = m ((c.tc : Thread Cert.Norm1BwdRefIdeal.nD Cert.Norm1BwdRefIdeal.τ).loc Cert.Norm1BwdRefIdeal.main_arg0)
      ∧ r.2.mem ((c.tc : Thread Cert.Norm1BwdRefIdeal.nD Cert.Norm1BwdRefIdeal.τ).loc Cert.Norm1BwdRefIdeal.main_arg1) = m ((c.tc : Thread Cert.Norm1BwdRefIdeal.nD Cert.Norm1BwdRefIdeal.τ).loc Cert.Norm1BwdRefIdeal.main_arg1)
      ∧ r.2.mem ((c.tc : Thread Cert.Norm1BwdRefIdeal.nD Cert.Norm1BwdRefIdeal.τ).loc Cert.Norm1BwdRefIdeal.main_arg2) = m ((c.tc : Thread Cert.Norm1BwdRefIdeal.nD Cert.Norm1BwdRefIdeal.τ).loc Cert.Norm1BwdRefIdeal.main_arg2)
      ∧ r.2.mem ((c.tc : Thread Cert.Norm1BwdRefIdeal.nD Cert.Norm1BwdRefIdeal.τ).loc Cert.Norm1BwdRefIdeal.main_arg3) = m ((c.tc : Thread Cert.Norm1BwdRefIdeal.nD Cert.Norm1BwdRefIdeal.τ).loc Cert.Norm1BwdRefIdeal.main_arg3)
      ∧ r.2.mem ((c.tc : Thread Cert.Norm1BwdRefIdeal.nD Cert.Norm1BwdRefIdeal.τ).loc Cert.Norm1BwdRefIdeal.main_arg4) = m ((c.tc : Thread Cert.Norm1BwdRefIdeal.nD Cert.Norm1BwdRefIdeal.τ).loc Cert.Norm1BwdRefIdeal.main_arg4)
      ∧ r.2.mem ((c.tc : Thread Cert.Norm1BwdRefIdeal.nD Cert.Norm1BwdRefIdeal.τ).loc Cert.Norm1BwdRefIdeal.main_arg5) = m ((c.tc : Thread Cert.Norm1BwdRefIdeal.nD Cert.Norm1BwdRefIdeal.τ).loc Cert.Norm1BwdRefIdeal.main_arg5))
      ∧ r.2.sem = fun _ => 0)

def quiescent_Norm2Bwd [hNorm2Bwd : Cert.Norm2Bwd.Facts] : Prop :=
  ∀ (m : (ℓ : Loc Cert.Norm2Bwd.nD Cert.Norm2Bwd.τ Cert.Norm2Bwd.sig) → Buf (Elt Bits) ℓ) (g : Dev Cert.Norm2Bwd.nD → PrngReg), Pre_Norm2Bwd m →
    θ_run (Cert.Norm2Bwd.defs (F := Bits)) (onTc (τ := Cert.Norm2Bwd.τ) (Cert.Norm2Bwd.main (F := Bits))) ⟨m, fun _ => 0, g⟩ (fun r => (∀ c : Dev Cert.Norm2Bwd.nD,
      r.2.mem ((c.tc : Thread Cert.Norm2Bwd.nD Cert.Norm2Bwd.τ).loc Cert.Norm2Bwd.main_arg0) = m ((c.tc : Thread Cert.Norm2Bwd.nD Cert.Norm2Bwd.τ).loc Cert.Norm2Bwd.main_arg0)
      ∧ r.2.mem ((c.tc : Thread Cert.Norm2Bwd.nD Cert.Norm2Bwd.τ).loc Cert.Norm2Bwd.main_arg1) = m ((c.tc : Thread Cert.Norm2Bwd.nD Cert.Norm2Bwd.τ).loc Cert.Norm2Bwd.main_arg1)
      ∧ r.2.mem ((c.tc : Thread Cert.Norm2Bwd.nD Cert.Norm2Bwd.τ).loc Cert.Norm2Bwd.main_arg2) = m ((c.tc : Thread Cert.Norm2Bwd.nD Cert.Norm2Bwd.τ).loc Cert.Norm2Bwd.main_arg2)
      ∧ r.2.mem ((c.tc : Thread Cert.Norm2Bwd.nD Cert.Norm2Bwd.τ).loc Cert.Norm2Bwd.main_arg3) = m ((c.tc : Thread Cert.Norm2Bwd.nD Cert.Norm2Bwd.τ).loc Cert.Norm2Bwd.main_arg3)
      ∧ r.2.mem ((c.tc : Thread Cert.Norm2Bwd.nD Cert.Norm2Bwd.τ).loc Cert.Norm2Bwd.main_arg4) = m ((c.tc : Thread Cert.Norm2Bwd.nD Cert.Norm2Bwd.τ).loc Cert.Norm2Bwd.main_arg4)
      ∧ r.2.mem ((c.tc : Thread Cert.Norm2Bwd.nD Cert.Norm2Bwd.τ).loc Cert.Norm2Bwd.main_arg5) = m ((c.tc : Thread Cert.Norm2Bwd.nD Cert.Norm2Bwd.τ).loc Cert.Norm2Bwd.main_arg5)
      ∧ r.2.mem ((c.tc : Thread Cert.Norm2Bwd.nD Cert.Norm2Bwd.τ).loc Cert.Norm2Bwd.main_arg6) = m ((c.tc : Thread Cert.Norm2Bwd.nD Cert.Norm2Bwd.τ).loc Cert.Norm2Bwd.main_arg6)
      ∧ r.2.mem ((c.tc : Thread Cert.Norm2Bwd.nD Cert.Norm2Bwd.τ).loc Cert.Norm2Bwd.main_arg7) = m ((c.tc : Thread Cert.Norm2Bwd.nD Cert.Norm2Bwd.τ).loc Cert.Norm2Bwd.main_arg7))
      ∧ r.2.sem = fun _ => 0)

def quiescent_Norm2BwdIdeal [hNorm2BwdIdeal : Cert.Norm2BwdIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg), Pre_Norm2BwdIdeal m →
    θ_run (Cert.Norm2BwdIdeal.defs (F := Ideal)) (onTc (τ := Cert.Norm2BwdIdeal.τ) (Cert.Norm2BwdIdeal.main (F := Ideal))) ⟨m, fun _ => 0, g⟩ (fun r => (∀ c : Dev Cert.Norm2BwdIdeal.nD,
      r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
      ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
      ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
      ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
      ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
      ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
      ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6)
      ∧ r.2.mem ((c.tc : Thread Cert.Norm2BwdIdeal.nD Cert.Norm2BwdIdeal.τ).loc Cert.Norm2BwdIdeal.main_arg7) = m ((c.tc : Thread Cert.Norm2BwdIdeal.nD Cert.Norm2BwdIdeal.τ).loc Cert.Norm2BwdIdeal.main_arg7))
      ∧ r.2.sem = fun _ => 0)

def quiescent_Norm2BwdRefIdeal [hNorm2BwdRefIdeal : Cert.Norm2BwdRefIdeal.Facts] : Prop :=
  ∀ (m : (ℓ : Loc Cert.Norm2BwdRefIdeal.nD Cert.Norm2BwdRefIdeal.τ Cert.Norm2BwdRefIdeal.sig) → Buf (Elt Ideal) ℓ) (g : Dev Cert.Norm2BwdRefIdeal.nD → PrngReg), Pre_Norm2BwdRefIdeal m →
    θ_run (Cert.Norm2BwdRefIdeal.defs (F := Ideal)) (onTc (τ := Cert.Norm2BwdRefIdeal.τ) (Cert.Norm2BwdRefIdeal.main (F := Ideal))) ⟨m, fun _ => 0, g⟩ (fun r => (∀ c : Dev Cert.Norm2BwdRefIdeal.nD,
      r.2.mem ((c.tc : Thread Cert.Norm2BwdRefIdeal.nD Cert.Norm2BwdRefIdeal.τ).loc Cert.Norm2BwdRefIdeal.main_arg0) = m ((c.tc : Thread Cert.Norm2BwdRefIdeal.nD Cert.Norm2BwdRefIdeal.τ).loc Cert.Norm2BwdRefIdeal.main_arg0)
      ∧ r.2.mem ((c.tc : Thread Cert.Norm2BwdRefIdeal.nD Cert.Norm2BwdRefIdeal.τ).loc Cert.Norm2BwdRefIdeal.main_arg1) = m ((c.tc : Thread Cert.Norm2BwdRefIdeal.nD Cert.Norm2BwdRefIdeal.τ).loc Cert.Norm2BwdRefIdeal.main_arg1)
      ∧ r.2.mem ((c.tc : Thread Cert.Norm2BwdRefIdeal.nD Cert.Norm2BwdRefIdeal.τ).loc Cert.Norm2BwdRefIdeal.main_arg2) = m ((c.tc : Thread Cert.Norm2BwdRefIdeal.nD Cert.Norm2BwdRefIdeal.τ).loc Cert.Norm2BwdRefIdeal.main_arg2)
      ∧ r.2.mem ((c.tc : Thread Cert.Norm2BwdRefIdeal.nD Cert.Norm2BwdRefIdeal.τ).loc Cert.Norm2BwdRefIdeal.main_arg3) = m ((c.tc : Thread Cert.Norm2BwdRefIdeal.nD Cert.Norm2BwdRefIdeal.τ).loc Cert.Norm2BwdRefIdeal.main_arg3)
      ∧ r.2.mem ((c.tc : Thread Cert.Norm2BwdRefIdeal.nD Cert.Norm2BwdRefIdeal.τ).loc Cert.Norm2BwdRefIdeal.main_arg4) = m ((c.tc : Thread Cert.Norm2BwdRefIdeal.nD Cert.Norm2BwdRefIdeal.τ).loc Cert.Norm2BwdRefIdeal.main_arg4)
      ∧ r.2.mem ((c.tc : Thread Cert.Norm2BwdRefIdeal.nD Cert.Norm2BwdRefIdeal.τ).loc Cert.Norm2BwdRefIdeal.main_arg5) = m ((c.tc : Thread Cert.Norm2BwdRefIdeal.nD Cert.Norm2BwdRefIdeal.τ).loc Cert.Norm2BwdRefIdeal.main_arg5)
      ∧ r.2.mem ((c.tc : Thread Cert.Norm2BwdRefIdeal.nD Cert.Norm2BwdRefIdeal.τ).loc Cert.Norm2BwdRefIdeal.main_arg6) = m ((c.tc : Thread Cert.Norm2BwdRefIdeal.nD Cert.Norm2BwdRefIdeal.τ).loc Cert.Norm2BwdRefIdeal.main_arg6)
      ∧ r.2.mem ((c.tc : Thread Cert.Norm2BwdRefIdeal.nD Cert.Norm2BwdRefIdeal.τ).loc Cert.Norm2BwdRefIdeal.main_arg7) = m ((c.tc : Thread Cert.Norm2BwdRefIdeal.nD Cert.Norm2BwdRefIdeal.τ).loc Cert.Norm2BwdRefIdeal.main_arg7))
      ∧ r.2.sem = fun _ => 0)

def quiescent_QkNormBwd [hQkNormBwd : Cert.QkNormBwd.Facts] : Prop :=
  ∀ (m : (ℓ : Loc Cert.QkNormBwd.nD Cert.QkNormBwd.τ Cert.QkNormBwd.sig) → Buf (Elt Bits) ℓ) (g : Dev Cert.QkNormBwd.nD → PrngReg), Pre_QkNormBwd m →
    θ_run (Cert.QkNormBwd.defs (F := Bits)) (onTc (τ := Cert.QkNormBwd.τ) (Cert.QkNormBwd.main (F := Bits))) ⟨m, fun _ => 0, g⟩ (fun r => (∀ c : Dev Cert.QkNormBwd.nD,
      r.2.mem ((c.tc : Thread Cert.QkNormBwd.nD Cert.QkNormBwd.τ).loc Cert.QkNormBwd.main_arg0) = m ((c.tc : Thread Cert.QkNormBwd.nD Cert.QkNormBwd.τ).loc Cert.QkNormBwd.main_arg0)
      ∧ r.2.mem ((c.tc : Thread Cert.QkNormBwd.nD Cert.QkNormBwd.τ).loc Cert.QkNormBwd.main_arg1) = m ((c.tc : Thread Cert.QkNormBwd.nD Cert.QkNormBwd.τ).loc Cert.QkNormBwd.main_arg1)
      ∧ r.2.mem ((c.tc : Thread Cert.QkNormBwd.nD Cert.QkNormBwd.τ).loc Cert.QkNormBwd.main_arg2) = m ((c.tc : Thread Cert.QkNormBwd.nD Cert.QkNormBwd.τ).loc Cert.QkNormBwd.main_arg2)
      ∧ r.2.mem ((c.tc : Thread Cert.QkNormBwd.nD Cert.QkNormBwd.τ).loc Cert.QkNormBwd.main_arg3) = m ((c.tc : Thread Cert.QkNormBwd.nD Cert.QkNormBwd.τ).loc Cert.QkNormBwd.main_arg3)
      ∧ r.2.mem ((c.tc : Thread Cert.QkNormBwd.nD Cert.QkNormBwd.τ).loc Cert.QkNormBwd.main_arg4) = m ((c.tc : Thread Cert.QkNormBwd.nD Cert.QkNormBwd.τ).loc Cert.QkNormBwd.main_arg4)
      ∧ r.2.mem ((c.tc : Thread Cert.QkNormBwd.nD Cert.QkNormBwd.τ).loc Cert.QkNormBwd.main_arg5) = m ((c.tc : Thread Cert.QkNormBwd.nD Cert.QkNormBwd.τ).loc Cert.QkNormBwd.main_arg5))
      ∧ r.2.sem = fun _ => 0)

def quiescent_QkNormBwdIdeal [hQkNormBwdIdeal : Cert.QkNormBwdIdeal.Facts] : Prop :=
  ∀ (m : (ℓ : Loc Cert.QkNormBwdIdeal.nD Cert.QkNormBwdIdeal.τ Cert.QkNormBwdIdeal.sig) → Buf (Elt Ideal) ℓ) (g : Dev Cert.QkNormBwdIdeal.nD → PrngReg), Pre_QkNormBwdIdeal m →
    θ_run (Cert.QkNormBwdIdeal.defs (F := Ideal)) (onTc (τ := Cert.QkNormBwdIdeal.τ) (Cert.QkNormBwdIdeal.main (F := Ideal))) ⟨m, fun _ => 0, g⟩ (fun r => (∀ c : Dev Cert.QkNormBwdIdeal.nD,
      r.2.mem ((c.tc : Thread Cert.QkNormBwdIdeal.nD Cert.QkNormBwdIdeal.τ).loc Cert.QkNormBwdIdeal.main_arg0) = m ((c.tc : Thread Cert.QkNormBwdIdeal.nD Cert.QkNormBwdIdeal.τ).loc Cert.QkNormBwdIdeal.main_arg0)
      ∧ r.2.mem ((c.tc : Thread Cert.QkNormBwdIdeal.nD Cert.QkNormBwdIdeal.τ).loc Cert.QkNormBwdIdeal.main_arg1) = m ((c.tc : Thread Cert.QkNormBwdIdeal.nD Cert.QkNormBwdIdeal.τ).loc Cert.QkNormBwdIdeal.main_arg1)
      ∧ r.2.mem ((c.tc : Thread Cert.QkNormBwdIdeal.nD Cert.QkNormBwdIdeal.τ).loc Cert.QkNormBwdIdeal.main_arg2) = m ((c.tc : Thread Cert.QkNormBwdIdeal.nD Cert.QkNormBwdIdeal.τ).loc Cert.QkNormBwdIdeal.main_arg2)
      ∧ r.2.mem ((c.tc : Thread Cert.QkNormBwdIdeal.nD Cert.QkNormBwdIdeal.τ).loc Cert.QkNormBwdIdeal.main_arg3) = m ((c.tc : Thread Cert.QkNormBwdIdeal.nD Cert.QkNormBwdIdeal.τ).loc Cert.QkNormBwdIdeal.main_arg3)
      ∧ r.2.mem ((c.tc : Thread Cert.QkNormBwdIdeal.nD Cert.QkNormBwdIdeal.τ).loc Cert.QkNormBwdIdeal.main_arg4) = m ((c.tc : Thread Cert.QkNormBwdIdeal.nD Cert.QkNormBwdIdeal.τ).loc Cert.QkNormBwdIdeal.main_arg4)
      ∧ r.2.mem ((c.tc : Thread Cert.QkNormBwdIdeal.nD Cert.QkNormBwdIdeal.τ).loc Cert.QkNormBwdIdeal.main_arg5) = m ((c.tc : Thread Cert.QkNormBwdIdeal.nD Cert.QkNormBwdIdeal.τ).loc Cert.QkNormBwdIdeal.main_arg5))
      ∧ r.2.sem = fun _ => 0)

def quiescent_QkNormBwdRefIdeal [hQkNormBwdRefIdeal : Cert.QkNormBwdRefIdeal.Facts] : Prop :=
  ∀ (m : (ℓ : Loc Cert.QkNormBwdRefIdeal.nD Cert.QkNormBwdRefIdeal.τ Cert.QkNormBwdRefIdeal.sig) → Buf (Elt Ideal) ℓ) (g : Dev Cert.QkNormBwdRefIdeal.nD → PrngReg), Pre_QkNormBwdRefIdeal m →
    θ_run (Cert.QkNormBwdRefIdeal.defs (F := Ideal)) (onTc (τ := Cert.QkNormBwdRefIdeal.τ) (Cert.QkNormBwdRefIdeal.main (F := Ideal))) ⟨m, fun _ => 0, g⟩ (fun r => (∀ c : Dev Cert.QkNormBwdRefIdeal.nD,
      r.2.mem ((c.tc : Thread Cert.QkNormBwdRefIdeal.nD Cert.QkNormBwdRefIdeal.τ).loc Cert.QkNormBwdRefIdeal.main_arg0) = m ((c.tc : Thread Cert.QkNormBwdRefIdeal.nD Cert.QkNormBwdRefIdeal.τ).loc Cert.QkNormBwdRefIdeal.main_arg0)
      ∧ r.2.mem ((c.tc : Thread Cert.QkNormBwdRefIdeal.nD Cert.QkNormBwdRefIdeal.τ).loc Cert.QkNormBwdRefIdeal.main_arg1) = m ((c.tc : Thread Cert.QkNormBwdRefIdeal.nD Cert.QkNormBwdRefIdeal.τ).loc Cert.QkNormBwdRefIdeal.main_arg1)
      ∧ r.2.mem ((c.tc : Thread Cert.QkNormBwdRefIdeal.nD Cert.QkNormBwdRefIdeal.τ).loc Cert.QkNormBwdRefIdeal.main_arg2) = m ((c.tc : Thread Cert.QkNormBwdRefIdeal.nD Cert.QkNormBwdRefIdeal.τ).loc Cert.QkNormBwdRefIdeal.main_arg2)
      ∧ r.2.mem ((c.tc : Thread Cert.QkNormBwdRefIdeal.nD Cert.QkNormBwdRefIdeal.τ).loc Cert.QkNormBwdRefIdeal.main_arg3) = m ((c.tc : Thread Cert.QkNormBwdRefIdeal.nD Cert.QkNormBwdRefIdeal.τ).loc Cert.QkNormBwdRefIdeal.main_arg3)
      ∧ r.2.mem ((c.tc : Thread Cert.QkNormBwdRefIdeal.nD Cert.QkNormBwdRefIdeal.τ).loc Cert.QkNormBwdRefIdeal.main_arg4) = m ((c.tc : Thread Cert.QkNormBwdRefIdeal.nD Cert.QkNormBwdRefIdeal.τ).loc Cert.QkNormBwdRefIdeal.main_arg4)
      ∧ r.2.mem ((c.tc : Thread Cert.QkNormBwdRefIdeal.nD Cert.QkNormBwdRefIdeal.τ).loc Cert.QkNormBwdRefIdeal.main_arg5) = m ((c.tc : Thread Cert.QkNormBwdRefIdeal.nD Cert.QkNormBwdRefIdeal.τ).loc Cert.QkNormBwdRefIdeal.main_arg5))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_ResidFwd [hResidFwd : Cert.ResidFwd.Facts] : Prop :=
  ∀ (m : (ℓ : Loc Cert.ResidFwd.nD Cert.ResidFwd.τ Cert.ResidFwd.sig) → Buf (Elt Bits) ℓ) (g : Dev Cert.ResidFwd.nD → PrngReg), Pre_ResidFwd m →
    θ_run (Cert.ResidFwd.defs (F := Bits)) (onTc (τ := Cert.ResidFwd.τ) (Cert.ResidFwd.main (F := Bits))) ⟨m, fun _ => 0, g⟩ (fun r => (∀ c : Dev Cert.ResidFwd.nD,
      r.2.mem ((c.tc : Thread Cert.ResidFwd.nD Cert.ResidFwd.τ).loc Cert.ResidFwd.main_arg0) = m ((c.tc : Thread Cert.ResidFwd.nD Cert.ResidFwd.τ).loc Cert.ResidFwd.main_arg0)
      ∧ r.2.mem ((c.tc : Thread Cert.ResidFwd.nD Cert.ResidFwd.τ).loc Cert.ResidFwd.main_arg1) = m ((c.tc : Thread Cert.ResidFwd.nD Cert.ResidFwd.τ).loc Cert.ResidFwd.main_arg1)
      ∧ r.2.mem ((c.tc : Thread Cert.ResidFwd.nD Cert.ResidFwd.τ).loc Cert.ResidFwd.main_arg2) = m ((c.tc : Thread Cert.ResidFwd.nD Cert.ResidFwd.τ).loc Cert.ResidFwd.main_arg2)
      ∧ r.2.mem ((c.tc : Thread Cert.ResidFwd.nD Cert.ResidFwd.τ).loc Cert.ResidFwd.main_arg3) = m ((c.tc : Thread Cert.ResidFwd.nD Cert.ResidFwd.τ).loc Cert.ResidFwd.main_arg3)
      ∧ r.2.mem ((c.tc : Thread Cert.ResidFwd.nD Cert.ResidFwd.τ).loc Cert.ResidFwd.main_arg4) = m ((c.tc : Thread Cert.ResidFwd.nD Cert.ResidFwd.τ).loc Cert.ResidFwd.main_arg4)
      ∧ r.2.mem ((c.tc : Thread Cert.ResidFwd.nD Cert.ResidFwd.τ).loc Cert.ResidFwd.main_arg5) = m ((c.tc : Thread Cert.ResidFwd.nD Cert.ResidFwd.τ).loc Cert.ResidFwd.main_arg5))
      ∧ r.2.sem = fun _ => 0)

def quiescent_ResidFwdIdeal [hResidFwdIdeal : Cert.ResidFwdIdeal.Facts] : Prop :=
  ∀ (m : (ℓ : Loc Cert.ResidFwdIdeal.nD Cert.ResidFwdIdeal.τ Cert.ResidFwdIdeal.sig) → Buf (Elt Ideal) ℓ) (g : Dev Cert.ResidFwdIdeal.nD → PrngReg), Pre_ResidFwdIdeal m →
    θ_run (Cert.ResidFwdIdeal.defs (F := Ideal)) (onTc (τ := Cert.ResidFwdIdeal.τ) (Cert.ResidFwdIdeal.main (F := Ideal))) ⟨m, fun _ => 0, g⟩ (fun r => (∀ c : Dev Cert.ResidFwdIdeal.nD,
      r.2.mem ((c.tc : Thread Cert.ResidFwdIdeal.nD Cert.ResidFwdIdeal.τ).loc Cert.ResidFwdIdeal.main_arg0) = m ((c.tc : Thread Cert.ResidFwdIdeal.nD Cert.ResidFwdIdeal.τ).loc Cert.ResidFwdIdeal.main_arg0)
      ∧ r.2.mem ((c.tc : Thread Cert.ResidFwdIdeal.nD Cert.ResidFwdIdeal.τ).loc Cert.ResidFwdIdeal.main_arg1) = m ((c.tc : Thread Cert.ResidFwdIdeal.nD Cert.ResidFwdIdeal.τ).loc Cert.ResidFwdIdeal.main_arg1)
      ∧ r.2.mem ((c.tc : Thread Cert.ResidFwdIdeal.nD Cert.ResidFwdIdeal.τ).loc Cert.ResidFwdIdeal.main_arg2) = m ((c.tc : Thread Cert.ResidFwdIdeal.nD Cert.ResidFwdIdeal.τ).loc Cert.ResidFwdIdeal.main_arg2)
      ∧ r.2.mem ((c.tc : Thread Cert.ResidFwdIdeal.nD Cert.ResidFwdIdeal.τ).loc Cert.ResidFwdIdeal.main_arg3) = m ((c.tc : Thread Cert.ResidFwdIdeal.nD Cert.ResidFwdIdeal.τ).loc Cert.ResidFwdIdeal.main_arg3)
      ∧ r.2.mem ((c.tc : Thread Cert.ResidFwdIdeal.nD Cert.ResidFwdIdeal.τ).loc Cert.ResidFwdIdeal.main_arg4) = m ((c.tc : Thread Cert.ResidFwdIdeal.nD Cert.ResidFwdIdeal.τ).loc Cert.ResidFwdIdeal.main_arg4)
      ∧ r.2.mem ((c.tc : Thread Cert.ResidFwdIdeal.nD Cert.ResidFwdIdeal.τ).loc Cert.ResidFwdIdeal.main_arg5) = m ((c.tc : Thread Cert.ResidFwdIdeal.nD Cert.ResidFwdIdeal.τ).loc Cert.ResidFwdIdeal.main_arg5))
      ∧ r.2.sem = fun _ => 0)

def quiescent_ResidFwdRefIdeal [hResidFwdRefIdeal : Cert.ResidFwdRefIdeal.Facts] : Prop :=
  ∀ (m : (ℓ : Loc Cert.ResidFwdRefIdeal.nD Cert.ResidFwdRefIdeal.τ Cert.ResidFwdRefIdeal.sig) → Buf (Elt Ideal) ℓ) (g : Dev Cert.ResidFwdRefIdeal.nD → PrngReg), Pre_ResidFwdRefIdeal m →
    θ_run (Cert.ResidFwdRefIdeal.defs (F := Ideal)) (onTc (τ := Cert.ResidFwdRefIdeal.τ) (Cert.ResidFwdRefIdeal.main (F := Ideal))) ⟨m, fun _ => 0, g⟩ (fun r => (∀ c : Dev Cert.ResidFwdRefIdeal.nD,
      r.2.mem ((c.tc : Thread Cert.ResidFwdRefIdeal.nD Cert.ResidFwdRefIdeal.τ).loc Cert.ResidFwdRefIdeal.main_arg0) = m ((c.tc : Thread Cert.ResidFwdRefIdeal.nD Cert.ResidFwdRefIdeal.τ).loc Cert.ResidFwdRefIdeal.main_arg0)
      ∧ r.2.mem ((c.tc : Thread Cert.ResidFwdRefIdeal.nD Cert.ResidFwdRefIdeal.τ).loc Cert.ResidFwdRefIdeal.main_arg1) = m ((c.tc : Thread Cert.ResidFwdRefIdeal.nD Cert.ResidFwdRefIdeal.τ).loc Cert.ResidFwdRefIdeal.main_arg1)
      ∧ r.2.mem ((c.tc : Thread Cert.ResidFwdRefIdeal.nD Cert.ResidFwdRefIdeal.τ).loc Cert.ResidFwdRefIdeal.main_arg2) = m ((c.tc : Thread Cert.ResidFwdRefIdeal.nD Cert.ResidFwdRefIdeal.τ).loc Cert.ResidFwdRefIdeal.main_arg2)
      ∧ r.2.mem ((c.tc : Thread Cert.ResidFwdRefIdeal.nD Cert.ResidFwdRefIdeal.τ).loc Cert.ResidFwdRefIdeal.main_arg3) = m ((c.tc : Thread Cert.ResidFwdRefIdeal.nD Cert.ResidFwdRefIdeal.τ).loc Cert.ResidFwdRefIdeal.main_arg3)
      ∧ r.2.mem ((c.tc : Thread Cert.ResidFwdRefIdeal.nD Cert.ResidFwdRefIdeal.τ).loc Cert.ResidFwdRefIdeal.main_arg4) = m ((c.tc : Thread Cert.ResidFwdRefIdeal.nD Cert.ResidFwdRefIdeal.τ).loc Cert.ResidFwdRefIdeal.main_arg4)
      ∧ r.2.mem ((c.tc : Thread Cert.ResidFwdRefIdeal.nD Cert.ResidFwdRefIdeal.τ).loc Cert.ResidFwdRefIdeal.main_arg5) = m ((c.tc : Thread Cert.ResidFwdRefIdeal.nD Cert.ResidFwdRefIdeal.τ).loc Cert.ResidFwdRefIdeal.main_arg5))
      ∧ r.2.sem = fun _ => 0)

def quiescent_QkPrep [hQkPrep : Cert.QkPrep.Facts] : Prop :=
  ∀ (m : (ℓ : Loc Cert.QkPrep.nD Cert.QkPrep.τ Cert.QkPrep.sig) → Buf (Elt Bits) ℓ) (g : Dev Cert.QkPrep.nD → PrngReg), Pre_QkPrep m →
    θ_run (Cert.QkPrep.defs (F := Bits)) (onTc (τ := Cert.QkPrep.τ) (Cert.QkPrep.main (F := Bits))) ⟨m, fun _ => 0, g⟩ (fun r => (∀ c : Dev Cert.QkPrep.nD,
      r.2.mem ((c.tc : Thread Cert.QkPrep.nD Cert.QkPrep.τ).loc Cert.QkPrep.main_arg0) = m ((c.tc : Thread Cert.QkPrep.nD Cert.QkPrep.τ).loc Cert.QkPrep.main_arg0)
      ∧ r.2.mem ((c.tc : Thread Cert.QkPrep.nD Cert.QkPrep.τ).loc Cert.QkPrep.main_arg1) = m ((c.tc : Thread Cert.QkPrep.nD Cert.QkPrep.τ).loc Cert.QkPrep.main_arg1)
      ∧ r.2.mem ((c.tc : Thread Cert.QkPrep.nD Cert.QkPrep.τ).loc Cert.QkPrep.main_arg2) = m ((c.tc : Thread Cert.QkPrep.nD Cert.QkPrep.τ).loc Cert.QkPrep.main_arg2))
      ∧ r.2.sem = fun _ => 0)

def quiescent_QkPrepIdeal [hQkPrepIdeal : Cert.QkPrepIdeal.Facts] : Prop :=
  ∀ (m : (ℓ : Loc Cert.QkPrepIdeal.nD Cert.QkPrepIdeal.τ Cert.QkPrepIdeal.sig) → Buf (Elt Ideal) ℓ) (g : Dev Cert.QkPrepIdeal.nD → PrngReg), Pre_QkPrepIdeal m →
    θ_run (Cert.QkPrepIdeal.defs (F := Ideal)) (onTc (τ := Cert.QkPrepIdeal.τ) (Cert.QkPrepIdeal.main (F := Ideal))) ⟨m, fun _ => 0, g⟩ (fun r => (∀ c : Dev Cert.QkPrepIdeal.nD,
      r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
      ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
      ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2))
      ∧ r.2.sem = fun _ => 0)

def quiescent_QkPrepRefIdeal [hQkPrepRefIdeal : Cert.QkPrepRefIdeal.Facts] : Prop :=
  ∀ (m : (ℓ : Loc Cert.QkPrepRefIdeal.nD Cert.QkPrepRefIdeal.τ Cert.QkPrepRefIdeal.sig) → Buf (Elt Ideal) ℓ) (g : Dev Cert.QkPrepRefIdeal.nD → PrngReg), Pre_QkPrepRefIdeal m →
    θ_run (Cert.QkPrepRefIdeal.defs (F := Ideal)) (onTc (τ := Cert.QkPrepRefIdeal.τ) (Cert.QkPrepRefIdeal.main (F := Ideal))) ⟨m, fun _ => 0, g⟩ (fun r => (∀ c : Dev Cert.QkPrepRefIdeal.nD,
      r.2.mem ((c.tc : Thread Cert.QkPrepRefIdeal.nD Cert.QkPrepRefIdeal.τ).loc Cert.QkPrepRefIdeal.main_arg0) = m ((c.tc : Thread Cert.QkPrepRefIdeal.nD Cert.QkPrepRefIdeal.τ).loc Cert.QkPrepRefIdeal.main_arg0)
      ∧ r.2.mem ((c.tc : Thread Cert.QkPrepRefIdeal.nD Cert.QkPrepRefIdeal.τ).loc Cert.QkPrepRefIdeal.main_arg1) = m ((c.tc : Thread Cert.QkPrepRefIdeal.nD Cert.QkPrepRefIdeal.τ).loc Cert.QkPrepRefIdeal.main_arg1)
      ∧ r.2.mem ((c.tc : Thread Cert.QkPrepRefIdeal.nD Cert.QkPrepRefIdeal.τ).loc Cert.QkPrepRefIdeal.main_arg2) = m ((c.tc : Thread Cert.QkPrepRefIdeal.nD Cert.QkPrepRefIdeal.τ).loc Cert.QkPrepRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_UpBwdW_UpBwdWIdeal : Prop :=
  True

def algebraic_UpBwdWIdeal_UpBwdWRefIdeal [hUpBwdWIdeal : Cert.UpBwdWIdeal.Facts] [hUpBwdWRefIdeal : Cert.UpBwdWRefIdeal.Facts] : Prop :=
  ∀ (m : (ℓ : Loc Cert.UpBwdWIdeal.nD Cert.UpBwdWIdeal.τ Cert.UpBwdWIdeal.sig) → Buf (Elt Ideal) ℓ) (g : Dev Cert.UpBwdWIdeal.nD → PrngReg)
    (m' : (ℓ : Loc Cert.UpBwdWRefIdeal.nD Cert.UpBwdWRefIdeal.τ Cert.UpBwdWRefIdeal.sig) → Buf (Elt Ideal) ℓ) (g' : Dev Cert.UpBwdWRefIdeal.nD → PrngReg), Pre_UpBwdWIdeal m →
    (∀ c : Dev Cert.UpBwdWIdeal.nD,
      m' ((c.tc : Thread Cert.UpBwdWRefIdeal.nD Cert.UpBwdWRefIdeal.τ).loc Cert.UpBwdWRefIdeal.main_arg0) = m ((c.tc : Thread Cert.UpBwdWIdeal.nD Cert.UpBwdWIdeal.τ).loc Cert.UpBwdWIdeal.main_arg0)
      ∧ m' ((c.tc : Thread Cert.UpBwdWRefIdeal.nD Cert.UpBwdWRefIdeal.τ).loc Cert.UpBwdWRefIdeal.main_arg1) = m ((c.tc : Thread Cert.UpBwdWIdeal.nD Cert.UpBwdWIdeal.τ).loc Cert.UpBwdWIdeal.main_arg1)) →
    ∃ (v0 : (c : Dev Cert.UpBwdWIdeal.nD) → Buf (Elt Ideal) ((c.tc : Thread Cert.UpBwdWIdeal.nD Cert.UpBwdWIdeal.τ).loc Cert.UpBwdWIdeal.main_v2)),
      θ_run (Cert.UpBwdWIdeal.defs (F := Ideal)) (onTc (τ := Cert.UpBwdWIdeal.τ) (Cert.UpBwdWIdeal.main (F := Ideal))) ⟨m, fun _ => 0, g⟩ (fun r => ∀ c : Dev Cert.UpBwdWIdeal.nD,
          r.2.mem ((c.tc : Thread Cert.UpBwdWIdeal.nD Cert.UpBwdWIdeal.τ).loc Cert.UpBwdWIdeal.main_v2) = v0 c
          ∧ r.2.mem ((c.tc : Thread Cert.UpBwdWIdeal.nD Cert.UpBwdWIdeal.τ).loc Cert.UpBwdWIdeal.main_arg0) = m ((c.tc : Thread Cert.UpBwdWIdeal.nD Cert.UpBwdWIdeal.τ).loc Cert.UpBwdWIdeal.main_arg0)
          ∧ r.2.mem ((c.tc : Thread Cert.UpBwdWIdeal.nD Cert.UpBwdWIdeal.τ).loc Cert.UpBwdWIdeal.main_arg1) = m ((c.tc : Thread Cert.UpBwdWIdeal.nD Cert.UpBwdWIdeal.τ).loc Cert.UpBwdWIdeal.main_arg1))
      ∧ θ_run (Cert.UpBwdWRefIdeal.defs (F := Ideal)) (onTc (τ := Cert.UpBwdWRefIdeal.τ) (Cert.UpBwdWRefIdeal.main (F := Ideal))) ⟨m', fun _ => 0, g'⟩ (fun r => ∀ c : Dev Cert.UpBwdWRefIdeal.nD,
          r.2.mem ((c.tc : Thread Cert.UpBwdWRefIdeal.nD Cert.UpBwdWRefIdeal.τ).loc Cert.UpBwdWRefIdeal.main_v2) = v0 c
          ∧ r.2.mem ((c.tc : Thread Cert.UpBwdWRefIdeal.nD Cert.UpBwdWRefIdeal.τ).loc Cert.UpBwdWRefIdeal.main_arg0) = m' ((c.tc : Thread Cert.UpBwdWRefIdeal.nD Cert.UpBwdWRefIdeal.τ).loc Cert.UpBwdWRefIdeal.main_arg0)
          ∧ r.2.mem ((c.tc : Thread Cert.UpBwdWRefIdeal.nD Cert.UpBwdWRefIdeal.τ).loc Cert.UpBwdWRefIdeal.main_arg1) = m' ((c.tc : Thread Cert.UpBwdWRefIdeal.nD Cert.UpBwdWRefIdeal.τ).loc Cert.UpBwdWRefIdeal.main_arg1))

def preserves_UpBwdX_UpBwdXIdeal : Prop :=
  True

def algebraic_UpBwdXIdeal_UpBwdXRefIdeal [hUpBwdXIdeal : Cert.UpBwdXIdeal.Facts] [hUpBwdXRefIdeal : Cert.UpBwdXRefIdeal.Facts] : Prop :=
  ∀ (m : (ℓ : Loc Cert.UpBwdXIdeal.nD Cert.UpBwdXIdeal.τ Cert.UpBwdXIdeal.sig) → Buf (Elt Ideal) ℓ) (g : Dev Cert.UpBwdXIdeal.nD → PrngReg)
    (m' : (ℓ : Loc Cert.UpBwdXRefIdeal.nD Cert.UpBwdXRefIdeal.τ Cert.UpBwdXRefIdeal.sig) → Buf (Elt Ideal) ℓ) (g' : Dev Cert.UpBwdXRefIdeal.nD → PrngReg), Pre_UpBwdXIdeal m →
    (∀ c : Dev Cert.UpBwdXIdeal.nD,
      m' ((c.tc : Thread Cert.UpBwdXRefIdeal.nD Cert.UpBwdXRefIdeal.τ).loc Cert.UpBwdXRefIdeal.main_arg0) = m ((c.tc : Thread Cert.UpBwdXIdeal.nD Cert.UpBwdXIdeal.τ).loc Cert.UpBwdXIdeal.main_arg0)
      ∧ m' ((c.tc : Thread Cert.UpBwdXRefIdeal.nD Cert.UpBwdXRefIdeal.τ).loc Cert.UpBwdXRefIdeal.main_arg1) = m ((c.tc : Thread Cert.UpBwdXIdeal.nD Cert.UpBwdXIdeal.τ).loc Cert.UpBwdXIdeal.main_arg1)) →
    ∃ (v0 : (c : Dev Cert.UpBwdXIdeal.nD) → Buf (Elt Ideal) ((c.tc : Thread Cert.UpBwdXIdeal.nD Cert.UpBwdXIdeal.τ).loc Cert.UpBwdXIdeal.main_v2)),
      θ_run (Cert.UpBwdXIdeal.defs (F := Ideal)) (onTc (τ := Cert.UpBwdXIdeal.τ) (Cert.UpBwdXIdeal.main (F := Ideal))) ⟨m, fun _ => 0, g⟩ (fun r => ∀ c : Dev Cert.UpBwdXIdeal.nD,
          r.2.mem ((c.tc : Thread Cert.UpBwdXIdeal.nD Cert.UpBwdXIdeal.τ).loc Cert.UpBwdXIdeal.main_v2) = v0 c
          ∧ r.2.mem ((c.tc : Thread Cert.UpBwdXIdeal.nD Cert.UpBwdXIdeal.τ).loc Cert.UpBwdXIdeal.main_arg0) = m ((c.tc : Thread Cert.UpBwdXIdeal.nD Cert.UpBwdXIdeal.τ).loc Cert.UpBwdXIdeal.main_arg0)
          ∧ r.2.mem ((c.tc : Thread Cert.UpBwdXIdeal.nD Cert.UpBwdXIdeal.τ).loc Cert.UpBwdXIdeal.main_arg1) = m ((c.tc : Thread Cert.UpBwdXIdeal.nD Cert.UpBwdXIdeal.τ).loc Cert.UpBwdXIdeal.main_arg1))
      ∧ θ_run (Cert.UpBwdXRefIdeal.defs (F := Ideal)) (onTc (τ := Cert.UpBwdXRefIdeal.τ) (Cert.UpBwdXRefIdeal.main (F := Ideal))) ⟨m', fun _ => 0, g'⟩ (fun r => ∀ c : Dev Cert.UpBwdXRefIdeal.nD,
          r.2.mem ((c.tc : Thread Cert.UpBwdXRefIdeal.nD Cert.UpBwdXRefIdeal.τ).loc Cert.UpBwdXRefIdeal.main_v0) = v0 c
          ∧ r.2.mem ((c.tc : Thread Cert.UpBwdXRefIdeal.nD Cert.UpBwdXRefIdeal.τ).loc Cert.UpBwdXRefIdeal.main_arg0) = m' ((c.tc : Thread Cert.UpBwdXRefIdeal.nD Cert.UpBwdXRefIdeal.τ).loc Cert.UpBwdXRefIdeal.main_arg0)
          ∧ r.2.mem ((c.tc : Thread Cert.UpBwdXRefIdeal.nD Cert.UpBwdXRefIdeal.τ).loc Cert.UpBwdXRefIdeal.main_arg1) = m' ((c.tc : Thread Cert.UpBwdXRefIdeal.nD Cert.UpBwdXRefIdeal.τ).loc Cert.UpBwdXRefIdeal.main_arg1))

def preserves_DownBwdW_DownBwdWIdeal : Prop :=
  True

def algebraic_DownBwdWIdeal_DownBwdWRefIdeal [hDownBwdWIdeal : Cert.DownBwdWIdeal.Facts] [hDownBwdWRefIdeal : Cert.DownBwdWRefIdeal.Facts] : Prop :=
  ∀ (m : (ℓ : Loc Cert.DownBwdWIdeal.nD Cert.DownBwdWIdeal.τ Cert.DownBwdWIdeal.sig) → Buf (Elt Ideal) ℓ) (g : Dev Cert.DownBwdWIdeal.nD → PrngReg)
    (m' : (ℓ : Loc Cert.DownBwdWRefIdeal.nD Cert.DownBwdWRefIdeal.τ Cert.DownBwdWRefIdeal.sig) → Buf (Elt Ideal) ℓ) (g' : Dev Cert.DownBwdWRefIdeal.nD → PrngReg), Pre_DownBwdWIdeal m →
    (∀ c : Dev Cert.DownBwdWIdeal.nD,
      m' ((c.tc : Thread Cert.DownBwdWRefIdeal.nD Cert.DownBwdWRefIdeal.τ).loc Cert.DownBwdWRefIdeal.main_arg0) = m ((c.tc : Thread Cert.DownBwdWIdeal.nD Cert.DownBwdWIdeal.τ).loc Cert.DownBwdWIdeal.main_arg0)
      ∧ m' ((c.tc : Thread Cert.DownBwdWRefIdeal.nD Cert.DownBwdWRefIdeal.τ).loc Cert.DownBwdWRefIdeal.main_arg1) = m ((c.tc : Thread Cert.DownBwdWIdeal.nD Cert.DownBwdWIdeal.τ).loc Cert.DownBwdWIdeal.main_arg1)) →
    ∃ (v0 : (c : Dev Cert.DownBwdWIdeal.nD) → Buf (Elt Ideal) ((c.tc : Thread Cert.DownBwdWIdeal.nD Cert.DownBwdWIdeal.τ).loc Cert.DownBwdWIdeal.main_v2)),
      θ_run (Cert.DownBwdWIdeal.defs (F := Ideal)) (onTc (τ := Cert.DownBwdWIdeal.τ) (Cert.DownBwdWIdeal.main (F := Ideal))) ⟨m, fun _ => 0, g⟩ (fun r => ∀ c : Dev Cert.DownBwdWIdeal.nD,
          r.2.mem ((c.tc : Thread Cert.DownBwdWIdeal.nD Cert.DownBwdWIdeal.τ).loc Cert.DownBwdWIdeal.main_v2) = v0 c
          ∧ r.2.mem ((c.tc : Thread Cert.DownBwdWIdeal.nD Cert.DownBwdWIdeal.τ).loc Cert.DownBwdWIdeal.main_arg0) = m ((c.tc : Thread Cert.DownBwdWIdeal.nD Cert.DownBwdWIdeal.τ).loc Cert.DownBwdWIdeal.main_arg0)
          ∧ r.2.mem ((c.tc : Thread Cert.DownBwdWIdeal.nD Cert.DownBwdWIdeal.τ).loc Cert.DownBwdWIdeal.main_arg1) = m ((c.tc : Thread Cert.DownBwdWIdeal.nD Cert.DownBwdWIdeal.τ).loc Cert.DownBwdWIdeal.main_arg1))
      ∧ θ_run (Cert.DownBwdWRefIdeal.defs (F := Ideal)) (onTc (τ := Cert.DownBwdWRefIdeal.τ) (Cert.DownBwdWRefIdeal.main (F := Ideal))) ⟨m', fun _ => 0, g'⟩ (fun r => ∀ c : Dev Cert.DownBwdWRefIdeal.nD,
          r.2.mem ((c.tc : Thread Cert.DownBwdWRefIdeal.nD Cert.DownBwdWRefIdeal.τ).loc Cert.DownBwdWRefIdeal.main_v2) = v0 c
          ∧ r.2.mem ((c.tc : Thread Cert.DownBwdWRefIdeal.nD Cert.DownBwdWRefIdeal.τ).loc Cert.DownBwdWRefIdeal.main_arg0) = m' ((c.tc : Thread Cert.DownBwdWRefIdeal.nD Cert.DownBwdWRefIdeal.τ).loc Cert.DownBwdWRefIdeal.main_arg0)
          ∧ r.2.mem ((c.tc : Thread Cert.DownBwdWRefIdeal.nD Cert.DownBwdWRefIdeal.τ).loc Cert.DownBwdWRefIdeal.main_arg1) = m' ((c.tc : Thread Cert.DownBwdWRefIdeal.nD Cert.DownBwdWRefIdeal.τ).loc Cert.DownBwdWRefIdeal.main_arg1))

def preserves_DownBwdX_DownBwdXIdeal : Prop :=
  True

def algebraic_DownBwdXIdeal_DownBwdXRefIdeal [hDownBwdXIdeal : Cert.DownBwdXIdeal.Facts] [hDownBwdXRefIdeal : Cert.DownBwdXRefIdeal.Facts] : Prop :=
  ∀ (m : (ℓ : Loc Cert.DownBwdXIdeal.nD Cert.DownBwdXIdeal.τ Cert.DownBwdXIdeal.sig) → Buf (Elt Ideal) ℓ) (g : Dev Cert.DownBwdXIdeal.nD → PrngReg)
    (m' : (ℓ : Loc Cert.DownBwdXRefIdeal.nD Cert.DownBwdXRefIdeal.τ Cert.DownBwdXRefIdeal.sig) → Buf (Elt Ideal) ℓ) (g' : Dev Cert.DownBwdXRefIdeal.nD → PrngReg), Pre_DownBwdXIdeal m →
    (∀ c : Dev Cert.DownBwdXIdeal.nD,
      m' ((c.tc : Thread Cert.DownBwdXRefIdeal.nD Cert.DownBwdXRefIdeal.τ).loc Cert.DownBwdXRefIdeal.main_arg0) = m ((c.tc : Thread Cert.DownBwdXIdeal.nD Cert.DownBwdXIdeal.τ).loc Cert.DownBwdXIdeal.main_arg0)
      ∧ m' ((c.tc : Thread Cert.DownBwdXRefIdeal.nD Cert.DownBwdXRefIdeal.τ).loc Cert.DownBwdXRefIdeal.main_arg1) = m ((c.tc : Thread Cert.DownBwdXIdeal.nD Cert.DownBwdXIdeal.τ).loc Cert.DownBwdXIdeal.main_arg1)) →
    ∃ (v0 : (c : Dev Cert.DownBwdXIdeal.nD) → Buf (Elt Ideal) ((c.tc : Thread Cert.DownBwdXIdeal.nD Cert.DownBwdXIdeal.τ).loc Cert.DownBwdXIdeal.main_v2)),
      θ_run (Cert.DownBwdXIdeal.defs (F := Ideal)) (onTc (τ := Cert.DownBwdXIdeal.τ) (Cert.DownBwdXIdeal.main (F := Ideal))) ⟨m, fun _ => 0, g⟩ (fun r => ∀ c : Dev Cert.DownBwdXIdeal.nD,
          r.2.mem ((c.tc : Thread Cert.DownBwdXIdeal.nD Cert.DownBwdXIdeal.τ).loc Cert.DownBwdXIdeal.main_v2) = v0 c
          ∧ r.2.mem ((c.tc : Thread Cert.DownBwdXIdeal.nD Cert.DownBwdXIdeal.τ).loc Cert.DownBwdXIdeal.main_arg0) = m ((c.tc : Thread Cert.DownBwdXIdeal.nD Cert.DownBwdXIdeal.τ).loc Cert.DownBwdXIdeal.main_arg0)
          ∧ r.2.mem ((c.tc : Thread Cert.DownBwdXIdeal.nD Cert.DownBwdXIdeal.τ).loc Cert.DownBwdXIdeal.main_arg1) = m ((c.tc : Thread Cert.DownBwdXIdeal.nD Cert.DownBwdXIdeal.τ).loc Cert.DownBwdXIdeal.main_arg1))
      ∧ θ_run (Cert.DownBwdXRefIdeal.defs (F := Ideal)) (onTc (τ := Cert.DownBwdXRefIdeal.τ) (Cert.DownBwdXRefIdeal.main (F := Ideal))) ⟨m', fun _ => 0, g'⟩ (fun r => ∀ c : Dev Cert.DownBwdXRefIdeal.nD,
          r.2.mem ((c.tc : Thread Cert.DownBwdXRefIdeal.nD Cert.DownBwdXRefIdeal.τ).loc Cert.DownBwdXRefIdeal.main_v1) = v0 c
          ∧ r.2.mem ((c.tc : Thread Cert.DownBwdXRefIdeal.nD Cert.DownBwdXRefIdeal.τ).loc Cert.DownBwdXRefIdeal.main_arg0) = m' ((c.tc : Thread Cert.DownBwdXRefIdeal.nD Cert.DownBwdXRefIdeal.τ).loc Cert.DownBwdXRefIdeal.main_arg0)
          ∧ r.2.mem ((c.tc : Thread Cert.DownBwdXRefIdeal.nD Cert.DownBwdXRefIdeal.τ).loc Cert.DownBwdXRefIdeal.main_arg1) = m' ((c.tc : Thread Cert.DownBwdXRefIdeal.nD Cert.DownBwdXRefIdeal.τ).loc Cert.DownBwdXRefIdeal.main_arg1))

def preserves_ProjBwdW0_ProjBwdW0Ideal : Prop :=
  True

def algebraic_ProjBwdW0Ideal_ProjBwdW0RefIdeal [hProjBwdW0Ideal : Cert.ProjBwdW0Ideal.Facts] [hProjBwdW0RefIdeal : Cert.ProjBwdW0RefIdeal.Facts] : Prop :=
  ∀ (m : (ℓ : Loc Cert.ProjBwdW0Ideal.nD Cert.ProjBwdW0Ideal.τ Cert.ProjBwdW0Ideal.sig) → Buf (Elt Ideal) ℓ) (g : Dev Cert.ProjBwdW0Ideal.nD → PrngReg)
    (m' : (ℓ : Loc Cert.ProjBwdW0RefIdeal.nD Cert.ProjBwdW0RefIdeal.τ Cert.ProjBwdW0RefIdeal.sig) → Buf (Elt Ideal) ℓ) (g' : Dev Cert.ProjBwdW0RefIdeal.nD → PrngReg), Pre_ProjBwdW0Ideal m →
    (∀ c : Dev Cert.ProjBwdW0Ideal.nD,
      m' ((c.tc : Thread Cert.ProjBwdW0RefIdeal.nD Cert.ProjBwdW0RefIdeal.τ).loc Cert.ProjBwdW0RefIdeal.main_arg0) = m ((c.tc : Thread Cert.ProjBwdW0Ideal.nD Cert.ProjBwdW0Ideal.τ).loc Cert.ProjBwdW0Ideal.main_arg0)
      ∧ m' ((c.tc : Thread Cert.ProjBwdW0RefIdeal.nD Cert.ProjBwdW0RefIdeal.τ).loc Cert.ProjBwdW0RefIdeal.main_arg1) = m ((c.tc : Thread Cert.ProjBwdW0Ideal.nD Cert.ProjBwdW0Ideal.τ).loc Cert.ProjBwdW0Ideal.main_arg1)) →
    ∃ (v0 : (c : Dev Cert.ProjBwdW0Ideal.nD) → Buf (Elt Ideal) ((c.tc : Thread Cert.ProjBwdW0Ideal.nD Cert.ProjBwdW0Ideal.τ).loc Cert.ProjBwdW0Ideal.main_v2)),
      θ_run (Cert.ProjBwdW0Ideal.defs (F := Ideal)) (onTc (τ := Cert.ProjBwdW0Ideal.τ) (Cert.ProjBwdW0Ideal.main (F := Ideal))) ⟨m, fun _ => 0, g⟩ (fun r => ∀ c : Dev Cert.ProjBwdW0Ideal.nD,
          r.2.mem ((c.tc : Thread Cert.ProjBwdW0Ideal.nD Cert.ProjBwdW0Ideal.τ).loc Cert.ProjBwdW0Ideal.main_v2) = v0 c
          ∧ r.2.mem ((c.tc : Thread Cert.ProjBwdW0Ideal.nD Cert.ProjBwdW0Ideal.τ).loc Cert.ProjBwdW0Ideal.main_arg0) = m ((c.tc : Thread Cert.ProjBwdW0Ideal.nD Cert.ProjBwdW0Ideal.τ).loc Cert.ProjBwdW0Ideal.main_arg0)
          ∧ r.2.mem ((c.tc : Thread Cert.ProjBwdW0Ideal.nD Cert.ProjBwdW0Ideal.τ).loc Cert.ProjBwdW0Ideal.main_arg1) = m ((c.tc : Thread Cert.ProjBwdW0Ideal.nD Cert.ProjBwdW0Ideal.τ).loc Cert.ProjBwdW0Ideal.main_arg1))
      ∧ θ_run (Cert.ProjBwdW0RefIdeal.defs (F := Ideal)) (onTc (τ := Cert.ProjBwdW0RefIdeal.τ) (Cert.ProjBwdW0RefIdeal.main (F := Ideal))) ⟨m', fun _ => 0, g'⟩ (fun r => ∀ c : Dev Cert.ProjBwdW0RefIdeal.nD,
          r.2.mem ((c.tc : Thread Cert.ProjBwdW0RefIdeal.nD Cert.ProjBwdW0RefIdeal.τ).loc Cert.ProjBwdW0RefIdeal.main_v3) = v0 c
          ∧ r.2.mem ((c.tc : Thread Cert.ProjBwdW0RefIdeal.nD Cert.ProjBwdW0RefIdeal.τ).loc Cert.ProjBwdW0RefIdeal.main_arg0) = m' ((c.tc : Thread Cert.ProjBwdW0RefIdeal.nD Cert.ProjBwdW0RefIdeal.τ).loc Cert.ProjBwdW0RefIdeal.main_arg0)
          ∧ r.2.mem ((c.tc : Thread Cert.ProjBwdW0RefIdeal.nD Cert.ProjBwdW0RefIdeal.τ).loc Cert.ProjBwdW0RefIdeal.main_arg1) = m' ((c.tc : Thread Cert.ProjBwdW0RefIdeal.nD Cert.ProjBwdW0RefIdeal.τ).loc Cert.ProjBwdW0RefIdeal.main_arg1))

def preserves_ProjBwdW1_ProjBwdW1Ideal : Prop :=
  True

def algebraic_ProjBwdW1Ideal_ProjBwdW1RefIdeal [hProjBwdW1Ideal : Cert.ProjBwdW1Ideal.Facts] [hProjBwdW1RefIdeal : Cert.ProjBwdW1RefIdeal.Facts] : Prop :=
  ∀ (m : (ℓ : Loc Cert.ProjBwdW1Ideal.nD Cert.ProjBwdW1Ideal.τ Cert.ProjBwdW1Ideal.sig) → Buf (Elt Ideal) ℓ) (g : Dev Cert.ProjBwdW1Ideal.nD → PrngReg)
    (m' : (ℓ : Loc Cert.ProjBwdW1RefIdeal.nD Cert.ProjBwdW1RefIdeal.τ Cert.ProjBwdW1RefIdeal.sig) → Buf (Elt Ideal) ℓ) (g' : Dev Cert.ProjBwdW1RefIdeal.nD → PrngReg), Pre_ProjBwdW1Ideal m →
    (∀ c : Dev Cert.ProjBwdW1Ideal.nD,
      m' ((c.tc : Thread Cert.ProjBwdW1RefIdeal.nD Cert.ProjBwdW1RefIdeal.τ).loc Cert.ProjBwdW1RefIdeal.main_arg0) = m ((c.tc : Thread Cert.ProjBwdW1Ideal.nD Cert.ProjBwdW1Ideal.τ).loc Cert.ProjBwdW1Ideal.main_arg0)
      ∧ m' ((c.tc : Thread Cert.ProjBwdW1RefIdeal.nD Cert.ProjBwdW1RefIdeal.τ).loc Cert.ProjBwdW1RefIdeal.main_arg1) = m ((c.tc : Thread Cert.ProjBwdW1Ideal.nD Cert.ProjBwdW1Ideal.τ).loc Cert.ProjBwdW1Ideal.main_arg1)) →
    ∃ (v0 : (c : Dev Cert.ProjBwdW1Ideal.nD) → Buf (Elt Ideal) ((c.tc : Thread Cert.ProjBwdW1Ideal.nD Cert.ProjBwdW1Ideal.τ).loc Cert.ProjBwdW1Ideal.main_v2)),
      θ_run (Cert.ProjBwdW1Ideal.defs (F := Ideal)) (onTc (τ := Cert.ProjBwdW1Ideal.τ) (Cert.ProjBwdW1Ideal.main (F := Ideal))) ⟨m, fun _ => 0, g⟩ (fun r => ∀ c : Dev Cert.ProjBwdW1Ideal.nD,
          r.2.mem ((c.tc : Thread Cert.ProjBwdW1Ideal.nD Cert.ProjBwdW1Ideal.τ).loc Cert.ProjBwdW1Ideal.main_v2) = v0 c
          ∧ r.2.mem ((c.tc : Thread Cert.ProjBwdW1Ideal.nD Cert.ProjBwdW1Ideal.τ).loc Cert.ProjBwdW1Ideal.main_arg0) = m ((c.tc : Thread Cert.ProjBwdW1Ideal.nD Cert.ProjBwdW1Ideal.τ).loc Cert.ProjBwdW1Ideal.main_arg0)
          ∧ r.2.mem ((c.tc : Thread Cert.ProjBwdW1Ideal.nD Cert.ProjBwdW1Ideal.τ).loc Cert.ProjBwdW1Ideal.main_arg1) = m ((c.tc : Thread Cert.ProjBwdW1Ideal.nD Cert.ProjBwdW1Ideal.τ).loc Cert.ProjBwdW1Ideal.main_arg1))
      ∧ θ_run (Cert.ProjBwdW1RefIdeal.defs (F := Ideal)) (onTc (τ := Cert.ProjBwdW1RefIdeal.τ) (Cert.ProjBwdW1RefIdeal.main (F := Ideal))) ⟨m', fun _ => 0, g'⟩ (fun r => ∀ c : Dev Cert.ProjBwdW1RefIdeal.nD,
          r.2.mem ((c.tc : Thread Cert.ProjBwdW1RefIdeal.nD Cert.ProjBwdW1RefIdeal.τ).loc Cert.ProjBwdW1RefIdeal.main_v3) = v0 c
          ∧ r.2.mem ((c.tc : Thread Cert.ProjBwdW1RefIdeal.nD Cert.ProjBwdW1RefIdeal.τ).loc Cert.ProjBwdW1RefIdeal.main_arg0) = m' ((c.tc : Thread Cert.ProjBwdW1RefIdeal.nD Cert.ProjBwdW1RefIdeal.τ).loc Cert.ProjBwdW1RefIdeal.main_arg0)
          ∧ r.2.mem ((c.tc : Thread Cert.ProjBwdW1RefIdeal.nD Cert.ProjBwdW1RefIdeal.τ).loc Cert.ProjBwdW1RefIdeal.main_arg1) = m' ((c.tc : Thread Cert.ProjBwdW1RefIdeal.nD Cert.ProjBwdW1RefIdeal.τ).loc Cert.ProjBwdW1RefIdeal.main_arg1))

def preserves_ProjBwdX_ProjBwdXIdeal : Prop :=
  True

def algebraic_ProjBwdXIdeal_ProjBwdXRefIdeal [hProjBwdXIdeal : Cert.ProjBwdXIdeal.Facts] [hProjBwdXRefIdeal : Cert.ProjBwdXRefIdeal.Facts] : Prop :=
  ∀ (m : (ℓ : Loc Cert.ProjBwdXIdeal.nD Cert.ProjBwdXIdeal.τ Cert.ProjBwdXIdeal.sig) → Buf (Elt Ideal) ℓ) (g : Dev Cert.ProjBwdXIdeal.nD → PrngReg)
    (m' : (ℓ : Loc Cert.ProjBwdXRefIdeal.nD Cert.ProjBwdXRefIdeal.τ Cert.ProjBwdXRefIdeal.sig) → Buf (Elt Ideal) ℓ) (g' : Dev Cert.ProjBwdXRefIdeal.nD → PrngReg), Pre_ProjBwdXIdeal m →
    (∀ c : Dev Cert.ProjBwdXIdeal.nD,
      m' ((c.tc : Thread Cert.ProjBwdXRefIdeal.nD Cert.ProjBwdXRefIdeal.τ).loc Cert.ProjBwdXRefIdeal.main_arg0) = m ((c.tc : Thread Cert.ProjBwdXIdeal.nD Cert.ProjBwdXIdeal.τ).loc Cert.ProjBwdXIdeal.main_arg0)
      ∧ m' ((c.tc : Thread Cert.ProjBwdXRefIdeal.nD Cert.ProjBwdXRefIdeal.τ).loc Cert.ProjBwdXRefIdeal.main_arg1) = m ((c.tc : Thread Cert.ProjBwdXIdeal.nD Cert.ProjBwdXIdeal.τ).loc Cert.ProjBwdXIdeal.main_arg1)) →
    ∃ (v0 : (c : Dev Cert.ProjBwdXIdeal.nD) → Buf (Elt Ideal) ((c.tc : Thread Cert.ProjBwdXIdeal.nD Cert.ProjBwdXIdeal.τ).loc Cert.ProjBwdXIdeal.main_v2)),
      θ_run (Cert.ProjBwdXIdeal.defs (F := Ideal)) (onTc (τ := Cert.ProjBwdXIdeal.τ) (Cert.ProjBwdXIdeal.main (F := Ideal))) ⟨m, fun _ => 0, g⟩ (fun r => ∀ c : Dev Cert.ProjBwdXIdeal.nD,
          r.2.mem ((c.tc : Thread Cert.ProjBwdXIdeal.nD Cert.ProjBwdXIdeal.τ).loc Cert.ProjBwdXIdeal.main_v2) = v0 c
          ∧ r.2.mem ((c.tc : Thread Cert.ProjBwdXIdeal.nD Cert.ProjBwdXIdeal.τ).loc Cert.ProjBwdXIdeal.main_arg0) = m ((c.tc : Thread Cert.ProjBwdXIdeal.nD Cert.ProjBwdXIdeal.τ).loc Cert.ProjBwdXIdeal.main_arg0)
          ∧ r.2.mem ((c.tc : Thread Cert.ProjBwdXIdeal.nD Cert.ProjBwdXIdeal.τ).loc Cert.ProjBwdXIdeal.main_arg1) = m ((c.tc : Thread Cert.ProjBwdXIdeal.nD Cert.ProjBwdXIdeal.τ).loc Cert.ProjBwdXIdeal.main_arg1))
      ∧ θ_run (Cert.ProjBwdXRefIdeal.defs (F := Ideal)) (onTc (τ := Cert.ProjBwdXRefIdeal.τ) (Cert.ProjBwdXRefIdeal.main (F := Ideal))) ⟨m', fun _ => 0, g'⟩ (fun r => ∀ c : Dev Cert.ProjBwdXRefIdeal.nD,
          r.2.mem ((c.tc : Thread Cert.ProjBwdXRefIdeal.nD Cert.ProjBwdXRefIdeal.τ).loc Cert.ProjBwdXRefIdeal.main_v0) = v0 c
          ∧ r.2.mem ((c.tc : Thread Cert.ProjBwdXRefIdeal.nD Cert.ProjBwdXRefIdeal.τ).loc Cert.ProjBwdXRefIdeal.main_arg0) = m' ((c.tc : Thread Cert.ProjBwdXRefIdeal.nD Cert.ProjBwdXRefIdeal.τ).loc Cert.ProjBwdXRefIdeal.main_arg0)
          ∧ r.2.mem ((c.tc : Thread Cert.ProjBwdXRefIdeal.nD Cert.ProjBwdXRefIdeal.τ).loc Cert.ProjBwdXRefIdeal.main_arg1) = m' ((c.tc : Thread Cert.ProjBwdXRefIdeal.nD Cert.ProjBwdXRefIdeal.τ).loc Cert.ProjBwdXRefIdeal.main_arg1))

def preserves_MixBwdW_MixBwdWIdeal : Prop :=
  True

def algebraic_MixBwdWIdeal_MixBwdWRefIdeal [hMixBwdWIdeal : Cert.MixBwdWIdeal.Facts] [hMixBwdWRefIdeal : Cert.MixBwdWRefIdeal.Facts] : Prop :=
  ∀ (m : (ℓ : Loc Cert.MixBwdWIdeal.nD Cert.MixBwdWIdeal.τ Cert.MixBwdWIdeal.sig) → Buf (Elt Ideal) ℓ) (g : Dev Cert.MixBwdWIdeal.nD → PrngReg)
    (m' : (ℓ : Loc Cert.MixBwdWRefIdeal.nD Cert.MixBwdWRefIdeal.τ Cert.MixBwdWRefIdeal.sig) → Buf (Elt Ideal) ℓ) (g' : Dev Cert.MixBwdWRefIdeal.nD → PrngReg), Pre_MixBwdWIdeal m →
    (∀ c : Dev Cert.MixBwdWIdeal.nD,
      m' ((c.tc : Thread Cert.MixBwdWRefIdeal.nD Cert.MixBwdWRefIdeal.τ).loc Cert.MixBwdWRefIdeal.main_arg0) = m ((c.tc : Thread Cert.MixBwdWIdeal.nD Cert.MixBwdWIdeal.τ).loc Cert.MixBwdWIdeal.main_arg0)
      ∧ m' ((c.tc : Thread Cert.MixBwdWRefIdeal.nD Cert.MixBwdWRefIdeal.τ).loc Cert.MixBwdWRefIdeal.main_arg1) = m ((c.tc : Thread Cert.MixBwdWIdeal.nD Cert.MixBwdWIdeal.τ).loc Cert.MixBwdWIdeal.main_arg1)) →
    ∃ (v0 : (c : Dev Cert.MixBwdWIdeal.nD) → Buf (Elt Ideal) ((c.tc : Thread Cert.MixBwdWIdeal.nD Cert.MixBwdWIdeal.τ).loc Cert.MixBwdWIdeal.main_v2)),
      θ_run (Cert.MixBwdWIdeal.defs (F := Ideal)) (onTc (τ := Cert.MixBwdWIdeal.τ) (Cert.MixBwdWIdeal.main (F := Ideal))) ⟨m, fun _ => 0, g⟩ (fun r => ∀ c : Dev Cert.MixBwdWIdeal.nD,
          r.2.mem ((c.tc : Thread Cert.MixBwdWIdeal.nD Cert.MixBwdWIdeal.τ).loc Cert.MixBwdWIdeal.main_v2) = v0 c
          ∧ r.2.mem ((c.tc : Thread Cert.MixBwdWIdeal.nD Cert.MixBwdWIdeal.τ).loc Cert.MixBwdWIdeal.main_arg0) = m ((c.tc : Thread Cert.MixBwdWIdeal.nD Cert.MixBwdWIdeal.τ).loc Cert.MixBwdWIdeal.main_arg0)
          ∧ r.2.mem ((c.tc : Thread Cert.MixBwdWIdeal.nD Cert.MixBwdWIdeal.τ).loc Cert.MixBwdWIdeal.main_arg1) = m ((c.tc : Thread Cert.MixBwdWIdeal.nD Cert.MixBwdWIdeal.τ).loc Cert.MixBwdWIdeal.main_arg1))
      ∧ θ_run (Cert.MixBwdWRefIdeal.defs (F := Ideal)) (onTc (τ := Cert.MixBwdWRefIdeal.τ) (Cert.MixBwdWRefIdeal.main (F := Ideal))) ⟨m', fun _ => 0, g'⟩ (fun r => ∀ c : Dev Cert.MixBwdWRefIdeal.nD,
          r.2.mem ((c.tc : Thread Cert.MixBwdWRefIdeal.nD Cert.MixBwdWRefIdeal.τ).loc Cert.MixBwdWRefIdeal.main_v2) = v0 c
          ∧ r.2.mem ((c.tc : Thread Cert.MixBwdWRefIdeal.nD Cert.MixBwdWRefIdeal.τ).loc Cert.MixBwdWRefIdeal.main_arg0) = m' ((c.tc : Thread Cert.MixBwdWRefIdeal.nD Cert.MixBwdWRefIdeal.τ).loc Cert.MixBwdWRefIdeal.main_arg0)
          ∧ r.2.mem ((c.tc : Thread Cert.MixBwdWRefIdeal.nD Cert.MixBwdWRefIdeal.τ).loc Cert.MixBwdWRefIdeal.main_arg1) = m' ((c.tc : Thread Cert.MixBwdWRefIdeal.nD Cert.MixBwdWRefIdeal.τ).loc Cert.MixBwdWRefIdeal.main_arg1))

def preserves_MixBwdX_MixBwdXIdeal : Prop :=
  True

def algebraic_MixBwdXIdeal_MixBwdXRefIdeal [hMixBwdXIdeal : Cert.MixBwdXIdeal.Facts] [hMixBwdXRefIdeal : Cert.MixBwdXRefIdeal.Facts] : Prop :=
  ∀ (m : (ℓ : Loc Cert.MixBwdXIdeal.nD Cert.MixBwdXIdeal.τ Cert.MixBwdXIdeal.sig) → Buf (Elt Ideal) ℓ) (g : Dev Cert.MixBwdXIdeal.nD → PrngReg)
    (m' : (ℓ : Loc Cert.MixBwdXRefIdeal.nD Cert.MixBwdXRefIdeal.τ Cert.MixBwdXRefIdeal.sig) → Buf (Elt Ideal) ℓ) (g' : Dev Cert.MixBwdXRefIdeal.nD → PrngReg), Pre_MixBwdXIdeal m →
    (∀ c : Dev Cert.MixBwdXIdeal.nD,
      m' ((c.tc : Thread Cert.MixBwdXRefIdeal.nD Cert.MixBwdXRefIdeal.τ).loc Cert.MixBwdXRefIdeal.main_arg0) = m ((c.tc : Thread Cert.MixBwdXIdeal.nD Cert.MixBwdXIdeal.τ).loc Cert.MixBwdXIdeal.main_arg0)
      ∧ m' ((c.tc : Thread Cert.MixBwdXRefIdeal.nD Cert.MixBwdXRefIdeal.τ).loc Cert.MixBwdXRefIdeal.main_arg1) = m ((c.tc : Thread Cert.MixBwdXIdeal.nD Cert.MixBwdXIdeal.τ).loc Cert.MixBwdXIdeal.main_arg1)) →
    ∃ (v0 : (c : Dev Cert.MixBwdXIdeal.nD) → Buf (Elt Ideal) ((c.tc : Thread Cert.MixBwdXIdeal.nD Cert.MixBwdXIdeal.τ).loc Cert.MixBwdXIdeal.main_v2)),
      θ_run (Cert.MixBwdXIdeal.defs (F := Ideal)) (onTc (τ := Cert.MixBwdXIdeal.τ) (Cert.MixBwdXIdeal.main (F := Ideal))) ⟨m, fun _ => 0, g⟩ (fun r => ∀ c : Dev Cert.MixBwdXIdeal.nD,
          r.2.mem ((c.tc : Thread Cert.MixBwdXIdeal.nD Cert.MixBwdXIdeal.τ).loc Cert.MixBwdXIdeal.main_v2) = v0 c
          ∧ r.2.mem ((c.tc : Thread Cert.MixBwdXIdeal.nD Cert.MixBwdXIdeal.τ).loc Cert.MixBwdXIdeal.main_arg0) = m ((c.tc : Thread Cert.MixBwdXIdeal.nD Cert.MixBwdXIdeal.τ).loc Cert.MixBwdXIdeal.main_arg0)
          ∧ r.2.mem ((c.tc : Thread Cert.MixBwdXIdeal.nD Cert.MixBwdXIdeal.τ).loc Cert.MixBwdXIdeal.main_arg1) = m ((c.tc : Thread Cert.MixBwdXIdeal.nD Cert.MixBwdXIdeal.τ).loc Cert.MixBwdXIdeal.main_arg1))
      ∧ θ_run (Cert.MixBwdXRefIdeal.defs (F := Ideal)) (onTc (τ := Cert.MixBwdXRefIdeal.τ) (Cert.MixBwdXRefIdeal.main (F := Ideal))) ⟨m', fun _ => 0, g'⟩ (fun r => ∀ c : Dev Cert.MixBwdXRefIdeal.nD,
          r.2.mem ((c.tc : Thread Cert.MixBwdXRefIdeal.nD Cert.MixBwdXRefIdeal.τ).loc Cert.MixBwdXRefIdeal.main_v0) = v0 c
          ∧ r.2.mem ((c.tc : Thread Cert.MixBwdXRefIdeal.nD Cert.MixBwdXRefIdeal.τ).loc Cert.MixBwdXRefIdeal.main_arg0) = m' ((c.tc : Thread Cert.MixBwdXRefIdeal.nD Cert.MixBwdXRefIdeal.τ).loc Cert.MixBwdXRefIdeal.main_arg0)
          ∧ r.2.mem ((c.tc : Thread Cert.MixBwdXRefIdeal.nD Cert.MixBwdXRefIdeal.τ).loc Cert.MixBwdXRefIdeal.main_arg1) = m' ((c.tc : Thread Cert.MixBwdXRefIdeal.nD Cert.MixBwdXRefIdeal.τ).loc Cert.MixBwdXRefIdeal.main_arg1))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v2)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v2) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v1) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v2)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v2) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v0) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)) →
    ∃ (v0 : (c : Dev Cert.ProjFwdIdeal.nD) → Buf (Elt Ideal) ((c.tc : Thread Cert.ProjFwdIdeal.nD Cert.ProjFwdIdeal.τ).loc Cert.ProjFwdIdeal.main_v2)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v2) = v0 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v0) = v0 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)) →
    ∃ (v0 : (c : Dev Cert.MixFwdIdeal.nD) → Buf (Elt Ideal) ((c.tc : Thread Cert.MixFwdIdeal.nD Cert.MixFwdIdeal.τ).loc Cert.MixFwdIdeal.main_v2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v2) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v0) = v0 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)) (v3 : (c : Dev Cert.AdamWInIdeal.nD) → Buf (Elt Ideal) ((c.tc : Thread Cert.AdamWInIdeal.nD Cert.AdamWInIdeal.τ).loc Cert.AdamWInIdeal.main_v0_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_v0_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v23) = v0 c
          ∧ r.2.mem ((c.tc : Thread Cert.AdamWInRefIdeal.nD Cert.AdamWInRefIdeal.τ).loc Cert.AdamWInRefIdeal.main_v4) = v1 c
          ∧ r.2.mem ((c.tc : Thread Cert.AdamWInRefIdeal.nD Cert.AdamWInRefIdeal.τ).loc Cert.AdamWInRefIdeal.main_v10) = v2 c
          ∧ r.2.mem ((c.tc : Thread Cert.AdamWInRefIdeal.nD Cert.AdamWInRefIdeal.τ).loc Cert.AdamWInRefIdeal.main_arg1) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamBAda_AdamBAdaIdeal : Prop :=
  True

def algebraic_AdamBAdaIdeal_AdamBAdaRefIdeal [hAdamBAdaIdeal : Cert.AdamBAdaIdeal.Facts] [hAdamBAdaRefIdeal : Cert.AdamBAdaRefIdeal.Facts] : Prop :=
  ∀ (m : (ℓ : Loc Cert.AdamBAdaIdeal.nD Cert.AdamBAdaIdeal.τ Cert.AdamBAdaIdeal.sig) → Buf (Elt Ideal) ℓ) (g : Dev Cert.AdamBAdaIdeal.nD → PrngReg)
    (m' : (ℓ : Loc Cert.AdamBAdaRefIdeal.nD Cert.AdamBAdaRefIdeal.τ Cert.AdamBAdaRefIdeal.sig) → Buf (Elt Ideal) ℓ) (g' : Dev Cert.AdamBAdaRefIdeal.nD → PrngReg), Pre_AdamBAdaIdeal m →
    (∀ c : Dev Cert.AdamBAdaIdeal.nD,
      m' ((c.tc : Thread Cert.AdamBAdaRefIdeal.nD Cert.AdamBAdaRefIdeal.τ).loc Cert.AdamBAdaRefIdeal.main_arg0) = m ((c.tc : Thread Cert.AdamBAdaIdeal.nD Cert.AdamBAdaIdeal.τ).loc Cert.AdamBAdaIdeal.main_arg0)
      ∧ m' ((c.tc : Thread Cert.AdamBAdaRefIdeal.nD Cert.AdamBAdaRefIdeal.τ).loc Cert.AdamBAdaRefIdeal.main_arg1) = m ((c.tc : Thread Cert.AdamBAdaIdeal.nD Cert.AdamBAdaIdeal.τ).loc Cert.AdamBAdaIdeal.main_arg1)
      ∧ m' ((c.tc : Thread Cert.AdamBAdaRefIdeal.nD Cert.AdamBAdaRefIdeal.τ).loc Cert.AdamBAdaRefIdeal.main_arg2) = m ((c.tc : Thread Cert.AdamBAdaIdeal.nD Cert.AdamBAdaIdeal.τ).loc Cert.AdamBAdaIdeal.main_arg2)
      ∧ m' ((c.tc : Thread Cert.AdamBAdaRefIdeal.nD Cert.AdamBAdaRefIdeal.τ).loc Cert.AdamBAdaRefIdeal.main_arg3) = m ((c.tc : Thread Cert.AdamBAdaIdeal.nD Cert.AdamBAdaIdeal.τ).loc Cert.AdamBAdaIdeal.main_arg3)) →
    ∃ (v0 : (c : Dev Cert.AdamBAdaIdeal.nD) → Buf (Elt Ideal) ((c.tc : Thread Cert.AdamBAdaIdeal.nD Cert.AdamBAdaIdeal.τ).loc Cert.AdamBAdaIdeal.main_v0_0)) (v1 : (c : Dev Cert.AdamBAdaIdeal.nD) → Buf (Elt Ideal) ((c.tc : Thread Cert.AdamBAdaIdeal.nD Cert.AdamBAdaIdeal.τ).loc Cert.AdamBAdaIdeal.main_v0_1)) (v2 : (c : Dev Cert.AdamBAdaIdeal.nD) → Buf (Elt Ideal) ((c.tc : Thread Cert.AdamBAdaIdeal.nD Cert.AdamBAdaIdeal.τ).loc Cert.AdamBAdaIdeal.main_v0_2)),
      θ_run (Cert.AdamBAdaIdeal.defs (F := Ideal)) (onTc (τ := Cert.AdamBAdaIdeal.τ) (Cert.AdamBAdaIdeal.main (F := Ideal))) ⟨m, fun _ => 0, g⟩ (fun r => ∀ c : Dev Cert.AdamBAdaIdeal.nD,
          r.2.mem ((c.tc : Thread Cert.AdamBAdaIdeal.nD Cert.AdamBAdaIdeal.τ).loc Cert.AdamBAdaIdeal.main_v0_0) = v0 c
          ∧ r.2.mem ((c.tc : Thread Cert.AdamBAdaIdeal.nD Cert.AdamBAdaIdeal.τ).loc Cert.AdamBAdaIdeal.main_v0_1) = v1 c
          ∧ r.2.mem ((c.tc : Thread Cert.AdamBAdaIdeal.nD Cert.AdamBAdaIdeal.τ).loc Cert.AdamBAdaIdeal.main_v0_2) = v2 c
          ∧ r.2.mem ((c.tc : Thread Cert.AdamBAdaIdeal.nD Cert.AdamBAdaIdeal.τ).loc Cert.AdamBAdaIdeal.main_arg0) = m ((c.tc : Thread Cert.AdamBAdaIdeal.nD Cert.AdamBAdaIdeal.τ).loc Cert.AdamBAdaIdeal.main_arg0)
          ∧ r.2.mem ((c.tc : Thread Cert.AdamBAdaIdeal.nD Cert.AdamBAdaIdeal.τ).loc Cert.AdamBAdaIdeal.main_arg1) = m ((c.tc : Thread Cert.AdamBAdaIdeal.nD Cert.AdamBAdaIdeal.τ).loc Cert.AdamBAdaIdeal.main_arg1)
          ∧ r.2.mem ((c.tc : Thread Cert.AdamBAdaIdeal.nD Cert.AdamBAdaIdeal.τ).loc Cert.AdamBAdaIdeal.main_arg2) = m ((c.tc : Thread Cert.AdamBAdaIdeal.nD Cert.AdamBAdaIdeal.τ).loc Cert.AdamBAdaIdeal.main_arg2)
          ∧ r.2.mem ((c.tc : Thread Cert.AdamBAdaIdeal.nD Cert.AdamBAdaIdeal.τ).loc Cert.AdamBAdaIdeal.main_arg3) = m ((c.tc : Thread Cert.AdamBAdaIdeal.nD Cert.AdamBAdaIdeal.τ).loc Cert.AdamBAdaIdeal.main_arg3))
      ∧ θ_run (Cert.AdamBAdaRefIdeal.defs (F := Ideal)) (onTc (τ := Cert.AdamBAdaRefIdeal.τ) (Cert.AdamBAdaRefIdeal.main (F := Ideal))) ⟨m', fun _ => 0, g'⟩ (fun r => ∀ c : Dev Cert.AdamBAdaRefIdeal.nD,
          r.2.mem ((c.tc : Thread Cert.AdamBAdaRefIdeal.nD Cert.AdamBAdaRefIdeal.τ).loc Cert.AdamBAdaRefIdeal.main_v23) = v0 c
          ∧ r.2.mem ((c.tc : Thread Cert.AdamBAdaRefIdeal.nD Cert.AdamBAdaRefIdeal.τ).loc Cert.AdamBAdaRefIdeal.main_v4) = v1 c
          ∧ r.2.mem ((c.tc : Thread Cert.AdamBAdaRefIdeal.nD Cert.AdamBAdaRefIdeal.τ).loc Cert.AdamBAdaRefIdeal.main_v10) = v2 c
          ∧ r.2.mem ((c.tc : Thread Cert.AdamBAdaRefIdeal.nD Cert.AdamBAdaRefIdeal.τ).loc Cert.AdamBAdaRefIdeal.main_arg0) = m' ((c.tc : Thread Cert.AdamBAdaRefIdeal.nD Cert.AdamBAdaRefIdeal.τ).loc Cert.AdamBAdaRefIdeal.main_arg0)
          ∧ r.2.mem ((c.tc : Thread Cert.AdamBAdaRefIdeal.nD Cert.AdamBAdaRefIdeal.τ).loc Cert.AdamBAdaRefIdeal.main_arg1) = m' ((c.tc : Thread Cert.AdamBAdaRefIdeal.nD Cert.AdamBAdaRefIdeal.τ).loc Cert.AdamBAdaRefIdeal.main_arg1)
          ∧ r.2.mem ((c.tc : Thread Cert.AdamBAdaRefIdeal.nD Cert.AdamBAdaRefIdeal.τ).loc Cert.AdamBAdaRefIdeal.main_arg2) = m' ((c.tc : Thread Cert.AdamBAdaRefIdeal.nD Cert.AdamBAdaRefIdeal.τ).loc Cert.AdamBAdaRefIdeal.main_arg2)
          ∧ r.2.mem ((c.tc : Thread Cert.AdamBAdaRefIdeal.nD Cert.AdamBAdaRefIdeal.τ).loc Cert.AdamBAdaRefIdeal.main_arg3) = m' ((c.tc : Thread Cert.AdamBAdaRefIdeal.nD Cert.AdamBAdaRefIdeal.τ).loc Cert.AdamBAdaRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamLb_AdamLbIdeal : Prop :=
  True

def algebraic_AdamLbIdeal_AdamLbRefIdeal [hAdamLbIdeal : Cert.AdamLbIdeal.Facts] [hAdamLbRefIdeal : Cert.AdamLbRefIdeal.Facts] : Prop :=
  ∀ (m : (ℓ : Loc Cert.AdamLbIdeal.nD Cert.AdamLbIdeal.τ Cert.AdamLbIdeal.sig) → Buf (Elt Ideal) ℓ) (g : Dev Cert.AdamLbIdeal.nD → PrngReg)
    (m' : (ℓ : Loc Cert.AdamLbRefIdeal.nD Cert.AdamLbRefIdeal.τ Cert.AdamLbRefIdeal.sig) → Buf (Elt Ideal) ℓ) (g' : Dev Cert.AdamLbRefIdeal.nD → PrngReg), Pre_AdamLbIdeal m →
    (∀ c : Dev Cert.AdamLbIdeal.nD,
      m' ((c.tc : Thread Cert.AdamLbRefIdeal.nD Cert.AdamLbRefIdeal.τ).loc Cert.AdamLbRefIdeal.main_arg0) = m ((c.tc : Thread Cert.AdamLbIdeal.nD Cert.AdamLbIdeal.τ).loc Cert.AdamLbIdeal.main_arg0)
      ∧ m' ((c.tc : Thread Cert.AdamLbRefIdeal.nD Cert.AdamLbRefIdeal.τ).loc Cert.AdamLbRefIdeal.main_arg1) = m ((c.tc : Thread Cert.AdamLbIdeal.nD Cert.AdamLbIdeal.τ).loc Cert.AdamLbIdeal.main_arg1)
      ∧ m' ((c.tc : Thread Cert.AdamLbRefIdeal.nD Cert.AdamLbRefIdeal.τ).loc Cert.AdamLbRefIdeal.main_arg2) = m ((c.tc : Thread Cert.AdamLbIdeal.nD Cert.AdamLbIdeal.τ).loc Cert.AdamLbIdeal.main_arg2)
      ∧ m' ((c.tc : Thread Cert.AdamLbRefIdeal.nD Cert.AdamLbRefIdeal.τ).loc Cert.AdamLbRefIdeal.main_arg3) = m ((c.tc : Thread Cert.AdamLbIdeal.nD Cert.AdamLbIdeal.τ).loc Cert.AdamLbIdeal.main_arg3)) →
    ∃ (v0 : (c : Dev Cert.AdamLbIdeal.nD) → Buf (Elt Ideal) ((c.tc : Thread Cert.AdamLbIdeal.nD Cert.AdamLbIdeal.τ).loc Cert.AdamLbIdeal.main_v0_0)) (v1 : (c : Dev Cert.AdamLbIdeal.nD) → Buf (Elt Ideal) ((c.tc : Thread Cert.AdamLbIdeal.nD Cert.AdamLbIdeal.τ).loc Cert.AdamLbIdeal.main_v0_1)) (v2 : (c : Dev Cert.AdamLbIdeal.nD) → Buf (Elt Ideal) ((c.tc : Thread Cert.AdamLbIdeal.nD Cert.AdamLbIdeal.τ).loc Cert.AdamLbIdeal.main_v0_2)),
      θ_run (Cert.AdamLbIdeal.defs (F := Ideal)) (onTc (τ := Cert.AdamLbIdeal.τ) (Cert.AdamLbIdeal.main (F := Ideal))) ⟨m, fun _ => 0, g⟩ (fun r => ∀ c : Dev Cert.AdamLbIdeal.nD,
          r.2.mem ((c.tc : Thread Cert.AdamLbIdeal.nD Cert.AdamLbIdeal.τ).loc Cert.AdamLbIdeal.main_v0_0) = v0 c
          ∧ r.2.mem ((c.tc : Thread Cert.AdamLbIdeal.nD Cert.AdamLbIdeal.τ).loc Cert.AdamLbIdeal.main_v0_1) = v1 c
          ∧ r.2.mem ((c.tc : Thread Cert.AdamLbIdeal.nD Cert.AdamLbIdeal.τ).loc Cert.AdamLbIdeal.main_v0_2) = v2 c
          ∧ r.2.mem ((c.tc : Thread Cert.AdamLbIdeal.nD Cert.AdamLbIdeal.τ).loc Cert.AdamLbIdeal.main_arg0) = m ((c.tc : Thread Cert.AdamLbIdeal.nD Cert.AdamLbIdeal.τ).loc Cert.AdamLbIdeal.main_arg0)
          ∧ r.2.mem ((c.tc : Thread Cert.AdamLbIdeal.nD Cert.AdamLbIdeal.τ).loc Cert.AdamLbIdeal.main_arg1) = m ((c.tc : Thread Cert.AdamLbIdeal.nD Cert.AdamLbIdeal.τ).loc Cert.AdamLbIdeal.main_arg1)
          ∧ r.2.mem ((c.tc : Thread Cert.AdamLbIdeal.nD Cert.AdamLbIdeal.τ).loc Cert.AdamLbIdeal.main_arg2) = m ((c.tc : Thread Cert.AdamLbIdeal.nD Cert.AdamLbIdeal.τ).loc Cert.AdamLbIdeal.main_arg2)
          ∧ r.2.mem ((c.tc : Thread Cert.AdamLbIdeal.nD Cert.AdamLbIdeal.τ).loc Cert.AdamLbIdeal.main_arg3) = m ((c.tc : Thread Cert.AdamLbIdeal.nD Cert.AdamLbIdeal.τ).loc Cert.AdamLbIdeal.main_arg3))
      ∧ θ_run (Cert.AdamLbRefIdeal.defs (F := Ideal)) (onTc (τ := Cert.AdamLbRefIdeal.τ) (Cert.AdamLbRefIdeal.main (F := Ideal))) ⟨m', fun _ => 0, g'⟩ (fun r => ∀ c : Dev Cert.AdamLbRefIdeal.nD,
          r.2.mem ((c.tc : Thread Cert.AdamLbRefIdeal.nD Cert.AdamLbRefIdeal.τ).loc Cert.AdamLbRefIdeal.main_v23) = v0 c
          ∧ r.2.mem ((c.tc : Thread Cert.AdamLbRefIdeal.nD Cert.AdamLbRefIdeal.τ).loc Cert.AdamLbRefIdeal.main_v4) = v1 c
          ∧ r.2.mem ((c.tc : Thread Cert.AdamLbRefIdeal.nD Cert.AdamLbRefIdeal.τ).loc Cert.AdamLbRefIdeal.main_v10) = v2 c
          ∧ r.2.mem ((c.tc : Thread Cert.AdamLbRefIdeal.nD Cert.AdamLbRefIdeal.τ).loc Cert.AdamLbRefIdeal.main_arg0) = m' ((c.tc : Thread Cert.AdamLbRefIdeal.nD Cert.AdamLbRefIdeal.τ).loc Cert.AdamLbRefIdeal.main_arg0)
          ∧ r.2.mem ((c.tc : Thread Cert.AdamLbRefIdeal.nD Cert.AdamLbRefIdeal.τ).loc Cert.AdamLbRefIdeal.main_arg1) = m' ((c.tc : Thread Cert.AdamLbRefIdeal.nD Cert.AdamLbRefIdeal.τ).loc Cert.AdamLbRefIdeal.main_arg1)
          ∧ r.2.mem ((c.tc : Thread Cert.AdamLbRefIdeal.nD Cert.AdamLbRefIdeal.τ).loc Cert.AdamLbRefIdeal.main_arg2) = m' ((c.tc : Thread Cert.AdamLbRefIdeal.nD Cert.AdamLbRefIdeal.τ).loc Cert.AdamLbRefIdeal.main_arg2)
          ∧ r.2.mem ((c.tc : Thread Cert.AdamLbRefIdeal.nD Cert.AdamLbRefIdeal.τ).loc Cert.AdamLbRefIdeal.main_arg3) = m' ((c.tc : Thread Cert.AdamLbRefIdeal.nD Cert.AdamLbRefIdeal.τ).loc Cert.AdamLbRefIdeal.main_arg3))

def preserves_AdamHead_AdamHeadIdeal : Prop :=
  True

def algebraic_AdamHeadIdeal_AdamHeadRefIdeal [hAdamHeadIdeal : Cert.AdamHeadIdeal.Facts] [hAdamHeadRefIdeal : Cert.AdamHeadRefIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadRefIdeal.nD Cert.AdamHeadRefIdeal.τ Cert.AdamHeadRefIdeal.sig) → Buf (Elt Ideal) ℓ) (g' : Dev Cert.AdamHeadRefIdeal.nD → PrngReg), Pre_AdamHeadIdeal m →
    (∀ c : Dev Cert.AdamHeadIdeal.nD,
      m' ((c.tc : Thread Cert.AdamHeadRefIdeal.nD Cert.AdamHeadRefIdeal.τ).loc Cert.AdamHeadRefIdeal.main_arg0) = m ((c.tc : Thread Cert.AdamHeadIdeal.nD Cert.AdamHeadIdeal.τ).loc Cert.AdamHeadIdeal.main_arg0)
      ∧ m' ((c.tc : Thread Cert.AdamHeadRefIdeal.nD Cert.AdamHeadRefIdeal.τ).loc Cert.AdamHeadRefIdeal.main_arg1) = m ((c.tc : Thread Cert.AdamHeadIdeal.nD Cert.AdamHeadIdeal.τ).loc Cert.AdamHeadIdeal.main_arg1)
      ∧ m' ((c.tc : Thread Cert.AdamHeadRefIdeal.nD Cert.AdamHeadRefIdeal.τ).loc Cert.AdamHeadRefIdeal.main_arg2) = m ((c.tc : Thread Cert.AdamHeadIdeal.nD Cert.AdamHeadIdeal.τ).loc Cert.AdamHeadIdeal.main_arg2)
      ∧ m' ((c.tc : Thread Cert.AdamHeadRefIdeal.nD Cert.AdamHeadRefIdeal.τ).loc Cert.AdamHeadRefIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.AdamHeadRefIdeal.defs (F := Ideal)) (onTc (τ := Cert.AdamHeadRefIdeal.τ) (Cert.AdamHeadRefIdeal.main (F := Ideal))) ⟨m', fun _ => 0, g'⟩ (fun r => ∀ c : Dev Cert.AdamHeadRefIdeal.nD,
          r.2.mem ((c.tc : Thread Cert.AdamHeadRefIdeal.nD Cert.AdamHeadRefIdeal.τ).loc Cert.AdamHeadRefIdeal.main_v23) = v0 c
          ∧ r.2.mem ((c.tc : Thread Cert.AdamHeadRefIdeal.nD Cert.AdamHeadRefIdeal.τ).loc Cert.AdamHeadRefIdeal.main_v4) = v1 c
          ∧ r.2.mem ((c.tc : Thread Cert.AdamHeadRefIdeal.nD Cert.AdamHeadRefIdeal.τ).loc Cert.AdamHeadRefIdeal.main_v10) = v2 c
          ∧ r.2.mem ((c.tc : Thread Cert.AdamHeadRefIdeal.nD Cert.AdamHeadRefIdeal.τ).loc Cert.AdamHeadRefIdeal.main_arg0) = m' ((c.tc : Thread Cert.AdamHeadRefIdeal.nD Cert.AdamHeadRefIdeal.τ).loc Cert.AdamHeadRefIdeal.main_arg0)
          ∧ r.2.mem ((c.tc : Thread Cert.AdamHeadRefIdeal.nD Cert.AdamHeadRefIdeal.τ).loc Cert.AdamHeadRefIdeal.main_arg1) = m' ((c.tc : Thread Cert.AdamHeadRefIdeal.nD Cert.AdamHeadRefIdeal.τ).loc Cert.AdamHeadRefIdeal.main_arg1)
          ∧ r.2.mem ((c.tc : Thread Cert.AdamHeadRefIdeal.nD Cert.AdamHeadRefIdeal.τ).loc Cert.AdamHeadRefIdeal.main_arg2) = m' ((c.tc : Thread Cert.AdamHeadRefIdeal.nD Cert.AdamHeadRefIdeal.τ).loc Cert.AdamHeadRefIdeal.main_arg2)
          ∧ r.2.mem ((c.tc : Thread Cert.AdamHeadRefIdeal.nD Cert.AdamHeadRefIdeal.τ).loc Cert.AdamHeadRefIdeal.main_arg3) = m' ((c.tc : Thread Cert.AdamHeadRefIdeal.nD Cert.AdamHeadRefIdeal.τ).loc Cert.AdamHeadRefIdeal.main_arg3))

def preserves_AdamConvW_AdamConvWIdeal : Prop :=
  True

def algebraic_AdamConvWIdeal_AdamConvWRefIdeal [hAdamConvWIdeal : Cert.AdamConvWIdeal.Facts] [hAdamConvWRefIdeal : Cert.AdamConvWRefIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg)
    (m' : (ℓ : Loc Cert.AdamConvWRefIdeal.nD Cert.AdamConvWRefIdeal.τ Cert.AdamConvWRefIdeal.sig) → Buf (Elt Ideal) ℓ) (g' : Dev Cert.AdamConvWRefIdeal.nD → PrngReg), Pre_AdamConvWIdeal m →
    (∀ c : Dev Cert.AdamConvWIdeal.nD,
      m' ((c.tc : Thread Cert.AdamConvWRefIdeal.nD Cert.AdamConvWRefIdeal.τ).loc Cert.AdamConvWRefIdeal.main_arg0) = m ((c.tc : Thread Cert.AdamConvWIdeal.nD Cert.AdamConvWIdeal.τ).loc Cert.AdamConvWIdeal.main_arg0)
      ∧ m' ((c.tc : Thread Cert.AdamConvWRefIdeal.nD Cert.AdamConvWRefIdeal.τ).loc Cert.AdamConvWRefIdeal.main_arg1) = m ((c.tc : Thread Cert.AdamConvWIdeal.nD Cert.AdamConvWIdeal.τ).loc Cert.AdamConvWIdeal.main_arg1)
      ∧ m' ((c.tc : Thread Cert.AdamConvWRefIdeal.nD Cert.AdamConvWRefIdeal.τ).loc Cert.AdamConvWRefIdeal.main_arg2) = m ((c.tc : Thread Cert.AdamConvWIdeal.nD Cert.AdamConvWIdeal.τ).loc Cert.AdamConvWIdeal.main_arg2)
      ∧ m' ((c.tc : Thread Cert.AdamConvWRefIdeal.nD Cert.AdamConvWRefIdeal.τ).loc Cert.AdamConvWRefIdeal.main_arg3) = m ((c.tc : Thread Cert.AdamConvWIdeal.nD Cert.AdamConvWIdeal.τ).loc Cert.AdamConvWIdeal.main_arg3)) →
    ∃ (v0 : (c : Dev Cert.AdamConvWIdeal.nD) → Buf (Elt Ideal) ((c.tc : Thread Cert.AdamConvWIdeal.nD Cert.AdamConvWIdeal.τ).loc Cert.AdamConvWIdeal.main_v0_0)) (v1 : (c : Dev Cert.AdamConvWIdeal.nD) → Buf (Elt Ideal) ((c.tc : Thread Cert.AdamConvWIdeal.nD Cert.AdamConvWIdeal.τ).loc Cert.AdamConvWIdeal.main_v0_1)) (v2 : (c : Dev Cert.AdamConvWIdeal.nD) → Buf (Elt Ideal) ((c.tc : Thread Cert.AdamConvWIdeal.nD Cert.AdamConvWIdeal.τ).loc Cert.AdamConvWIdeal.main_v0_2)),
      θ_run (Cert.AdamConvWIdeal.defs (F := Ideal)) (onTc (τ := Cert.AdamConvWIdeal.τ) (Cert.AdamConvWIdeal.main (F := Ideal))) ⟨m, fun _ => 0, g⟩ (fun r => ∀ c : Dev Cert.AdamConvWIdeal.nD,
          r.2.mem ((c.tc : Thread Cert.AdamConvWIdeal.nD Cert.AdamConvWIdeal.τ).loc Cert.AdamConvWIdeal.main_v0_0) = v0 c
          ∧ r.2.mem ((c.tc : Thread Cert.AdamConvWIdeal.nD Cert.AdamConvWIdeal.τ).loc Cert.AdamConvWIdeal.main_v0_1) = v1 c
          ∧ r.2.mem ((c.tc : Thread Cert.AdamConvWIdeal.nD Cert.AdamConvWIdeal.τ).loc Cert.AdamConvWIdeal.main_v0_2) = v2 c
          ∧ r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
          ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
          ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
          ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ θ_run (Cert.AdamConvWRefIdeal.defs (F := Ideal)) (onTc (τ := Cert.AdamConvWRefIdeal.τ) (Cert.AdamConvWRefIdeal.main (F := Ideal))) ⟨m', fun _ => 0, g'⟩ (fun r => ∀ c : Dev Cert.AdamConvWRefIdeal.nD,
          r.2.mem ((c.tc : Thread Cert.AdamConvWRefIdeal.nD Cert.AdamConvWRefIdeal.τ).loc Cert.AdamConvWRefIdeal.main_v23) = v0 c
          ∧ r.2.mem ((c.tc : Thread Cert.AdamConvWRefIdeal.nD Cert.AdamConvWRefIdeal.τ).loc Cert.AdamConvWRefIdeal.main_v4) = v1 c
          ∧ r.2.mem ((c.tc : Thread Cert.AdamConvWRefIdeal.nD Cert.AdamConvWRefIdeal.τ).loc Cert.AdamConvWRefIdeal.main_v10) = v2 c
          ∧ r.2.mem ((c.tc : Thread Cert.AdamConvWRefIdeal.nD Cert.AdamConvWRefIdeal.τ).loc Cert.AdamConvWRefIdeal.main_arg0) = m' ((c.tc : Thread Cert.AdamConvWRefIdeal.nD Cert.AdamConvWRefIdeal.τ).loc Cert.AdamConvWRefIdeal.main_arg0)
          ∧ r.2.mem ((c.tc : Thread Cert.AdamConvWRefIdeal.nD Cert.AdamConvWRefIdeal.τ).loc Cert.AdamConvWRefIdeal.main_arg1) = m' ((c.tc : Thread Cert.AdamConvWRefIdeal.nD Cert.AdamConvWRefIdeal.τ).loc Cert.AdamConvWRefIdeal.main_arg1)
          ∧ r.2.mem ((c.tc : Thread Cert.AdamConvWRefIdeal.nD Cert.AdamConvWRefIdeal.τ).loc Cert.AdamConvWRefIdeal.main_arg2) = m' ((c.tc : Thread Cert.AdamConvWRefIdeal.nD Cert.AdamConvWRefIdeal.τ).loc Cert.AdamConvWRefIdeal.main_arg2)
          ∧ r.2.mem ((c.tc : Thread Cert.AdamConvWRefIdeal.nD Cert.AdamConvWRefIdeal.τ).loc Cert.AdamConvWRefIdeal.main_arg3) = m' ((c.tc : Thread Cert.AdamConvWRefIdeal.nD Cert.AdamConvWRefIdeal.τ).loc Cert.AdamConvWRefIdeal.main_arg3))

def preserves_AdamConvB_AdamConvBIdeal : Prop :=
  True

def algebraic_AdamConvBIdeal_AdamConvBRefIdeal [hAdamConvBIdeal : Cert.AdamConvBIdeal.Facts] [hAdamConvBRefIdeal : Cert.AdamConvBRefIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg)
    (m' : (ℓ : Loc Cert.AdamConvBRefIdeal.nD Cert.AdamConvBRefIdeal.τ Cert.AdamConvBRefIdeal.sig) → Buf (Elt Ideal) ℓ) (g' : Dev Cert.AdamConvBRefIdeal.nD → PrngReg), Pre_AdamConvBIdeal m →
    (∀ c : Dev Cert.AdamConvBIdeal.nD,
      m' ((c.tc : Thread Cert.AdamConvBRefIdeal.nD Cert.AdamConvBRefIdeal.τ).loc Cert.AdamConvBRefIdeal.main_arg0) = m ((c.tc : Thread Cert.AdamConvBIdeal.nD Cert.AdamConvBIdeal.τ).loc Cert.AdamConvBIdeal.main_arg0)
      ∧ m' ((c.tc : Thread Cert.AdamConvBRefIdeal.nD Cert.AdamConvBRefIdeal.τ).loc Cert.AdamConvBRefIdeal.main_arg1) = m ((c.tc : Thread Cert.AdamConvBIdeal.nD Cert.AdamConvBIdeal.τ).loc Cert.AdamConvBIdeal.main_arg1)
      ∧ m' ((c.tc : Thread Cert.AdamConvBRefIdeal.nD Cert.AdamConvBRefIdeal.τ).loc Cert.AdamConvBRefIdeal.main_arg2) = m ((c.tc : Thread Cert.AdamConvBIdeal.nD Cert.AdamConvBIdeal.τ).loc Cert.AdamConvBIdeal.main_arg2)
      ∧ m' ((c.tc : Thread Cert.AdamConvBRefIdeal.nD Cert.AdamConvBRefIdeal.τ).loc Cert.AdamConvBRefIdeal.main_arg3) = m ((c.tc : Thread Cert.AdamConvBIdeal.nD Cert.AdamConvBIdeal.τ).loc Cert.AdamConvBIdeal.main_arg3)) →
    ∃ (v0 : (c : Dev Cert.AdamConvBIdeal.nD) → Buf (Elt Ideal) ((c.tc : Thread Cert.AdamConvBIdeal.nD Cert.AdamConvBIdeal.τ).loc Cert.AdamConvBIdeal.main_v0_0)) (v1 : (c : Dev Cert.AdamConvBIdeal.nD) → Buf (Elt Ideal) ((c.tc : Thread Cert.AdamConvBIdeal.nD Cert.AdamConvBIdeal.τ).loc Cert.AdamConvBIdeal.main_v0_1)) (v2 : (c : Dev Cert.AdamConvBIdeal.nD) → Buf (Elt Ideal) ((c.tc : Thread Cert.AdamConvBIdeal.nD Cert.AdamConvBIdeal.τ).loc Cert.AdamConvBIdeal.main_v0_2)),
      θ_run (Cert.AdamConvBIdeal.defs (F := Ideal)) (onTc (τ := Cert.AdamConvBIdeal.τ) (Cert.AdamConvBIdeal.main (F := Ideal))) ⟨m, fun _ => 0, g⟩ (fun r => ∀ c : Dev Cert.AdamConvBIdeal.nD,
          r.2.mem ((c.tc : Thread Cert.AdamConvBIdeal.nD Cert.AdamConvBIdeal.τ).loc Cert.AdamConvBIdeal.main_v0_0) = v0 c
          ∧ r.2.mem ((c.tc : Thread Cert.AdamConvBIdeal.nD Cert.AdamConvBIdeal.τ).loc Cert.AdamConvBIdeal.main_v0_1) = v1 c
          ∧ r.2.mem ((c.tc : Thread Cert.AdamConvBIdeal.nD Cert.AdamConvBIdeal.τ).loc Cert.AdamConvBIdeal.main_v0_2) = v2 c
          ∧ r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
          ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
          ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
          ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ θ_run (Cert.AdamConvBRefIdeal.defs (F := Ideal)) (onTc (τ := Cert.AdamConvBRefIdeal.τ) (Cert.AdamConvBRefIdeal.main (F := Ideal))) ⟨m', fun _ => 0, g'⟩ (fun r => ∀ c : Dev Cert.AdamConvBRefIdeal.nD,
          r.2.mem ((c.tc : Thread Cert.AdamConvBRefIdeal.nD Cert.AdamConvBRefIdeal.τ).loc Cert.AdamConvBRefIdeal.main_v23) = v0 c
          ∧ r.2.mem ((c.tc : Thread Cert.AdamConvBRefIdeal.nD Cert.AdamConvBRefIdeal.τ).loc Cert.AdamConvBRefIdeal.main_v4) = v1 c
          ∧ r.2.mem ((c.tc : Thread Cert.AdamConvBRefIdeal.nD Cert.AdamConvBRefIdeal.τ).loc Cert.AdamConvBRefIdeal.main_v10) = v2 c
          ∧ r.2.mem ((c.tc : Thread Cert.AdamConvBRefIdeal.nD Cert.AdamConvBRefIdeal.τ).loc Cert.AdamConvBRefIdeal.main_arg0) = m' ((c.tc : Thread Cert.AdamConvBRefIdeal.nD Cert.AdamConvBRefIdeal.τ).loc Cert.AdamConvBRefIdeal.main_arg0)
          ∧ r.2.mem ((c.tc : Thread Cert.AdamConvBRefIdeal.nD Cert.AdamConvBRefIdeal.τ).loc Cert.AdamConvBRefIdeal.main_arg1) = m' ((c.tc : Thread Cert.AdamConvBRefIdeal.nD Cert.AdamConvBRefIdeal.τ).loc Cert.AdamConvBRefIdeal.main_arg1)
          ∧ r.2.mem ((c.tc : Thread Cert.AdamConvBRefIdeal.nD Cert.AdamConvBRefIdeal.τ).loc Cert.AdamConvBRefIdeal.main_arg2) = m' ((c.tc : Thread Cert.AdamConvBRefIdeal.nD Cert.AdamConvBRefIdeal.τ).loc Cert.AdamConvBRefIdeal.main_arg2)
          ∧ r.2.mem ((c.tc : Thread Cert.AdamConvBRefIdeal.nD Cert.AdamConvBRefIdeal.τ).loc Cert.AdamConvBRefIdeal.main_arg3) = m' ((c.tc : Thread Cert.AdamConvBRefIdeal.nD Cert.AdamConvBRefIdeal.τ).loc Cert.AdamConvBRefIdeal.main_arg3))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)
      ∧ m' ((c.tc : Thread Cert.AdaBwdRefIdeal.nD Cert.AdaBwdRefIdeal.τ).loc Cert.AdaBwdRefIdeal.main_arg2) = m ((c.tc : Thread Cert.AdaBwdIdeal.nD Cert.AdaBwdIdeal.τ).loc Cert.AdaBwdIdeal.main_arg2)
      ∧ m' ((c.tc : Thread Cert.AdaBwdRefIdeal.nD Cert.AdaBwdRefIdeal.τ).loc Cert.AdaBwdRefIdeal.main_arg3) = m ((c.tc : Thread Cert.AdaBwdIdeal.nD Cert.AdaBwdIdeal.τ).loc Cert.AdaBwdIdeal.main_arg3)
      ∧ m' ((c.tc : Thread Cert.AdaBwdRefIdeal.nD Cert.AdaBwdRefIdeal.τ).loc Cert.AdaBwdRefIdeal.main_arg4) = m ((c.tc : Thread Cert.AdaBwdIdeal.nD Cert.AdaBwdIdeal.τ).loc Cert.AdaBwdIdeal.main_arg4)) →
    ∃ (v0 : (c : Dev Cert.AdaBwdIdeal.nD) → Buf (Elt Ideal) ((c.tc : Thread Cert.AdaBwdIdeal.nD Cert.AdaBwdIdeal.τ).loc Cert.AdaBwdIdeal.main_v0_0)) (v1 : (c : Dev Cert.AdaBwdIdeal.nD) → Buf (Elt Ideal) ((c.tc : Thread Cert.AdaBwdIdeal.nD Cert.AdaBwdIdeal.τ).loc Cert.AdaBwdIdeal.main_v0_1)) (v2 : (c : Dev Cert.AdaBwdIdeal.nD) → Buf (Elt Ideal) ((c.tc : Thread Cert.AdaBwdIdeal.nD Cert.AdaBwdIdeal.τ).loc Cert.AdaBwdIdeal.main_v0_2)) (v3 : (c : Dev Cert.AdaBwdIdeal.nD) → Buf (Elt Ideal) ((c.tc : Thread Cert.AdaBwdIdeal.nD Cert.AdaBwdIdeal.τ).loc Cert.AdaBwdIdeal.main_v0_3)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0_0) = v0 c
          ∧ r.2.mem ((c.tc : Thread Cert.AdaBwdIdeal.nD Cert.AdaBwdIdeal.τ).loc Cert.AdaBwdIdeal.main_v0_1) = v1 c
          ∧ r.2.mem ((c.tc : Thread Cert.AdaBwdIdeal.nD Cert.AdaBwdIdeal.τ).loc Cert.AdaBwdIdeal.main_v0_2) = v2 c
          ∧ r.2.mem ((c.tc : Thread Cert.AdaBwdIdeal.nD Cert.AdaBwdIdeal.τ).loc Cert.AdaBwdIdeal.main_v0_3) = v3 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
          ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
          ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v2) = v0 c
          ∧ r.2.mem ((c.tc : Thread Cert.AdaBwdRefIdeal.nD Cert.AdaBwdRefIdeal.τ).loc Cert.AdaBwdRefIdeal.main_v26) = v1 c
          ∧ r.2.mem ((c.tc : Thread Cert.AdaBwdRefIdeal.nD Cert.AdaBwdRefIdeal.τ).loc Cert.AdaBwdRefIdeal.main_v7) = v2 c
          ∧ r.2.mem ((c.tc : Thread Cert.AdaBwdRefIdeal.nD Cert.AdaBwdRefIdeal.τ).loc Cert.AdaBwdRefIdeal.main_v13) = v3 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
          ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2)
          ∧ r.2.mem ((c.tc : Thread Cert.AdaBwdRefIdeal.nD Cert.AdaBwdRefIdeal.τ).loc Cert.AdaBwdRefIdeal.main_arg3) = m' ((c.tc : Thread Cert.AdaBwdRefIdeal.nD Cert.AdaBwdRefIdeal.τ).loc Cert.AdaBwdRefIdeal.main_arg3)
          ∧ r.2.mem ((c.tc : Thread Cert.AdaBwdRefIdeal.nD Cert.AdaBwdRefIdeal.τ).loc Cert.AdaBwdRefIdeal.main_arg4) = m' ((c.tc : Thread Cert.AdaBwdRefIdeal.nD Cert.AdaBwdRefIdeal.τ).loc Cert.AdaBwdRefIdeal.main_arg4))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v3) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v1) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumBAda_SumBAdaIdeal : Prop :=
  True

def algebraic_SumBAdaIdeal_SumBAdaRefIdeal [hSumBAdaIdeal : Cert.SumBAdaIdeal.Facts] [hSumBAdaRefIdeal : Cert.SumBAdaRefIdeal.Facts] : Prop :=
  ∀ (m : (ℓ : Loc Cert.SumBAdaIdeal.nD Cert.SumBAdaIdeal.τ Cert.SumBAdaIdeal.sig) → Buf (Elt Ideal) ℓ) (g : Dev Cert.SumBAdaIdeal.nD → PrngReg)
    (m' : (ℓ : Loc Cert.SumBAdaRefIdeal.nD Cert.SumBAdaRefIdeal.τ Cert.SumBAdaRefIdeal.sig) → Buf (Elt Ideal) ℓ) (g' : Dev Cert.SumBAdaRefIdeal.nD → PrngReg), Pre_SumBAdaIdeal m →
    (∀ c : Dev Cert.SumBAdaIdeal.nD,
      m' ((c.tc : Thread Cert.SumBAdaRefIdeal.nD Cert.SumBAdaRefIdeal.τ).loc Cert.SumBAdaRefIdeal.main_arg0) = m ((c.tc : Thread Cert.SumBAdaIdeal.nD Cert.SumBAdaIdeal.τ).loc Cert.SumBAdaIdeal.main_arg0)) →
    ∃ (v0 : (c : Dev Cert.SumBAdaIdeal.nD) → Buf (Elt Ideal) ((c.tc : Thread Cert.SumBAdaIdeal.nD Cert.SumBAdaIdeal.τ).loc Cert.SumBAdaIdeal.main_v0)),
      θ_run (Cert.SumBAdaIdeal.defs (F := Ideal)) (onTc (τ := Cert.SumBAdaIdeal.τ) (Cert.SumBAdaIdeal.main (F := Ideal))) ⟨m, fun _ => 0, g⟩ (fun r => ∀ c : Dev Cert.SumBAdaIdeal.nD,
          r.2.mem ((c.tc : Thread Cert.SumBAdaIdeal.nD Cert.SumBAdaIdeal.τ).loc Cert.SumBAdaIdeal.main_v0) = v0 c
          ∧ r.2.mem ((c.tc : Thread Cert.SumBAdaIdeal.nD Cert.SumBAdaIdeal.τ).loc Cert.SumBAdaIdeal.main_arg0) = m ((c.tc : Thread Cert.SumBAdaIdeal.nD Cert.SumBAdaIdeal.τ).loc Cert.SumBAdaIdeal.main_arg0))
      ∧ θ_run (Cert.SumBAdaRefIdeal.defs (F := Ideal)) (onTc (τ := Cert.SumBAdaRefIdeal.τ) (Cert.SumBAdaRefIdeal.main (F := Ideal))) ⟨m', fun _ => 0, g'⟩ (fun r => ∀ c : Dev Cert.SumBAdaRefIdeal.nD,
          r.2.mem ((c.tc : Thread Cert.SumBAdaRefIdeal.nD Cert.SumBAdaRefIdeal.τ).loc Cert.SumBAdaRefIdeal.main_v1) = v0 c
          ∧ r.2.mem ((c.tc : Thread Cert.SumBAdaRefIdeal.nD Cert.SumBAdaRefIdeal.τ).loc Cert.SumBAdaRefIdeal.main_arg0) = m' ((c.tc : Thread Cert.SumBAdaRefIdeal.nD Cert.SumBAdaRefIdeal.τ).loc Cert.SumBAdaRefIdeal.main_arg0))

def preserves_LbGrad_LbGradIdeal : Prop :=
  True

def algebraic_LbGradIdeal_LbGradRefIdeal_pre_all_finite [hLbGradIdeal : Cert.LbGradIdeal.Facts] [hLbGradRefIdeal : Cert.LbGradRefIdeal.Facts] [hPre_all_finite : Cert.Pre_all_finite.Facts] : Prop :=
  ∀ (m : (ℓ : Loc Cert.LbGradIdeal.nD Cert.LbGradIdeal.τ Cert.LbGradIdeal.sig) → Buf (Elt Ideal) ℓ) (g : Dev Cert.LbGradIdeal.nD → PrngReg)
    (m' : (ℓ : Loc Cert.LbGradRefIdeal.nD Cert.LbGradRefIdeal.τ Cert.LbGradRefIdeal.sig) → Buf (Elt Ideal) ℓ) (g' : Dev Cert.LbGradRefIdeal.nD → PrngReg), Pre_LbGradIdeal_all_finite m →
    (∀ c : Dev Cert.LbGradIdeal.nD,
      m' ((c.tc : Thread Cert.LbGradRefIdeal.nD Cert.LbGradRefIdeal.τ).loc Cert.LbGradRefIdeal.main_arg0) = m ((c.tc : Thread Cert.LbGradIdeal.nD Cert.LbGradIdeal.τ).loc Cert.LbGradIdeal.main_arg0)
      ∧ m' ((c.tc : Thread Cert.LbGradRefIdeal.nD Cert.LbGradRefIdeal.τ).loc Cert.LbGradRefIdeal.main_arg1) = m ((c.tc : Thread Cert.LbGradIdeal.nD Cert.LbGradIdeal.τ).loc Cert.LbGradIdeal.main_arg1)) →
    ∃ (v0 : (c : Dev Cert.LbGradIdeal.nD) → Buf (Elt Ideal) ((c.tc : Thread Cert.LbGradIdeal.nD Cert.LbGradIdeal.τ).loc Cert.LbGradIdeal.main_v0)),
      θ_run (Cert.LbGradIdeal.defs (F := Ideal)) (onTc (τ := Cert.LbGradIdeal.τ) (Cert.LbGradIdeal.main (F := Ideal))) ⟨m, fun _ => 0, g⟩ (fun r => ∀ c : Dev Cert.LbGradIdeal.nD,
          r.2.mem ((c.tc : Thread Cert.LbGradIdeal.nD Cert.LbGradIdeal.τ).loc Cert.LbGradIdeal.main_v0) = v0 c
          ∧ r.2.mem ((c.tc : Thread Cert.LbGradIdeal.nD Cert.LbGradIdeal.τ).loc Cert.LbGradIdeal.main_arg0) = m ((c.tc : Thread Cert.LbGradIdeal.nD Cert.LbGradIdeal.τ).loc Cert.LbGradIdeal.main_arg0)
          ∧ r.2.mem ((c.tc : Thread Cert.LbGradIdeal.nD Cert.LbGradIdeal.τ).loc Cert.LbGradIdeal.main_arg1) = m ((c.tc : Thread Cert.LbGradIdeal.nD Cert.LbGradIdeal.τ).loc Cert.LbGradIdeal.main_arg1))
      ∧ θ_run (Cert.LbGradRefIdeal.defs (F := Ideal)) (onTc (τ := Cert.LbGradRefIdeal.τ) (Cert.LbGradRefIdeal.main (F := Ideal))) ⟨m', fun _ => 0, g'⟩ (fun r => ∀ c : Dev Cert.LbGradRefIdeal.nD,
          r.2.mem ((c.tc : Thread Cert.LbGradRefIdeal.nD Cert.LbGradRefIdeal.τ).loc Cert.LbGradRefIdeal.main_v43) = v0 c
          ∧ r.2.mem ((c.tc : Thread Cert.LbGradRefIdeal.nD Cert.LbGradRefIdeal.τ).loc Cert.LbGradRefIdeal.main_arg0) = m' ((c.tc : Thread Cert.LbGradRefIdeal.nD Cert.LbGradRefIdeal.τ).loc Cert.LbGradRefIdeal.main_arg0)
          ∧ r.2.mem ((c.tc : Thread Cert.LbGradRefIdeal.nD Cert.LbGradRefIdeal.τ).loc Cert.LbGradRefIdeal.main_arg1) = m' ((c.tc : Thread Cert.LbGradRefIdeal.nD Cert.LbGradRefIdeal.τ).loc Cert.LbGradRefIdeal.main_arg1))

def preserves_OutLoss_OutLossIdeal : Prop :=
  True

def algebraic_OutLossIdeal_OutLossRefIdeal [hOutLossIdeal : Cert.OutLossIdeal.Facts] [hOutLossRefIdeal : Cert.OutLossRefIdeal.Facts] : Prop :=
  ∀ (m : (ℓ : Loc Cert.OutLossIdeal.nD Cert.OutLossIdeal.τ Cert.OutLossIdeal.sig) → Buf (Elt Ideal) ℓ) (g : Dev Cert.OutLossIdeal.nD → PrngReg)
    (m' : (ℓ : Loc Cert.OutLossRefIdeal.nD Cert.OutLossRefIdeal.τ Cert.OutLossRefIdeal.sig) → Buf (Elt Ideal) ℓ) (g' : Dev Cert.OutLossRefIdeal.nD → PrngReg), Pre_OutLossIdeal m →
    (∀ c : Dev Cert.OutLossIdeal.nD,
      m' ((c.tc : Thread Cert.OutLossRefIdeal.nD Cert.OutLossRefIdeal.τ).loc Cert.OutLossRefIdeal.main_arg0) = m ((c.tc : Thread Cert.OutLossIdeal.nD Cert.OutLossIdeal.τ).loc Cert.OutLossIdeal.main_arg0)
      ∧ m' ((c.tc : Thread Cert.OutLossRefIdeal.nD Cert.OutLossRefIdeal.τ).loc Cert.OutLossRefIdeal.main_arg1) = m ((c.tc : Thread Cert.OutLossIdeal.nD Cert.OutLossIdeal.τ).loc Cert.OutLossIdeal.main_arg1)
      ∧ m' ((c.tc : Thread Cert.OutLossRefIdeal.nD Cert.OutLossRefIdeal.τ).loc Cert.OutLossRefIdeal.main_arg2) = m ((c.tc : Thread Cert.OutLossIdeal.nD Cert.OutLossIdeal.τ).loc Cert.OutLossIdeal.main_arg2)
      ∧ m' ((c.tc : Thread Cert.OutLossRefIdeal.nD Cert.OutLossRefIdeal.τ).loc Cert.OutLossRefIdeal.main_arg3) = m ((c.tc : Thread Cert.OutLossIdeal.nD Cert.OutLossIdeal.τ).loc Cert.OutLossIdeal.main_arg3)) →
    ∃ (v0 : (c : Dev Cert.OutLossIdeal.nD) → Buf (Elt Ideal) ((c.tc : Thread Cert.OutLossIdeal.nD Cert.OutLossIdeal.τ).loc Cert.OutLossIdeal.main_v0_0)) (v1 : (c : Dev Cert.OutLossIdeal.nD) → Buf (Elt Ideal) ((c.tc : Thread Cert.OutLossIdeal.nD Cert.OutLossIdeal.τ).loc Cert.OutLossIdeal.main_v0_1)) (v2 : (c : Dev Cert.OutLossIdeal.nD) → Buf (Elt Ideal) ((c.tc : Thread Cert.OutLossIdeal.nD Cert.OutLossIdeal.τ).loc Cert.OutLossIdeal.main_v0_2)) (v3 : (c : Dev Cert.OutLossIdeal.nD) → Buf (Elt Ideal) ((c.tc : Thread Cert.OutLossIdeal.nD Cert.OutLossIdeal.τ).loc Cert.OutLossIdeal.main_v0_3)),
      θ_run (Cert.OutLossIdeal.defs (F := Ideal)) (onTc (τ := Cert.OutLossIdeal.τ) (Cert.OutLossIdeal.main (F := Ideal))) ⟨m, fun _ => 0, g⟩ (fun r => ∀ c : Dev Cert.OutLossIdeal.nD,
          r.2.mem ((c.tc : Thread Cert.OutLossIdeal.nD Cert.OutLossIdeal.τ).loc Cert.OutLossIdeal.main_v0_0) = v0 c
          ∧ r.2.mem ((c.tc : Thread Cert.OutLossIdeal.nD Cert.OutLossIdeal.τ).loc Cert.OutLossIdeal.main_v0_1) = v1 c
          ∧ r.2.mem ((c.tc : Thread Cert.OutLossIdeal.nD Cert.OutLossIdeal.τ).loc Cert.OutLossIdeal.main_v0_2) = v2 c
          ∧ r.2.mem ((c.tc : Thread Cert.OutLossIdeal.nD Cert.OutLossIdeal.τ).loc Cert.OutLossIdeal.main_v0_3) = v3 c
          ∧ r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
          ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
          ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
          ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3))
      ∧ θ_run (Cert.OutLossRefIdeal.defs (F := Ideal)) (onTc (τ := Cert.OutLossRefIdeal.τ) (Cert.OutLossRefIdeal.main (F := Ideal))) ⟨m', fun _ => 0, g'⟩ (fun r => ∀ c : Dev Cert.OutLossRefIdeal.nD,
          r.2.mem ((c.tc : Thread Cert.OutLossRefIdeal.nD Cert.OutLossRefIdeal.τ).loc Cert.OutLossRefIdeal.main_v17) = v0 c
          ∧ r.2.mem ((c.tc : Thread Cert.OutLossRefIdeal.nD Cert.OutLossRefIdeal.τ).loc Cert.OutLossRefIdeal.main_v23) = v1 c
          ∧ r.2.mem ((c.tc : Thread Cert.OutLossRefIdeal.nD Cert.OutLossRefIdeal.τ).loc Cert.OutLossRefIdeal.main_v22) = v2 c
          ∧ r.2.mem ((c.tc : Thread Cert.OutLossRefIdeal.nD Cert.OutLossRefIdeal.τ).loc Cert.OutLossRefIdeal.main_v25) = v3 c
          ∧ r.2.mem ((c.tc : Thread Cert.OutLossRefIdeal.nD Cert.OutLossRefIdeal.τ).loc Cert.OutLossRefIdeal.main_arg0) = m' ((c.tc : Thread Cert.OutLossRefIdeal.nD Cert.OutLossRefIdeal.τ).loc Cert.OutLossRefIdeal.main_arg0)
          ∧ r.2.mem ((c.tc : Thread Cert.OutLossRefIdeal.nD Cert.OutLossRefIdeal.τ).loc Cert.OutLossRefIdeal.main_arg1) = m' ((c.tc : Thread Cert.OutLossRefIdeal.nD Cert.OutLossRefIdeal.τ).loc Cert.OutLossRefIdeal.main_arg1)
          ∧ r.2.mem ((c.tc : Thread Cert.OutLossRefIdeal.nD Cert.OutLossRefIdeal.τ).loc Cert.OutLossRefIdeal.main_arg2) = m' ((c.tc : Thread Cert.OutLossRefIdeal.nD Cert.OutLossRefIdeal.τ).loc Cert.OutLossRefIdeal.main_arg2)
          ∧ r.2.mem ((c.tc : Thread Cert.OutLossRefIdeal.nD Cert.OutLossRefIdeal.τ).loc Cert.OutLossRefIdeal.main_arg3) = m' ((c.tc : Thread Cert.OutLossRefIdeal.nD Cert.OutLossRefIdeal.τ).loc Cert.OutLossRefIdeal.main_arg3))

def preserves_Norm1Bwd_Norm1BwdIdeal : Prop :=
  True

def algebraic_Norm1BwdIdeal_Norm1BwdRefIdeal [hNorm1BwdIdeal : Cert.Norm1BwdIdeal.Facts] [hNorm1BwdRefIdeal : Cert.Norm1BwdRefIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg)
    (m' : (ℓ : Loc Cert.Norm1BwdRefIdeal.nD Cert.Norm1BwdRefIdeal.τ Cert.Norm1BwdRefIdeal.sig) → Buf (Elt Ideal) ℓ) (g' : Dev Cert.Norm1BwdRefIdeal.nD → PrngReg), Pre_Norm1BwdIdeal m →
    (∀ c : Dev Cert.Norm1BwdIdeal.nD,
      m' ((c.tc : Thread Cert.Norm1BwdRefIdeal.nD Cert.Norm1BwdRefIdeal.τ).loc Cert.Norm1BwdRefIdeal.main_arg0) = m ((c.tc : Thread Cert.Norm1BwdIdeal.nD Cert.Norm1BwdIdeal.τ).loc Cert.Norm1BwdIdeal.main_arg0)
      ∧ m' ((c.tc : Thread Cert.Norm1BwdRefIdeal.nD Cert.Norm1BwdRefIdeal.τ).loc Cert.Norm1BwdRefIdeal.main_arg1) = m ((c.tc : Thread Cert.Norm1BwdIdeal.nD Cert.Norm1BwdIdeal.τ).loc Cert.Norm1BwdIdeal.main_arg1)
      ∧ m' ((c.tc : Thread Cert.Norm1BwdRefIdeal.nD Cert.Norm1BwdRefIdeal.τ).loc Cert.Norm1BwdRefIdeal.main_arg2) = m ((c.tc : Thread Cert.Norm1BwdIdeal.nD Cert.Norm1BwdIdeal.τ).loc Cert.Norm1BwdIdeal.main_arg2)
      ∧ m' ((c.tc : Thread Cert.Norm1BwdRefIdeal.nD Cert.Norm1BwdRefIdeal.τ).loc Cert.Norm1BwdRefIdeal.main_arg3) = m ((c.tc : Thread Cert.Norm1BwdIdeal.nD Cert.Norm1BwdIdeal.τ).loc Cert.Norm1BwdIdeal.main_arg3)
      ∧ m' ((c.tc : Thread Cert.Norm1BwdRefIdeal.nD Cert.Norm1BwdRefIdeal.τ).loc Cert.Norm1BwdRefIdeal.main_arg4) = m ((c.tc : Thread Cert.Norm1BwdIdeal.nD Cert.Norm1BwdIdeal.τ).loc Cert.Norm1BwdIdeal.main_arg4)
      ∧ m' ((c.tc : Thread Cert.Norm1BwdRefIdeal.nD Cert.Norm1BwdRefIdeal.τ).loc Cert.Norm1BwdRefIdeal.main_arg5) = m ((c.tc : Thread Cert.Norm1BwdIdeal.nD Cert.Norm1BwdIdeal.τ).loc Cert.Norm1BwdIdeal.main_arg5)) →
    ∃ (v0 : (c : Dev Cert.Norm1BwdIdeal.nD) → Buf (Elt Ideal) ((c.tc : Thread Cert.Norm1BwdIdeal.nD Cert.Norm1BwdIdeal.τ).loc Cert.Norm1BwdIdeal.main_v0_0)) (v1 : (c : Dev Cert.Norm1BwdIdeal.nD) → Buf (Elt Ideal) ((c.tc : Thread Cert.Norm1BwdIdeal.nD Cert.Norm1BwdIdeal.τ).loc Cert.Norm1BwdIdeal.main_v0_1)) (v2 : (c : Dev Cert.Norm1BwdIdeal.nD) → Buf (Elt Ideal) ((c.tc : Thread Cert.Norm1BwdIdeal.nD Cert.Norm1BwdIdeal.τ).loc Cert.Norm1BwdIdeal.main_v0_2)) (v3 : (c : Dev Cert.Norm1BwdIdeal.nD) → Buf (Elt Ideal) ((c.tc : Thread Cert.Norm1BwdIdeal.nD Cert.Norm1BwdIdeal.τ).loc Cert.Norm1BwdIdeal.main_v0_3)),
      θ_run (Cert.Norm1BwdIdeal.defs (F := Ideal)) (onTc (τ := Cert.Norm1BwdIdeal.τ) (Cert.Norm1BwdIdeal.main (F := Ideal))) ⟨m, fun _ => 0, g⟩ (fun r => ∀ c : Dev Cert.Norm1BwdIdeal.nD,
          r.2.mem ((c.tc : Thread Cert.Norm1BwdIdeal.nD Cert.Norm1BwdIdeal.τ).loc Cert.Norm1BwdIdeal.main_v0_0) = v0 c
          ∧ r.2.mem ((c.tc : Thread Cert.Norm1BwdIdeal.nD Cert.Norm1BwdIdeal.τ).loc Cert.Norm1BwdIdeal.main_v0_1) = v1 c
          ∧ r.2.mem ((c.tc : Thread Cert.Norm1BwdIdeal.nD Cert.Norm1BwdIdeal.τ).loc Cert.Norm1BwdIdeal.main_v0_2) = v2 c
          ∧ r.2.mem ((c.tc : Thread Cert.Norm1BwdIdeal.nD Cert.Norm1BwdIdeal.τ).loc Cert.Norm1BwdIdeal.main_v0_3) = v3 c
          ∧ r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
          ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
          ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
          ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
          ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
          ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5))
      ∧ θ_run (Cert.Norm1BwdRefIdeal.defs (F := Ideal)) (onTc (τ := Cert.Norm1BwdRefIdeal.τ) (Cert.Norm1BwdRefIdeal.main (F := Ideal))) ⟨m', fun _ => 0, g'⟩ (fun r => ∀ c : Dev Cert.Norm1BwdRefIdeal.nD,
          r.2.mem ((c.tc : Thread Cert.Norm1BwdRefIdeal.nD Cert.Norm1BwdRefIdeal.τ).loc Cert.Norm1BwdRefIdeal.main_v48) = v0 c
          ∧ r.2.mem ((c.tc : Thread Cert.Norm1BwdRefIdeal.nD Cert.Norm1BwdRefIdeal.τ).loc Cert.Norm1BwdRefIdeal.main_v23) = v1 c
          ∧ r.2.mem ((c.tc : Thread Cert.Norm1BwdRefIdeal.nD Cert.Norm1BwdRefIdeal.τ).loc Cert.Norm1BwdRefIdeal.main_v26) = v2 c
          ∧ r.2.mem ((c.tc : Thread Cert.Norm1BwdRefIdeal.nD Cert.Norm1BwdRefIdeal.τ).loc Cert.Norm1BwdRefIdeal.main_v31) = v3 c
          ∧ r.2.mem ((c.tc : Thread Cert.Norm1BwdRefIdeal.nD Cert.Norm1BwdRefIdeal.τ).loc Cert.Norm1BwdRefIdeal.main_arg0) = m' ((c.tc : Thread Cert.Norm1BwdRefIdeal.nD Cert.Norm1BwdRefIdeal.τ).loc Cert.Norm1BwdRefIdeal.main_arg0)
          ∧ r.2.mem ((c.tc : Thread Cert.Norm1BwdRefIdeal.nD Cert.Norm1BwdRefIdeal.τ).loc Cert.Norm1BwdRefIdeal.main_arg1) = m' ((c.tc : Thread Cert.Norm1BwdRefIdeal.nD Cert.Norm1BwdRefIdeal.τ).loc Cert.Norm1BwdRefIdeal.main_arg1)
          ∧ r.2.mem ((c.tc : Thread Cert.Norm1BwdRefIdeal.nD Cert.Norm1BwdRefIdeal.τ).loc Cert.Norm1BwdRefIdeal.main_arg2) = m' ((c.tc : Thread Cert.Norm1BwdRefIdeal.nD Cert.Norm1BwdRefIdeal.τ).loc Cert.Norm1BwdRefIdeal.main_arg2)
          ∧ r.2.mem ((c.tc : Thread Cert.Norm1BwdRefIdeal.nD Cert.Norm1BwdRefIdeal.τ).loc Cert.Norm1BwdRefIdeal.main_arg3) = m' ((c.tc : Thread Cert.Norm1BwdRefIdeal.nD Cert.Norm1BwdRefIdeal.τ).loc Cert.Norm1BwdRefIdeal.main_arg3)
          ∧ r.2.mem ((c.tc : Thread Cert.Norm1BwdRefIdeal.nD Cert.Norm1BwdRefIdeal.τ).loc Cert.Norm1BwdRefIdeal.main_arg4) = m' ((c.tc : Thread Cert.Norm1BwdRefIdeal.nD Cert.Norm1BwdRefIdeal.τ).loc Cert.Norm1BwdRefIdeal.main_arg4)
          ∧ r.2.mem ((c.tc : Thread Cert.Norm1BwdRefIdeal.nD Cert.Norm1BwdRefIdeal.τ).loc Cert.Norm1BwdRefIdeal.main_arg5) = m' ((c.tc : Thread Cert.Norm1BwdRefIdeal.nD Cert.Norm1BwdRefIdeal.τ).loc Cert.Norm1BwdRefIdeal.main_arg5))

def preserves_Norm2Bwd_Norm2BwdIdeal : Prop :=
  True

def algebraic_Norm2BwdIdeal_Norm2BwdRefIdeal [hNorm2BwdIdeal : Cert.Norm2BwdIdeal.Facts] [hNorm2BwdRefIdeal : Cert.Norm2BwdRefIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg)
    (m' : (ℓ : Loc Cert.Norm2BwdRefIdeal.nD Cert.Norm2BwdRefIdeal.τ Cert.Norm2BwdRefIdeal.sig) → Buf (Elt Ideal) ℓ) (g' : Dev Cert.Norm2BwdRefIdeal.nD → PrngReg), Pre_Norm2BwdIdeal m →
    (∀ c : Dev Cert.Norm2BwdIdeal.nD,
      m' ((c.tc : Thread Cert.Norm2BwdRefIdeal.nD Cert.Norm2BwdRefIdeal.τ).loc Cert.Norm2BwdRefIdeal.main_arg0) = m ((c.tc : Thread Cert.Norm2BwdIdeal.nD Cert.Norm2BwdIdeal.τ).loc Cert.Norm2BwdIdeal.main_arg0)
      ∧ m' ((c.tc : Thread Cert.Norm2BwdRefIdeal.nD Cert.Norm2BwdRefIdeal.τ).loc Cert.Norm2BwdRefIdeal.main_arg1) = m ((c.tc : Thread Cert.Norm2BwdIdeal.nD Cert.Norm2BwdIdeal.τ).loc Cert.Norm2BwdIdeal.main_arg1)
      ∧ m' ((c.tc : Thread Cert.Norm2BwdRefIdeal.nD Cert.Norm2BwdRefIdeal.τ).loc Cert.Norm2BwdRefIdeal.main_arg2) = m ((c.tc : Thread Cert.Norm2BwdIdeal.nD Cert.Norm2BwdIdeal.τ).loc Cert.Norm2BwdIdeal.main_arg2)
      ∧ m' ((c.tc : Thread Cert.Norm2BwdRefIdeal.nD Cert.Norm2BwdRefIdeal.τ).loc Cert.Norm2BwdRefIdeal.main_arg3) = m ((c.tc : Thread Cert.Norm2BwdIdeal.nD Cert.Norm2BwdIdeal.τ).loc Cert.Norm2BwdIdeal.main_arg3)
      ∧ m' ((c.tc : Thread Cert.Norm2BwdRefIdeal.nD Cert.Norm2BwdRefIdeal.τ).loc Cert.Norm2BwdRefIdeal.main_arg4) = m ((c.tc : Thread Cert.Norm2BwdIdeal.nD Cert.Norm2BwdIdeal.τ).loc Cert.Norm2BwdIdeal.main_arg4)
      ∧ m' ((c.tc : Thread Cert.Norm2BwdRefIdeal.nD Cert.Norm2BwdRefIdeal.τ).loc Cert.Norm2BwdRefIdeal.main_arg5) = m ((c.tc : Thread Cert.Norm2BwdIdeal.nD Cert.Norm2BwdIdeal.τ).loc Cert.Norm2BwdIdeal.main_arg5)
      ∧ m' ((c.tc : Thread Cert.Norm2BwdRefIdeal.nD Cert.Norm2BwdRefIdeal.τ).loc Cert.Norm2BwdRefIdeal.main_arg6) = m ((c.tc : Thread Cert.Norm2BwdIdeal.nD Cert.Norm2BwdIdeal.τ).loc Cert.Norm2BwdIdeal.main_arg6)
      ∧ m' ((c.tc : Thread Cert.Norm2BwdRefIdeal.nD Cert.Norm2BwdRefIdeal.τ).loc Cert.Norm2BwdRefIdeal.main_arg7) = m ((c.tc : Thread Cert.Norm2BwdIdeal.nD Cert.Norm2BwdIdeal.τ).loc Cert.Norm2BwdIdeal.main_arg7)) →
    ∃ (v0 : (c : Dev Cert.Norm2BwdIdeal.nD) → Buf (Elt Ideal) ((c.tc : Thread Cert.Norm2BwdIdeal.nD Cert.Norm2BwdIdeal.τ).loc Cert.Norm2BwdIdeal.main_v3_0)) (v1 : (c : Dev Cert.Norm2BwdIdeal.nD) → Buf (Elt Ideal) ((c.tc : Thread Cert.Norm2BwdIdeal.nD Cert.Norm2BwdIdeal.τ).loc Cert.Norm2BwdIdeal.main_v3_1)) (v2 : (c : Dev Cert.Norm2BwdIdeal.nD) → Buf (Elt Ideal) ((c.tc : Thread Cert.Norm2BwdIdeal.nD Cert.Norm2BwdIdeal.τ).loc Cert.Norm2BwdIdeal.main_v3_2)) (v3 : (c : Dev Cert.Norm2BwdIdeal.nD) → Buf (Elt Ideal) ((c.tc : Thread Cert.Norm2BwdIdeal.nD Cert.Norm2BwdIdeal.τ).loc Cert.Norm2BwdIdeal.main_v3_3)) (v4 : (c : Dev Cert.Norm2BwdIdeal.nD) → Buf (Elt Ideal) ((c.tc : Thread Cert.Norm2BwdIdeal.nD Cert.Norm2BwdIdeal.τ).loc Cert.Norm2BwdIdeal.main_v3_4)) (v5 : (c : Dev Cert.Norm2BwdIdeal.nD) → Buf (Elt Ideal) ((c.tc : Thread Cert.Norm2BwdIdeal.nD Cert.Norm2BwdIdeal.τ).loc Cert.Norm2BwdIdeal.main_v3_5)),
      θ_run (Cert.Norm2BwdIdeal.defs (F := Ideal)) (onTc (τ := Cert.Norm2BwdIdeal.τ) (Cert.Norm2BwdIdeal.main (F := Ideal))) ⟨m, fun _ => 0, g⟩ (fun r => ∀ c : Dev Cert.Norm2BwdIdeal.nD,
          r.2.mem ((c.tc : Thread Cert.Norm2BwdIdeal.nD Cert.Norm2BwdIdeal.τ).loc Cert.Norm2BwdIdeal.main_v3_0) = v0 c
          ∧ r.2.mem ((c.tc : Thread Cert.Norm2BwdIdeal.nD Cert.Norm2BwdIdeal.τ).loc Cert.Norm2BwdIdeal.main_v3_1) = v1 c
          ∧ r.2.mem ((c.tc : Thread Cert.Norm2BwdIdeal.nD Cert.Norm2BwdIdeal.τ).loc Cert.Norm2BwdIdeal.main_v3_2) = v2 c
          ∧ r.2.mem ((c.tc : Thread Cert.Norm2BwdIdeal.nD Cert.Norm2BwdIdeal.τ).loc Cert.Norm2BwdIdeal.main_v3_3) = v3 c
          ∧ r.2.mem ((c.tc : Thread Cert.Norm2BwdIdeal.nD Cert.Norm2BwdIdeal.τ).loc Cert.Norm2BwdIdeal.main_v3_4) = v4 c
          ∧ r.2.mem ((c.tc : Thread Cert.Norm2BwdIdeal.nD Cert.Norm2BwdIdeal.τ).loc Cert.Norm2BwdIdeal.main_v3_5) = v5 c
          ∧ r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
          ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
          ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
          ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
          ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
          ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
          ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6)
          ∧ r.2.mem ((c.tc : Thread Cert.Norm2BwdIdeal.nD Cert.Norm2BwdIdeal.τ).loc Cert.Norm2BwdIdeal.main_arg7) = m ((c.tc : Thread Cert.Norm2BwdIdeal.nD Cert.Norm2BwdIdeal.τ).loc Cert.Norm2BwdIdeal.main_arg7))
      ∧ θ_run (Cert.Norm2BwdRefIdeal.defs (F := Ideal)) (onTc (τ := Cert.Norm2BwdRefIdeal.τ) (Cert.Norm2BwdRefIdeal.main (F := Ideal))) ⟨m', fun _ => 0, g'⟩ (fun r => ∀ c : Dev Cert.Norm2BwdRefIdeal.nD,
          r.2.mem ((c.tc : Thread Cert.Norm2BwdRefIdeal.nD Cert.Norm2BwdRefIdeal.τ).loc Cert.Norm2BwdRefIdeal.main_v51) = v0 c
          ∧ r.2.mem ((c.tc : Thread Cert.Norm2BwdRefIdeal.nD Cert.Norm2BwdRefIdeal.τ).loc Cert.Norm2BwdRefIdeal.main_v26) = v1 c
          ∧ r.2.mem ((c.tc : Thread Cert.Norm2BwdRefIdeal.nD Cert.Norm2BwdRefIdeal.τ).loc Cert.Norm2BwdRefIdeal.main_v29) = v2 c
          ∧ r.2.mem ((c.tc : Thread Cert.Norm2BwdRefIdeal.nD Cert.Norm2BwdRefIdeal.τ).loc Cert.Norm2BwdRefIdeal.main_v34) = v3 c
          ∧ r.2.mem ((c.tc : Thread Cert.Norm2BwdRefIdeal.nD Cert.Norm2BwdRefIdeal.τ).loc Cert.Norm2BwdRefIdeal.main_v57) = v4 c
          ∧ r.2.mem ((c.tc : Thread Cert.Norm2BwdRefIdeal.nD Cert.Norm2BwdRefIdeal.τ).loc Cert.Norm2BwdRefIdeal.main_v58) = v5 c
          ∧ r.2.mem ((c.tc : Thread Cert.Norm2BwdRefIdeal.nD Cert.Norm2BwdRefIdeal.τ).loc Cert.Norm2BwdRefIdeal.main_arg0) = m' ((c.tc : Thread Cert.Norm2BwdRefIdeal.nD Cert.Norm2BwdRefIdeal.τ).loc Cert.Norm2BwdRefIdeal.main_arg0)
          ∧ r.2.mem ((c.tc : Thread Cert.Norm2BwdRefIdeal.nD Cert.Norm2BwdRefIdeal.τ).loc Cert.Norm2BwdRefIdeal.main_arg1) = m' ((c.tc : Thread Cert.Norm2BwdRefIdeal.nD Cert.Norm2BwdRefIdeal.τ).loc Cert.Norm2BwdRefIdeal.main_arg1)
          ∧ r.2.mem ((c.tc : Thread Cert.Norm2BwdRefIdeal.nD Cert.Norm2BwdRefIdeal.τ).loc Cert.Norm2BwdRefIdeal.main_arg2) = m' ((c.tc : Thread Cert.Norm2BwdRefIdeal.nD Cert.Norm2BwdRefIdeal.τ).loc Cert.Norm2BwdRefIdeal.main_arg2)
          ∧ r.2.mem ((c.tc : Thread Cert.Norm2BwdRefIdeal.nD Cert.Norm2BwdRefIdeal.τ).loc Cert.Norm2BwdRefIdeal.main_arg3) = m' ((c.tc : Thread Cert.Norm2BwdRefIdeal.nD Cert.Norm2BwdRefIdeal.τ).loc Cert.Norm2BwdRefIdeal.main_arg3)
          ∧ r.2.mem ((c.tc : Thread Cert.Norm2BwdRefIdeal.nD Cert.Norm2BwdRefIdeal.τ).loc Cert.Norm2BwdRefIdeal.main_arg4) = m' ((c.tc : Thread Cert.Norm2BwdRefIdeal.nD Cert.Norm2BwdRefIdeal.τ).loc Cert.Norm2BwdRefIdeal.main_arg4)
          ∧ r.2.mem ((c.tc : Thread Cert.Norm2BwdRefIdeal.nD Cert.Norm2BwdRefIdeal.τ).loc Cert.Norm2BwdRefIdeal.main_arg5) = m' ((c.tc : Thread Cert.Norm2BwdRefIdeal.nD Cert.Norm2BwdRefIdeal.τ).loc Cert.Norm2BwdRefIdeal.main_arg5)
          ∧ r.2.mem ((c.tc : Thread Cert.Norm2BwdRefIdeal.nD Cert.Norm2BwdRefIdeal.τ).loc Cert.Norm2BwdRefIdeal.main_arg6) = m' ((c.tc : Thread Cert.Norm2BwdRefIdeal.nD Cert.Norm2BwdRefIdeal.τ).loc Cert.Norm2BwdRefIdeal.main_arg6)
          ∧ r.2.mem ((c.tc : Thread Cert.Norm2BwdRefIdeal.nD Cert.Norm2BwdRefIdeal.τ).loc Cert.Norm2BwdRefIdeal.main_arg7) = m' ((c.tc : Thread Cert.Norm2BwdRefIdeal.nD Cert.Norm2BwdRefIdeal.τ).loc Cert.Norm2BwdRefIdeal.main_arg7))

def preserves_QkNormBwd_QkNormBwdIdeal : Prop :=
  True

def algebraic_QkNormBwdIdeal_QkNormBwdRefIdeal [hQkNormBwdIdeal : Cert.QkNormBwdIdeal.Facts] [hQkNormBwdRefIdeal : Cert.QkNormBwdRefIdeal.Facts] : Prop :=
  ∀ (m : (ℓ : Loc Cert.QkNormBwdIdeal.nD Cert.QkNormBwdIdeal.τ Cert.QkNormBwdIdeal.sig) → Buf (Elt Ideal) ℓ) (g : Dev Cert.QkNormBwdIdeal.nD → PrngReg)
    (m' : (ℓ : Loc Cert.QkNormBwdRefIdeal.nD Cert.QkNormBwdRefIdeal.τ Cert.QkNormBwdRefIdeal.sig) → Buf (Elt Ideal) ℓ) (g' : Dev Cert.QkNormBwdRefIdeal.nD → PrngReg), Pre_QkNormBwdIdeal m →
    (∀ c : Dev Cert.QkNormBwdIdeal.nD,
      m' ((c.tc : Thread Cert.QkNormBwdRefIdeal.nD Cert.QkNormBwdRefIdeal.τ).loc Cert.QkNormBwdRefIdeal.main_arg0) = m ((c.tc : Thread Cert.QkNormBwdIdeal.nD Cert.QkNormBwdIdeal.τ).loc Cert.QkNormBwdIdeal.main_arg0)
      ∧ m' ((c.tc : Thread Cert.QkNormBwdRefIdeal.nD Cert.QkNormBwdRefIdeal.τ).loc Cert.QkNormBwdRefIdeal.main_arg1) = m ((c.tc : Thread Cert.QkNormBwdIdeal.nD Cert.QkNormBwdIdeal.τ).loc Cert.QkNormBwdIdeal.main_arg1)
      ∧ m' ((c.tc : Thread Cert.QkNormBwdRefIdeal.nD Cert.QkNormBwdRefIdeal.τ).loc Cert.QkNormBwdRefIdeal.main_arg2) = m ((c.tc : Thread Cert.QkNormBwdIdeal.nD Cert.QkNormBwdIdeal.τ).loc Cert.QkNormBwdIdeal.main_arg2)
      ∧ m' ((c.tc : Thread Cert.QkNormBwdRefIdeal.nD Cert.QkNormBwdRefIdeal.τ).loc Cert.QkNormBwdRefIdeal.main_arg3) = m ((c.tc : Thread Cert.QkNormBwdIdeal.nD Cert.QkNormBwdIdeal.τ).loc Cert.QkNormBwdIdeal.main_arg3)
      ∧ m' ((c.tc : Thread Cert.QkNormBwdRefIdeal.nD Cert.QkNormBwdRefIdeal.τ).loc Cert.QkNormBwdRefIdeal.main_arg4) = m ((c.tc : Thread Cert.QkNormBwdIdeal.nD Cert.QkNormBwdIdeal.τ).loc Cert.QkNormBwdIdeal.main_arg4)
      ∧ m' ((c.tc : Thread Cert.QkNormBwdRefIdeal.nD Cert.QkNormBwdRefIdeal.τ).loc Cert.QkNormBwdRefIdeal.main_arg5) = m ((c.tc : Thread Cert.QkNormBwdIdeal.nD Cert.QkNormBwdIdeal.τ).loc Cert.QkNormBwdIdeal.main_arg5)) →
    ∃ (v0 : (c : Dev Cert.QkNormBwdIdeal.nD) → Buf (Elt Ideal) ((c.tc : Thread Cert.QkNormBwdIdeal.nD Cert.QkNormBwdIdeal.τ).loc Cert.QkNormBwdIdeal.main_v0_0)) (v1 : (c : Dev Cert.QkNormBwdIdeal.nD) → Buf (Elt Ideal) ((c.tc : Thread Cert.QkNormBwdIdeal.nD Cert.QkNormBwdIdeal.τ).loc Cert.QkNormBwdIdeal.main_v0_1)) (v2 : (c : Dev Cert.QkNormBwdIdeal.nD) → Buf (Elt Ideal) ((c.tc : Thread Cert.QkNormBwdIdeal.nD Cert.QkNormBwdIdeal.τ).loc Cert.QkNormBwdIdeal.main_v0_2)) (v3 : (c : Dev Cert.QkNormBwdIdeal.nD) → Buf (Elt Ideal) ((c.tc : Thread Cert.QkNormBwdIdeal.nD Cert.QkNormBwdIdeal.τ).loc Cert.QkNormBwdIdeal.main_v0_3)) (v4 : (c : Dev Cert.QkNormBwdIdeal.nD) → Buf (Elt Ideal) ((c.tc : Thread Cert.QkNormBwdIdeal.nD Cert.QkNormBwdIdeal.τ).loc Cert.QkNormBwdIdeal.main_v0_4)),
      θ_run (Cert.QkNormBwdIdeal.defs (F := Ideal)) (onTc (τ := Cert.QkNormBwdIdeal.τ) (Cert.QkNormBwdIdeal.main (F := Ideal))) ⟨m, fun _ => 0, g⟩ (fun r => ∀ c : Dev Cert.QkNormBwdIdeal.nD,
          r.2.mem ((c.tc : Thread Cert.QkNormBwdIdeal.nD Cert.QkNormBwdIdeal.τ).loc Cert.QkNormBwdIdeal.main_v0_0) = v0 c
          ∧ r.2.mem ((c.tc : Thread Cert.QkNormBwdIdeal.nD Cert.QkNormBwdIdeal.τ).loc Cert.QkNormBwdIdeal.main_v0_1) = v1 c
          ∧ r.2.mem ((c.tc : Thread Cert.QkNormBwdIdeal.nD Cert.QkNormBwdIdeal.τ).loc Cert.QkNormBwdIdeal.main_v0_2) = v2 c
          ∧ r.2.mem ((c.tc : Thread Cert.QkNormBwdIdeal.nD Cert.QkNormBwdIdeal.τ).loc Cert.QkNormBwdIdeal.main_v0_3) = v3 c
          ∧ r.2.mem ((c.tc : Thread Cert.QkNormBwdIdeal.nD Cert.QkNormBwdIdeal.τ).loc Cert.QkNormBwdIdeal.main_v0_4) = v4 c
          ∧ r.2.mem ((c.tc : Thread Cert.QkNormBwdIdeal.nD Cert.QkNormBwdIdeal.τ).loc Cert.QkNormBwdIdeal.main_arg0) = m ((c.tc : Thread Cert.QkNormBwdIdeal.nD Cert.QkNormBwdIdeal.τ).loc Cert.QkNormBwdIdeal.main_arg0)
          ∧ r.2.mem ((c.tc : Thread Cert.QkNormBwdIdeal.nD Cert.QkNormBwdIdeal.τ).loc Cert.QkNormBwdIdeal.main_arg1) = m ((c.tc : Thread Cert.QkNormBwdIdeal.nD Cert.QkNormBwdIdeal.τ).loc Cert.QkNormBwdIdeal.main_arg1)
          ∧ r.2.mem ((c.tc : Thread Cert.QkNormBwdIdeal.nD Cert.QkNormBwdIdeal.τ).loc Cert.QkNormBwdIdeal.main_arg2) = m ((c.tc : Thread Cert.QkNormBwdIdeal.nD Cert.QkNormBwdIdeal.τ).loc Cert.QkNormBwdIdeal.main_arg2)
          ∧ r.2.mem ((c.tc : Thread Cert.QkNormBwdIdeal.nD Cert.QkNormBwdIdeal.τ).loc Cert.QkNormBwdIdeal.main_arg3) = m ((c.tc : Thread Cert.QkNormBwdIdeal.nD Cert.QkNormBwdIdeal.τ).loc Cert.QkNormBwdIdeal.main_arg3)
          ∧ r.2.mem ((c.tc : Thread Cert.QkNormBwdIdeal.nD Cert.QkNormBwdIdeal.τ).loc Cert.QkNormBwdIdeal.main_arg4) = m ((c.tc : Thread Cert.QkNormBwdIdeal.nD Cert.QkNormBwdIdeal.τ).loc Cert.QkNormBwdIdeal.main_arg4)
          ∧ r.2.mem ((c.tc : Thread Cert.QkNormBwdIdeal.nD Cert.QkNormBwdIdeal.τ).loc Cert.QkNormBwdIdeal.main_arg5) = m ((c.tc : Thread Cert.QkNormBwdIdeal.nD Cert.QkNormBwdIdeal.τ).loc Cert.QkNormBwdIdeal.main_arg5))
      ∧ θ_run (Cert.QkNormBwdRefIdeal.defs (F := Ideal)) (onTc (τ := Cert.QkNormBwdRefIdeal.τ) (Cert.QkNormBwdRefIdeal.main (F := Ideal))) ⟨m', fun _ => 0, g'⟩ (fun r => ∀ c : Dev Cert.QkNormBwdRefIdeal.nD,
          r.2.mem ((c.tc : Thread Cert.QkNormBwdRefIdeal.nD Cert.QkNormBwdRefIdeal.τ).loc Cert.QkNormBwdRefIdeal.main_v88) = v0 c
          ∧ r.2.mem ((c.tc : Thread Cert.QkNormBwdRefIdeal.nD Cert.QkNormBwdRefIdeal.τ).loc Cert.QkNormBwdRefIdeal.main_v89) = v1 c
          ∧ r.2.mem ((c.tc : Thread Cert.QkNormBwdRefIdeal.nD Cert.QkNormBwdRefIdeal.τ).loc Cert.QkNormBwdRefIdeal.main_v90) = v2 c
          ∧ r.2.mem ((c.tc : Thread Cert.QkNormBwdRefIdeal.nD Cert.QkNormBwdRefIdeal.τ).loc Cert.QkNormBwdRefIdeal.main_v86) = v3 c
          ∧ r.2.mem ((c.tc : Thread Cert.QkNormBwdRefIdeal.nD Cert.QkNormBwdRefIdeal.τ).loc Cert.QkNormBwdRefIdeal.main_v63) = v4 c
          ∧ r.2.mem ((c.tc : Thread Cert.QkNormBwdRefIdeal.nD Cert.QkNormBwdRefIdeal.τ).loc Cert.QkNormBwdRefIdeal.main_arg0) = m' ((c.tc : Thread Cert.QkNormBwdRefIdeal.nD Cert.QkNormBwdRefIdeal.τ).loc Cert.QkNormBwdRefIdeal.main_arg0)
          ∧ r.2.mem ((c.tc : Thread Cert.QkNormBwdRefIdeal.nD Cert.QkNormBwdRefIdeal.τ).loc Cert.QkNormBwdRefIdeal.main_arg1) = m' ((c.tc : Thread Cert.QkNormBwdRefIdeal.nD Cert.QkNormBwdRefIdeal.τ).loc Cert.QkNormBwdRefIdeal.main_arg1)
          ∧ r.2.mem ((c.tc : Thread Cert.QkNormBwdRefIdeal.nD Cert.QkNormBwdRefIdeal.τ).loc Cert.QkNormBwdRefIdeal.main_arg2) = m' ((c.tc : Thread Cert.QkNormBwdRefIdeal.nD Cert.QkNormBwdRefIdeal.τ).loc Cert.QkNormBwdRefIdeal.main_arg2)
          ∧ r.2.mem ((c.tc : Thread Cert.QkNormBwdRefIdeal.nD Cert.QkNormBwdRefIdeal.τ).loc Cert.QkNormBwdRefIdeal.main_arg3) = m' ((c.tc : Thread Cert.QkNormBwdRefIdeal.nD Cert.QkNormBwdRefIdeal.τ).loc Cert.QkNormBwdRefIdeal.main_arg3)
          ∧ r.2.mem ((c.tc : Thread Cert.QkNormBwdRefIdeal.nD Cert.QkNormBwdRefIdeal.τ).loc Cert.QkNormBwdRefIdeal.main_arg4) = m' ((c.tc : Thread Cert.QkNormBwdRefIdeal.nD Cert.QkNormBwdRefIdeal.τ).loc Cert.QkNormBwdRefIdeal.main_arg4)
          ∧ r.2.mem ((c.tc : Thread Cert.QkNormBwdRefIdeal.nD Cert.QkNormBwdRefIdeal.τ).loc Cert.QkNormBwdRefIdeal.main_arg5) = m' ((c.tc : Thread Cert.QkNormBwdRefIdeal.nD Cert.QkNormBwdRefIdeal.τ).loc Cert.QkNormBwdRefIdeal.main_arg5))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v18) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def preserves_ResidFwd_ResidFwdIdeal : Prop :=
  True

def algebraic_ResidFwdIdeal_ResidFwdRefIdeal [hResidFwdIdeal : Cert.ResidFwdIdeal.Facts] [hResidFwdRefIdeal : Cert.ResidFwdRefIdeal.Facts] : Prop :=
  ∀ (m : (ℓ : Loc Cert.ResidFwdIdeal.nD Cert.ResidFwdIdeal.τ Cert.ResidFwdIdeal.sig) → Buf (Elt Ideal) ℓ) (g : Dev Cert.ResidFwdIdeal.nD → PrngReg)
    (m' : (ℓ : Loc Cert.ResidFwdRefIdeal.nD Cert.ResidFwdRefIdeal.τ Cert.ResidFwdRefIdeal.sig) → Buf (Elt Ideal) ℓ) (g' : Dev Cert.ResidFwdRefIdeal.nD → PrngReg), Pre_ResidFwdIdeal m →
    (∀ c : Dev Cert.ResidFwdIdeal.nD,
      m' ((c.tc : Thread Cert.ResidFwdRefIdeal.nD Cert.ResidFwdRefIdeal.τ).loc Cert.ResidFwdRefIdeal.main_arg0) = m ((c.tc : Thread Cert.ResidFwdIdeal.nD Cert.ResidFwdIdeal.τ).loc Cert.ResidFwdIdeal.main_arg0)
      ∧ m' ((c.tc : Thread Cert.ResidFwdRefIdeal.nD Cert.ResidFwdRefIdeal.τ).loc Cert.ResidFwdRefIdeal.main_arg1) = m ((c.tc : Thread Cert.ResidFwdIdeal.nD Cert.ResidFwdIdeal.τ).loc Cert.ResidFwdIdeal.main_arg1)
      ∧ m' ((c.tc : Thread Cert.ResidFwdRefIdeal.nD Cert.ResidFwdRefIdeal.τ).loc Cert.ResidFwdRefIdeal.main_arg2) = m ((c.tc : Thread Cert.ResidFwdIdeal.nD Cert.ResidFwdIdeal.τ).loc Cert.ResidFwdIdeal.main_arg2)
      ∧ m' ((c.tc : Thread Cert.ResidFwdRefIdeal.nD Cert.ResidFwdRefIdeal.τ).loc Cert.ResidFwdRefIdeal.main_arg3) = m ((c.tc : Thread Cert.ResidFwdIdeal.nD Cert.ResidFwdIdeal.τ).loc Cert.ResidFwdIdeal.main_arg3)
      ∧ m' ((c.tc : Thread Cert.ResidFwdRefIdeal.nD Cert.ResidFwdRefIdeal.τ).loc Cert.ResidFwdRefIdeal.main_arg4) = m ((c.tc : Thread Cert.ResidFwdIdeal.nD Cert.ResidFwdIdeal.τ).loc Cert.ResidFwdIdeal.main_arg4)
      ∧ m' ((c.tc : Thread Cert.ResidFwdRefIdeal.nD Cert.ResidFwdRefIdeal.τ).loc Cert.ResidFwdRefIdeal.main_arg5) = m ((c.tc : Thread Cert.ResidFwdIdeal.nD Cert.ResidFwdIdeal.τ).loc Cert.ResidFwdIdeal.main_arg5)) →
    ∃ (v0 : (c : Dev Cert.ResidFwdIdeal.nD) → Buf (Elt Ideal) ((c.tc : Thread Cert.ResidFwdIdeal.nD Cert.ResidFwdIdeal.τ).loc Cert.ResidFwdIdeal.main_v0_0)) (v1 : (c : Dev Cert.ResidFwdIdeal.nD) → Buf (Elt Ideal) ((c.tc : Thread Cert.ResidFwdIdeal.nD Cert.ResidFwdIdeal.τ).loc Cert.ResidFwdIdeal.main_v0_1)),
      θ_run (Cert.ResidFwdIdeal.defs (F := Ideal)) (onTc (τ := Cert.ResidFwdIdeal.τ) (Cert.ResidFwdIdeal.main (F := Ideal))) ⟨m, fun _ => 0, g⟩ (fun r => ∀ c : Dev Cert.ResidFwdIdeal.nD,
          r.2.mem ((c.tc : Thread Cert.ResidFwdIdeal.nD Cert.ResidFwdIdeal.τ).loc Cert.ResidFwdIdeal.main_v0_0) = v0 c
          ∧ r.2.mem ((c.tc : Thread Cert.ResidFwdIdeal.nD Cert.ResidFwdIdeal.τ).loc Cert.ResidFwdIdeal.main_v0_1) = v1 c
          ∧ r.2.mem ((c.tc : Thread Cert.ResidFwdIdeal.nD Cert.ResidFwdIdeal.τ).loc Cert.ResidFwdIdeal.main_arg0) = m ((c.tc : Thread Cert.ResidFwdIdeal.nD Cert.ResidFwdIdeal.τ).loc Cert.ResidFwdIdeal.main_arg0)
          ∧ r.2.mem ((c.tc : Thread Cert.ResidFwdIdeal.nD Cert.ResidFwdIdeal.τ).loc Cert.ResidFwdIdeal.main_arg1) = m ((c.tc : Thread Cert.ResidFwdIdeal.nD Cert.ResidFwdIdeal.τ).loc Cert.ResidFwdIdeal.main_arg1)
          ∧ r.2.mem ((c.tc : Thread Cert.ResidFwdIdeal.nD Cert.ResidFwdIdeal.τ).loc Cert.ResidFwdIdeal.main_arg2) = m ((c.tc : Thread Cert.ResidFwdIdeal.nD Cert.ResidFwdIdeal.τ).loc Cert.ResidFwdIdeal.main_arg2)
          ∧ r.2.mem ((c.tc : Thread Cert.ResidFwdIdeal.nD Cert.ResidFwdIdeal.τ).loc Cert.ResidFwdIdeal.main_arg3) = m ((c.tc : Thread Cert.ResidFwdIdeal.nD Cert.ResidFwdIdeal.τ).loc Cert.ResidFwdIdeal.main_arg3)
          ∧ r.2.mem ((c.tc : Thread Cert.ResidFwdIdeal.nD Cert.ResidFwdIdeal.τ).loc Cert.ResidFwdIdeal.main_arg4) = m ((c.tc : Thread Cert.ResidFwdIdeal.nD Cert.ResidFwdIdeal.τ).loc Cert.ResidFwdIdeal.main_arg4)
          ∧ r.2.mem ((c.tc : Thread Cert.ResidFwdIdeal.nD Cert.ResidFwdIdeal.τ).loc Cert.ResidFwdIdeal.main_arg5) = m ((c.tc : Thread Cert.ResidFwdIdeal.nD Cert.ResidFwdIdeal.τ).loc Cert.ResidFwdIdeal.main_arg5))
      ∧ θ_run (Cert.ResidFwdRefIdeal.defs (F := Ideal)) (onTc (τ := Cert.ResidFwdRefIdeal.τ) (Cert.ResidFwdRefIdeal.main (F := Ideal))) ⟨m', fun _ => 0, g'⟩ (fun r => ∀ c : Dev Cert.ResidFwdRefIdeal.nD,
          r.2.mem ((c.tc : Thread Cert.ResidFwdRefIdeal.nD Cert.ResidFwdRefIdeal.τ).loc Cert.ResidFwdRefIdeal.main_v2) = v0 c
          ∧ r.2.mem ((c.tc : Thread Cert.ResidFwdRefIdeal.nD Cert.ResidFwdRefIdeal.τ).loc Cert.ResidFwdRefIdeal.main_v21) = v1 c
          ∧ r.2.mem ((c.tc : Thread Cert.ResidFwdRefIdeal.nD Cert.ResidFwdRefIdeal.τ).loc Cert.ResidFwdRefIdeal.main_arg0) = m' ((c.tc : Thread Cert.ResidFwdRefIdeal.nD Cert.ResidFwdRefIdeal.τ).loc Cert.ResidFwdRefIdeal.main_arg0)
          ∧ r.2.mem ((c.tc : Thread Cert.ResidFwdRefIdeal.nD Cert.ResidFwdRefIdeal.τ).loc Cert.ResidFwdRefIdeal.main_arg1) = m' ((c.tc : Thread Cert.ResidFwdRefIdeal.nD Cert.ResidFwdRefIdeal.τ).loc Cert.ResidFwdRefIdeal.main_arg1)
          ∧ r.2.mem ((c.tc : Thread Cert.ResidFwdRefIdeal.nD Cert.ResidFwdRefIdeal.τ).loc Cert.ResidFwdRefIdeal.main_arg2) = m' ((c.tc : Thread Cert.ResidFwdRefIdeal.nD Cert.ResidFwdRefIdeal.τ).loc Cert.ResidFwdRefIdeal.main_arg2)
          ∧ r.2.mem ((c.tc : Thread Cert.ResidFwdRefIdeal.nD Cert.ResidFwdRefIdeal.τ).loc Cert.ResidFwdRefIdeal.main_arg3) = m' ((c.tc : Thread Cert.ResidFwdRefIdeal.nD Cert.ResidFwdRefIdeal.τ).loc Cert.ResidFwdRefIdeal.main_arg3)
          ∧ r.2.mem ((c.tc : Thread Cert.ResidFwdRefIdeal.nD Cert.ResidFwdRefIdeal.τ).loc Cert.ResidFwdRefIdeal.main_arg4) = m' ((c.tc : Thread Cert.ResidFwdRefIdeal.nD Cert.ResidFwdRefIdeal.τ).loc Cert.ResidFwdRefIdeal.main_arg4)
          ∧ r.2.mem ((c.tc : Thread Cert.ResidFwdRefIdeal.nD Cert.ResidFwdRefIdeal.τ).loc Cert.ResidFwdRefIdeal.main_arg5) = m' ((c.tc : Thread Cert.ResidFwdRefIdeal.nD Cert.ResidFwdRefIdeal.τ).loc Cert.ResidFwdRefIdeal.main_arg5))

def preserves_QkPrep_QkPrepIdeal : Prop :=
  True

def algebraic_QkPrepIdeal_QkPrepRefIdeal [hQkPrepIdeal : Cert.QkPrepIdeal.Facts] [hQkPrepRefIdeal : Cert.QkPrepRefIdeal.Facts] : Prop :=
  ∀ (m : (ℓ : Loc Cert.QkPrepIdeal.nD Cert.QkPrepIdeal.τ Cert.QkPrepIdeal.sig) → Buf (Elt Ideal) ℓ) (g : Dev Cert.QkPrepIdeal.nD → PrngReg)
    (m' : (ℓ : Loc Cert.QkPrepRefIdeal.nD Cert.QkPrepRefIdeal.τ Cert.QkPrepRefIdeal.sig) → Buf (Elt Ideal) ℓ) (g' : Dev Cert.QkPrepRefIdeal.nD → PrngReg), Pre_QkPrepIdeal m →
    (∀ c : Dev Cert.QkPrepIdeal.nD,
      m' ((c.tc : Thread Cert.QkPrepRefIdeal.nD Cert.QkPrepRefIdeal.τ).loc Cert.QkPrepRefIdeal.main_arg0) = m ((c.tc : Thread Cert.QkPrepIdeal.nD Cert.QkPrepIdeal.τ).loc Cert.QkPrepIdeal.main_arg0)
      ∧ m' ((c.tc : Thread Cert.QkPrepRefIdeal.nD Cert.QkPrepRefIdeal.τ).loc Cert.QkPrepRefIdeal.main_arg1) = m ((c.tc : Thread Cert.QkPrepIdeal.nD Cert.QkPrepIdeal.τ).loc Cert.QkPrepIdeal.main_arg1)
      ∧ m' ((c.tc : Thread Cert.QkPrepRefIdeal.nD Cert.QkPrepRefIdeal.τ).loc Cert.QkPrepRefIdeal.main_arg2) = m ((c.tc : Thread Cert.QkPrepIdeal.nD Cert.QkPrepIdeal.τ).loc Cert.QkPrepIdeal.main_arg2)) →
    ∃ (v0 : (c : Dev Cert.QkPrepIdeal.nD) → Buf (Elt Ideal) ((c.tc : Thread Cert.QkPrepIdeal.nD Cert.QkPrepIdeal.τ).loc Cert.QkPrepIdeal.main_v0_0)) (v1 : (c : Dev Cert.QkPrepIdeal.nD) → Buf (Elt Ideal) ((c.tc : Thread Cert.QkPrepIdeal.nD Cert.QkPrepIdeal.τ).loc Cert.QkPrepIdeal.main_v0_1)),
      θ_run (Cert.QkPrepIdeal.defs (F := Ideal)) (onTc (τ := Cert.QkPrepIdeal.τ) (Cert.QkPrepIdeal.main (F := Ideal))) ⟨m, fun _ => 0, g⟩ (fun r => ∀ c : Dev Cert.QkPrepIdeal.nD,
          r.2.mem ((c.tc : Thread Cert.QkPrepIdeal.nD Cert.QkPrepIdeal.τ).loc Cert.QkPrepIdeal.main_v0_0) = v0 c
          ∧ r.2.mem ((c.tc : Thread Cert.QkPrepIdeal.nD Cert.QkPrepIdeal.τ).loc Cert.QkPrepIdeal.main_v0_1) = v1 c
          ∧ r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
          ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
          ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2))
      ∧ θ_run (Cert.QkPrepRefIdeal.defs (F := Ideal)) (onTc (τ := Cert.QkPrepRefIdeal.τ) (Cert.QkPrepRefIdeal.main (F := Ideal))) ⟨m', fun _ => 0, g'⟩ (fun r => ∀ c : Dev Cert.QkPrepRefIdeal.nD,
          r.2.mem ((c.tc : Thread Cert.QkPrepRefIdeal.nD Cert.QkPrepRefIdeal.τ).loc Cert.QkPrepRefIdeal.main_v30) = v0 c
          ∧ r.2.mem ((c.tc : Thread Cert.QkPrepRefIdeal.nD Cert.QkPrepRefIdeal.τ).loc Cert.QkPrepRefIdeal.main_v31) = v1 c
          ∧ r.2.mem ((c.tc : Thread Cert.QkPrepRefIdeal.nD Cert.QkPrepRefIdeal.τ).loc Cert.QkPrepRefIdeal.main_arg0) = m' ((c.tc : Thread Cert.QkPrepRefIdeal.nD Cert.QkPrepRefIdeal.τ).loc Cert.QkPrepRefIdeal.main_arg0)
          ∧ r.2.mem ((c.tc : Thread Cert.QkPrepRefIdeal.nD Cert.QkPrepRefIdeal.τ).loc Cert.QkPrepRefIdeal.main_arg1) = m' ((c.tc : Thread Cert.QkPrepRefIdeal.nD Cert.QkPrepRefIdeal.τ).loc Cert.QkPrepRefIdeal.main_arg1)
          ∧ r.2.mem ((c.tc : Thread Cert.QkPrepRefIdeal.nD Cert.QkPrepRefIdeal.τ).loc Cert.QkPrepRefIdeal.main_arg2) = m' ((c.tc : Thread Cert.QkPrepRefIdeal.nD Cert.QkPrepRefIdeal.τ).loc Cert.QkPrepRefIdeal.main_arg2))

def Claim : Prop :=
  ∃ (hKernel : Cert.Kernel.Facts) (hKernelIdeal : Cert.KernelIdeal.Facts) (hReferenceIdeal : Cert.ReferenceIdeal.Facts) (hUpBwdW : Cert.UpBwdW.Facts) (hUpBwdWIdeal : Cert.UpBwdWIdeal.Facts) (hUpBwdWRefIdeal : Cert.UpBwdWRefIdeal.Facts) (hUpBwdX : Cert.UpBwdX.Facts) (hUpBwdXIdeal : Cert.UpBwdXIdeal.Facts) (hUpBwdXRefIdeal : Cert.UpBwdXRefIdeal.Facts) (hDownBwdW : Cert.DownBwdW.Facts) (hDownBwdWIdeal : Cert.DownBwdWIdeal.Facts) (hDownBwdWRefIdeal : Cert.DownBwdWRefIdeal.Facts) (hDownBwdX : Cert.DownBwdX.Facts) (hDownBwdXIdeal : Cert.DownBwdXIdeal.Facts) (hDownBwdXRefIdeal : Cert.DownBwdXRefIdeal.Facts) (hProjBwdW0 : Cert.ProjBwdW0.Facts) (hProjBwdW0Ideal : Cert.ProjBwdW0Ideal.Facts) (hProjBwdW0RefIdeal : Cert.ProjBwdW0RefIdeal.Facts) (hProjBwdW1 : Cert.ProjBwdW1.Facts) (hProjBwdW1Ideal : Cert.ProjBwdW1Ideal.Facts) (hProjBwdW1RefIdeal : Cert.ProjBwdW1RefIdeal.Facts) (hProjBwdX : Cert.ProjBwdX.Facts) (hProjBwdXIdeal : Cert.ProjBwdXIdeal.Facts) (hProjBwdXRefIdeal : Cert.ProjBwdXRefIdeal.Facts) (hMixBwdW : Cert.MixBwdW.Facts) (hMixBwdWIdeal : Cert.MixBwdWIdeal.Facts) (hMixBwdWRefIdeal : Cert.MixBwdWRefIdeal.Facts) (hMixBwdX : Cert.MixBwdX.Facts) (hMixBwdXIdeal : Cert.MixBwdXIdeal.Facts) (hMixBwdXRefIdeal : Cert.MixBwdXRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hProjFwd : Cert.ProjFwd.Facts) (hProjFwdIdeal : Cert.ProjFwdIdeal.Facts) (hProjFwdRefIdeal : Cert.ProjFwdRefIdeal.Facts) (hMixFwd : Cert.MixFwd.Facts) (hMixFwdIdeal : Cert.MixFwdIdeal.Facts) (hMixFwdRefIdeal : Cert.MixFwdRefIdeal.Facts) (hAdamWIn : Cert.AdamWIn.Facts) (hAdamWInIdeal : Cert.AdamWInIdeal.Facts) (hAdamWInRefIdeal : Cert.AdamWInRefIdeal.Facts) (hAdamBAda : Cert.AdamBAda.Facts) (hAdamBAdaIdeal : Cert.AdamBAdaIdeal.Facts) (hAdamBAdaRefIdeal : Cert.AdamBAdaRefIdeal.Facts) (hAdamNorm : Cert.AdamNorm.Facts) (hAdamNormIdeal : Cert.AdamNormIdeal.Facts) (hAdamNormRefIdeal : Cert.AdamNormRefIdeal.Facts) (hAdamLb : Cert.AdamLb.Facts) (hAdamLbIdeal : Cert.AdamLbIdeal.Facts) (hAdamLbRefIdeal : Cert.AdamLbRefIdeal.Facts) (hAdamHead : Cert.AdamHead.Facts) (hAdamHeadIdeal : Cert.AdamHeadIdeal.Facts) (hAdamHeadRefIdeal : Cert.AdamHeadRefIdeal.Facts) (hAdamConvW : Cert.AdamConvW.Facts) (hAdamConvWIdeal : Cert.AdamConvWIdeal.Facts) (hAdamConvWRefIdeal : Cert.AdamConvWRefIdeal.Facts) (hAdamConvB : Cert.AdamConvB.Facts) (hAdamConvBIdeal : Cert.AdamConvBIdeal.Facts) (hAdamConvBRefIdeal : Cert.AdamConvBRefIdeal.Facts) (hAdaBwd : Cert.AdaBwd.Facts) (hAdaBwdIdeal : Cert.AdaBwdIdeal.Facts) (hAdaBwdRefIdeal : Cert.AdaBwdRefIdeal.Facts) (hAdaFwd : Cert.AdaFwd.Facts) (hAdaFwdIdeal : Cert.AdaFwdIdeal.Facts) (hAdaFwdRefIdeal : Cert.AdaFwdRefIdeal.Facts) (hSumSmall : Cert.SumSmall.Facts) (hSumSmallIdeal : Cert.SumSmallIdeal.Facts) (hSumSmallRefIdeal : Cert.SumSmallRefIdeal.Facts) (hSumBAda : Cert.SumBAda.Facts) (hSumBAdaIdeal : Cert.SumBAdaIdeal.Facts) (hSumBAdaRefIdeal : Cert.SumBAdaRefIdeal.Facts) (hLbGrad : Cert.LbGrad.Facts) (hLbGradIdeal : Cert.LbGradIdeal.Facts) (hLbGradRefIdeal : Cert.LbGradRefIdeal.Facts) (hOutLoss : Cert.OutLoss.Facts) (hOutLossIdeal : Cert.OutLossIdeal.Facts) (hOutLossRefIdeal : Cert.OutLossRefIdeal.Facts) (hNorm1Bwd : Cert.Norm1Bwd.Facts) (hNorm1BwdIdeal : Cert.Norm1BwdIdeal.Facts) (hNorm1BwdRefIdeal : Cert.Norm1BwdRefIdeal.Facts) (hNorm2Bwd : Cert.Norm2Bwd.Facts) (hNorm2BwdIdeal : Cert.Norm2BwdIdeal.Facts) (hNorm2BwdRefIdeal : Cert.Norm2BwdRefIdeal.Facts) (hQkNormBwd : Cert.QkNormBwd.Facts) (hQkNormBwdIdeal : Cert.QkNormBwdIdeal.Facts) (hQkNormBwdRefIdeal : Cert.QkNormBwdRefIdeal.Facts) (hNormFwd : Cert.NormFwd.Facts) (hNormFwdIdeal : Cert.NormFwdIdeal.Facts) (hNormFwdRefIdeal : Cert.NormFwdRefIdeal.Facts) (hResidFwd : Cert.ResidFwd.Facts) (hResidFwdIdeal : Cert.ResidFwdIdeal.Facts) (hResidFwdRefIdeal : Cert.ResidFwdRefIdeal.Facts) (hQkPrep : Cert.QkPrep.Facts) (hQkPrepIdeal : Cert.QkPrepIdeal.Facts) (hQkPrepRefIdeal : Cert.QkPrepRefIdeal.Facts) (hPre_all_finite : Cert.Pre_all_finite.Facts),
    quiescent_Kernel (hKernel := hKernel)
    ∧ quiescent_KernelIdeal (hKernelIdeal := hKernelIdeal)
    ∧ quiescent_ReferenceIdeal (hReferenceIdeal := hReferenceIdeal)
    ∧ quiescent_UpBwdW (hUpBwdW := hUpBwdW)
    ∧ quiescent_UpBwdWIdeal (hUpBwdWIdeal := hUpBwdWIdeal)
    ∧ quiescent_UpBwdWRefIdeal (hUpBwdWRefIdeal := hUpBwdWRefIdeal)
    ∧ quiescent_UpBwdX (hUpBwdX := hUpBwdX)
    ∧ quiescent_UpBwdXIdeal (hUpBwdXIdeal := hUpBwdXIdeal)
    ∧ quiescent_UpBwdXRefIdeal (hUpBwdXRefIdeal := hUpBwdXRefIdeal)
    ∧ quiescent_DownBwdW (hDownBwdW := hDownBwdW)
    ∧ quiescent_DownBwdWIdeal (hDownBwdWIdeal := hDownBwdWIdeal)
    ∧ quiescent_DownBwdWRefIdeal (hDownBwdWRefIdeal := hDownBwdWRefIdeal)
    ∧ quiescent_DownBwdX (hDownBwdX := hDownBwdX)
    ∧ quiescent_DownBwdXIdeal (hDownBwdXIdeal := hDownBwdXIdeal)
    ∧ quiescent_DownBwdXRefIdeal (hDownBwdXRefIdeal := hDownBwdXRefIdeal)
    ∧ quiescent_ProjBwdW0 (hProjBwdW0 := hProjBwdW0)
    ∧ quiescent_ProjBwdW0Ideal (hProjBwdW0Ideal := hProjBwdW0Ideal)
    ∧ quiescent_ProjBwdW0RefIdeal (hProjBwdW0RefIdeal := hProjBwdW0RefIdeal)
    ∧ quiescent_ProjBwdW1 (hProjBwdW1 := hProjBwdW1)
    ∧ quiescent_ProjBwdW1Ideal (hProjBwdW1Ideal := hProjBwdW1Ideal)
    ∧ quiescent_ProjBwdW1RefIdeal (hProjBwdW1RefIdeal := hProjBwdW1RefIdeal)
    ∧ quiescent_ProjBwdX (hProjBwdX := hProjBwdX)
    ∧ quiescent_ProjBwdXIdeal (hProjBwdXIdeal := hProjBwdXIdeal)
    ∧ quiescent_ProjBwdXRefIdeal (hProjBwdXRefIdeal := hProjBwdXRefIdeal)
    ∧ quiescent_MixBwdW (hMixBwdW := hMixBwdW)
    ∧ quiescent_MixBwdWIdeal (hMixBwdWIdeal := hMixBwdWIdeal)
    ∧ quiescent_MixBwdWRefIdeal (hMixBwdWRefIdeal := hMixBwdWRefIdeal)
    ∧ quiescent_MixBwdX (hMixBwdX := hMixBwdX)
    ∧ quiescent_MixBwdXIdeal (hMixBwdXIdeal := hMixBwdXIdeal)
    ∧ quiescent_MixBwdXRefIdeal (hMixBwdXRefIdeal := hMixBwdXRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamBAda (hAdamBAda := hAdamBAda)
    ∧ quiescent_AdamBAdaIdeal (hAdamBAdaIdeal := hAdamBAdaIdeal)
    ∧ quiescent_AdamBAdaRefIdeal (hAdamBAdaRefIdeal := hAdamBAdaRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamLb (hAdamLb := hAdamLb)
    ∧ quiescent_AdamLbIdeal (hAdamLbIdeal := hAdamLbIdeal)
    ∧ quiescent_AdamLbRefIdeal (hAdamLbRefIdeal := hAdamLbRefIdeal)
    ∧ quiescent_AdamHead (hAdamHead := hAdamHead)
    ∧ quiescent_AdamHeadIdeal (hAdamHeadIdeal := hAdamHeadIdeal)
    ∧ quiescent_AdamHeadRefIdeal (hAdamHeadRefIdeal := hAdamHeadRefIdeal)
    ∧ quiescent_AdamConvW (hAdamConvW := hAdamConvW)
    ∧ quiescent_AdamConvWIdeal (hAdamConvWIdeal := hAdamConvWIdeal)
    ∧ quiescent_AdamConvWRefIdeal (hAdamConvWRefIdeal := hAdamConvWRefIdeal)
    ∧ quiescent_AdamConvB (hAdamConvB := hAdamConvB)
    ∧ quiescent_AdamConvBIdeal (hAdamConvBIdeal := hAdamConvBIdeal)
    ∧ quiescent_AdamConvBRefIdeal (hAdamConvBRefIdeal := hAdamConvBRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumBAda (hSumBAda := hSumBAda)
    ∧ quiescent_SumBAdaIdeal (hSumBAdaIdeal := hSumBAdaIdeal)
    ∧ quiescent_SumBAdaRefIdeal (hSumBAdaRefIdeal := hSumBAdaRefIdeal)
    ∧ quiescent_LbGrad (hLbGrad := hLbGrad)
    ∧ quiescent_LbGradIdeal (hLbGradIdeal := hLbGradIdeal)
    ∧ quiescent_LbGradIdeal_pre_all_finite (hLbGradIdeal := hLbGradIdeal) (hPre_all_finite := hPre_all_finite)
    ∧ quiescent_LbGradRefIdeal (hLbGradRefIdeal := hLbGradRefIdeal)
    ∧ quiescent_LbGradRefIdeal_pre_all_finite (hLbGradRefIdeal := hLbGradRefIdeal) (hPre_all_finite := hPre_all_finite)
    ∧ quiescent_OutLoss (hOutLoss := hOutLoss)
    ∧ quiescent_OutLossIdeal (hOutLossIdeal := hOutLossIdeal)
    ∧ quiescent_OutLossRefIdeal (hOutLossRefIdeal := hOutLossRefIdeal)
    ∧ quiescent_Norm1Bwd (hNorm1Bwd := hNorm1Bwd)
    ∧ quiescent_Norm1BwdIdeal (hNorm1BwdIdeal := hNorm1BwdIdeal)
    ∧ quiescent_Norm1BwdRefIdeal (hNorm1BwdRefIdeal := hNorm1BwdRefIdeal)
    ∧ quiescent_Norm2Bwd (hNorm2Bwd := hNorm2Bwd)
    ∧ quiescent_Norm2BwdIdeal (hNorm2BwdIdeal := hNorm2BwdIdeal)
    ∧ quiescent_Norm2BwdRefIdeal (hNorm2BwdRefIdeal := hNorm2BwdRefIdeal)
    ∧ quiescent_QkNormBwd (hQkNormBwd := hQkNormBwd)
    ∧ quiescent_QkNormBwdIdeal (hQkNormBwdIdeal := hQkNormBwdIdeal)
    ∧ quiescent_QkNormBwdRefIdeal (hQkNormBwdRefIdeal := hQkNormBwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ResidFwd (hResidFwd := hResidFwd)
    ∧ quiescent_ResidFwdIdeal (hResidFwdIdeal := hResidFwdIdeal)
    ∧ quiescent_ResidFwdRefIdeal (hResidFwdRefIdeal := hResidFwdRefIdeal)
    ∧ quiescent_QkPrep (hQkPrep := hQkPrep)
    ∧ quiescent_QkPrepIdeal (hQkPrepIdeal := hQkPrepIdeal)
    ∧ quiescent_QkPrepRefIdeal (hQkPrepRefIdeal := hQkPrepRefIdeal)
    ∧ preserves_Kernel_KernelIdeal
    ∧ algebraic_KernelIdeal_ReferenceIdeal (hKernelIdeal := hKernelIdeal) (hReferenceIdeal := hReferenceIdeal)
    ∧ preserves_UpBwdW_UpBwdWIdeal
    ∧ algebraic_UpBwdWIdeal_UpBwdWRefIdeal (hUpBwdWIdeal := hUpBwdWIdeal) (hUpBwdWRefIdeal := hUpBwdWRefIdeal)
    ∧ preserves_UpBwdX_UpBwdXIdeal
    ∧ algebraic_UpBwdXIdeal_UpBwdXRefIdeal (hUpBwdXIdeal := hUpBwdXIdeal) (hUpBwdXRefIdeal := hUpBwdXRefIdeal)
    ∧ preserves_DownBwdW_DownBwdWIdeal
    ∧ algebraic_DownBwdWIdeal_DownBwdWRefIdeal (hDownBwdWIdeal := hDownBwdWIdeal) (hDownBwdWRefIdeal := hDownBwdWRefIdeal)
    ∧ preserves_DownBwdX_DownBwdXIdeal
    ∧ algebraic_DownBwdXIdeal_DownBwdXRefIdeal (hDownBwdXIdeal := hDownBwdXIdeal) (hDownBwdXRefIdeal := hDownBwdXRefIdeal)
    ∧ preserves_ProjBwdW0_ProjBwdW0Ideal
    ∧ algebraic_ProjBwdW0Ideal_ProjBwdW0RefIdeal (hProjBwdW0Ideal := hProjBwdW0Ideal) (hProjBwdW0RefIdeal := hProjBwdW0RefIdeal)
    ∧ preserves_ProjBwdW1_ProjBwdW1Ideal
    ∧ algebraic_ProjBwdW1Ideal_ProjBwdW1RefIdeal (hProjBwdW1Ideal := hProjBwdW1Ideal) (hProjBwdW1RefIdeal := hProjBwdW1RefIdeal)
    ∧ preserves_ProjBwdX_ProjBwdXIdeal
    ∧ algebraic_ProjBwdXIdeal_ProjBwdXRefIdeal (hProjBwdXIdeal := hProjBwdXIdeal) (hProjBwdXRefIdeal := hProjBwdXRefIdeal)
    ∧ preserves_MixBwdW_MixBwdWIdeal
    ∧ algebraic_MixBwdWIdeal_MixBwdWRefIdeal (hMixBwdWIdeal := hMixBwdWIdeal) (hMixBwdWRefIdeal := hMixBwdWRefIdeal)
    ∧ preserves_MixBwdX_MixBwdXIdeal
    ∧ algebraic_MixBwdXIdeal_MixBwdXRefIdeal (hMixBwdXIdeal := hMixBwdXIdeal) (hMixBwdXRefIdeal := hMixBwdXRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_ProjFwd_ProjFwdIdeal
    ∧ algebraic_ProjFwdIdeal_ProjFwdRefIdeal (hProjFwdIdeal := hProjFwdIdeal) (hProjFwdRefIdeal := hProjFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamBAda_AdamBAdaIdeal
    ∧ algebraic_AdamBAdaIdeal_AdamBAdaRefIdeal (hAdamBAdaIdeal := hAdamBAdaIdeal) (hAdamBAdaRefIdeal := hAdamBAdaRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamLb_AdamLbIdeal
    ∧ algebraic_AdamLbIdeal_AdamLbRefIdeal (hAdamLbIdeal := hAdamLbIdeal) (hAdamLbRefIdeal := hAdamLbRefIdeal)
    ∧ preserves_AdamHead_AdamHeadIdeal
    ∧ algebraic_AdamHeadIdeal_AdamHeadRefIdeal (hAdamHeadIdeal := hAdamHeadIdeal) (hAdamHeadRefIdeal := hAdamHeadRefIdeal)
    ∧ preserves_AdamConvW_AdamConvWIdeal
    ∧ algebraic_AdamConvWIdeal_AdamConvWRefIdeal (hAdamConvWIdeal := hAdamConvWIdeal) (hAdamConvWRefIdeal := hAdamConvWRefIdeal)
    ∧ preserves_AdamConvB_AdamConvBIdeal
    ∧ algebraic_AdamConvBIdeal_AdamConvBRefIdeal (hAdamConvBIdeal := hAdamConvBIdeal) (hAdamConvBRefIdeal := hAdamConvBRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SumBAda_SumBAdaIdeal
    ∧ algebraic_SumBAdaIdeal_SumBAdaRefIdeal (hSumBAdaIdeal := hSumBAdaIdeal) (hSumBAdaRefIdeal := hSumBAdaRefIdeal)
    ∧ preserves_LbGrad_LbGradIdeal
    ∧ algebraic_LbGradIdeal_LbGradRefIdeal_pre_all_finite (hLbGradIdeal := hLbGradIdeal) (hLbGradRefIdeal := hLbGradRefIdeal) (hPre_all_finite := hPre_all_finite)
    ∧ preserves_OutLoss_OutLossIdeal
    ∧ algebraic_OutLossIdeal_OutLossRefIdeal (hOutLossIdeal := hOutLossIdeal) (hOutLossRefIdeal := hOutLossRefIdeal)
    ∧ preserves_Norm1Bwd_Norm1BwdIdeal
    ∧ algebraic_Norm1BwdIdeal_Norm1BwdRefIdeal (hNorm1BwdIdeal := hNorm1BwdIdeal) (hNorm1BwdRefIdeal := hNorm1BwdRefIdeal)
    ∧ preserves_Norm2Bwd_Norm2BwdIdeal
    ∧ algebraic_Norm2BwdIdeal_Norm2BwdRefIdeal (hNorm2BwdIdeal := hNorm2BwdIdeal) (hNorm2BwdRefIdeal := hNorm2BwdRefIdeal)
    ∧ preserves_QkNormBwd_QkNormBwdIdeal
    ∧ algebraic_QkNormBwdIdeal_QkNormBwdRefIdeal (hQkNormBwdIdeal := hQkNormBwdIdeal) (hQkNormBwdRefIdeal := hQkNormBwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_ResidFwd_ResidFwdIdeal
    ∧ algebraic_ResidFwdIdeal_ResidFwdRefIdeal (hResidFwdIdeal := hResidFwdIdeal) (hResidFwdRefIdeal := hResidFwdRefIdeal)
    ∧ preserves_QkPrep_QkPrepIdeal
    ∧ algebraic_QkPrepIdeal_QkPrepRefIdeal (hQkPrepIdeal := hQkPrepIdeal) (hQkPrepRefIdeal := hQkPrepRefIdeal)
-- ==== Pre_all_finite.lean ====
abbrev S2x1024 : Shape := ⟨2, ![2, 1024]⟩
abbrev S1x1024 : Shape := ⟨2, ![1, 1024]⟩
abbrev S_ : Shape := ⟨0, ![]⟩

class Facts : Prop where
  bcast_S_S2x1024 : S_.BroadcastsInDim S2x1024 (![] : Fin 0 → Fin S2x1024.rank)
  bcast_S_S1x1024 : S_.BroadcastsInDim S1x1024 (![] : Fin 0 → Fin S1x1024.rank)
  bcast_S1x1024_S2x1024_0_1 : S1x1024.BroadcastsInDim S2x1024 (![0, 1] : Fin 2 → Fin S2x1024.rank)

variable [Facts]

def fn {F : FTy → Type} [FloatOps F] (main_arg0 : FVec F S2x1024 .f32) (main_arg1 : FVec F S1x1024 .f32) : IVec S2x1024 1 :=
  let main_v0 : FVec F S2x1024 .f32 := Host.absf main_arg0
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : IVec S2x1024 1 := broadcastInDim S2x1024 ![0, 1] bcast_S1x1024_S2x1024_0_1 main_v5
  let main_v7 : IVec S2x1024 1 := andi main_v2 main_v6
  main_v7
-- ==== Kernel.lean ====
abbrev S2048x7168 : Shape := ⟨2, ![2048, 7168]⟩
abbrev S2048x1024 : Shape := ⟨2, ![2048, 1024]⟩
abbrev S2048x2048 : Shape := ⟨2, ![2048, 2048]⟩
abbrev S8 : Shape := ⟨1, ![8]⟩
abbrev S8x1 : Shape := ⟨2, ![8, 1]⟩
abbrev S8x128 : Shape := ⟨2, ![8, 128]⟩
abbrev S1x8x128 : Shape := ⟨3, ![1, 8, 128]⟩
abbrev S128x1024 : Shape := ⟨2, ![128, 1024]⟩
abbrev S128x128 : Shape := ⟨2, ![128, 128]⟩
abbrev S1x1x128 : Shape := ⟨3, ![1, 1, 128]⟩
abbrev S1x128 : Shape := ⟨2, ![1, 128]⟩
abbrev S128x1 : Shape := ⟨2, ![128, 1]⟩

abbrev nBuf : Space → Nat
  | .hbm => 13
  | .vmem => 31
  | .smem => 0
  | _ => 0

abbrev bufTy : (tb : Table) → Fin (tcTables nBuf tb) → BufTy
  | .hbm, ⟨0, _⟩ => ⟨S2048x7168, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x2048, .f32⟩
  | .hbm, ⟨6, _⟩ => ⟨S8, .f32⟩
  | .hbm, ⟨7, _⟩ => ⟨S8x1, .f32⟩
  | .hbm, ⟨8, _⟩ => ⟨S8x128, .f32⟩
  | .hbm, ⟨9, _⟩ => ⟨S1x8x128, .f32⟩
  | .hbm, ⟨10, _⟩ => ⟨S2048x1024, .f32⟩
  | .hbm, ⟨11, _⟩ => ⟨S2048x1024, .f32⟩
  | .hbm, ⟨12, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S1x8x128, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let v2 : BitVec 32 := Scalar.addi c0_i32 arg1
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 32 := Scalar.addi c0_i32_0 arg1
  let c0_i32_1 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let v2 : BitVec 32 := Scalar.addi c6_i32 arg1
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let v2 : BitVec 32 := Scalar.addi c0_i32 arg1
  let c0_i32_0 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let v2 : BitVec 32 := Scalar.addi c0_i32 arg1
  let c0_i32_0 : BitVec 32 := 0#32
  ![v1.toNat, v2.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c15_i32 : BitVec 32 := 15#32
  let v1 : BitVec 32 := Scalar.minsi v0 c15_i32
  let c1_i32_0 : BitVec 32 := 1#32
  let v2 : BitVec 32 := Scalar.addi c1_i32_0 arg1
  let c0_i32 : BitVec 32 := 0#32
  ![v1.toNat, v2.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S2048x7168 : Shape := ⟨2, ![2048, 7168]⟩
abbrev S2048x1024 : Shape := ⟨2, ![2048, 1024]⟩
abbrev S2048x2048 : Shape := ⟨2, ![2048, 2048]⟩
abbrev S8 : Shape := ⟨1, ![8]⟩
abbrev S2048x8x128 : Shape := ⟨3, ![2048, 8, 128]⟩
abbrev S2048x8x1 : Shape := ⟨3, ![2048, 8, 1]⟩
abbrev S2048x8 : Shape := ⟨2, ![2048, 8]⟩
abbrev S8x2048x2048 : Shape := ⟨3, ![8, 2048, 2048]⟩
abbrev S_ : Shape := ⟨0, ![]⟩
abbrev S8x1x1 : Shape := ⟨3, ![8, 1, 1]⟩
abbrev S1x2048x2048 : Shape := ⟨3, ![1, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S8x2048x128 : Shape := ⟨3, ![8, 2048, 128]⟩

abbrev nBuf : Space → Nat
  | .hbm => 80
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x2048, .f32⟩
  | .hbm, ⟨6, _⟩ => ⟨S8, .f32⟩
  | .hbm, ⟨7, _⟩ => ⟨S2048x8x128, .f32⟩
  | .hbm, ⟨8, _⟩ => ⟨S2048x8x1, .f32⟩
  | .hbm, ⟨9, _⟩ => ⟨S2048x8, .f32⟩
  | .hbm, ⟨10, _⟩ => ⟨S2048x8x128, .f32⟩
  | .hbm, ⟨11, _⟩ => ⟨S2048x8x1, .f32⟩
  | .hbm, ⟨12, _⟩ => ⟨S2048x8, .f32⟩
  | .hbm, ⟨13, _⟩ => ⟨S2048x1024, .f32⟩
  | .hbm, ⟨14, _⟩ => ⟨S2048x8x128, .f32⟩
  | .hbm, ⟨15, _⟩ => ⟨S2048x8x128, .f32⟩
  | .hbm, ⟨16, _⟩ => ⟨S2048x8x128, .f32⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S_, .i32⟩
  | .hbm, ⟨28, _⟩ => ⟨S2048x2048, .i32⟩
  | .hbm, ⟨29, _⟩ => ⟨S2048x2048, .i1⟩
  | .hbm, ⟨30, _⟩ => ⟨S2048x2048, .i1⟩
  | .hbm, ⟨31, _⟩ => ⟨S8x1x1, .f32⟩
  | .hbm, ⟨32, _⟩ => ⟨S8x1x1, .f32⟩
  | .hbm, ⟨33, _⟩ => ⟨S2048x2048, .f32⟩
  | .hbm, ⟨34, _⟩ => ⟨S1x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S_, .f32⟩
  | .hbm, ⟨41, _⟩ => ⟨S8x2048x2048, .i1⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048x2048, .f32⟩
  | .hbm, ⟨46, _⟩ => ⟨S8x2048, .f32⟩
  | .hbm, ⟨47, _⟩ => ⟨S8x2048x1, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S8x128x2048, .f32⟩
  | .hbm, ⟨52, _⟩ => ⟨S2048x8x128, .f32⟩
  | .hbm, ⟨53, _⟩ => ⟨S2048x1024, .f32⟩
  | .hbm, ⟨54, _⟩ => ⟨S_, .f32⟩
  | .hbm, ⟨55, _⟩ => ⟨S8x2048, .f32⟩
  | .hbm, ⟨56, _⟩ => ⟨S2048x1024, .f32⟩
  | .hbm, ⟨57, _⟩ => ⟨S8x2048, .f32⟩
  | .hbm, ⟨58, _⟩ => ⟨S8x2048, .f32⟩
  | .hbm, ⟨59, _⟩ => ⟨S8x2048x2048, .f32⟩
  | .hbm, ⟨60, _⟩ => ⟨S2048x8x128, .f32⟩
  | .hbm, ⟨61, _⟩ => ⟨S8x128x2048, .f32⟩
  | .hbm, ⟨62, _⟩ => ⟨S8x2048x2048, .f32⟩
  | .hbm, ⟨63, _⟩ => ⟨S8x2048x2048, .f32⟩
  | .hbm, ⟨64, _⟩ => ⟨S8x128x2048, .f32⟩
  | .hbm, ⟨65, _⟩ => ⟨S2048x8x128, .f32⟩
  | .hbm, ⟨66, _⟩ => ⟨S8x2048x2048, .f32⟩
  | .hbm, ⟨67, _⟩ => ⟨S_, .f32⟩
  | .hbm, ⟨68, _⟩ => ⟨S8x2048x2048, .f32⟩
  | .hbm, ⟨69, _⟩ => ⟨S8x2048x2048, .f32⟩
  | .hbm, ⟨70, _⟩ => ⟨S_, .f32⟩
  | .hbm, ⟨71, _⟩ => ⟨S8x2048x2048, .f32⟩
  | .hbm, ⟨72, _⟩ => ⟨S8x2048x2048, .f32⟩
  | .hbm, ⟨73, _⟩ => ⟨S8x2048x128, .f32⟩
  | .hbm, ⟨74, _⟩ => ⟨S2048x8x128, .f32⟩
  | .hbm, ⟨75, _⟩ => ⟨S8x2048x128, .f32⟩
  | .hbm, ⟨76, _⟩ => ⟨S2048x8x128, .f32⟩
  | .hbm, ⟨77, _⟩ => ⟨S2048x1024, .f32⟩
  | .hbm, ⟨78, _⟩ => ⟨S2048x1024, .f32⟩
  | .hbm, ⟨79, _⟩ => ⟨S2048x1024, .f32⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_call0_v0 : Ref sig .tc := ⟨.hbm, 40, rfl⟩
abbrev main_v29_1 : Ref sig .tc := ⟨.hbm, 41, rfl⟩
abbrev main_call0_v2 : Ref sig .tc := ⟨.hbm, 42, rfl⟩
abbrev main_v29_0 : Ref sig .tc := ⟨.hbm, 43, rfl⟩
abbrev main_call0_cst : Ref sig .tc := ⟨.hbm, 44, rfl⟩
abbrev main_v29_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_call1_cst : Ref sig .tc := ⟨.hbm, 67, rfl⟩
abbrev main_call1_v0 : Ref sig .tc := ⟨.hbm, 68, rfl⟩
abbrev main_v50 : Ref sig .tc := ⟨.hbm, 69, rfl⟩
abbrev main_cst_4 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== UpBwdW.lean ====
abbrev S2048x2048 : Shape := ⟨2, ![2048, 2048]⟩
abbrev S2048x11264 : Shape := ⟨2, ![2048, 11264]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2048, .bf16⟩
  | .hbm, ⟨3, _⟩ => ⟨S2048x11264, .bf16⟩
  | .hbm, ⟨4, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpBwdWRefIdeal.lean ====
abbrev S2048x2048 : Shape := ⟨2, ![2048, 2048]⟩
abbrev S2048x11264 : Shape := ⟨2, ![2048, 11264]⟩
abbrev S11264x2048 : Shape := ⟨2, ![11264, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S11264x2048, .f32⟩
  | .hbm, ⟨3, _⟩ => ⟨S2048x11264, .f32⟩
  | .hbm, ⟨4, _⟩ => ⟨S2048x11264, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpBwdX.lean ====
abbrev S2048x11264 : Shape := ⟨2, ![2048, 11264]⟩
abbrev S2048x2048 : Shape := ⟨2, ![2048, 2048]⟩
abbrev S1024x2816 : Shape := ⟨2, ![1024, 2816]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x11264, .f32⟩
  | .hbm, ⟨1, _⟩ => ⟨S2048x11264, .f32⟩
  | .hbm, ⟨2, _⟩ => ⟨S2048x11264, .bf16⟩
  | .hbm, ⟨3, _⟩ => ⟨S2048x11264, .bf16⟩
  | .hbm, ⟨4, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpBwdXRefIdeal.lean ====
abbrev S2048x11264 : Shape := ⟨2, ![2048, 11264]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2048x11264, .f32⟩
  | .hbm, ⟨2, _⟩ => ⟨S2048x2048, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownBwdW.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .bf16⟩
  | .hbm, ⟨3, _⟩ => ⟨S2048x2048, .bf16⟩
  | .hbm, ⟨4, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownBwdWRefIdeal.lean ====
abbrev S2048x5632 : Shape := ⟨2, ![2048, 5632]⟩
abbrev S2048x2048 : Shape := ⟨2, ![2048, 2048]⟩
abbrev S5632x2048 : Shape := ⟨2, ![5632, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .f32⟩
  | .hbm, ⟨3, _⟩ => ⟨S5632x2048, .f32⟩
  | .hbm, ⟨4, _⟩ => ⟨S5632x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownBwdX.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2048x2048, .bf16⟩
  | .hbm, ⟨3, _⟩ => ⟨S5632x2048, .bf16⟩
  | .hbm, ⟨4, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownBwdXRefIdeal.lean ====
abbrev S2048x2048 : Shape := ⟨2, ![2048, 2048]⟩
abbrev S5632x2048 : Shape := ⟨2, ![5632, 2048]⟩
abbrev S2048x5632 : Shape := ⟨2, ![2048, 5632]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2048x5632, .f32⟩
  | .hbm, ⟨3, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjBwdW0.lean ====
abbrev S2048x2048 : Shape := ⟨2, ![2048, 2048]⟩
abbrev S2048x7168 : Shape := ⟨2, ![2048, 7168]⟩
abbrev S1024x7168 : Shape := ⟨2, ![1024, 7168]⟩
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x7168, .f32⟩
  | .hbm, ⟨2, _⟩ => ⟨S2048x2048, .bf16⟩
  | .hbm, ⟨3, _⟩ => ⟨S2048x7168, .bf16⟩
  | .hbm, ⟨4, _⟩ => ⟨S1024x7168, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBwdW0RefIdeal.lean ====
abbrev S2048x2048 : Shape := ⟨2, ![2048, 2048]⟩
abbrev S2048x7168 : Shape := ⟨2, ![2048, 7168]⟩
abbrev S7168x2048 : Shape := ⟨2, ![7168, 2048]⟩
abbrev S1024x7168 : Shape := ⟨2, ![1024, 7168]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x7168, .f32⟩
  | .hbm, ⟨2, _⟩ => ⟨S7168x2048, .f32⟩
  | .hbm, ⟨3, _⟩ => ⟨S2048x7168, .f32⟩
  | .hbm, ⟨4, _⟩ => ⟨S1024x7168, .f32⟩
  | .hbm, ⟨5, _⟩ => ⟨S1024x7168, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjBwdW1.lean ====
abbrev S2048x2048 : Shape := ⟨2, ![2048, 2048]⟩
abbrev S2048x7168 : Shape := ⟨2, ![2048, 7168]⟩
abbrev S1024x7168 : Shape := ⟨2, ![1024, 7168]⟩
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x7168, .f32⟩
  | .hbm, ⟨2, _⟩ => ⟨S2048x2048, .bf16⟩
  | .hbm, ⟨3, _⟩ => ⟨S2048x7168, .bf16⟩
  | .hbm, ⟨4, _⟩ => ⟨S1024x7168, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg2.toNat, c1_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBwdW1RefIdeal.lean ====
abbrev S2048x2048 : Shape := ⟨2, ![2048, 2048]⟩
abbrev S2048x7168 : Shape := ⟨2, ![2048, 7168]⟩
abbrev S7168x2048 : Shape := ⟨2, ![7168, 2048]⟩
abbrev S1024x7168 : Shape := ⟨2, ![1024, 7168]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x7168, .f32⟩
  | .hbm, ⟨2, _⟩ => ⟨S7168x2048, .f32⟩
  | .hbm, ⟨3, _⟩ => ⟨S2048x7168, .f32⟩
  | .hbm, ⟨4, _⟩ => ⟨S1024x7168, .f32⟩
  | .hbm, ⟨5, _⟩ => ⟨S1024x7168, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjBwdX.lean ====
abbrev S2048x7168 : Shape := ⟨2, ![2048, 7168]⟩
abbrev S2048x2048 : Shape := ⟨2, ![2048, 2048]⟩
abbrev S1024x1792 : Shape := ⟨2, ![1024, 1792]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x7168, .f32⟩
  | .hbm, ⟨1, _⟩ => ⟨S2048x7168, .f32⟩
  | .hbm, ⟨2, _⟩ => ⟨S2048x7168, .bf16⟩
  | .hbm, ⟨3, _⟩ => ⟨S2048x7168, .bf16⟩
  | .hbm, ⟨4, _⟩ => ⟨S2048x2048, .f32⟩
  | .local _ .vmem, ⟨0, _⟩ => ⟨S1024x1792, .bf16⟩
  | .local _ .vmem, ⟨1, _⟩ => ⟨S1024x1792, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBwdXRefIdeal.lean ====
abbrev S2048x7168 : Shape := ⟨2, ![2048, 7168]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S2048x7168, .f32⟩
  | .hbm, ⟨2, _⟩ => ⟨S2048x2048, .f32⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixBwdW.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixBwdWRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixBwdX.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixBwdXRefIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpFwd.lean ====
abbrev S2048x2048 : Shape := ⟨2, ![2048, 2048]⟩
abbrev S2048x11264 : Shape := ⟨2, ![2048, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2048, .bf16⟩
  | .hbm, ⟨3, _⟩ => ⟨S2048x11264, .bf16⟩
  | .hbm, ⟨4, _⟩ => ⟨S2048x11264, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdRefIdeal.lean ====
abbrev S2048x2048 : Shape := ⟨2, ![2048, 2048]⟩
abbrev S2048x11264 : Shape := ⟨2, ![2048, 11264]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x11264, .f32⟩
  | .hbm, ⟨3, _⟩ => ⟨S2048x11264, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DownFwd.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x5632, .bf16⟩
  | .hbm, ⟨3, _⟩ => ⟨S5632x2048, .bf16⟩
  | .hbm, ⟨4, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjFwd.lean ====
abbrev S2048x2048 : Shape := ⟨2, ![2048, 2048]⟩
abbrev S2048x7168 : Shape := ⟨2, ![2048, 7168]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x7168, .f32⟩
  | .hbm, ⟨2, _⟩ => ⟨S2048x2048, .bf16⟩
  | .hbm, ⟨3, _⟩ => ⟨S2048x7168, .bf16⟩
  | .hbm, ⟨4, _⟩ => ⟨S2048x7168, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFwdRefIdeal.lean ====
abbrev S2048x2048 : Shape := ⟨2, ![2048, 2048]⟩
abbrev S2048x7168 : Shape := ⟨2, ![2048, 7168]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x7168, .f32⟩
  | .hbm, ⟨2, _⟩ => ⟨S2048x7168, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixFwd.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixFwdRefIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamWIn.lean ====
abbrev S2048x1792 : Shape := ⟨2, ![2048, 1792]⟩
abbrev S256x1792 : Shape := ⟨2, ![256, 1792]⟩

abbrev nBuf : Space → Nat
  | .hbm => 8
  | .vmem => 16
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S2048x1792, .f32⟩
  | .hbm, ⟨5, _⟩ => ⟨S2048x1792, .f32⟩
  | .hbm, ⟨6, _⟩ => ⟨S2048x1792, .f32⟩
  | .hbm, ⟨7, _⟩ => ⟨S2048x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | .local _ .vmem, ⟨14, _⟩ => ⟨S256x1792, .f32⟩
  | .local _ .vmem, ⟨15, _⟩ => ⟨S256x1792, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWInRefIdeal.lean ====
abbrev S2048x1792 : Shape := ⟨2, ![2048, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S_, .f32⟩
  | .hbm, ⟨5, _⟩ => ⟨S2048x1792, .f32⟩
  | .hbm, ⟨6, _⟩ => ⟨S2048x1792, .f32⟩
  | .hbm, ⟨7, _⟩ => ⟨S_, .f32⟩
  | .hbm, ⟨8, _⟩ => ⟨S2048x1792, .f32⟩
  | .hbm, ⟨9, _⟩ => ⟨S2048x1792, .f32⟩
  | .hbm, ⟨10, _⟩ => ⟨S2048x1792, .f32⟩
  | .hbm, ⟨11, _⟩ => ⟨S_, .f32⟩
  | .hbm, ⟨12, _⟩ => ⟨S2048x1792, .f32⟩
  | .hbm, ⟨13, _⟩ => ⟨S2048x1792, .f32⟩
  | .hbm, ⟨14, _⟩ => ⟨S2048x1792, .f32⟩
  | .hbm, ⟨15, _⟩ => ⟨S_, .f32⟩
  | .hbm, ⟨16, _⟩ => ⟨S2048x1792, .f32⟩
  | .hbm, ⟨17, _⟩ => ⟨S2048x1792, .f32⟩
  | .hbm, ⟨18, _⟩ => ⟨S2048x1792, .f32⟩
  | .hbm, ⟨19, _⟩ => ⟨S_, .f32⟩
  | .hbm, ⟨20, _⟩ => ⟨S2048x1792, .f32⟩
  | .hbm, ⟨21, _⟩ => ⟨S2048x1792, .f32⟩
  | .hbm, ⟨22, _⟩ => ⟨S_, .f32⟩
  | .hbm, ⟨23, _⟩ => ⟨S2048x1792, .f32⟩
  | .hbm, ⟨24, _⟩ => ⟨S2048x1792, .f32⟩
  | .hbm, ⟨25, _⟩ => ⟨S2048x1792, .f32⟩
  | .hbm, ⟨26, _⟩ => ⟨S_, .f32⟩
  | .hbm, ⟨27, _⟩ => ⟨S2048x1792, .f32⟩
  | .hbm, ⟨28, _⟩ => ⟨S2048x1792, .f32⟩
  | .hbm, ⟨29, _⟩ => ⟨S2048x1792, .f32⟩
  | .hbm, ⟨30, _⟩ => ⟨S_, .f32⟩
  | .hbm, ⟨31, _⟩ => ⟨S2048x1792, .f32⟩
  | .hbm, ⟨32, _⟩ => ⟨S2048x1792, .f32⟩
  | .hbm, ⟨33, _⟩ => ⟨S2048x1792, .f32⟩
  | .hbm, ⟨34, _⟩ => ⟨S_, .f32⟩
  | .hbm, ⟨35, _⟩ => ⟨S2048x1792, .f32⟩
  | .hbm, ⟨36, _⟩ => ⟨S2048x1792, .f32⟩
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBAda.lean ====
abbrev S1x12288 : Shape := ⟨2, ![1, 12288]⟩

abbrev nBuf : Space → Nat
  | .hbm => 7
  | .vmem => 7
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S1x12288, .f32⟩
  | .hbm, ⟨5, _⟩ => ⟨S1x12288, .f32⟩
  | .hbm, ⟨6, _⟩ => ⟨S1x12288, .f32⟩
  | .local _ .vmem, ⟨0, _⟩ => ⟨S1x12288, .f32⟩
  | .local _ .vmem, ⟨1, _⟩ => ⟨S1x12288, .f32⟩
  | .local _ .vmem, ⟨2, _⟩ => ⟨S1x12288, .f32⟩
  | .local _ .vmem, ⟨3, _⟩ => ⟨S1x12288, .f32⟩
  | .local _ .vmem, ⟨4, _⟩ => ⟨S1x12288, .f32⟩
  | .local _ .vmem, ⟨5, _⟩ => ⟨S1x12288, .f32⟩
  | .local _ .vmem, ⟨6, _⟩ => ⟨S1x12288, .f32⟩
  | _, _ => ⟨S1x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBAdaRefIdeal.lean ====
abbrev S1x12288 : Shape := ⟨2, ![1, 12288]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S_, .f32⟩
  | .hbm, ⟨5, _⟩ => ⟨S1x12288, .f32⟩
  | .hbm, ⟨6, _⟩ => ⟨S1x12288, .f32⟩
  | .hbm, ⟨7, _⟩ => ⟨S_, .f32⟩
  | .hbm, ⟨8, _⟩ => ⟨S1x12288, .f32⟩
  | .hbm, ⟨9, _⟩ => ⟨S1x12288, .f32⟩
  | .hbm, ⟨10, _⟩ => ⟨S1x12288, .f32⟩
  | .hbm, ⟨11, _⟩ => ⟨S_, .f32⟩
  | .hbm, ⟨12, _⟩ => ⟨S1x12288, .f32⟩
  | .hbm, ⟨13, _⟩ => ⟨S1x12288, .f32⟩
  | .hbm, ⟨14, _⟩ => ⟨S1x12288, .f32⟩
  | .hbm, ⟨15, _⟩ => ⟨S_, .f32⟩
  | .hbm, ⟨16, _⟩ => ⟨S1x12288, .f32⟩
  | .hbm, ⟨17, _⟩ => ⟨S1x12288, .f32⟩
  | .hbm, ⟨18, _⟩ => ⟨S1x12288, .f32⟩
  | .hbm, ⟨19, _⟩ => ⟨S_, .f32⟩
  | .hbm, ⟨20, _⟩ => ⟨S1x12288, .f32⟩
  | .hbm, ⟨21, _⟩ => ⟨S1x12288, .f32⟩
  | .hbm, ⟨22, _⟩ => ⟨S_, .f32⟩
  | .hbm, ⟨23, _⟩ => ⟨S1x12288, .f32⟩
  | .hbm, ⟨24, _⟩ => ⟨S1x12288, .f32⟩
  | .hbm, ⟨25, _⟩ => ⟨S1x12288, .f32⟩
  | .hbm, ⟨26, _⟩ => ⟨S_, .f32⟩
  | .hbm, ⟨27, _⟩ => ⟨S1x12288, .f32⟩
  | .hbm, ⟨28, _⟩ => ⟨S1x12288, .f32⟩
  | .hbm, ⟨29, _⟩ => ⟨S1x12288, .f32⟩
  | .hbm, ⟨30, _⟩ => ⟨S_, .f32⟩
  | .hbm, ⟨31, _⟩ => ⟨S1x12288, .f32⟩
  | .hbm, ⟨32, _⟩ => ⟨S1x12288, .f32⟩
  | .hbm, ⟨33, _⟩ => ⟨S1x12288, .f32⟩
  | .hbm, ⟨34, _⟩ => ⟨S_, .f32⟩
  | .hbm, ⟨35, _⟩ => ⟨S1x12288, .f32⟩
  | .hbm, ⟨36, _⟩ => ⟨S1x12288, .f32⟩
  | _, _ => ⟨S1x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRefIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLb.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLbRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHead.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadRefIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvW.lean ====
abbrev S3x1408 : Shape := ⟨2, ![3, 1408]⟩

abbrev nBuf : Space → Nat
  | .hbm => 7
  | .vmem => 7
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .local _ .vmem, ⟨0, _⟩ => ⟨S3x1408, .f32⟩
  | .local _ .vmem, ⟨1, _⟩ => ⟨S3x1408, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | _, _ => ⟨S3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvWRefIdeal.lean ====
abbrev S3x1408 : Shape := ⟨2, ![3, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S_, .f32⟩
  | .hbm, ⟨5, _⟩ => ⟨S3x1408, .f32⟩
  | .hbm, ⟨6, _⟩ => ⟨S3x1408, .f32⟩
  | .hbm, ⟨7, _⟩ => ⟨S_, .f32⟩
  | .hbm, ⟨8, _⟩ => ⟨S3x1408, .f32⟩
  | .hbm, ⟨9, _⟩ => ⟨S3x1408, .f32⟩
  | .hbm, ⟨10, _⟩ => ⟨S3x1408, .f32⟩
  | .hbm, ⟨11, _⟩ => ⟨S_, .f32⟩
  | .hbm, ⟨12, _⟩ => ⟨S3x1408, .f32⟩
  | .hbm, ⟨13, _⟩ => ⟨S3x1408, .f32⟩
  | .hbm, ⟨14, _⟩ => ⟨S3x1408, .f32⟩
  | .hbm, ⟨15, _⟩ => ⟨S_, .f32⟩
  | .hbm, ⟨16, _⟩ => ⟨S3x1408, .f32⟩
  | .hbm, ⟨17, _⟩ => ⟨S3x1408, .f32⟩
  | .hbm, ⟨18, _⟩ => ⟨S3x1408, .f32⟩
  | .hbm, ⟨19, _⟩ => ⟨S_, .f32⟩
  | .hbm, ⟨20, _⟩ => ⟨S3x1408, .f32⟩
  | .hbm, ⟨21, _⟩ => ⟨S3x1408, .f32⟩
  | .hbm, ⟨22, _⟩ => ⟨S_, .f32⟩
  | .hbm, ⟨23, _⟩ => ⟨S3x1408, .f32⟩
  | .hbm, ⟨24, _⟩ => ⟨S3x1408, .f32⟩
  | .hbm, ⟨25, _⟩ => ⟨S3x1408, .f32⟩
  | .hbm, ⟨26, _⟩ => ⟨S_, .f32⟩
  | .hbm, ⟨27, _⟩ => ⟨S3x1408, .f32⟩
  | .hbm, ⟨28, _⟩ => ⟨S3x1408, .f32⟩
  | .hbm, ⟨29, _⟩ => ⟨S3x1408, .f32⟩
  | .hbm, ⟨30, _⟩ => ⟨S_, .f32⟩
  | .hbm, ⟨31, _⟩ => ⟨S3x1408, .f32⟩
  | .hbm, ⟨32, _⟩ => ⟨S3x1408, .f32⟩
  | .hbm, ⟨33, _⟩ => ⟨S3x1408, .f32⟩
  | .hbm, ⟨34, _⟩ => ⟨S_, .f32⟩
  | .hbm, ⟨35, _⟩ => ⟨S3x1408, .f32⟩
  | .hbm, ⟨36, _⟩ => ⟨S3x1408, .f32⟩
  | _, _ => ⟨S3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvB.lean ====
abbrev S1x5632 : Shape := ⟨2, ![1, 5632]⟩

abbrev nBuf : Space → Nat
  | .hbm => 7
  | .vmem => 7
  | .smem => 0
  | _ => 0

abbrev bufTy : (tb : Table) → Fin (tcTables nBuf tb) → BufTy
  | .hbm, ⟨0, _⟩ => ⟨S1x5632, .f32⟩
  | .hbm, ⟨1, _⟩ => ⟨S1x5632, .f32⟩
  | .hbm, ⟨2, _⟩ => ⟨S1x5632, .f32⟩
  | .hbm, ⟨3, _⟩ => ⟨S1x5632, .f32⟩
  | .hbm, ⟨4, _⟩ => ⟨S1x5632, .f32⟩
  | .hbm, ⟨5, _⟩ => ⟨S1x5632, .f32⟩
  | .hbm, ⟨6, _⟩ => ⟨S1x5632, .f32⟩
  | .local _ .vmem, ⟨0, _⟩ => ⟨S1x5632, .f32⟩
  | .local _ .vmem, ⟨1, _⟩ => ⟨S1x5632, .f32⟩
  | .local _ .vmem, ⟨2, _⟩ => ⟨S1x5632, .f32⟩
  | .local _ .vmem, ⟨3, _⟩ => ⟨S1x5632, .f32⟩
  | .local _ .vmem, ⟨4, _⟩ => ⟨S1x5632, .f32⟩
  | .local _ .vmem, ⟨5, _⟩ => ⟨S1x5632, .f32⟩
  | .local _ .vmem, ⟨6, _⟩ => ⟨S1x5632, .f32⟩
  | _, _ => ⟨S1x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvBRefIdeal.lean ====
abbrev S1x5632 : Shape := ⟨2, ![1, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x5632, .f32⟩
  | .hbm, ⟨1, _⟩ => ⟨S1x5632, .f32⟩
  | .hbm, ⟨2, _⟩ => ⟨S1x5632, .f32⟩
  | .hbm, ⟨3, _⟩ => ⟨S1x5632, .f32⟩
  | .hbm, ⟨4, _⟩ => ⟨S_, .f32⟩
  | .hbm, ⟨5, _⟩ => ⟨S1x5632, .f32⟩
  | .hbm, ⟨6, _⟩ => ⟨S1x5632, .f32⟩
  | .hbm, ⟨7, _⟩ => ⟨S_, .f32⟩
  | .hbm, ⟨8, _⟩ => ⟨S1x5632, .f32⟩
  | .hbm, ⟨9, _⟩ => ⟨S1x5632, .f32⟩
  | .hbm, ⟨10, _⟩ => ⟨S1x5632, .f32⟩
  | .hbm, ⟨11, _⟩ => ⟨S_, .f32⟩
  | .hbm, ⟨12, _⟩ => ⟨S1x5632, .f32⟩
  | .hbm, ⟨13, _⟩ => ⟨S1x5632, .f32⟩
  | .hbm, ⟨14, _⟩ => ⟨S1x5632, .f32⟩
  | .hbm, ⟨15, _⟩ => ⟨S_, .f32⟩
  | .hbm, ⟨16, _⟩ => ⟨S1x5632, .f32⟩
  | .hbm, ⟨17, _⟩ => ⟨S1x5632, .f32⟩
  | .hbm, ⟨18, _⟩ => ⟨S1x5632, .f32⟩
  | .hbm, ⟨19, _⟩ => ⟨S_, .f32⟩
  | .hbm, ⟨20, _⟩ => ⟨S1x5632, .f32⟩
  | .hbm, ⟨21, _⟩ => ⟨S1x5632, .f32⟩
  | .hbm, ⟨22, _⟩ => ⟨S_, .f32⟩
  | .hbm, ⟨23, _⟩ => ⟨S1x5632, .f32⟩
  | .hbm, ⟨24, _⟩ => ⟨S1x5632, .f32⟩
  | .hbm, ⟨25, _⟩ => ⟨S1x5632, .f32⟩
  | .hbm, ⟨26, _⟩ => ⟨S_, .f32⟩
  | .hbm, ⟨27, _⟩ => ⟨S1x5632, .f32⟩
  | .hbm, ⟨28, _⟩ => ⟨S1x5632, .f32⟩
  | .hbm, ⟨29, _⟩ => ⟨S1x5632, .f32⟩
  | .hbm, ⟨30, _⟩ => ⟨S_, .f32⟩
  | .hbm, ⟨31, _⟩ => ⟨S1x5632, .f32⟩
  | .hbm, ⟨32, _⟩ => ⟨S1x5632, .f32⟩
  | .hbm, ⟨33, _⟩ => ⟨S1x5632, .f32⟩
  | .hbm, ⟨34, _⟩ => ⟨S_, .f32⟩
  | .hbm, ⟨35, _⟩ => ⟨S1x5632, .f32⟩
  | .hbm, ⟨36, _⟩ => ⟨S1x5632, .f32⟩
  | _, _ => ⟨S1x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaBwd.lean ====
abbrev S8x2048 : Shape := ⟨2, ![8, 2048]⟩
abbrev S8x3072 : Shape := ⟨2, ![8, 3072]⟩
abbrev S2048x3072 : Shape := ⟨2, ![2048, 3072]⟩
abbrev S8x128 : Shape := ⟨2, ![8, 128]⟩
abbrev S128x3072 : Shape := ⟨2, ![128, 3072]⟩

abbrev nBuf : Space → Nat
  | .hbm => 9
  | .vmem => 17
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .hbm, ⟨7, _⟩ => ⟨S2048x3072, .f32⟩
  | .hbm, ⟨8, _⟩ => ⟨S2048x3072, .f32⟩
  | .local _ .vmem, ⟨0, _⟩ => ⟨S8x128, .f32⟩
  | .local _ .vmem, ⟨1, _⟩ => ⟨S8x128, .f32⟩
  | .local _ .vmem, ⟨2, _⟩ => ⟨S8x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | .local _ .vmem, ⟨15, _⟩ => ⟨S128x3072, .f32⟩
  | .local _ .vmem, ⟨16, _⟩ => ⟨S128x3072, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdaBwdRefIdeal.lean ====
abbrev S8x2048 : Shape := ⟨2, ![8, 2048]⟩
abbrev S8x3072 : Shape := ⟨2, ![8, 3072]⟩
abbrev S2048x3072 : Shape := ⟨2, ![2048, 3072]⟩
abbrev S_ : Shape := ⟨0, ![]⟩
abbrev S3072x2048 : Shape := ⟨2, ![3072, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S3072x2048, .f32⟩
  | .hbm, ⟨15, _⟩ => ⟨S2048x3072, .f32⟩
  | .hbm, ⟨16, _⟩ => ⟨S_, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S2048x3072, .f32⟩
  | .hbm, ⟨21, _⟩ => ⟨S2048x3072, .f32⟩
  | .hbm, ⟨22, _⟩ => ⟨S2048x3072, .f32⟩
  | .hbm, ⟨23, _⟩ => ⟨S_, .f32⟩
  | .hbm, ⟨24, _⟩ => ⟨S2048x3072, .f32⟩
  | .hbm, ⟨25, _⟩ => ⟨S2048x3072, .f32⟩
  | .hbm, ⟨26, _⟩ => ⟨S2048x3072, .f32⟩
  | .hbm, ⟨27, _⟩ => ⟨S_, .f32⟩
  | .hbm, ⟨28, _⟩ => ⟨S2048x3072, .f32⟩
  | .hbm, ⟨29, _⟩ => ⟨S2048x3072, .f32⟩
  | .hbm, ⟨30, _⟩ => ⟨S2048x3072, .f32⟩
  | .hbm, ⟨31, _⟩ => ⟨S_, .f32⟩
  | .hbm, ⟨32, _⟩ => ⟨S2048x3072, .f32⟩
  | .hbm, ⟨33, _⟩ => ⟨S2048x3072, .f32⟩
  | .hbm, ⟨34, _⟩ => ⟨S_, .f32⟩
  | .hbm, ⟨35, _⟩ => ⟨S2048x3072, .f32⟩
  | .hbm, ⟨36, _⟩ => ⟨S2048x3072, .f32⟩
  | .hbm, ⟨37, _⟩ => ⟨S2048x3072, .f32⟩
  | .hbm, ⟨38, _⟩ => ⟨S_, .f32⟩
  | .hbm, ⟨39, _⟩ => ⟨S2048x3072, .f32⟩
  | .hbm, ⟨40, _⟩ => ⟨S2048x3072, .f32⟩
  | .hbm, ⟨41, _⟩ => ⟨S2048x3072, .f32⟩
  | .hbm, ⟨42, _⟩ => ⟨S_, .f32⟩
  | .hbm, ⟨43, _⟩ => ⟨S2048x3072, .f32⟩
  | .hbm, ⟨44, _⟩ => ⟨S2048x3072, .f32⟩
  | .hbm, ⟨45, _⟩ => ⟨S2048x3072, .f32⟩
  | .hbm, ⟨46, _⟩ => ⟨S_, .f32⟩
  | .hbm, ⟨47, _⟩ => ⟨S2048x3072, .f32⟩
  | .hbm, ⟨48, _⟩ => ⟨S2048x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_7 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== AdaFwd.lean ====
abbrev S8x2048 : Shape := ⟨2, ![8, 2048]⟩
abbrev S2048x3072 : Shape := ⟨2, ![2048, 3072]⟩
abbrev S1x3072 : Shape := ⟨2, ![1, 3072]⟩
abbrev S8x3072 : Shape := ⟨2, ![8, 3072]⟩
abbrev S2048x512 : Shape := ⟨2, ![2048, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x3072, .f32⟩
  | .hbm, ⟨2, _⟩ => ⟨S1x3072, .f32⟩
  | .hbm, ⟨3, _⟩ => ⟨S8x3072, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaFwdRefIdeal.lean ====
abbrev S8x2048 : Shape := ⟨2, ![8, 2048]⟩
abbrev S2048x3072 : Shape := ⟨2, ![2048, 3072]⟩
abbrev S1x3072 : Shape := ⟨2, ![1, 3072]⟩
abbrev S_ : Shape := ⟨0, ![]⟩
abbrev S8x3072 : Shape := ⟨2, ![8, 3072]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x3072, .f32⟩
  | .hbm, ⟨2, _⟩ => ⟨S1x3072, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x3072, .f32⟩
  | .hbm, ⟨13, _⟩ => ⟨S8x3072, .f32⟩
  | .hbm, ⟨14, _⟩ => ⟨S8x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== SumSmall.lean ====
abbrev S8x28160 : Shape := ⟨2, ![8, 28160]⟩
abbrev S1x28160 : Shape := ⟨2, ![1, 28160]⟩

abbrev nBuf : Space → Nat
  | .hbm => 2
  | .vmem => 2
  | .smem => 0
  | _ => 0

abbrev bufTy : (tb : Table) → Fin (tcTables nBuf tb) → BufTy
  | .hbm, ⟨0, _⟩ => ⟨S8x28160, .f32⟩
  | .hbm, ⟨1, _⟩ => ⟨S1x28160, .f32⟩
  | .local _ .vmem, ⟨0, _⟩ => ⟨S8x28160, .f32⟩
  | .local _ .vmem, ⟨1, _⟩ => ⟨S1x28160, .f32⟩
  | _, _ => ⟨S8x28160, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x28160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x28160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x28160 : Shape := ⟨2, ![8, 28160]⟩
abbrev S_ : Shape := ⟨0, ![]⟩
abbrev S28160 : Shape := ⟨1, ![28160]⟩
abbrev S1x28160 : Shape := ⟨2, ![1, 28160]⟩

abbrev nBuf : Space → Nat
  | .hbm => 4
  | .vmem => 0
  | .smem => 0
  | _ => 0

abbrev bufTy : (tb : Table) → Fin (tcTables nBuf tb) → BufTy
  | .hbm, ⟨0, _⟩ => ⟨S8x28160, .f32⟩
  | .hbm, ⟨1, _⟩ => ⟨S_, .f32⟩
  | .hbm, ⟨2, _⟩ => ⟨S28160, .f32⟩
  | .hbm, ⟨3, _⟩ => ⟨S1x28160, .f32⟩
  | _, _ => ⟨S8x28160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumBAda.lean ====
abbrev S8x12288 : Shape := ⟨2, ![8, 12288]⟩
abbrev S1x12288 : Shape := ⟨2, ![1, 12288]⟩

abbrev nBuf : Space → Nat
  | .hbm => 2
  | .vmem => 2
  | .smem => 0
  | _ => 0

abbrev bufTy : (tb : Table) → Fin (tcTables nBuf tb) → BufTy
  | .hbm, ⟨0, _⟩ => ⟨S8x12288, .f32⟩
  | .hbm, ⟨1, _⟩ => ⟨S1x12288, .f32⟩
  | .local _ .vmem, ⟨0, _⟩ => ⟨S8x12288, .f32⟩
  | .local _ .vmem, ⟨1, _⟩ => ⟨S1x12288, .f32⟩
  | _, _ => ⟨S8x12288, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumBAdaRefIdeal.lean ====
abbrev S8x12288 : Shape := ⟨2, ![8, 12288]⟩
abbrev S_ : Shape := ⟨0, ![]⟩
abbrev S12288 : Shape := ⟨1, ![12288]⟩
abbrev S1x12288 : Shape := ⟨2, ![1, 12288]⟩

abbrev nBuf : Space → Nat
  | .hbm => 4
  | .vmem => 0
  | .smem => 0
  | _ => 0

abbrev bufTy : (tb : Table) → Fin (tcTables nBuf tb) → BufTy
  | .hbm, ⟨0, _⟩ => ⟨S8x12288, .f32⟩
  | .hbm, ⟨1, _⟩ => ⟨S_, .f32⟩
  | .hbm, ⟨2, _⟩ => ⟨S12288, .f32⟩
  | .hbm, ⟨3, _⟩ => ⟨S1x12288, .f32⟩
  | _, _ => ⟨S8x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== LbGrad.lean ====
abbrev S2x1024 : Shape := ⟨2, ![2, 1024]⟩
abbrev S1x1024 : Shape := ⟨2, ![1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .hbm, ⟨2, _⟩ => ⟨S2x1024, .f32⟩
  | .local _ .vmem, ⟨0, _⟩ => ⟨S2x1024, .f32⟩
  | .local _ .vmem, ⟨1, _⟩ => ⟨S1x1024, .f32⟩
  | .local _ .vmem, ⟨2, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LbGradRefIdeal.lean ====
abbrev S2x1024 : Shape := ⟨2, ![2, 1024]⟩
abbrev S1x1024 : Shape := ⟨2, ![1, 1024]⟩
abbrev S_ : Shape := ⟨0, ![]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .hbm, ⟨2, _⟩ => ⟨S_, .f32⟩
  | .hbm, ⟨3, _⟩ => ⟨S1024, .f32⟩
  | .hbm, ⟨4, _⟩ => ⟨S1x1024, .f32⟩
  | .hbm, ⟨5, _⟩ => ⟨S2x1024, .f32⟩
  | .hbm, ⟨6, _⟩ => ⟨S2x1024, .i1⟩
  | .hbm, ⟨7, _⟩ => ⟨S2x1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .i1⟩
  | .hbm, ⟨16, _⟩ => ⟨S_, .f32⟩
  | .hbm, ⟨17, _⟩ => ⟨S1024, .f32⟩
  | .hbm, ⟨18, _⟩ => ⟨S1024, .i1⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S2x1024, .f32⟩
  | .hbm, ⟨29, _⟩ => ⟨S2x1024, .f32⟩
  | .hbm, ⟨30, _⟩ => ⟨S2x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2x1024, .f32⟩
  | .hbm, ⟨35, _⟩ => ⟨S2x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S_, .f32⟩
  | .hbm, ⟨42, _⟩ => ⟨S2x1024, .f32⟩
  | .hbm, ⟨43, _⟩ => ⟨S1x1024, .f32⟩
  | .hbm, ⟨44, _⟩ => ⟨S_, .f32⟩
  | .hbm, ⟨45, _⟩ => ⟨S2x1024, .f32⟩
  | .hbm, ⟨46, _⟩ => ⟨S_, .f32⟩
  | .hbm, ⟨47, _⟩ => ⟨S_, .f32⟩
  | .hbm, ⟨48, _⟩ => ⟨S2x1024, .f32⟩
  | .hbm, ⟨49, _⟩ => ⟨S2x1024, .f32⟩
  | .hbm, ⟨50, _⟩ => ⟨S2x1024, .f32⟩
  | .hbm, ⟨51, _⟩ => ⟨S2x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S1x1024, .f32⟩
  | .hbm, ⟨56, _⟩ => ⟨S2x1024, .f32⟩
  | .hbm, ⟨57, _⟩ => ⟨S2x1024, .f32⟩
  | .hbm, ⟨58, _⟩ => ⟨S_, .f32⟩
  | .hbm, ⟨59, _⟩ => ⟨S1024, .f32⟩
  | .hbm, ⟨60, _⟩ => ⟨S2x1024, .f32⟩
  | .hbm, ⟨61, _⟩ => ⟨S2x1024, .f32⟩
  | .hbm, ⟨62, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_call1_call0_cst : Ref sig .tc := ⟨.hbm, 46, rfl⟩
abbrev main_call1_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== OutLoss.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S2048 : Shape := ⟨1, ![2048]⟩
abbrev S1 : Shape := ⟨1, ![1]⟩
abbrev S1x1 : Shape := ⟨2, ![1, 1]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== OutLossRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S1x1 : Shape := ⟨2, ![1, 1]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2048x2048, .bf16⟩
  | .hbm, ⟨37, _⟩ => ⟨S1x1, .f32⟩
  | .hbm, ⟨38, _⟩ => ⟨S_, .i32⟩
  | .hbm, ⟨39, _⟩ => ⟨S_, .f32⟩
  | .hbm, ⟨40, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_call0_v0 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Norm1Bwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Norm1BwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 66
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x2048, .f32⟩
  | .hbm, ⟨53, _⟩ => ⟨S2048x2048, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Norm2Bwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 17
  | .vmem => 19
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S256x2048, .bf16⟩
  | .local _ .vmem, ⟨18, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Norm2BwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 79
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S2048x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== QkNormBwd.lean ====
abbrev S2048x7168 : Shape := ⟨2, ![2048, 7168]⟩
abbrev S2048x1024 : Shape := ⟨2, ![2048, 1024]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S128 : Shape := ⟨1, ![128]⟩

abbrev nBuf : Space → Nat
  | .hbm => 11
  | .vmem => 20
  | .smem => 0
  | _ => 0

abbrev bufTy : (tb : Table) → Fin (tcTables nBuf tb) → BufTy
  | .hbm, ⟨0, _⟩ => ⟨S2048x7168, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x128, .f32⟩
  | .hbm, ⟨5, _⟩ => ⟨S1x128, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S1x128, .f32⟩
  | .hbm, ⟨10, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x128, .f32⟩
  | .local _ .vmem, ⟨11, _⟩ => ⟨S1x128, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S1x128, .f32⟩
  | .local _ .vmem, ⟨19, _⟩ => ⟨S1x128, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== QkNormBwdRefIdeal.lean ====
abbrev S2048x7168 : Shape := ⟨2, ![2048, 7168]⟩
abbrev S2048x1024 : Shape := ⟨2, ![2048, 1024]⟩
abbrev S1x128 : Shape := ⟨2, ![1, 128]⟩
abbrev S2048x8x128 : Shape := ⟨3, ![2048, 8, 128]⟩
abbrev S8x128 : Shape := ⟨2, ![8, 128]⟩
abbrev S_ : Shape := ⟨0, ![]⟩
abbrev S2048x8 : Shape := ⟨2, ![2048, 8]⟩
abbrev S2048x8x1 : Shape := ⟨3, ![2048, 8, 1]⟩
abbrev S1x8x128 : Shape := ⟨3, ![1, 8, 128]⟩
abbrev S128 : Shape := ⟨1, ![128]⟩

abbrev nBuf : Space → Nat
  | .hbm => 117
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x128, .f32⟩
  | .hbm, ⟨5, _⟩ => ⟨S1x128, .f32⟩
  | .hbm, ⟨6, _⟩ => ⟨S2048x1024, .f32⟩
  | .hbm, ⟨7, _⟩ => ⟨S2048x1024, .f32⟩
  | .hbm, ⟨8, _⟩ => ⟨S2048x8x128, .f32⟩
  | .hbm, ⟨9, _⟩ => ⟨S8x128, .f32⟩
  | .hbm, ⟨10, _⟩ => ⟨S2048x8x128, .f32⟩
  | .hbm, ⟨11, _⟩ => ⟨S_, .f32⟩
  | .hbm, ⟨12, _⟩ => ⟨S2048x8, .f32⟩
  | .hbm, ⟨13, _⟩ => ⟨S2048x8x1, .f32⟩
  | .hbm, ⟨14, _⟩ => ⟨S_, .f32⟩
  | .hbm, ⟨15, _⟩ => ⟨S2048x8x1, .f32⟩
  | .hbm, ⟨16, _⟩ => ⟨S2048x8x1, .f32⟩
  | .hbm, ⟨17, _⟩ => ⟨S_, .f32⟩
  | .hbm, ⟨18, _⟩ => ⟨S2048x8x1, .f32⟩
  | .hbm, ⟨19, _⟩ => ⟨S2048x8x1, .f32⟩
  | .hbm, ⟨20, _⟩ => ⟨S2048x8x1, .f32⟩
  | .hbm, ⟨21, _⟩ => ⟨S2048x8x1, .f32⟩
  | .hbm, ⟨22, _⟩ => ⟨S_, .f32⟩
  | .hbm, ⟨23, _⟩ => ⟨S2048x8x1, .f32⟩
  | .hbm, ⟨24, _⟩ => ⟨S2048x8x1, .f32⟩
  | .hbm, ⟨25, _⟩ => ⟨S2048x8x128, .f32⟩
  | .hbm, ⟨26, _⟩ => ⟨S2048x8x128, .f32⟩
  | .hbm, ⟨27, _⟩ => ⟨S1x8x128, .f32⟩
  | .hbm, ⟨28, _⟩ => ⟨S2048x8x128, .f32⟩
  | .hbm, ⟨29, _⟩ => ⟨S2048x8x128, .f32⟩
  | .hbm, ⟨30, _⟩ => ⟨S2048x8x128, .f32⟩
  | .hbm, ⟨31, _⟩ => ⟨S8x128, .f32⟩
  | .hbm, ⟨32, _⟩ => ⟨S2048x8x128, .f32⟩
  | .hbm, ⟨33, _⟩ => ⟨S_, .f32⟩
  | .hbm, ⟨34, _⟩ => ⟨S2048x8, .f32⟩
  | .hbm, ⟨35, _⟩ => ⟨S2048x8x1, .f32⟩
  | .hbm, ⟨36, _⟩ => ⟨S_, .f32⟩
  | .hbm, ⟨37, _⟩ => ⟨S2048x8x1, .f32⟩
  | .hbm, ⟨38, _⟩ => ⟨S2048x8x1, .f32⟩
  | .hbm, ⟨39, _⟩ => ⟨S_, .f32⟩
  | .hbm, ⟨40, _⟩ => ⟨S2048x8x1, .f32⟩
  | .hbm, ⟨41, _⟩ => ⟨S2048x8x1, .f32⟩
  | .hbm, ⟨42, _⟩ => ⟨S2048x8x1, .f32⟩
  | .hbm, ⟨43, _⟩ => ⟨S2048x8x1, .f32⟩
  | .hbm, ⟨44, _⟩ => ⟨S_, .f32⟩
  | .hbm, ⟨45, _⟩ => ⟨S2048x8x1, .f32⟩
  | .hbm, ⟨46, _⟩ => ⟨S2048x8x1, .f32⟩
  | .hbm, ⟨47, _⟩ => ⟨S2048x8x128, .f32⟩
  | .hbm, ⟨48, _⟩ => ⟨S2048x8x128, .f32⟩
  | .hbm, ⟨49, _⟩ => ⟨S1x8x128, .f32⟩
  | .hbm, ⟨50, _⟩ => ⟨S2048x8x128, .f32⟩
  | .hbm, ⟨51, _⟩ => ⟨S2048x8x128, .f32⟩
  | .hbm, ⟨52, _⟩ => ⟨S2048x1024, .f32⟩
  | .hbm, ⟨53, _⟩ => ⟨S2048x1024, .f32⟩
  | .hbm, ⟨54, _⟩ => ⟨S2048x8x128, .f32⟩
  | .hbm, ⟨55, _⟩ => ⟨S2048x8x128, .f32⟩
  | .hbm, ⟨56, _⟩ => ⟨S2048x8x128, .f32⟩
  | .hbm, ⟨57, _⟩ => ⟨S_, .f32⟩
  | .hbm, ⟨58, _⟩ => ⟨S8x128, .f32⟩
  | .hbm, ⟨59, _⟩ => ⟨S1x8x128, .f32⟩
  | .hbm, ⟨60, _⟩ => ⟨S2048x8x128, .f32⟩
  | .hbm, ⟨61, _⟩ => ⟨S2048x8x128, .f32⟩
  | .hbm, ⟨62, _⟩ => ⟨S_, .f32⟩
  | .hbm, ⟨63, _⟩ => ⟨S8x128, .f32⟩
  | .hbm, ⟨64, _⟩ => ⟨S2048x8x128, .f32⟩
  | .hbm, ⟨65, _⟩ => ⟨S_, .f32⟩
  | .hbm, ⟨66, _⟩ => ⟨S2048x8, .f32⟩
  | .hbm, ⟨67, _⟩ => ⟨S2048x8x1, .f32⟩
  | .hbm, ⟨68, _⟩ => ⟨S2048x8x128, .f32⟩
  | .hbm, ⟨69, _⟩ => ⟨S2048x8x128, .f32⟩
  | .hbm, ⟨70, _⟩ => ⟨S2048x8x1, .f32⟩
  | .hbm, ⟨71, _⟩ => ⟨S_, .f32⟩
  | .hbm, ⟨72, _⟩ => ⟨S2048x8x1, .f32⟩
  | .hbm, ⟨73, _⟩ => ⟨S2048x8x1, .f32⟩
  | .hbm, ⟨74, _⟩ => ⟨S_, .f32⟩
  | .hbm, ⟨75, _⟩ => ⟨S2048x8, .f32⟩
  | .hbm, ⟨76, _⟩ => ⟨S2048x8x128, .f32⟩
  | .hbm, ⟨77, _⟩ => ⟨S2048x8x128, .f32⟩
  | .hbm, ⟨78, _⟩ => ⟨S2048x8x128, .f32⟩
  | .hbm, ⟨79, _⟩ => ⟨S2048x8x128, .f32⟩
  | .hbm, ⟨80, _⟩ => ⟨S2048x8x128, .f32⟩
  | .hbm, ⟨81, _⟩ => ⟨S_, .f32⟩
  | .hbm, ⟨82, _⟩ => ⟨S128, .f32⟩
  | .hbm, ⟨83, _⟩ => ⟨S1x128, .f32⟩
  | .hbm, ⟨84, _⟩ => ⟨S2048x1024, .f32⟩
  | .hbm, ⟨85, _⟩ => ⟨S2048x8x128, .f32⟩
  | .hbm, ⟨86, _⟩ => ⟨S_, .f32⟩
  | .hbm, ⟨87, _⟩ => ⟨S8x128, .f32⟩
  | .hbm, ⟨88, _⟩ => ⟨S1x8x128, .f32⟩
  | .hbm, ⟨89, _⟩ => ⟨S2048x8x128, .f32⟩
  | .hbm, ⟨90, _⟩ => ⟨S2048x8x128, .f32⟩
  | .hbm, ⟨91, _⟩ => ⟨S_, .f32⟩
  | .hbm, ⟨92, _⟩ => ⟨S8x128, .f32⟩
  | .hbm, ⟨93, _⟩ => ⟨S2048x8x128, .f32⟩
  | .hbm, ⟨94, _⟩ => ⟨S_, .f32⟩
  | .hbm, ⟨95, _⟩ => ⟨S2048x8, .f32⟩
  | .hbm, ⟨96, _⟩ => ⟨S2048x8x1, .f32⟩
  | .hbm, ⟨97, _⟩ => ⟨S2048x8x128, .f32⟩
  | .hbm, ⟨98, _⟩ => ⟨S2048x8x128, .f32⟩
  | .hbm, ⟨99, _⟩ => ⟨S2048x8x1, .f32⟩
  | .hbm, ⟨100, _⟩ => ⟨S_, .f32⟩
  | .hbm, ⟨101, _⟩ => ⟨S2048x8x1, .f32⟩
  | .hbm, ⟨102, _⟩ => ⟨S2048x8x1, .f32⟩
  | .hbm, ⟨103, _⟩ => ⟨S_, .f32⟩
  | .hbm, ⟨104, _⟩ => ⟨S2048x8, .f32⟩
  | .hbm, ⟨105, _⟩ => ⟨S2048x8x128, .f32⟩
  | .hbm, ⟨106, _⟩ => ⟨S2048x8x128, .f32⟩
  | .hbm, ⟨107, _⟩ => ⟨S2048x8x128, .f32⟩
  | .hbm, ⟨108, _⟩ => ⟨S2048x8x128, .f32⟩
  | .hbm, ⟨109, _⟩ => ⟨S2048x8x128, .f32⟩
  | .hbm, ⟨110, _⟩ => ⟨S_, .f32⟩
  | .hbm, ⟨111, _⟩ => ⟨S128, .f32⟩
  | .hbm, ⟨112, _⟩ => ⟨S1x128, .f32⟩
  | .hbm, ⟨113, _⟩ => ⟨S2048x1024, .f32⟩
  | .hbm, ⟨114, _⟩ => ⟨S2048x1024, .bf16⟩
  | .hbm, ⟨115, _⟩ => ⟨S2048x1024, .bf16⟩
  | .hbm, ⟨116, _⟩ => ⟨S2048x1024, .bf16⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_v70 : Ref sig .tc := ⟨.hbm, 92, rfl⟩
abbrev main_v71 : Ref sig .tc := ⟨.hbm, 93, rfl⟩
abbrev main_cst_15 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_16 : Ref sig .tc := ⟨.hbm, 100, rfl⟩
abbrev main_v77 : Ref sig .tc := ⟨.hbm, 101, rfl⟩
abbrev main_v78 : Ref sig .tc := ⟨.hbm, 102, rfl⟩
abbrev main_cst_17 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_18 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]
-- ==== NormFwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== ResidFwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResidFwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== QkPrep.lean ====
abbrev S2048x7168 : Shape := ⟨2, ![2048, 7168]⟩
abbrev S1x128 : Shape := ⟨2, ![1, 128]⟩
abbrev S2048x1024 : Shape := ⟨2, ![2048, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S2048x7168, .f32⟩
  | .hbm, ⟨1, _⟩ => ⟨S1x128, .f32⟩
  | .hbm, ⟨2, _⟩ => ⟨S1x128, .f32⟩
  | .hbm, ⟨3, _⟩ => ⟨S2048x1024, .f32⟩
  | .hbm, ⟨4, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkPrepRefIdeal.lean ====
abbrev S2048x7168 : Shape := ⟨2, ![2048, 7168]⟩
abbrev S1x128 : Shape := ⟨2, ![1, 128]⟩
abbrev S2048x1024 : Shape := ⟨2, ![2048, 1024]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩

abbrev nBuf : Space → Nat
  | .hbm => 41
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S1x128, .f32⟩
  | .hbm, ⟨2, _⟩ => ⟨S1x128, .f32⟩
  | .hbm, ⟨3, _⟩ => ⟨S2048x1024, .f32⟩
  | .hbm, ⟨4, _⟩ => ⟨S2048x8x128, .f32⟩
  | .hbm, ⟨5, _⟩ => ⟨S2048x8x128, .f32⟩
  | .hbm, ⟨6, _⟩ => ⟨S_, .f32⟩
  | .hbm, ⟨7, _⟩ => ⟨S2048x8, .f32⟩
  | .hbm, ⟨8, _⟩ => ⟨S2048x8x1, .f32⟩
  | .hbm, ⟨9, _⟩ => ⟨S_, .f32⟩
  | .hbm, ⟨10, _⟩ => ⟨S2048x8x1, .f32⟩
  | .hbm, ⟨11, _⟩ => ⟨S2048x8x1, .f32⟩
  | .hbm, ⟨12, _⟩ => ⟨S_, .f32⟩
  | .hbm, ⟨13, _⟩ => ⟨S2048x8x1, .f32⟩
  | .hbm, ⟨14, _⟩ => ⟨S2048x8x1, .f32⟩
  | .hbm, ⟨15, _⟩ => ⟨S2048x8x1, .f32⟩
  | .hbm, ⟨16, _⟩ => ⟨S2048x8x128, .f32⟩
  | .hbm, ⟨17, _⟩ => ⟨S2048x8x128, .f32⟩
  | .hbm, ⟨18, _⟩ => ⟨S1x1x128, .f32⟩
  | .hbm, ⟨19, _⟩ => ⟨S2048x8x128, .f32⟩
  | .hbm, ⟨20, _⟩ => ⟨S2048x8x128, .f32⟩
  | .hbm, ⟨21, _⟩ => ⟨S2048x1024, .f32⟩
  | .hbm, ⟨22, _⟩ => ⟨S2048x8x128, .f32⟩
  | .hbm, ⟨23, _⟩ => ⟨S2048x8x128, .f32⟩
  | .hbm, ⟨24, _⟩ => ⟨S_, .f32⟩
  | .hbm, ⟨25, _⟩ => ⟨S2048x8, .f32⟩
  | .hbm, ⟨26, _⟩ => ⟨S2048x8x1, .f32⟩
  | .hbm, ⟨27, _⟩ => ⟨S_, .f32⟩
  | .hbm, ⟨28, _⟩ => ⟨S2048x8x1, .f32⟩
  | .hbm, ⟨29, _⟩ => ⟨S2048x8x1, .f32⟩
  | .hbm, ⟨30, _⟩ => ⟨S_, .f32⟩
  | .hbm, ⟨31, _⟩ => ⟨S2048x8x1, .f32⟩
  | .hbm, ⟨32, _⟩ => ⟨S2048x8x1, .f32⟩
  | .hbm, ⟨33, _⟩ => ⟨S2048x8x1, .f32⟩
  | .hbm, ⟨34, _⟩ => ⟨S2048x8x128, .f32⟩
  | .hbm, ⟨35, _⟩ => ⟨S2048x8x128, .f32⟩
  | .hbm, ⟨36, _⟩ => ⟨S1x1x128, .f32⟩
  | .hbm, ⟨37, _⟩ => ⟨S2048x8x128, .f32⟩
  | .hbm, ⟨38, _⟩ => ⟨S2048x8x128, .f32⟩
  | .hbm, ⟨39, _⟩ => ⟨S2048x1024, .f32⟩
  | .hbm, ⟨40, _⟩ => ⟨S2048x1024, .f32⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Proof.Band.lean ====
/-  Banded attention with linear position biases (ALiBi), differentiated: the three gradients of one head as plain
    sums over all rows, and the fact that lets a tiled program compute them. A query sees at most 128 steps back, so
    a sum over all keys is a sum over the query's own block of 128 keys and the block before it; a sum over all
    queries of a key is one over the key's own block and the block after it. -/
module

public import Idealize.ShloMosaic.Lib.Pointwise
public import Idealize.ShloMosaic.Lib.WordCmp
public import Idealize.ShloMosaic.PureOps.Ideal

@[expose] public section

set_option maxRecDepth 16384

noncomputable section

namespace Cert.Attn

open Idealize.ShloMosaic Idealize.ShloMosaic.WordCmp

/-! ## Index words -/

/-- The number of steps from row `j` to row `t`, as the programs count them: in 32-bit words. -/
def steps (t j : ℕ) : BitVec 32 := IntOp.subi (BitVec.ofNat 32 t) (BitVec.ofNat 32 j)

/-- Steps do not change when both rows move together. -/
theorem steps_add (a t j : ℕ) : steps (a + t) (a + j) = steps t j := by
  unfold steps IntOp.subi
  rw [BitVec.ofNat_add, BitVec.ofNat_add]
  generalize BitVec.ofNat 32 a = x; generalize BitVec.ofNat 32 t = y; generalize BitVec.ofNat 32 j = z
  bv_omega

/-- Steps to a row of the block before: 128 more. -/
theorem steps_prev (a t j : ℕ) :
    steps (a + 128 + t) (a + j) = IntOp.addi (steps t j) 128#32 := by
  unfold steps IntOp.subi IntOp.addi
  rw [BitVec.ofNat_add, BitVec.ofNat_add, BitVec.ofNat_add]
  generalize BitVec.ofNat 32 a = x; generalize BitVec.ofNat 32 t = y; generalize BitVec.ofNat 32 j = z
  bv_omega

theorem steps_toInt {t j : ℕ} (ht : t < 65536) (hj : j < 65536) : (steps t j).toInt = (t : ℤ) - j := by
  unfold steps IntOp.subi
  rw [BitVec.toInt_sub, toInt_ofNat_of_lt (by omega), toInt_ofNat_of_lt (by omega)]
  exact Int.bmod_eq_of_le (by omega) (by omega)

theorem ahead_toInt {t j : ℕ} (ht : t < 65536) (hj : j < 65536) :
    (IntOp.addi (steps t j) 128#32).toInt = (t : ℤ) - j + 128 := by
  unfold IntOp.addi
  rw [BitVec.toInt_add, steps_toInt ht hj]
  exact Int.bmod_eq_of_le (by simp; omega) (by simp; omega)

/-- No key lies ahead of its query. -/
theorem sge_steps {t j : ℕ} (ht : t < 65536) (hj : j < 65536) :
    IntOp.cmpi .sge (steps t j) 0#32 = BitVec.ofBool (decide (j ≤ t)) := by
  rw [cmpi_sge_eq, steps_toInt ht hj]
  congr 1; apply decide_eq_decide.2; simp

/-- No key lies more than 128 steps behind. -/
theorem sle_steps {t j : ℕ} (ht : t < 65536) (hj : j < 65536) :
    IntOp.cmpi .sle (steps t j) 128#32 = BitVec.ofBool (decide (t ≤ j + 128)) := by
  rw [cmpi_sle_eq, steps_toInt ht hj]
  congr 1; apply decide_eq_decide.2
  have : (128#32 : BitVec 32).toInt = 128 := by decide
  omega

/-- The same test of a key in the block before its query's. -/
theorem sle_ahead {t j : ℕ} (ht : t < 65536) (hj : j < 65536) :
    IntOp.cmpi .sle (IntOp.addi (steps t j) 128#32) 128#32 = BitVec.ofBool (decide (t ≤ j)) := by
  rw [cmpi_sle_eq, ahead_toInt ht hj]
  congr 1; apply decide_eq_decide.2
  have : (128#32 : BitVec 32).toInt = 128 := by decide
  omega

/-! ## A positive finite factor and a sum -/

/-- The scale of the scores: the rational of the 32-bit float nearest to `1/√128`. -/
def scale : EReal := Ideal.ofBits .f32 0x3DB504F3#32

theorem scale_eq : ∃ r : ℝ, 0 ≤ r ∧ scale = (r : EReal) := by
  refine ⟨_, ?_, by simp [scale, Ideal.ofBits, Ideal.ieee, -EReal.coe_mul]; rfl⟩
  norm_num

theorem add_mul_scale (a b : EReal) : (a + b) * scale = a * scale + b * scale := by
  obtain ⟨r, h, e⟩ := scale_eq
  rw [e]
  exact EReal.right_distrib_of_nonneg_of_ne_top (by exact_mod_cast h) (EReal.coe_ne_top _) _ _

theorem sum_mul_scale {ι : Type} (s : Finset ι) (f : ι → EReal) : (∑ i ∈ s, f i) * scale = ∑ i ∈ s, f i * scale := by
  classical
  induction s using Finset.induction_on with
  | empty => simp
  | insert i s hi ih => rw [Finset.sum_insert hi, Finset.sum_insert hi, add_mul_scale, ih]

/-! ## One head -/

/-- What the gradients of one head are made of: its queries, keys and values, the gradient of its output, each row's
    saved log-sum and delta, and the head's slope. -/
structure Head (N : ℕ) where
  q : Fin N → Fin 128 → EReal
  k : Fin N → Fin 128 → EReal
  v : Fin N → Fin 128 → EReal
  o : Fin N → Fin 128 → EReal
  l : Fin N → EReal
  δ : Fin N → EReal
  slope : EReal

namespace Head

variable {N : ℕ} (A : Head N)

/-- The biased score less the row's log-sum, exponentiated. -/
def weight (t j : Fin N) : EReal :=
  Ideal.exp ((∑ x, A.q t x * A.k j x) * scale - A.slope * FloatOps.sitofp (F := Ideal) .f32 (steps t j) - A.l t)

/-- The probability with which row `t` attends to row `j`. -/
def prob (t j : Fin N) : EReal := if (j : ℕ) ≤ t ∧ (t : ℕ) ≤ j + 128 then A.weight t j else 0

/-- The gradient of the score. -/
def dscore (t j : Fin N) : EReal := A.prob t j * (∑ x, A.o t x * A.v j x - A.δ t)

def dq (t : Fin N) (x : Fin 128) : EReal := (∑ j, A.dscore t j * A.k j x) * scale
def dk (j : Fin N) (x : Fin 128) : EReal := (∑ t, A.dscore t j * A.q t x) * scale
def dv (j : Fin N) (x : Fin 128) : EReal := ∑ t, A.prob t j * A.o t x

theorem prob_of_not {t j : Fin N} (h : ¬ ((j : ℕ) ≤ t ∧ (t : ℕ) ≤ j + 128)) : A.prob t j = 0 := if_neg h

theorem dscore_of_not {t j : Fin N} (h : ¬ ((j : ℕ) ≤ t ∧ (t : ℕ) ≤ j + 128)) : A.dscore t j = 0 := by
  rw [dscore, A.prob_of_not h, zero_mul]

end Head

/-! ## Blocks -/

/-- The block before, or the first block itself. -/
def before {nb : ℕ} (b : Fin nb) : Fin nb := ⟨b.val - 1, by omega⟩

/-- The block after, or the last block itself. -/
def after {nb : ℕ} (b : Fin nb) : Fin nb := ⟨min (b.val + 1) (nb - 1), by have := b.isLt; omega⟩

section Blocks

variable {N nb : ℕ} (hN : nb * 128 = N)

/-- Row `r` of block `b`. -/
def row (b : Fin nb) (r : Fin 128) : Fin N := ⟨b.val * 128 + r.val, by have := b.isLt; have := r.isLt; omega⟩

/-- A sum over the blocks of which at most the block `m` and one other, `p`, if it is there, are not zero. -/
theorem sum_two {M : Type} [AddCommMonoid M] (f : Fin nb → M) (m p : Fin nb) (c : Prop) [Decidable c] (hp : c → p ≠ m)
    (h : ∀ b, b ≠ m → ¬ (c ∧ b = p) → f b = 0) : ∑ b, f b = f m + if c then f p else 0 := by
  classical
  rw [← Finset.add_sum_erase _ _ (Finset.mem_univ m)]
  congr 1
  split_ifs with hc
  · rw [Finset.sum_eq_single_of_mem p (by simp [hp hc])]
    intro b hb hbp
    exact h b (Finset.ne_of_mem_erase hb) (fun e => hbp e.2)
  · exact Finset.sum_eq_zero fun b hb => h b (Finset.ne_of_mem_erase hb) (fun e => hc e.1)

/-- The keys of a query: its own block and the block before. -/
theorem sum_keys (f : Fin N → EReal) (m : Fin nb) (r : Fin 128)
    (h : ∀ j : Fin N, ¬ ((j : ℕ) ≤ row hN m r ∧ (row hN m r : ℕ) ≤ j + 128) → f j = 0) :
    ∑ j, f j = ∑ j, f (row hN m j) + ∑ j, if 0 < m.val then f (row hN (before m) j) else 0 := by
  rw [Fin.sum_univ_tiles nb 128 hN f]
  have e := sum_two (fun b => ∑ j, f (row hN b j)) m (before m) (0 < m.val)
    (fun hc e => by have := congrArg Fin.val e; simp only [before] at this; omega)
    (fun b hb hbp => Finset.sum_eq_zero fun j _ => h _ (by
      have h1 : b.val ≠ m.val := fun e => hb (Fin.ext e)
      have h2 : ¬ (0 < m.val ∧ b.val = m.val - 1) := fun e => hbp ⟨e.1, Fin.ext e.2⟩
      have := j.isLt; have := r.isLt
      simp only [row]; omega))
  refine e.trans (congrArg _ ?_)
  split_ifs <;> simp

/-- The queries of a key: its own block and the block after. -/
theorem sum_queries (f : Fin N → EReal) (m : Fin nb) (r : Fin 128)
    (h : ∀ t : Fin N, ¬ ((row hN m r : ℕ) ≤ t ∧ (t : ℕ) ≤ row hN m r + 128) → f t = 0) :
    ∑ t, f t = ∑ t, f (row hN m t) + ∑ t, if m.val < nb - 1 then f (row hN (after m) t) else 0 := by
  rw [Fin.sum_univ_tiles nb 128 hN f]
  have e := sum_two (fun b => ∑ j, f (row hN b j)) m (after m) (m.val < nb - 1)
    (fun hc e => by have := congrArg Fin.val e; simp only [after] at this; omega)
    (fun b hb hbp => Finset.sum_eq_zero fun j _ => h _ (by
      have h1 : b.val ≠ m.val := fun e => hb (Fin.ext e)
      have h2 : ¬ (m.val < nb - 1 ∧ b.val = min (m.val + 1) (nb - 1)) := fun e => hbp ⟨e.1, Fin.ext e.2⟩
      have := j.isLt; have := r.isLt; have := b.isLt
      simp only [row]; omega))
  refine e.trans (congrArg _ ?_)
  split_ifs <;> simp

namespace Head

variable (A : Head N)

/-- The probability inside a block. -/
theorem prob_own (m : Fin nb) (r j : Fin 128) :
    A.prob (row hN m r) (row hN m j) = if j.val ≤ r.val then
      Ideal.exp ((∑ x, A.q (row hN m r) x * A.k (row hN m j) x) * scale
        - A.slope * FloatOps.sitofp (F := Ideal) .f32 (steps r j) - A.l (row hN m r)) else 0 := by
  unfold prob weight
  have e : steps (row hN m r) (row hN m j) = steps r j := steps_add _ _ _
  rw [e]
  refine if_congr ?_ rfl rfl
  have := j.isLt; have := r.isLt
  simp only [row]; omega

/-- The probability towards the block before. -/
theorem prob_before (m : Fin nb) (hm : 0 < m.val) (r j : Fin 128) :
    A.prob (row hN m r) (row hN (before m) j) = if r.val ≤ j.val then
      Ideal.exp ((∑ x, A.q (row hN m r) x * A.k (row hN (before m) j) x) * scale
        - A.slope * FloatOps.sitofp (F := Ideal) .f32 (IntOp.addi (steps r j) 128#32) - A.l (row hN m r)) else 0 := by
  unfold prob weight
  have e : steps (row hN m r) (row hN (before m) j) = IntOp.addi (steps r j) 128#32 := by
    rw [← steps_prev ((m.val - 1) * 128)]
    simp only [row, before]
    congr 1; omega
  rw [e]
  refine if_congr ?_ rfl rfl
  have := j.isLt; have := r.isLt
  simp only [row, before]; omega

/-- The probability from the block after. -/
theorem prob_after (m : Fin nb) (hm : m.val < nb - 1) (r j : Fin 128) :
    A.prob (row hN (after m) r) (row hN m j) = if r.val ≤ j.val then
      Ideal.exp ((∑ x, A.q (row hN (after m) r) x * A.k (row hN m j) x) * scale
        - A.slope * FloatOps.sitofp (F := Ideal) .f32 (IntOp.addi (steps r j) 128#32) - A.l (row hN (after m) r)) else 0 := by
  unfold prob weight
  have e : steps (row hN (after m) r) (row hN m j) = IntOp.addi (steps r j) 128#32 := by
    rw [← steps_prev (m.val * 128)]
    simp only [row, after]
    congr 1; omega
  rw [e]
  refine if_congr ?_ rfl rfl
  have := j.isLt; have := r.isLt
  simp only [row, after]; omega

/-- The queries' gradient, block by block. -/
theorem dq_row (m : Fin nb) (r x : Fin 128) :
    A.dq (row hN m r) x = (∑ j, A.dscore (row hN m r) (row hN m j) * A.k (row hN m j) x
      + ∑ j, if 0 < m.val then A.dscore (row hN m r) (row hN (before m) j) * A.k (row hN (before m) j) x else 0) * scale := by
  rw [dq, sum_keys hN _ m r fun j hj => by rw [A.dscore_of_not hj, zero_mul]]

/-- The keys' gradient, block by block. -/
theorem dk_row (m : Fin nb) (r x : Fin 128) :
    A.dk (row hN m r) x = (∑ t, A.dscore (row hN m t) (row hN m r) * A.q (row hN m t) x
      + ∑ t, if m.val < nb - 1 then A.dscore (row hN (after m) t) (row hN m r) * A.q (row hN (after m) t) x else 0) * scale := by
  rw [dk, sum_queries hN _ m r fun j hj => by rw [A.dscore_of_not hj, zero_mul]]

/-- The values' gradient, block by block. -/
theorem dv_row (m : Fin nb) (r x : Fin 128) :
    A.dv (row hN m r) x = ∑ t, A.prob (row hN m t) (row hN m r) * A.o (row hN m t) x
      + ∑ t, if m.val < nb - 1 then A.prob (row hN (after m) t) (row hN m r) * A.o (row hN (after m) t) x else 0 := by
  rw [dv, sum_queries hN _ m r fun j hj => by rw [A.prob_of_not hj, zero_mul]]

end Head

end Blocks

end Cert.Attn

end
-- ==== Proof.Arrays.lean ====
/-  The arrays of the step read as heads: 8 heads of 128 lanes each, side by side in an array of 1024 lanes. -/
module

public import proofs.«01_k».proof.Proof.Band

@[expose] public section

set_option maxRecDepth 16384

noncomputable section

namespace Cert.Attn

open Idealize.ShloMosaic

/-- A matrix of extended reals. -/
abbrev Arr (n k : ℕ) : Type := (⟨2, ![n, k]⟩ : Shape).Idx → EReal

/-- The slopes of the 8 heads, `2⁻¹` to `2⁻⁸`, as words. -/
def slopeWord : Fin 8 → BitVec 32 :=
  ![0x3F000000#32, 0x3E800000#32, 0x3E000000#32, 0x3D800000#32, 0x3D000000#32, 0x3C800000#32, 0x3C000000#32, 0x3B800000#32]

/-- Head `h` of the arrays: values are the last 1024 lanes of the projection `X0`, `X1` the queries, `X2` the keys, `X3`
    the row log-sums and `X4` the deltas (one value per row and head, repeated over its lanes; the first is read), and
    the output's gradient is the last 1024 lanes of `X5`. -/
def headOf (X0 : Arr 2048 7168) (X1 X2 X3 X4 : Arr 2048 1024) (X5 : Arr 2048 2048) (h : Fin 8) : Head 2048 where
  q t x := X1 (ix2 t ⟨h.val * 128 + x.val, by omega⟩)
  k t x := X2 (ix2 t ⟨h.val * 128 + x.val, by omega⟩)
  v t x := X0 (ix2 t ⟨6144 + (h.val * 128 + x.val), by omega⟩)
  o t x := X5 (ix2 t ⟨1024 + (h.val * 128 + x.val), by omega⟩)
  l t := X3 (ix2 t ⟨h.val * 128, by omega⟩)
  δ t := X4 (ix2 t ⟨h.val * 128, by omega⟩)
  slope := Ideal.ofBits .f32 (slopeWord h)

/-- The head a lane belongs to, and its place there. -/
def headIx (e : Fin 1024) : Fin 8 := ⟨e.val / 128, by omega⟩
def laneIx (e : Fin 1024) : Fin 128 := ⟨e.val % 128, by omega⟩

variable (X0 : Arr 2048 7168) (X1 X2 X3 X4 : Arr 2048 1024) (X5 : Arr 2048 2048)

/-- The three gradients as arrays. -/
def gradQ : Arr 2048 1024 := fun i => (headOf X0 X1 X2 X3 X4 X5 (headIx (i 1))).dq (i 0) (laneIx (i 1))
def gradK : Arr 2048 1024 := fun i => (headOf X0 X1 X2 X3 X4 X5 (headIx (i 1))).dk (i 0) (laneIx (i 1))
def gradV : Arr 2048 1024 := fun i => (headOf X0 X1 X2 X3 X4 X5 (headIx (i 1))).dv (i 0) (laneIx (i 1))

end Cert.Attn

end
-- ==== Proof.Tile.lean ====
module

public import proofs.«01_k».proof.Proof.Gen.KernelIdeal.Frame
public import proofs.«01_k».proof.Proof.Arrays
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Idealize.ShloMosaic.WordCmp Cert.Attn

variable {F : FTy → Type} [FloatOps F] [Named F]

/-- The probabilities of a block's queries against its own keys. -/
def probOwn (q kc lse : Vec F S128x128 .f32) (sl : Vec F S1x1x128 .f32) : FVec F S128x128 .f32 :=
  k0_pay16 k0_pay6 (k0_pay10 (F := F)) (k0_pay12 sl) q kc (k0_pay13 lse)

/-- The probabilities of a block's queries against the keys of the block before. -/
def probPrev (i : grid0.Coords) (q kp lse : Vec F S128x128 .f32) (sl : Vec F S1x1x128 .f32) : FVec F S128x128 .f32 :=
  k0_pay17 (k0_pay8 i) (k0_pay11 (F := F)) (k0_pay12 sl) q kp (k0_pay13 lse)

/-- The probabilities of the next block's queries against this block's keys. -/
def probNext (i : grid0.Coords) (qn kc lsen : Vec F S128x128 .f32) (sl : Vec F S1x1x128 .f32) : FVec F S128x128 .f32 :=
  k0_pay18 (k0_pay9 i) (k0_pay11 (F := F)) (k0_pay12 sl) qn kc lsen

/-- One head's block of the gradient of the queries. -/
def tileDq (i : grid0.Coords) (q kp kc vp vc lse delta dO : Vec F S128x128 .f32) (sl : Vec F S1x1x128 .f32) :
    FVec F S128x128 .f32 :=
  k0_pay22 kc kp vp dO (k0_pay14 delta) (probOwn q kc lse sl) (probPrev i q kp lse sl) (k0_pay19 dO) (k0_pay20 vc)

/-- One head's block of the gradient of the keys. -/
def tileDk (i : grid0.Coords) (q qn kc vc lse lsen delta deltan dO dOn : Vec F S128x128 .f32)
    (sl : Vec F S1x1x128 .f32) : FVec F S128x128 .f32 :=
  k0_pay23 q qn vc dOn (k0_pay14 delta) (k0_pay15 deltan) (probOwn q kc lse sl) (probNext i qn kc lsen sl)
    (k0_pay19 dO) (k0_pay20 vc)

/-- One head's block of the gradient of the values. -/
def tileDv (i : grid0.Coords) (q qn kc lse lsen dO dOn : Vec F S128x128 .f32)
    (sl : Vec F S1x1x128 .f32) : FVec F S128x128 .f32 :=
  k0_pay24 dO dOn (probOwn q kc lse sl) (probNext i qn kc lsen sl)

/-! ## At the ideal values

The tiles of block `n` of a head `A`: what they hold is stated by the hypotheses. -/

section Ideal

variable {A : Head 2048} {n : Fin 16} {i : grid0.Coords}
  {q qn kp kc vp vc lse lsen delta deltan dO dOn : Vec Ideal S128x128 .f32} {sl : Vec Ideal S1x1x128 .f32}

/-- Row `r` of block `b` of 16. -/
abbrev rowAt (b : Fin 16) (r : Fin 128) : Fin 2048 := row (nb := 16) (N := 2048) rfl b r

theorem probOwn_at (hq : ∀ r x, q (ix2 r x) = A.q (rowAt n r) x) (hkc : ∀ r x, kc (ix2 r x) = A.k (rowAt n r) x)
    (hl : ∀ r, lse (ix2 r 0) = A.l (rowAt n r)) (hs : ∀ j, sl (ix3 0 0 j) = A.slope) (r j : Fin 128) :
    probOwn q kc lse sl (ix2 r j) = A.prob (rowAt n r) (rowAt n j) := by
  have hr := r.isLt; have hj := j.isLt
  rw [Head.prob_own]
  pointwise [probOwn, k0_pay16, k0_pay6, k0_pay10, k0_pay12, k0_pay13, k0_pay4, k0_pay5]
  change Scalar.select (IntOp.cmpi .sge (steps r j) 0#32) _ _ = _
  rw [sge_steps (by omega) (by omega), select_ofBool]
  simp only [hq, hkc, hl, hs, decide_eq_true_eq]
  rfl

theorem probPrev_at (hi : (i 0).val = n.val) (hq : ∀ r x, q (ix2 r x) = A.q (rowAt n r) x)
    (hkp : ∀ r x, kp (ix2 r x) = A.k (rowAt (before n) r) x)
    (hl : ∀ r, lse (ix2 r 0) = A.l (rowAt n r)) (hs : ∀ j, sl (ix3 0 0 j) = A.slope) (r j : Fin 128) :
    probPrev i q kp lse sl (ix2 r j) = if 0 < n.val then A.prob (rowAt n r) (rowAt (before n) j) else 0 := by
  have hr := r.isLt; have hj := j.isLt; have hn := n.isLt
  pointwise [probPrev, k0_pay17, k0_pay8, k0_pay7, k0_pay11, k0_pay12, k0_pay13, k0_pay4, k0_pay5]
  rw [hi]
  change Scalar.select (IntOp.andi (IntOp.cmpi .sle (IntOp.addi (steps r j) 128#32) 128#32)
    (IntOp.cmpi .sgt (BitVec.ofNat 32 n.val) (BitVec.ofNat 32 0))) _ _ = _
  rw [sle_ahead (by omega) (by omega), cmpi_sgt_ofNat (by omega) (by omega), andi_ofBool, ← Bool.decide_and, select_ofBool]
  simp only [hq, hkp, hl, hs, decide_eq_true_eq]
  by_cases h0 : 0 < n.val
  · rw [if_pos h0, Head.prob_before _ _ _ h0]
    refine if_congr (and_iff_left h0) rfl rfl
  · rw [if_neg h0, if_neg (fun h => h0 h.2)]

theorem probNext_at (hi : (i 0).val = n.val) (hqn : ∀ r x, qn (ix2 r x) = A.q (rowAt (Cert.Attn.after n) r) x)
    (hkc : ∀ r x, kc (ix2 r x) = A.k (rowAt n r) x)
    (hln : ∀ r, lsen (ix2 r 0) = A.l (rowAt (Cert.Attn.after n) r)) (hs : ∀ j, sl (ix3 0 0 j) = A.slope) (r j : Fin 128) :
    probNext i qn kc lsen sl (ix2 r j) = if n.val < 16 - 1 then A.prob (rowAt (Cert.Attn.after n) r) (rowAt n j) else 0 := by
  have hr := r.isLt; have hj := j.isLt; have hn := n.isLt
  pointwise [probNext, k0_pay18, k0_pay9, k0_pay7, k0_pay11, k0_pay12, k0_pay13, k0_pay4, k0_pay5]
  rw [hi]
  change Scalar.select (IntOp.andi (IntOp.cmpi .sle (IntOp.addi (steps r j) 128#32) 128#32)
    (IntOp.cmpi .slt (BitVec.ofNat 32 n.val) (BitVec.ofNat 32 15))) _ _ = _
  rw [sle_ahead (by omega) (by omega), cmpi_slt_ofNat (by omega) (by omega), andi_ofBool, ← Bool.decide_and, select_ofBool]
  simp only [hqn, hkc, hln, hs, decide_eq_true_eq]
  by_cases h0 : n.val < 16 - 1
  · rw [if_pos h0, Head.prob_after _ _ _ h0]
    refine if_congr (and_iff_left h0) rfl rfl
  · rw [if_neg h0, if_neg (fun h => h0 h.2)]

theorem tileDq_at (hi : (i 0).val = n.val) (hq : ∀ r x, q (ix2 r x) = A.q (rowAt n r) x)
    (hkp : ∀ r x, kp (ix2 r x) = A.k (rowAt (before n) r) x) (hkc : ∀ r x, kc (ix2 r x) = A.k (rowAt n r) x)
    (hvp : ∀ r x, vp (ix2 r x) = A.v (rowAt (before n) r) x) (hvc : ∀ r x, vc (ix2 r x) = A.v (rowAt n r) x)
    (hl : ∀ r, lse (ix2 r 0) = A.l (rowAt n r)) (hd : ∀ r, delta (ix2 r 0) = A.δ (rowAt n r))
    (ho : ∀ r x, dO (ix2 r x) = A.o (rowAt n r) x) (hs : ∀ j, sl (ix3 0 0 j) = A.slope) (r x : Fin 128) :
    tileDq i q kp kc vp vc lse delta dO sl (ix2 r x) = A.dq (rowAt n r) x := by
  pointwise [tileDq, k0_pay22, k0_pay14, k0_pay19, k0_pay20, k0_pay21]
  simp only [probOwn_at hq hkc hl hs, probPrev_at hi hq hkp hl hs, hkp, hkc, hvp, hvc, hd, ho]
  rw [Head.dq_row (nb := 16) rfl]
  refine congrArg (· * scale) (congrArg₂ (· + ·) rfl (Finset.sum_congr rfl fun j _ => ?_))
  split_ifs
  · rfl
  · rw [zero_mul, zero_mul]

theorem tileDk_at (hi : (i 0).val = n.val) (hq : ∀ r x, q (ix2 r x) = A.q (rowAt n r) x)
    (hqn : ∀ r x, qn (ix2 r x) = A.q (rowAt (Cert.Attn.after n) r) x) (hkc : ∀ r x, kc (ix2 r x) = A.k (rowAt n r) x)
    (hvc : ∀ r x, vc (ix2 r x) = A.v (rowAt n r) x)
    (hl : ∀ r, lse (ix2 r 0) = A.l (rowAt n r)) (hln : ∀ r, lsen (ix2 r 0) = A.l (rowAt (Cert.Attn.after n) r))
    (hd : ∀ r, delta (ix2 r 0) = A.δ (rowAt n r)) (hdn : ∀ r, deltan (ix2 r 0) = A.δ (rowAt (Cert.Attn.after n) r))
    (ho : ∀ r x, dO (ix2 r x) = A.o (rowAt n r) x) (hon : ∀ r x, dOn (ix2 r x) = A.o (rowAt (Cert.Attn.after n) r) x)
    (hs : ∀ j, sl (ix3 0 0 j) = A.slope) (r x : Fin 128) :
    tileDk i q qn kc vc lse lsen delta deltan dO dOn sl (ix2 r x) = A.dk (rowAt n r) x := by
  pointwise [tileDk, k0_pay23, k0_pay14, k0_pay15, k0_pay19, k0_pay20, k0_pay21]
  simp only [probOwn_at hq hkc hl hs, probNext_at hi hqn hkc hln hs, hq, hqn, hvc, hd, hdn, ho, hon]
  rw [Head.dk_row (nb := 16) rfl]
  refine congrArg (· * scale) (congrArg₂ (· + ·) rfl (Finset.sum_congr rfl fun j _ => ?_))
  split_ifs
  · rfl
  · rw [zero_mul, zero_mul]

theorem tileDv_at (hi : (i 0).val = n.val) (hq : ∀ r x, q (ix2 r x) = A.q (rowAt n r) x)
    (hqn : ∀ r x, qn (ix2 r x) = A.q (rowAt (Cert.Attn.after n) r) x) (hkc : ∀ r x, kc (ix2 r x) = A.k (rowAt n r) x)
    (hl : ∀ r, lse (ix2 r 0) = A.l (rowAt n r)) (hln : ∀ r, lsen (ix2 r 0) = A.l (rowAt (Cert.Attn.after n) r))
    (ho : ∀ r x, dO (ix2 r x) = A.o (rowAt n r) x) (hon : ∀ r x, dOn (ix2 r x) = A.o (rowAt (Cert.Attn.after n) r) x)
    (hs : ∀ j, sl (ix3 0 0 j) = A.slope) (r x : Fin 128) :
    tileDv i q qn kc lse lsen dO dOn sl (ix2 r x) = A.dv (rowAt n r) x := by
  pointwise [tileDv, k0_pay24]
  simp only [probOwn_at hq hkc hl hs, probNext_at hi hqn hkc hln hs, ho, hon]
  rw [Head.dv_row (nb := 16) rfl]
  refine congrArg₂ (· + ·) rfl (Finset.sum_congr rfl fun j _ => ?_)
  split_ifs
  · rfl
  · rw [zero_mul]

end Ideal

end Cert.KernelIdeal.Value

end
-- ==== Proof.Heads.lean ====
module

public import proofs.«01_k».proof.Proof.Tile

@[expose] public section

set_option maxRecDepth 16384

noncomputable section

namespace Cert.KernelIdeal.Value

open Idealize.ShloMosaic Idealize.ShloMosaic.TcCoe Idealize.SL.Sem
open Cert.KernelIdeal Cert.KernelIdeal.Gen Cert.Attn

/-- The 128 lanes of head `h` of a block of rows. -/
def headTile {F : FTy → Type} (X : Vec F S128x1024 .f32) (h : Fin 8) : Vec F S128x128 .f32 :=
  fun i => X (ix2 (i 0) ⟨h.val * 128 + (i 1).val, by have : (i 1).val < 128 := (i 1).isLt; omega⟩)

/-- The slopes' row of head `h`. -/
def headSlope {F : FTy → Type} (X : Vec F S1x8x128 .f32) (h : Fin 8) : Vec F S1x1x128 .f32 :=
  fun i => X (ix3 0 h (i 2))

theorem ld_r0_1 {F : FTy → Type} (X : Vec F S128x1024 .f32) : View.ld X r0_1 = headTile X 0 := by
  funext i; idx_vars i; pointwise [headTile]; blk_ext

theorem ld_r0_3 {F : FTy → Type} (X : Vec F S128x1024 .f32) : View.ld X r0_3 = headTile X 1 := by
  funext i; idx_vars i; pointwise [headTile]; blk_ext

theorem ld_r0_5 {F : FTy → Type} (X : Vec F S128x1024 .f32) : View.ld X r0_5 = headTile X 2 := by
  funext i; idx_vars i; pointwise [headTile]; blk_ext

theorem ld_r0_7 {F : FTy → Type} (X : Vec F S128x1024 .f32) : View.ld X r0_7 = headTile X 3 := by
  funext i; idx_vars i; pointwise [headTile]; blk_ext

theorem ld_r0_9 {F : FTy → Type} (X : Vec F S128x1024 .f32) : View.ld X r0_9 = headTile X 4 := by
  funext i; idx_vars i; pointwise [headTile]; blk_ext

theorem ld_r0_11 {F : FTy → Type} (X : Vec F S128x1024 .f32) : View.ld X r0_11 = headTile X 5 := by
  funext i; idx_vars i; pointwise [headTile]; blk_ext

theorem ld_r0_13 {F : FTy → Type} (X : Vec F S128x1024 .f32) : View.ld X r0_13 = headTile X 6 := by
  funext i; idx_vars i; pointwise [headTile]; blk_ext

theorem ld_r0_15 {F : FTy → Type} (X : Vec F S128x1024 .f32) : View.ld X r0_15 = headTile X 7 := by
  funext i; idx_vars i; pointwise [headTile]; blk_ext

theorem ld_r0_0 {F : FTy → Type} (X : Vec F S1x8x128 .f32) : View.ld X r0_0 = headSlope X 0 := by
  funext i; idx_vars i; pointwise [headSlope]; blk_ext

theorem ld_r0_2 {F : FTy → Type} (X : Vec F S1x8x128 .f32) : View.ld X r0_2 = headSlope X 1 := by
  funext i; idx_vars i; pointwise [headSlope]; blk_ext

theorem ld_r0_4 {F : FTy → Type} (X : Vec F S1x8x128 .f32) : View.ld X r0_4 = headSlope X 2 := by
  funext i; idx_vars i; pointwise [headSlope]; blk_ext

theorem ld_r0_6 {F : FTy → Type} (X : Vec F S1x8x128 .f32) : View.ld X r0_6 = headSlope X 3 := by
  funext i; idx_vars i; pointwise [headSlope]; blk_ext

theorem ld_r0_8 {F : FTy → Type} (X : Vec F S1x8x128 .f32) : View.ld X r0_8 = headSlope X 4 := by
  funext i; idx_vars i; pointwise [headSlope]; blk_ext

theorem ld_r0_10 {F : FTy → Type} (X : Vec F S1x8x128 .f32) : View.ld X r0_10 = headSlope X 5 := by
  funext i; idx_vars i; pointwise [headSlope]; blk_ext

theorem ld_r0_12 {F : FTy → Type} (X : Vec F S1x8x128 .f32) : View.ld X r0_12 = headSlope X 6 := by
  funext i; idx_vars i; pointwise [headSlope]; blk_ext

theorem ld_r0_14 {F : FTy → Type} (X : Vec F S1x8x128 .f32) : View.ld X r0_14 = headSlope X 7 := by
  funext i; idx_vars i; pointwise [headSlope]; blk_ext

/-- An index of the block, as an index of its head's tile. -/
theorem ix_eq (y : S128x1024.Idx) (x : S128x128.Idx) (h0 : (y 0 : ℕ) = x 0) (h1 : (y 1 : ℕ) % 128 = x 1) :
    (ix2 (y 0) (laneIx (y 1)) : S128x128.Idx) = x := by
  idx_vars x
  exact (ix2_inj ..).2 ⟨Fin.ext h0, Fin.ext h1⟩

theorem head_eq (y : S128x1024.Idx) (h : Fin 8) (e : (y 1 : ℕ) / 128 = h.val) : headIx (y 1) = h := Fin.ext e

variable {F : FTy → Type} [FloatOps F] [Named F]

/-- The block of the queries' gradient, head by head. -/
theorem out0_13_at (i : grid0.Coords) (x0 x1 x2 x3 x4 x5 x6 x7 x8 x9 x10 x11 : Vec F S128x1024 .f32) (x12 : Vec F S1x8x128 .f32)
    (y : S128x1024.Idx) : out0_13 i x0 x1 x2 x3 x4 x5 x6 x7 x8 x9 x10 x11 x12 y
      = tileDq i (headTile x0 (headIx (y 1))) (headTile x2 (headIx (y 1))) (headTile x3 (headIx (y 1))) (headTile x4 (headIx (y 1))) (headTile x5 (headIx (y 1))) (headTile x6 (headIx (y 1))) (headTile x8 (headIx (y 1))) (headTile x10 (headIx (y 1))) (headSlope x12 (headIx (y 1))) (ix2 (y 0) (laneIx (y 1))) := by
  unfold out0_13
  canon_tiles x h
  case piece0 =>
    rw [head_eq y 7 (by omega), ix_eq y x (by omega) (by omega)]
    simp only [← ld_r0_15, ← ld_r0_14]
    rfl
  case piece1 =>
    rw [head_eq y 6 (by omega), ix_eq y x (by omega) (by omega)]
    simp only [← ld_r0_13, ← ld_r0_12]
    rfl
  case piece2 =>
    rw [head_eq y 5 (by omega), ix_eq y x (by omega) (by omega)]
    simp only [← ld_r0_11, ← ld_r0_10]
    rfl
  case piece3 =>
    rw [head_eq y 4 (by omega), ix_eq y x (by omega) (by omega)]
    simp only [← ld_r0_9, ← ld_r0_8]
    rfl
  case piece4 =>
    rw [head_eq y 3 (by omega), ix_eq y x (by omega) (by omega)]
    simp only [← ld_r0_7, ← ld_r0_6]
    rfl
  case piece5 =>
    rw [head_eq y 2 (by omega), ix_eq y x (by omega) (by omega)]
    simp only [← ld_r0_5, ← ld_r0_4]
    rfl
  case piece6 =>
    rw [head_eq y 1 (by omega), ix_eq y x (by omega) (by omega)]
    simp only [← ld_r0_3, ← ld_r0_2]
    rfl
  case piece7 =>
    rw [head_eq y 0 (by omega), ix_eq y x (by omega) (by omega)]
    simp only [← ld_r0_1, ← ld_r0_0]
    rfl

/-- The block of the keys' gradient, head by head. -/
theorem out0_14_at (i : grid0.Coords) (x0 x1 x2 x3 x4 x5 x6 x7 x8 x9 x10 x11 : Vec F S128x1024 .f32) (x12 : Vec F S1x8x128 .f32)
    (y : S128x1024.Idx) : out0_14 i x0 x1 x2 x3 x4 x5 x6 x7 x8 x9 x10 x11 x12 y
      = tileDk i (headTile x0 (headIx (y 1))) (headTile x1 (headIx (y 1))) (headTile x3 (headIx (y 1))) (headTile x5 (headIx (y 1))) (headTile x6 (headIx (y 1))) (headTile x7 (headIx (y 1))) (headTile x8 (headIx (y 1))) (headTile x9 (headIx (y 1))) (headTile x10 (headIx (y 1))) (headTile x11 (headIx (y 1))) (headSlope x12 (headIx (y 1))) (ix2 (y 0) (laneIx (y 1))) := by
  unfold out0_14
  canon_tiles x h
  case piece0 =>
    rw [head_eq y 7 (by omega), ix_eq y x (by omega) (by omega)]
    simp only [← ld_r0_15, ← ld_r0_14]
    rfl
  case piece1 =>
    rw [head_eq y 6 (by omega), ix_eq y x (by omega) (by omega)]
    simp only [← ld_r0_13, ← ld_r0_12]
    rfl
  case piece2 =>
    rw [head_eq y 5 (by omega), ix_eq y x (by omega) (by omega)]
    simp only [← ld_r0_11, ← ld_r0_10]
    rfl
  case piece3 =>
    rw [head_eq y 4 (by omega), ix_eq y x (by omega) (by omega)]
    simp only [← ld_r0_9, ← ld_r0_8]
    rfl
  case piece4 =>
    rw [head_eq y 3 (by omega), ix_eq y x (by omega) (by omega)]
    simp only [← ld_r0_7, ← ld_r0_6]
    rfl
  case piece5 =>
    rw [head_eq y 2 (by omega), ix_eq y x (by omega) (by omega)]
    simp only [← ld_r0_5, ← ld_r0_4]
    rfl
  case piece6 =>
    rw [head_eq y 1 (by omega), ix_eq y x (by omega) (by omega)]
    simp only [← ld_r0_3, ← ld_r0_2]
    rfl
  case piece7 =>
    rw [head_eq y 0 (by omega), ix_eq y x (by omega) (by omega)]
    simp only [← ld_r0_1, ← ld_r0_0]
    rfl

/-- The block of the values' gradient, head by head. -/
theorem out0_15_at (i : grid0.Coords) (x0 x1 x2 x3 x4 x5 x6 x7 x8 x9 x10 x11 : Vec F S128x1024 .f32) (x12 : Vec F S1x8x128 .f32)
    (y : S128x1024.Idx) : out0_15 i x0 x1 x2 x3 x4 x5 x6 x7 x8 x9 x10 x11 x12 y
      = tileDv i (headTile x0 (headIx (y 1))) (headTile x1 (headIx (y 1))) (headTile x3 (headIx (y 1))) (headTile x6 (headIx (y 1))) (headTile x7 (headIx (y 1))) (headTile x10 (headIx (y 1))) (headTile x11 (headIx (y 1))) (headSlope x12 (headIx (y 1))) (ix2 (y 0) (laneIx (y 1))) := by
  unfold out0_15
  canon_tiles x h
  case piece0 =>
    rw [head_eq y 7 (by omega), ix_eq y x (by omega) (by omega)]
    simp only [← ld_r0_15, ← ld_r0_14]
    rfl
  case piece1 =>
    rw [head_eq y 6 (by omega), ix_eq y x (by omega) (by omega)]
    simp only [← ld_r0_13, ← ld_r0_12]
    rfl
  case piece2 =>
    rw [head_eq y 5 (by omega), ix_eq y x (by omega) (by omega)]
    simp only [← ld_r0_11, ← ld_r0_10]
    rfl
  case piece3 =>
    rw [head_eq y 4 (by omega), ix_eq y x (by omega) (by omega)]
    simp only [← ld_r0_9, ← ld_r0_8]
    rfl
  case piece4 =>
    rw [head_eq y 3 (by omega), ix_eq y x (by omega) (by omega)]
    simp only [← ld_r0_7, ← ld_r0_6]
    rfl
  case piece5 =>
    rw [head_eq y 2 (by omega), ix_eq y x (by omega) (by omega)]
    simp only [← ld_r0_5, ← ld_r0_4]
    rfl
  case piece6 =>
    rw [head_eq y 1 (by omega), ix_eq y x (by omega) (by omega)]
    simp only [← ld_r0_3, ← ld_r0_2]
    rfl
  case piece7 =>
    rw [head_eq y 0 (by omega), ix_eq y x (by omega) (by omega)]
    simp only [← ld_r0_1, ← ld_r0_0]
    rfl

end Cert.KernelIdeal.Value

end
-- ==== Proof.Final.lean ====
module

public import proofs.«01_k».proof.Proof.Heads
public import proofs.«01_k».proof.Proof.Gen.KernelIdeal.Value

@[expose] public section

set_option maxRecDepth 16384

noncomputable section

namespace Cert.KernelIdeal.Value

open Idealize.ShloMosaic Idealize.ShloMosaic.TcCoe Idealize.SL.Sem
open Cert.KernelIdeal Cert.KernelIdeal.Gen Cert.Attn
open Idealize.ShloMosaic.Pipeline (Dat)

variable (m : (ℓ : Loc nD τ sig) → Buf (Elt Ideal) ℓ)

/-- The blocks the windows fetch at point `t` of the 16: the current rows, the rows before or the rows after. -/
theorem idx : ∀ t : Fin cfg0.N, win0_0.index t = ![t.val, 0] ∧ win0_1.index t = ![min (t.val + 1) 15, 0]
    ∧ win0_2.index t = ![t.val - 1, 0] ∧ win0_3.index t = ![t.val, 0]
    ∧ win0_4.index t = ![t.val - 1, 6] ∧ win0_5.index t = ![t.val, 6]
    ∧ win0_6.index t = ![t.val, 0] ∧ win0_7.index t = ![min (t.val + 1) 15, 0]
    ∧ win0_8.index t = ![t.val, 0] ∧ win0_9.index t = ![min (t.val + 1) 15, 0]
    ∧ win0_10.index t = ![t.val, 1] ∧ win0_11.index t = ![min (t.val + 1) 15, 1]
    ∧ win0_12.index t = ![0, 0, 0] ∧ win0_13.index t = ![t.val, 0] ∧ win0_14.index t = ![t.val, 0]
    ∧ win0_15.index t = ![t.val, 0] ∧ (grid0.coords t 0).val = t.val :=
  (by decide +kernel : ∀ t : Fin grid0.N, _)

/-- The arguments' head `h`. -/
abbrev argHead (c : Dev nD) (h : Fin 8) : Head 2048 :=
  headOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) h

/-- The grid's point as a block of rows. -/
abbrev blockOf (t : Fin cfg0.N) : Fin 16 := ⟨t.val, lt_of_lt_of_eq t.isLt N_0⟩

/-! What each window's block holds: the head's rows of the current block, of the one before or of the one after. -/

theorem at_q (c : Dev nD) (t : Fin cfg0.N) (h : Fin 8) (r x : Fin 128) :
    headTile (iblk m c 0 t) h (ix2 r x) = (argHead m c h).q (rowAt (blockOf t) r) x := by
  pointwise [headTile, headOf, rowAt, row, before, Cert.Attn.after]
  blk_ext [iblk, V, idx t]

theorem at_qn (c : Dev nD) (t : Fin cfg0.N) (h : Fin 8) (r x : Fin 128) :
    headTile (iblk m c 1 t) h (ix2 r x) = (argHead m c h).q (rowAt (Cert.Attn.after (blockOf t)) r) x := by
  pointwise [headTile, headOf, rowAt, row, before, Cert.Attn.after]
  blk_ext [iblk, V, idx t]

theorem at_kp (c : Dev nD) (t : Fin cfg0.N) (h : Fin 8) (r x : Fin 128) :
    headTile (iblk m c 2 t) h (ix2 r x) = (argHead m c h).k (rowAt (before (blockOf t)) r) x := by
  pointwise [headTile, headOf, rowAt, row, before, Cert.Attn.after]
  blk_ext [iblk, V, idx t]

theorem at_kc (c : Dev nD) (t : Fin cfg0.N) (h : Fin 8) (r x : Fin 128) :
    headTile (iblk m c 3 t) h (ix2 r x) = (argHead m c h).k (rowAt (blockOf t) r) x := by
  pointwise [headTile, headOf, rowAt, row, before, Cert.Attn.after]
  blk_ext [iblk, V, idx t]

theorem at_vp (c : Dev nD) (t : Fin cfg0.N) (h : Fin 8) (r x : Fin 128) :
    headTile (iblk m c 4 t) h (ix2 r x) = (argHead m c h).v (rowAt (before (blockOf t)) r) x := by
  pointwise [headTile, headOf, rowAt, row, before, Cert.Attn.after]
  blk_ext [iblk, V, idx t]

theorem at_vc (c : Dev nD) (t : Fin cfg0.N) (h : Fin 8) (r x : Fin 128) :
    headTile (iblk m c 5 t) h (ix2 r x) = (argHead m c h).v (rowAt (blockOf t) r) x := by
  pointwise [headTile, headOf, rowAt, row, before, Cert.Attn.after]
  blk_ext [iblk, V, idx t]

theorem at_l (c : Dev nD) (t : Fin cfg0.N) (h : Fin 8) (r : Fin 128) :
    headTile (iblk m c 6 t) h (ix2 r 0) = (argHead m c h).l (rowAt (blockOf t) r) := by
  pointwise [headTile, headOf, rowAt, row, before, Cert.Attn.after]
  blk_ext [iblk, V, idx t]

theorem at_ln (c : Dev nD) (t : Fin cfg0.N) (h : Fin 8) (r : Fin 128) :
    headTile (iblk m c 7 t) h (ix2 r 0) = (argHead m c h).l (rowAt (Cert.Attn.after (blockOf t)) r) := by
  pointwise [headTile, headOf, rowAt, row, before, Cert.Attn.after]
  blk_ext [iblk, V, idx t]

theorem at_d (c : Dev nD) (t : Fin cfg0.N) (h : Fin 8) (r : Fin 128) :
    headTile (iblk m c 8 t) h (ix2 r 0) = (argHead m c h).δ (rowAt (blockOf t) r) := by
  pointwise [headTile, headOf, rowAt, row, before, Cert.Attn.after]
  blk_ext [iblk, V, idx t]

theorem at_dn (c : Dev nD) (t : Fin cfg0.N) (h : Fin 8) (r : Fin 128) :
    headTile (iblk m c 9 t) h (ix2 r 0) = (argHead m c h).δ (rowAt (Cert.Attn.after (blockOf t)) r) := by
  pointwise [headTile, headOf, rowAt, row, before, Cert.Attn.after]
  blk_ext [iblk, V, idx t]

theorem at_o (c : Dev nD) (t : Fin cfg0.N) (h : Fin 8) (r x : Fin 128) :
    headTile (iblk m c 10 t) h (ix2 r x) = (argHead m c h).o (rowAt (blockOf t) r) x := by
  pointwise [headTile, headOf, rowAt, row, before, Cert.Attn.after]
  blk_ext [iblk, V, idx t]

theorem at_on (c : Dev nD) (t : Fin cfg0.N) (h : Fin 8) (r x : Fin 128) :
    headTile (iblk m c 11 t) h (ix2 r x) = (argHead m c h).o (rowAt (Cert.Attn.after (blockOf t)) r) x := by
  pointwise [headTile, headOf, rowAt, row, before, Cert.Attn.after]
  blk_ext [iblk, V, idx t]

/-- The slopes the program lays out are the table of slopes. -/
theorem at_slope (c : Dev nD) (t : Fin cfg0.N) (h : Fin 8) (j : Fin 128) :
    headSlope (iblk m c 12 t) h (ix3 0 0 j) = (argHead m c h).slope := by
  have hl : lit0 (S8.rowMajor (ix1 h)) = slopeWord h := by
    revert h; decide +kernel
  pointwise [headSlope, headOf]
  blk_simp [iblk, idx t]
  rw [← hl]
  have e : (win0_12.blk t).view.emb (ix3 0 h j) = (ix3 0 h j : S1x8x128.Idx) := by
    blk_ext [idx t]
  rw [e]
  entry_read
  pointwise

/-- What a point leaves for its block of the result. -/
theorem point13 (c : Dev nD) (t : Fin cfg0.N) (y : S128x1024.Idx) :
    out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = gradQ (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (ix2 (rowAt (blockOf t) (y 0)) (y 1)) := by
  rw [out0_13_at]
  exact tileDq_at (A := argHead m c (headIx (y 1))) (n := blockOf t) (idx t).2.2.2.2.2.2.2.2.2.2.2.2.2.2.2.2
    (at_q m c t _) (at_kp m c t _) (at_kc m c t _) (at_vp m c t _) (at_vc m c t _) (at_l m c t _) (at_d m c t _) (at_o m c t _) (at_slope m c t _) _ _

theorem final13 (c : Dev nD) : (dats m 0 c).arrAt 13 (cfgs 0).N
    = gradQ (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 13 _ (by decide +kernel) fun t _ y => ?_
  blk_simp
  rw [after0_13]
  have e : (win0_13.blk t).view.emb y = (ix2 (rowAt (blockOf t) (y 0)) (y 1) : S2048x1024.Idx) := by
    pointwise [rowAt, row]
    blk_ext [idx t]
  exact (point13 m c t y).trans (congrArg (gradQ (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) e).symm

/-- What a point leaves for its block of the result. -/
theorem point14 (c : Dev nD) (t : Fin cfg0.N) (y : S128x1024.Idx) :
    out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = gradK (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (ix2 (rowAt (blockOf t) (y 0)) (y 1)) := by
  rw [out0_14_at]
  exact tileDk_at (A := argHead m c (headIx (y 1))) (n := blockOf t) (idx t).2.2.2.2.2.2.2.2.2.2.2.2.2.2.2.2
    (at_q m c t _) (at_qn m c t _) (at_kc m c t _) (at_vc m c t _) (at_l m c t _) (at_ln m c t _) (at_d m c t _) (at_dn m c t _) (at_o m c t _) (at_on m c t _) (at_slope m c t _) _ _

theorem final14 (c : Dev nD) : (dats m 0 c).arrAt 14 (cfgs 0).N
    = gradK (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 14 _ (by decide +kernel) fun t _ y => ?_
  blk_simp
  rw [after0_14]
  have e : (win0_14.blk t).view.emb y = (ix2 (rowAt (blockOf t) (y 0)) (y 1) : S2048x1024.Idx) := by
    pointwise [rowAt, row]
    blk_ext [idx t]
  exact (point14 m c t y).trans (congrArg (gradK (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) e).symm

/-- What a point leaves for its block of the result. -/
theorem point15 (c : Dev nD) (t : Fin cfg0.N) (y : S128x1024.Idx) :
    out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = gradV (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (ix2 (rowAt (blockOf t) (y 0)) (y 1)) := by
  rw [out0_15_at]
  exact tileDv_at (A := argHead m c (headIx (y 1))) (n := blockOf t) (idx t).2.2.2.2.2.2.2.2.2.2.2.2.2.2.2.2
    (at_q m c t _) (at_qn m c t _) (at_kc m c t _) (at_l m c t _) (at_ln m c t _) (at_o m c t _) (at_on m c t _) (at_slope m c t _) _ _

theorem final15 (c : Dev nD) : (dats m 0 c).arrAt 15 (cfgs 0).N
    = gradV (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 15 _ (by decide +kernel) fun t _ y => ?_
  blk_simp
  rw [after0_15]
  have e : (win0_15.blk t).view.emb y = (ix2 (rowAt (blockOf t) (y 0)) (y 1) : S2048x1024.Idx) := by
    pointwise [rowAt, row]
    blk_ext [idx t]
  exact (point15 m c t y).trans (congrArg (gradV (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) e).symm

end Cert.KernelIdeal.Value

end
-- ==== Proof.Ref.lean ====
module

public import proofs.«01_k».proof.Proof.Gen.ReferenceIdeal.Run
public import proofs.«01_k».proof.Proof.Arrays
public import Idealize.ShloMosaic.Lib.Pointwise

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Idealize.ShloMosaic.WordCmp

variable {F : FTy → Type} [FloatOps F]

/-- Which keys a query may see: at most 128 steps back, and none ahead. -/
def inBand : IVec S2048x2048 1 :=
  andi (cmpi .sge (subi (iotaInDim S2048x2048 32 0) (iotaInDim S2048x2048 32 1)) (broadcastInDim S2048x2048 ![] bcast_S_S2048x2048 (constantI S_ 32 0#32))) (cmpi .sle (subi (iotaInDim S2048x2048 32 0) (iotaInDim S2048x2048 32 1)) (broadcastInDim S2048x2048 ![] bcast_S_S2048x2048 (constantI S_ 32 128#32)))

/-- The attention probabilities the reference computes from the saved row log-sums. -/
def prob (X1 X2 X3 : FVec F S2048x1024 .f32) : FVec F S8x2048x2048 .f32 :=
  Host.exp (subf (select (broadcastInDim S8x2048x2048 ![1, 2] bcast_S2048x2048_S8x2048x2048_1_2 inBand) (addf (mulf (Host.dotGeneral dot_S2048x8x128_S2048x8x128_S8x2048x2048_2_2_0_0_1_1 none (shapeCast _ X1 shapeCasts_S2048x1024_S2048x8x128) (shapeCast _ X2 shapeCasts_S2048x1024_S2048x8x128)) (broadcastInDim S8x2048x2048 ![] bcast_S_S8x2048x2048 (constant S_ .f32 0x3DB504F3#32))) (mulf (broadcastInDim S8x2048x2048 ![0, 1, 2] bcast_S8x1x1_S8x2048x2048_0_1_2 (Host.negf (broadcastInDim S8x1x1 ![0] bcast_S8_S8x1x1_0 ((fun i => FloatOps.ofBits .f32 (lit0 (S8.rowMajor i))))))) (broadcastInDim S8x2048x2048 ![0, 1, 2] bcast_S1x2048x2048_S8x2048x2048_0_1_2 (broadcastInDim S1x2048x2048 ![1, 2] bcast_S2048x2048_S1x2048x2048_1_2 (sitofp .f32 (subi (iotaInDim S2048x2048 32 0) (iotaInDim S2048x2048 32 1))))))) (broadcastInDim S8x2048x2048 ![] bcast_S_S8x2048x2048 (id (constant S_ .f32 0xFF800000#32)))) (broadcastInDim S8x2048x2048 ![0, 1, 2] bcast_S8x2048x1_S8x2048x2048_0_1_2 (broadcastInDim S8x2048x1 ![0, 1] bcast_S8x2048_S8x2048x1_0_1 (transpose S8x2048 [1, 0] (shapeCast _ (extractStridedSlice S2048x8x1 ![0, 0, 0] (shapeCast _ X3 shapeCasts_S2048x1024_S2048x8x128) slices_S2048x8x128_S2048x8x1_0_0_0) shapeCasts_S2048x8x1_S2048x8) transposes_S2048x8_S8x2048_1_0))))

/-- The gradient of the scores, scaled. -/
def dScores (X0 : FVec F S2048x7168 .f32) (X1 X2 X3 X4 : FVec F S2048x1024 .f32) (X5 : FVec F S2048x2048 .f32) : FVec F S8x2048x2048 .f32 :=
  mulf (select (broadcastInDim S8x2048x2048 ![1, 2] bcast_S2048x2048_S8x2048x2048_1_2 inBand) (mulf (addf (broadcastInDim S8x2048x2048 ![0, 1] bcast_S8x2048_S8x2048x2048_0_1 (Host.negf (transpose S8x2048 [1, 0] (shapeCast _ (extractStridedSlice S2048x8x1 ![0, 0, 0] (shapeCast _ X4 shapeCasts_S2048x1024_S2048x8x128) slices_S2048x8x128_S2048x8x1_0_0_0) shapeCasts_S2048x8x1_S2048x8) transposes_S2048x8_S8x2048_1_0))) (Host.dotGeneral dot_S8x128x2048_S2048x8x128_S8x2048x2048_1_2_2_0_0_1 none (transpose S8x128x2048 [1, 2, 0] (shapeCast _ (extractStridedSlice S2048x1024 ![0, 1024] X5 slices_S2048x2048_S2048x1024_0_1024) shapeCasts_S2048x1024_S2048x8x128) transposes_S2048x8x128_S8x128x2048_1_2_0) (shapeCast _ (extractStridedSlice S2048x1024 ![0, 6144] X0 slices_S2048x7168_S2048x1024_0_6144) shapeCasts_S2048x1024_S2048x8x128))) (prob X1 X2 X3)) (broadcastInDim S8x2048x2048 ![] bcast_S_S8x2048x2048 (constant S_ .f32 0x00000000#32))) (broadcastInDim S8x2048x2048 ![] bcast_S_S8x2048x2048 (constant S_ .f32 0x3DB504F3#32))

/-- The reference's gradient of the queries. -/
def refDq (X0 : FVec F S2048x7168 .f32) (X1 X2 X3 X4 : FVec F S2048x1024 .f32) (X5 : FVec F S2048x2048 .f32) : FVec F S2048x1024 .f32 :=
  shapeCast _ (transpose S2048x8x128 [1, 0, 2] (Host.dotGeneral dot_S8x2048x2048_S2048x8x128_S8x2048x128_2_0_1_2_0_1 none (dScores X0 X1 X2 X3 X4 X5) (shapeCast _ X2 shapeCasts_S2048x1024_S2048x8x128)) transposes_S8x2048x128_S2048x8x128_1_0_2) shapeCasts_S2048x8x128_S2048x1024

/-- The reference's gradient of the keys. -/
def refDk (X0 : FVec F S2048x7168 .f32) (X1 X2 X3 X4 : FVec F S2048x1024 .f32) (X5 : FVec F S2048x2048 .f32) : FVec F S2048x1024 .f32 :=
  shapeCast _ (transpose S2048x8x128 [1, 0, 2] (Host.dotGeneral dot_S8x2048x2048_S2048x8x128_S8x2048x128_1_0_2_2_0_1 none (dScores X0 X1 X2 X3 X4 X5) (shapeCast _ X1 shapeCasts_S2048x1024_S2048x8x128)) transposes_S8x2048x128_S2048x8x128_1_0_2) shapeCasts_S2048x8x128_S2048x1024

/-- The reference's gradient of the values. -/
def refDv (X1 X2 X3 : FVec F S2048x1024 .f32) (X5 : FVec F S2048x2048 .f32) : FVec F S2048x1024 .f32 :=
  shapeCast _ (transpose S2048x8x128 [2, 0, 1] (Host.dotGeneral dot_S8x128x2048_S8x2048x2048_S8x128x2048_2_1_1_2_0_0 none (transpose S8x128x2048 [1, 2, 0] (shapeCast _ (extractStridedSlice S2048x1024 ![0, 1024] X5 slices_S2048x2048_S2048x1024_0_1024) shapeCasts_S2048x1024_S2048x8x128) transposes_S2048x8x128_S8x128x2048_1_2_0) (prob X1 X2 X3)) transposes_S8x128x2048_S2048x8x128_2_0_1) shapeCasts_S2048x8x128_S2048x1024

open Cert.Attn in
/-- The reference's probability is the head's. -/
theorem prob_at (X0 : FVec Ideal S2048x7168 .f32) (X1 X2 X3 X4 : FVec Ideal S2048x1024 .f32)
    (X5 : FVec Ideal S2048x2048 .f32) (h : Fin 8) (t j : Fin 2048) :
    prob X1 X2 X3 (ix3 h t j) = (headOf X0 X1 X2 X3 X4 X5 h).prob t j := by
  pointwise [prob, inBand]
  have hs : lit0 (S8.rowMajor (ix1 h)) = slopeWord h := by
    revert h; decide +kernel
  have ht := t.isLt; have hj := j.isLt
  change Ideal.exp (Scalar.select (IntOp.andi (IntOp.cmpi .sge (steps t j) 0#32) (IntOp.cmpi .sle (steps t j) 128#32)) _ _ - _) = _
  rw [sge_steps (by omega) (by omega), sle_steps (by omega) (by omega), andi_ofBool, ← Bool.decide_and,
    select_ofBool, hs]
  unfold Head.prob
  by_cases hw : (j : ℕ) ≤ t ∧ (t : ℕ) ≤ j + 128
  · rw [if_pos hw, if_pos (decide_eq_true hw), EReal.neg_mul]
    rfl
  · rw [if_neg hw, if_neg (by simpa using hw)]
    have hb : (id (constant (F := Ideal) S_ FTy.f32 4286578688#32) ix0 : EReal) = ⊥ := by
      show Ideal.ofBits .f32 4286578688#32 = ⊥
      simp [Ideal.ofBits, Ideal.ieee]
    rw [hb, sub_eq_add_neg, EReal.bot_add, Ideal.exp_bot]

open Cert.Attn in
/-- The reference's gradient of the score is the head's, scaled. -/
theorem dScores_at (X0 : FVec Ideal S2048x7168 .f32) (X1 X2 X3 X4 : FVec Ideal S2048x1024 .f32)
    (X5 : FVec Ideal S2048x2048 .f32) (h : Fin 8) (t j : Fin 2048) :
    dScores X0 X1 X2 X3 X4 X5 (ix3 h t j) = (headOf X0 X1 X2 X3 X4 X5 h).dscore t j * scale := by
  pointwise [dScores, inBand]
  rw [prob_at X0 X1 X2 X3 X4 X5 h t j]
  have ht := t.isLt; have hj := j.isLt
  change Scalar.select (IntOp.andi (IntOp.cmpi .sge (steps t j) 0#32) (IntOp.cmpi .sle (steps t j) 128#32)) _ _ = _
  rw [sge_steps (by omega) (by omega), sle_steps (by omega) (by omega), andi_ofBool, ← Bool.decide_and, select_ofBool]
  by_cases hw : (j : ℕ) ≤ t ∧ (t : ℕ) ≤ j + 128
  · rw [if_pos (decide_eq_true hw), add_comm, mul_comm (_ + _), ← sub_eq_add_neg]
    rfl
  · rw [if_neg (by simpa using hw), Head.dscore_of_not _ hw, zero_mul]

open Cert.Attn in
theorem refDq_eq (X0 : FVec Ideal S2048x7168 .f32) (X1 X2 X3 X4 : FVec Ideal S2048x1024 .f32)
    (X5 : FVec Ideal S2048x2048 .f32) : refDq X0 X1 X2 X3 X4 X5 = gradQ X0 X1 X2 X3 X4 X5 := by
  funext i
  idx_vars i
  pointwise [refDq]
  simp only [dScores_at, gradQ, Head.dq, sum_mul_scale]
  refine Finset.sum_congr rfl fun j _ => ?_
  rw [mul_right_comm]
  refine congrArg (· * scale) (congrArg₂ (· * ·) rfl (congrArg X2 (congrArg (ix2 j) (Fin.ext ?_))))
  exact (Nat.div_add_mod' i1.val 128).symm

open Cert.Attn in
theorem refDk_eq (X0 : FVec Ideal S2048x7168 .f32) (X1 X2 X3 X4 : FVec Ideal S2048x1024 .f32)
    (X5 : FVec Ideal S2048x2048 .f32) : refDk X0 X1 X2 X3 X4 X5 = gradK X0 X1 X2 X3 X4 X5 := by
  funext i
  idx_vars i
  pointwise [refDk]
  simp only [dScores_at, gradK, Head.dk, sum_mul_scale]
  refine Finset.sum_congr rfl fun j _ => ?_
  rw [mul_right_comm]
  refine congrArg (· * scale) (congrArg₂ (· * ·) rfl (congrArg X1 (congrArg (ix2 j) (Fin.ext ?_))))
  exact (Nat.div_add_mod' i1.val 128).symm

open Cert.Attn in
theorem refDv_eq (X0 : FVec Ideal S2048x7168 .f32) (X1 X2 X3 X4 : FVec Ideal S2048x1024 .f32)
    (X5 : FVec Ideal S2048x2048 .f32) : refDv X1 X2 X3 X5 = gradV X0 X1 X2 X3 X4 X5 := by
  funext i
  idx_vars i
  pointwise [refDv]
  simp only [prob_at X0 X1 X2 X3 X4 X5, gradV, Head.dv]
  refine Finset.sum_congr rfl fun j _ => ?_
  rw [mul_comm]
  refine congrArg₂ (· * ·) rfl (congrArg X5 (congrArg (ix2 j) (Fin.ext ?_)))
  exact congrArg (1024 + ·) (Nat.div_add_mod' i1.val 128).symm

end Cert.ReferenceIdeal.Value

end
-- ==== Proof.Mat.lean ====
/-  Products of matrices of extended reals, and a product taken over successive ranges of the inner index. -/
module

public import proofs.«01_k».proof.Proof.Arrays
public import Idealize.ShloMosaic.Lib.Pipeline.ValueKit

@[expose] public section

set_option maxRecDepth 16384

noncomputable section

namespace Cert.Mat

open Idealize.ShloMosaic Cert.Attn

/-- `A B`. -/
def mulNN {m k n : ℕ} (A : Arr m k) (B : Arr k n) : Arr m n := fun i => ∑ s : Fin k, A (ix2 (i 0) s) * B (ix2 s (i 1))

/-- `A Bᵀ`. -/
def mulNT {m k n : ℕ} (A : Arr m k) (B : Arr n k) : Arr m n := fun i => ∑ s : Fin k, A (ix2 (i 0) s) * B (ix2 (i 1) s)

/-- `Aᵀ B`. -/
def mulTN {m k n : ℕ} (A : Arr k m) (B : Arr k n) : Arr m n := fun i => ∑ s : Fin k, A (ix2 s (i 0)) * B (ix2 s (i 1))

/-- The terms of a place of `A B`, along the inner index. -/
def rowNN {m k n : ℕ} (A : Arr m k) (B : Arr k n) (i : Shape.Idx ⟨2, ![m, n]⟩) (s : Fin k) : EReal := A (ix2 (i 0) s) * B (ix2 s (i 1))

/-- The terms of a place of `A Bᵀ`, along the inner index. -/
def rowNT {m k n : ℕ} (A : Arr m k) (B : Arr n k) (i : Shape.Idx ⟨2, ![m, n]⟩) (s : Fin k) : EReal := A (ix2 (i 0) s) * B (ix2 (i 1) s)

/-- The rows of a matrix from row `o` on. -/
def rowsFrom {N n : ℕ} (m o : ℕ) (h : o + m ≤ N) (A : Arr N n) : Arr m n :=
  fun i => A (ix2 ⟨o + (i 0).val, by have h1 : (i 0).val < m := (i 0).isLt; omega⟩ (i 1))

/-- A sum over `4 T` places is four sums over `T` places, in order. -/
theorem sum_four {N T : ℕ} (hN : 4 * T = N) (f : Fin N → EReal) :
    ((∑ x : Fin T, f ⟨0 * T + x.val, by omega⟩ + ∑ x : Fin T, f ⟨1 * T + x.val, by omega⟩)
        + ∑ x : Fin T, f ⟨2 * T + x.val, by omega⟩) + ∑ x : Fin T, f ⟨3 * T + x.val, by omega⟩
      = ∑ s : Fin N, f s := by
  rw [Fin.sum_univ_tiles 4 T hN f, Fin.sum_univ_four]
  rfl

/-- A sum over `2 T` places is two sums over `T` places, in order. -/
theorem sum_pair {N T : ℕ} (hN : 2 * T = N) (f : Fin N → EReal) :
    ∑ x : Fin T, f ⟨0 * T + x.val, by omega⟩ + ∑ x : Fin T, f ⟨1 * T + x.val, by omega⟩ = ∑ s : Fin N, f s := by
  rw [Fin.sum_univ_tiles 2 T hN f, Fin.sum_univ_two]
  rfl

end Cert.Mat

end
-- ==== Proof.MatUpBwdW.lean ====
/-  The gradient of the up projection's weights: the kernel's tiles are the tiles of the product. -/
module

public import proofs.«01_k».proof.Proof.Mat
public import proofs.«01_k».proof.Proof.Gen.UpBwdWIdeal.Value
public import proofs.«01_k».proof.Proof.Gen.UpBwdWRefIdeal.Run

@[expose] public section

set_option maxRecDepth 16384

noncomputable section

namespace Cert.UpBwdWIdeal.Value

open Idealize.ShloMosaic Idealize.ShloMosaic.TcCoe Idealize.SL.Sem
open Cert.UpBwdWIdeal Cert.UpBwdWIdeal.Gen Cert.Attn Cert.Mat

variable (m : (ℓ : Loc nD τ sig) → Buf (Elt Ideal) ℓ)

/-- The blocks of the two operands at a point, by the block of the result. -/
theorem idx : ∀ t : Fin cfg0.N, win0_0.index t = ![0, win0_2.index t 0] ∧ win0_1.index t = ![0, win0_2.index t 1] :=
  (by decide +kernel : ∀ t : Fin grid0.N, _)

/-- One tile of the product. -/
theorem tile (x0 : FVec Ideal S2048x1024 .bf16) (x1 : FVec Ideal S2048x1024 .bf16) (a : Fin 1024) (b : Fin 1024) :
    k0_pay1 (F := Ideal) x0 x1 (ix2 a b) = ∑ s : Fin 2048, x0 (ix2 s a) * x1 (ix2 s b) := by
  pointwise [k0_pay1]

/-- What a point leaves for its block of the result. -/
theorem point (c : Dev nD) (t : Fin cfg0.N) (y : S1024x1024.Idx) : k0_pay1 (F := Ideal) (iblk m c 0 t) (iblk m c 1 t) y
    = (mulTN (m ((c : Thread nD τ).loc main_arg0)) (m ((c : Thread nD τ).loc main_arg1))) ((win0_2.blk t).view.emb y) := by
  idx_vars y
  refine (tile ..).trans ?_
  refine Finset.sum_congr rfl fun s _ => ?_
  blk_point [iblk, V, idx t]

/-- The result array is the product. -/
theorem final (c : Dev nD) : (dats m 0 c).arrAt 2 (cfgs 0).N
    = mulTN (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.UpBwdWIdeal.Value

namespace Cert.UpBwdWRefIdeal.Value

open Idealize.ShloMosaic Cert.UpBwdWRefIdeal Cert.UpBwdWRefIdeal.Gen Cert.Attn Cert.Mat

/-- The reference's result is the product. -/
theorem ref_eq (X0 : FVec Ideal S2048x2048 .f32) (X1 : FVec Ideal S2048x11264 .f32) :
    truncf (F := Ideal) .bf16 (transpose S2048x11264 [1, 0] (Host.dotGeneral dot_S2048x11264_S2048x2048_S11264x2048_0_0_1_1_n_n none X1 X0) transposes_S11264x2048_S2048x11264_1_0) bitsLt_bf16_f32
      = mulTN X0 X1 := by
  funext i
  idx_vars i
  pointwise [mulTN]
  exact Finset.sum_congr rfl fun s _ => mul_comm _ _

end Cert.UpBwdWRefIdeal.Value

end
-- ==== Proof.MatUpBwdX.lean ====
/-  The gradient of the up projection's input: the kernel's tiles are the tiles of the product. -/
module

public import proofs.«01_k».proof.Proof.Mat
public import proofs.«01_k».proof.Proof.Gen.UpBwdXIdeal.Value
public import proofs.«01_k».proof.Proof.Gen.UpBwdXRefIdeal.Run
public import Idealize.ShloMosaic.Lib.Pipeline.ReadBack

@[expose] public section

set_option maxRecDepth 16384

noncomputable section

namespace Cert.UpBwdXIdeal.Value

open Idealize.ShloMosaic Idealize.ShloMosaic.TcCoe Idealize.SL.Sem
open Cert.UpBwdXIdeal Cert.UpBwdXIdeal.Gen Cert.Attn Cert.Mat

variable (m : (ℓ : Loc nD τ sig) → Buf (Elt Ideal) ℓ)

/-- The blocks of the two operands at a point, by the block of the result. -/
theorem idx : ∀ t : Fin cfg0.N, win0_0.index t = ![win0_2.index t 0, t.val % 4] ∧ win0_1.index t = ![win0_2.index t 1, t.val % 4] :=
  (by decide +kernel : ∀ t : Fin grid0.N, _)

/-- One tile of the product. -/
theorem tile (x0 : FVec Ideal S1024x2816 .bf16) (x1 : FVec Ideal S1024x2816 .bf16) (a : Fin 1024) (b : Fin 1024) :
    k0_pay1 (F := Ideal) x0 x1 (ix2 a b) = ∑ s : Fin 2816, x0 (ix2 a s) * x1 (ix2 b s) := by
  pointwise [k0_pay1]

/-- What a point adds to its block of the result. -/
def part (c : Dev nD) (t : Fin cfg0.N) : FVec Ideal S1024x1024 .f32 := k0_pay1 (F := Ideal) (iblk m c 0 t) (iblk m c 1 t)

/-- The first point of a block of the result starts the accumulator. -/
theorem start (c : Dev nD) (t : Fin cfg0.N) (h0 : t.val % 4 = 0) (y : S1024x1024.Idx) : (outsAt0 m c t.val t.isLt).2 y = part m c t y := by
  rw [outsAt0_A m c t h0 (by omega) (by omega)]
  frame_out
  pointwise [k0_pay2, part]

/-- The points between add to it. -/
theorem step (c : Dev nD) (t : Fin cfg0.N) (h1 : 1 ≤ t.val % 4 ∧ t.val % 4 ≤ 2) (y : S1024x1024.Idx) : (outsAt0 m c t.val t.isLt).2 y
    = (show EReal from (outsAt0 m c (t.val - 1) (Nat.lt_of_le_of_lt (Nat.sub_le _ _) t.isLt)).2 y) + part m c t y := by
  rw [outsAt0_B m c t (by omega) h1 (by omega)]
  frame_out
  pointwise [k0_pay3, part]
  exact congrArg (· + _) (congrFun (read_unread_whole cc0_scratch0 (Memref.isWhole_whole _) _) y)

/-- The last point writes the sum out. -/
theorem last (c : Dev nD) (t : Fin cfg0.N) (h2 : t.val % 4 = 3) (y : S1024x1024.Idx) : (outsAt0 m c t.val t.isLt).1 y
    = (show EReal from (outsAt0 m c (t.val - 1) (Nat.lt_of_le_of_lt (Nat.sub_le _ _) t.isLt)).2 y) + part m c t y := by
  rw [outsAt0_C m c t (by omega) (by omega) h2]
  frame_out
  pointwise [k0_pay4, part]
  exact congrArg (· + _) (congrFun (read_unread_whole cc0_scratch0 (Memref.isWhole_whole _) _) y)

/-- The block of the result does not change along its 4 points. -/
theorem same : ∀ (t : Fin cfg0.N) (j : Fin 4), t.val % 4 = 3 → win0_2.index ⟨t.val - j.val, lt_of_le_of_lt (Nat.sub_le _ _) t.isLt⟩ = win0_2.index t :=
  (by decide +kernel : ∀ (t : Fin grid0.N) (j : Fin 4), _)

/-- The part of a point: the sum over its range of the inner index. -/
theorem part_at (c : Dev nD) (t : Fin cfg0.N) (h : t.val % 4 = 3) (j : Fin 4) (a : Fin 1024) (b : Fin 1024) :
    part m c ⟨t.val - j.val, lt_of_le_of_lt (Nat.sub_le _ _) t.isLt⟩ (ix2 a b)
      = ∑ x : Fin 2816, rowNT (m ((c : Thread nD τ).loc main_arg0)) (m ((c : Thread nD τ).loc main_arg1))
          ((win0_2.blk t).view.emb (ix2 a b)) ⟨(3 - j.val) * 2816 + x.val, by omega⟩ := by
  have e := same t j h
  have hj : (t.val - j.val) % 4 = 3 - j.val := by omega
  refine (tile ..).trans ?_
  refine Finset.sum_congr rfl fun s _ => ?_
  blk_point [iblk, V, rowNT, idx ⟨t.val - j.val, lt_of_le_of_lt (Nat.sub_le _ _) t.isLt⟩, e, hj]

/-- What the last point of a block writes: the sum of the parts of its four points. -/
theorem total (c : Dev nD) (t : Fin cfg0.N) (h : t.val % 4 = 3) (y : S1024x1024.Idx) : (show EReal from (outsAt0 m c t.val t.isLt).1 y)
    = ((part m c ⟨t.val - 3, lt_of_le_of_lt (Nat.sub_le _ _) t.isLt⟩ y + part m c ⟨t.val - 2, lt_of_le_of_lt (Nat.sub_le _ _) t.isLt⟩ y)
        + part m c ⟨t.val - 1, lt_of_le_of_lt (Nat.sub_le _ _) t.isLt⟩ y) + part m c ⟨t.val - 0, lt_of_le_of_lt (Nat.sub_le _ _) t.isLt⟩ y := by
  obtain ⟨k, hk⟩ := t
  obtain ⟨n, rfl⟩ : ∃ n, k = n + 3 := ⟨k - 3, by dsimp only at h; omega⟩
  dsimp only at h
  exact (last m c _ h y).trans (congrArg (· + _)
    ((step m c ⟨n + 2, by omega⟩ (by dsimp only; omega) y).trans (congrArg (· + _)
      ((step m c ⟨n + 1, by omega⟩ (by dsimp only; omega) y).trans (congrArg (· + _)
        (start m c ⟨n, by omega⟩ (by dsimp only; omega) y))))))

/-- What the last point of a block writes is the block of the product. -/
theorem point (c : Dev nD) (t : Fin cfg0.N) (h : t.val % 4 = 3) (y : S1024x1024.Idx) : (show EReal from (outsAt0 m c t.val t.isLt).1 y)
    = (mulNT (m ((c : Thread nD τ).loc main_arg0)) (m ((c : Thread nD τ).loc main_arg1))) ((win0_2.blk t).view.emb y) := by
  idx_vars y
  refine (total m c t h _).trans ?_
  exact (congrArg₂ (· + ·) (congrArg₂ (· + ·) (congrArg₂ (· + ·) (part_at m c t h 3 _ _) (part_at m c t h 2 _ _)) (part_at m c t h 1 _ _)) (part_at m c t h 0 _ _)).trans
    (sum_four (by norm_num) (rowNT (m ((c : Thread nD τ).loc main_arg0)) (m ((c : Thread nD τ).loc main_arg1)) _))

/-- The result array is the product. -/
theorem final (c : Dev nD) : (dats m 0 c).arrAt 2 (cfgs 0).N
    = mulNT (m ((c : Thread nD τ).loc main_arg0)) (m ((c : Thread nD τ).loc main_arg1)) := by
  refine (dats m 0 c).arrAt_eq_of_covers 2 _ (by decide +kernel) fun t hf y => ?_
  blk_simp
  rw [after0_2]
  have h := (flush0_2 t).mp hf
  exact (point m c t h y)

end Cert.UpBwdXIdeal.Value

namespace Cert.UpBwdXRefIdeal.Value

open Idealize.ShloMosaic Cert.UpBwdXRefIdeal Cert.UpBwdXRefIdeal.Gen Cert.Attn Cert.Mat

/-- The reference's result is the product. -/
theorem ref_eq (X0 : FVec Ideal S2048x11264 .f32) (X1 : FVec Ideal S2048x11264 .f32) :
    Host.dotGeneral (F := Ideal) dot_S2048x11264_S2048x11264_S2048x2048_1_1_0_0_n_n none X0 X1
      = mulNT X0 X1 := by
  funext i
  idx_vars i
  pointwise [mulNT]

end Cert.UpBwdXRefIdeal.Value

end
-- ==== Proof.MatDownBwdW.lean ====
/-  The gradient of the down projection's weights: the kernel's tiles are the tiles of the product. -/
module

public import proofs.«01_k».proof.Proof.Mat
public import proofs.«01_k».proof.Proof.Gen.DownBwdWIdeal.Value
public import proofs.«01_k».proof.Proof.Gen.DownBwdWRefIdeal.Run

@[expose] public section

set_option maxRecDepth 16384

noncomputable section

namespace Cert.DownBwdWIdeal.Value

open Idealize.ShloMosaic Idealize.ShloMosaic.TcCoe Idealize.SL.Sem
open Cert.DownBwdWIdeal Cert.DownBwdWIdeal.Gen Cert.Attn Cert.Mat

variable (m : (ℓ : Loc nD τ sig) → Buf (Elt Ideal) ℓ)

/-- The blocks of the two operands at a point, by the block of the result. -/
theorem idx : ∀ t : Fin cfg0.N, win0_0.index t = ![0, win0_2.index t 0] ∧ win0_1.index t = ![0, win0_2.index t 1] :=
  (by decide +kernel : ∀ t : Fin grid0.N, _)

/-- One tile of the product. -/
theorem tile (x0 : FVec Ideal S2048x1408 .bf16) (x1 : FVec Ideal S2048x1024 .bf16) (a : Fin 1408) (b : Fin 1024) :
    k0_pay1 (F := Ideal) x0 x1 (ix2 a b) = ∑ s : Fin 2048, x0 (ix2 s a) * x1 (ix2 s b) := by
  pointwise [k0_pay1]

/-- What a point leaves for its block of the result. -/
theorem point (c : Dev nD) (t : Fin cfg0.N) (y : S1408x1024.Idx) : k0_pay1 (F := Ideal) (iblk m c 0 t) (iblk m c 1 t) y
    = (mulTN (m ((c : Thread nD τ).loc main_arg0)) (m ((c : Thread nD τ).loc main_arg1))) ((win0_2.blk t).view.emb y) := by
  idx_vars y
  refine (tile ..).trans ?_
  refine Finset.sum_congr rfl fun s _ => ?_
  blk_point [iblk, V, idx t]

/-- The result array is the product. -/
theorem final (c : Dev nD) : (dats m 0 c).arrAt 2 (cfgs 0).N
    = mulTN (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.DownBwdWIdeal.Value

namespace Cert.DownBwdWRefIdeal.Value

open Idealize.ShloMosaic Cert.DownBwdWRefIdeal Cert.DownBwdWRefIdeal.Gen Cert.Attn Cert.Mat

/-- The reference's result is the product. -/
theorem ref_eq (X0 : FVec Ideal S2048x5632 .f32) (X1 : FVec Ideal S2048x2048 .f32) :
    truncf (F := Ideal) .bf16 (transpose S5632x2048 [1, 0] (Host.dotGeneral dot_S2048x2048_S2048x5632_S2048x5632_0_0_1_1_n_n none X1 X0) transposes_S2048x5632_S5632x2048_1_0) bitsLt_bf16_f32
      = mulTN X0 X1 := by
  funext i
  idx_vars i
  pointwise [mulTN]
  exact Finset.sum_congr rfl fun s _ => mul_comm _ _

end Cert.DownBwdWRefIdeal.Value

end
-- ==== Proof.MatDownBwdX.lean ====
/-  The gradient of the down projection's input: the kernel's tiles are the tiles of the product. -/
module

public import proofs.«01_k».proof.Proof.Mat
public import proofs.«01_k».proof.Proof.Gen.DownBwdXIdeal.Value
public import proofs.«01_k».proof.Proof.Gen.DownBwdXRefIdeal.Run

@[expose] public section

set_option maxRecDepth 16384

noncomputable section

namespace Cert.DownBwdXIdeal.Value

open Idealize.ShloMosaic Idealize.ShloMosaic.TcCoe Idealize.SL.Sem
open Cert.DownBwdXIdeal Cert.DownBwdXIdeal.Gen Cert.Attn Cert.Mat

variable (m : (ℓ : Loc nD τ sig) → Buf (Elt Ideal) ℓ)

/-- The blocks of the two operands at a point, by the block of the result. -/
theorem idx : ∀ t : Fin cfg0.N, win0_0.index t = ![win0_2.index t 0, 0] ∧ win0_1.index t = ![win0_2.index t 1, 0] :=
  (by decide +kernel : ∀ t : Fin grid0.N, _)

/-- One tile of the product. -/
theorem tile (x0 : FVec Ideal S1024x2048 .bf16) (x1 : FVec Ideal S1408x2048 .bf16) (a : Fin 1024) (b : Fin 1408) :
    k0_pay1 (F := Ideal) x0 x1 (ix2 a b) = ∑ s : Fin 2048, x0 (ix2 a s) * x1 (ix2 b s) := by
  pointwise [k0_pay1]

/-- What a point leaves for its block of the result. -/
theorem point (c : Dev nD) (t : Fin cfg0.N) (y : S1024x1408.Idx) : k0_pay1 (F := Ideal) (iblk m c 0 t) (iblk m c 1 t) y
    = (mulNT (m ((c : Thread nD τ).loc main_arg0)) (m ((c : Thread nD τ).loc main_arg1))) ((win0_2.blk t).view.emb y) := by
  idx_vars y
  refine (tile ..).trans ?_
  refine Finset.sum_congr rfl fun s _ => ?_
  blk_point [iblk, V, idx t]

/-- The result array is the product. -/
theorem final (c : Dev nD) : (dats m 0 c).arrAt 2 (cfgs 0).N
    = mulNT (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.DownBwdXIdeal.Value

namespace Cert.DownBwdXRefIdeal.Value

open Idealize.ShloMosaic Cert.DownBwdXRefIdeal Cert.DownBwdXRefIdeal.Gen Cert.Attn Cert.Mat

/-- The reference's result is the product. -/
theorem ref_eq (X0 : FVec Ideal S2048x2048 .f32) (X1 : FVec Ideal S5632x2048 .f32) :
    truncf (F := Ideal) .bf16 (Host.dotGeneral dot_S2048x2048_S5632x2048_S2048x5632_1_1_0_0_n_n none X0 X1) bitsLt_bf16_f32
      = mulNT X0 X1 := by
  funext i
  idx_vars i
  pointwise [mulNT]

end Cert.DownBwdXRefIdeal.Value

end
-- ==== Proof.MatProjBwdW0.lean ====
/-  The gradient of the first half of the input projection's weights: the kernel's tiles are the tiles of the product. -/
module

public import proofs.«01_k».proof.Proof.Mat
public import proofs.«01_k».proof.Proof.Gen.ProjBwdW0Ideal.Value
public import proofs.«01_k».proof.Proof.Gen.ProjBwdW0RefIdeal.Run

@[expose] public section

set_option maxRecDepth 16384

noncomputable section

namespace Cert.ProjBwdW0Ideal.Value

open Idealize.ShloMosaic Idealize.ShloMosaic.TcCoe Idealize.SL.Sem
open Cert.ProjBwdW0Ideal Cert.ProjBwdW0Ideal.Gen Cert.Attn Cert.Mat

variable (m : (ℓ : Loc nD τ sig) → Buf (Elt Ideal) ℓ)

/-- The blocks of the two operands at a point, by the block of the result. -/
theorem idx : ∀ t : Fin cfg0.N, win0_0.index t = ![0, 0] ∧ win0_1.index t = ![0, win0_2.index t 1] ∧ win0_2.index t 0 = 0 :=
  (by decide +kernel : ∀ t : Fin grid0.N, _)

/-- One tile of the product. -/
theorem tile (x0 : FVec Ideal S2048x1024 .bf16) (x1 : FVec Ideal S2048x1024 .bf16) (a : Fin 1024) (b : Fin 1024) :
    k0_pay1 (F := Ideal) x0 x1 (ix2 a b) = ∑ s : Fin 2048, x0 (ix2 s a) * x1 (ix2 s b) := by
  pointwise [k0_pay1]

/-- What a point leaves for its block of the result. -/
theorem point (c : Dev nD) (t : Fin cfg0.N) (y : S1024x1024.Idx) : k0_pay1 (F := Ideal) (iblk m c 0 t) (iblk m c 1 t) y
    = (rowsFrom 1024 0 (by decide : 0 + 1024 ≤ 2048) (mulTN (m ((c : Thread nD τ).loc main_arg0)) (m ((c : Thread nD τ).loc main_arg1)))) ((win0_2.blk t).view.emb y) := by
  idx_vars y
  refine (tile ..).trans (Eq.symm ?_)
  rw [rowsFrom, mulTN]
  refine Finset.sum_congr rfl fun s _ => Eq.symm ?_
  blk_point [iblk, V, idx t, rowsFrom]

/-- The result array is the product. -/
theorem final (c : Dev nD) : (dats m 0 c).arrAt 2 (cfgs 0).N
    = rowsFrom 1024 0 (by decide : 0 + 1024 ≤ 2048) (mulTN (m ((c : Thread nD τ).loc main_arg0)) (m ((c : Thread nD τ).loc main_arg1))) := by
  refine (dats m 0 c).arrAt_eq_of_covers 2 _ (by decide +kernel) fun t _ y => ?_
  blk_simp
  rw [after0_2]
  frame_out
  exact point m c t y

end Cert.ProjBwdW0Ideal.Value

namespace Cert.ProjBwdW0RefIdeal.Value

open Idealize.ShloMosaic Cert.ProjBwdW0RefIdeal Cert.ProjBwdW0RefIdeal.Gen Cert.Attn Cert.Mat

/-- The reference's result is the product. -/
theorem ref_eq (X0 : FVec Ideal S2048x2048 .f32) (X1 : FVec Ideal S2048x7168 .f32) :
    truncf (F := Ideal) .bf16 (extractStridedSlice S1024x7168 ![0, 0] (transpose S2048x7168 [1, 0] (Host.dotGeneral dot_S2048x7168_S2048x2048_S7168x2048_0_0_1_1_n_n none X1 X0) transposes_S7168x2048_S2048x7168_1_0) slices_S2048x7168_S1024x7168_0_0) bitsLt_bf16_f32
      = rowsFrom 1024 0 (by decide) (mulTN X0 X1) := by
  funext i
  idx_vars i
  pointwise [mulTN, rowsFrom]
  exact Finset.sum_congr rfl fun s _ => mul_comm _ _

end Cert.ProjBwdW0RefIdeal.Value

end
-- ==== Proof.MatProjBwdW1.lean ====
/-  The gradient of the second half of the input projection's weights: the kernel's tiles are the tiles of the product. -/
module

public import proofs.«01_k».proof.Proof.Mat
public import proofs.«01_k».proof.Proof.Gen.ProjBwdW1Ideal.Value
public import proofs.«01_k».proof.Proof.Gen.ProjBwdW1RefIdeal.Run

@[expose] public section

set_option maxRecDepth 16384

noncomputable section

namespace Cert.ProjBwdW1Ideal.Value

open Idealize.ShloMosaic Idealize.ShloMosaic.TcCoe Idealize.SL.Sem
open Cert.ProjBwdW1Ideal Cert.ProjBwdW1Ideal.Gen Cert.Attn Cert.Mat

variable (m : (ℓ : Loc nD τ sig) → Buf (Elt Ideal) ℓ)

/-- The blocks of the two operands at a point, by the block of the result. -/
theorem idx : ∀ t : Fin cfg0.N, win0_0.index t = ![0, 1] ∧ win0_1.index t = ![0, win0_2.index t 1] ∧ win0_2.index t 0 = 0 :=
  (by decide +kernel : ∀ t : Fin grid0.N, _)

/-- One tile of the product. -/
theorem tile (x0 : FVec Ideal S2048x1024 .bf16) (x1 : FVec Ideal S2048x1024 .bf16) (a : Fin 1024) (b : Fin 1024) :
    k0_pay1 (F := Ideal) x0 x1 (ix2 a b) = ∑ s : Fin 2048, x0 (ix2 s a) * x1 (ix2 s b) := by
  pointwise [k0_pay1]

/-- What a point leaves for its block of the result. -/
theorem point (c : Dev nD) (t : Fin cfg0.N) (y : S1024x1024.Idx) : k0_pay1 (F := Ideal) (iblk m c 0 t) (iblk m c 1 t) y
    = (rowsFrom 1024 1024 (by decide : 1024 + 1024 ≤ 2048) (mulTN (m ((c : Thread nD τ).loc main_arg0)) (m ((c : Thread nD τ).loc main_arg1)))) ((win0_2.blk t).view.emb y) := by
  idx_vars y
  refine (tile ..).trans (Eq.symm ?_)
  rw [rowsFrom, mulTN]
  refine Finset.sum_congr rfl fun s _ => Eq.symm ?_
  blk_point [iblk, V, idx t, rowsFrom]

/-- The result array is the product. -/
theorem final (c : Dev nD) : (dats m 0 c).arrAt 2 (cfgs 0).N
    = rowsFrom 1024 1024 (by decide : 1024 + 1024 ≤ 2048) (mulTN (m ((c : Thread nD τ).loc main_arg0)) (m ((c : Thread nD τ).loc main_arg1))) := by
  refine (dats m 0 c).arrAt_eq_of_covers 2 _ (by decide +kernel) fun t _ y => ?_
  blk_simp
  rw [after0_2]
  frame_out
  exact point m c t y

end Cert.ProjBwdW1Ideal.Value

namespace Cert.ProjBwdW1RefIdeal.Value

open Idealize.ShloMosaic Cert.ProjBwdW1RefIdeal Cert.ProjBwdW1RefIdeal.Gen Cert.Attn Cert.Mat

/-- The reference's result is the product. -/
theorem ref_eq (X0 : FVec Ideal S2048x2048 .f32) (X1 : FVec Ideal S2048x7168 .f32) :
    truncf (F := Ideal) .bf16 (extractStridedSlice S1024x7168 ![1024, 0] (transpose S2048x7168 [1, 0] (Host.dotGeneral dot_S2048x7168_S2048x2048_S7168x2048_0_0_1_1_n_n none X1 X0) transposes_S7168x2048_S2048x7168_1_0) slices_S2048x7168_S1024x7168_1024_0) bitsLt_bf16_f32
      = rowsFrom 1024 1024 (by decide) (mulTN X0 X1) := by
  funext i
  idx_vars i
  pointwise [mulTN, rowsFrom]
  exact Finset.sum_congr rfl fun s _ => mul_comm _ _

end Cert.ProjBwdW1RefIdeal.Value

end
-- ==== Proof.MatProjBwdX.lean ====
/-  The gradient of the input projection's input: the kernel's tiles are the tiles of the product. -/
module

public import proofs.«01_k».proof.Proof.Mat
public import proofs.«01_k».proof.Proof.Gen.ProjBwdXIdeal.Value
public import proofs.«01_k».proof.Proof.Gen.ProjBwdXRefIdeal.Run
public import Idealize.ShloMosaic.Lib.Pipeline.ReadBack

@[expose] public section

set_option maxRecDepth 16384

noncomputable section

namespace Cert.ProjBwdXIdeal.Value

open Idealize.ShloMosaic Idealize.ShloMosaic.TcCoe Idealize.SL.Sem
open Cert.ProjBwdXIdeal Cert.ProjBwdXIdeal.Gen Cert.Attn Cert.Mat

variable (m : (ℓ : Loc nD τ sig) → Buf (Elt Ideal) ℓ)

/-- The blocks of the two operands at a point, by the block of the result. -/
theorem idx : ∀ t : Fin cfg0.N, win0_0.index t = ![win0_2.index t 0, t.val % 4] ∧ win0_1.index t = ![win0_2.index t 1, t.val % 4] :=
  (by decide +kernel : ∀ t : Fin grid0.N, _)

/-- One tile of the product. -/
theorem tile (x0 : FVec Ideal S1024x1792 .bf16) (x1 : FVec Ideal S1024x1792 .bf16) (a : Fin 1024) (b : Fin 1024) :
    k0_pay1 (F := Ideal) x0 x1 (ix2 a b) = ∑ s : Fin 1792, x0 (ix2 a s) * x1 (ix2 b s) := by
  pointwise [k0_pay1]

/-- What a point adds to its block of the result. -/
def part (c : Dev nD) (t : Fin cfg0.N) : FVec Ideal S1024x1024 .f32 := k0_pay1 (F := Ideal) (iblk m c 0 t) (iblk m c 1 t)

/-- The first point of a block of the result starts the accumulator. -/
theorem start (c : Dev nD) (t : Fin cfg0.N) (h0 : t.val % 4 = 0) (y : S1024x1024.Idx) : (outsAt0 m c t.val t.isLt).2 y = part m c t y := by
  rw [outsAt0_A m c t h0 (by omega) (by omega)]
  frame_out
  pointwise [k0_pay2, part]

/-- The points between add to it. -/
theorem step (c : Dev nD) (t : Fin cfg0.N) (h1 : 1 ≤ t.val % 4 ∧ t.val % 4 ≤ 2) (y : S1024x1024.Idx) : (outsAt0 m c t.val t.isLt).2 y
    = (show EReal from (outsAt0 m c (t.val - 1) (Nat.lt_of_le_of_lt (Nat.sub_le _ _) t.isLt)).2 y) + part m c t y := by
  rw [outsAt0_B m c t (by omega) h1 (by omega)]
  frame_out
  pointwise [k0_pay3, part]
  exact congrArg (· + _) (congrFun (read_unread_whole cc0_scratch0 (Memref.isWhole_whole _) _) y)

/-- The last point writes the sum out. -/
theorem last (c : Dev nD) (t : Fin cfg0.N) (h2 : t.val % 4 = 3) (y : S1024x1024.Idx) : (outsAt0 m c t.val t.isLt).1 y
    = (show EReal from (outsAt0 m c (t.val - 1) (Nat.lt_of_le_of_lt (Nat.sub_le _ _) t.isLt)).2 y) + part m c t y := by
  rw [outsAt0_C m c t (by omega) (by omega) h2]
  frame_out
  pointwise [k0_pay4, part]
  exact congrArg (· + _) (congrFun (read_unread_whole cc0_scratch0 (Memref.isWhole_whole _) _) y)

/-- The block of the result does not change along its 4 points. -/
theorem same : ∀ (t : Fin cfg0.N) (j : Fin 4), t.val % 4 = 3 → win0_2.index ⟨t.val - j.val, lt_of_le_of_lt (Nat.sub_le _ _) t.isLt⟩ = win0_2.index t :=
  (by decide +kernel : ∀ (t : Fin grid0.N) (j : Fin 4), _)

/-- The part of a point: the sum over its range of the inner index. -/
theorem part_at (c : Dev nD) (t : Fin cfg0.N) (h : t.val % 4 = 3) (j : Fin 4) (a : Fin 1024) (b : Fin 1024) :
    part m c ⟨t.val - j.val, lt_of_le_of_lt (Nat.sub_le _ _) t.isLt⟩ (ix2 a b)
      = ∑ x : Fin 1792, rowNT (m ((c : Thread nD τ).loc main_arg0)) (m ((c : Thread nD τ).loc main_arg1))
          ((win0_2.blk t).view.emb (ix2 a b)) ⟨(3 - j.val) * 1792 + x.val, by omega⟩ := by
  have e := same t j h
  have hj : (t.val - j.val) % 4 = 3 - j.val := by omega
  refine (tile ..).trans ?_
  refine Finset.sum_congr rfl fun s _ => ?_
  blk_point [iblk, V, rowNT, idx ⟨t.val - j.val, lt_of_le_of_lt (Nat.sub_le _ _) t.isLt⟩, e, hj]

/-- What the last point of a block writes: the sum of the parts of its four points. -/
theorem total (c : Dev nD) (t : Fin cfg0.N) (h : t.val % 4 = 3) (y : S1024x1024.Idx) : (show EReal from (outsAt0 m c t.val t.isLt).1 y)
    = ((part m c ⟨t.val - 3, lt_of_le_of_lt (Nat.sub_le _ _) t.isLt⟩ y + part m c ⟨t.val - 2, lt_of_le_of_lt (Nat.sub_le _ _) t.isLt⟩ y)
        + part m c ⟨t.val - 1, lt_of_le_of_lt (Nat.sub_le _ _) t.isLt⟩ y) + part m c ⟨t.val - 0, lt_of_le_of_lt (Nat.sub_le _ _) t.isLt⟩ y := by
  obtain ⟨k, hk⟩ := t
  obtain ⟨n, rfl⟩ : ∃ n, k = n + 3 := ⟨k - 3, by dsimp only at h; omega⟩
  dsimp only at h
  exact (last m c _ h y).trans (congrArg (· + _)
    ((step m c ⟨n + 2, by omega⟩ (by dsimp only; omega) y).trans (congrArg (· + _)
      ((step m c ⟨n + 1, by omega⟩ (by dsimp only; omega) y).trans (congrArg (· + _)
        (start m c ⟨n, by omega⟩ (by dsimp only; omega) y))))))

/-- What the last point of a block writes is the block of the product. -/
theorem point (c : Dev nD) (t : Fin cfg0.N) (h : t.val % 4 = 3) (y : S1024x1024.Idx) : (show EReal from (outsAt0 m c t.val t.isLt).1 y)
    = (mulNT (m ((c : Thread nD τ).loc main_arg0)) (m ((c : Thread nD τ).loc main_arg1))) ((win0_2.blk t).view.emb y) := by
  idx_vars y
  refine (total m c t h _).trans ?_
  exact (congrArg₂ (· + ·) (congrArg₂ (· + ·) (congrArg₂ (· + ·) (part_at m c t h 3 _ _) (part_at m c t h 2 _ _)) (part_at m c t h 1 _ _)) (part_at m c t h 0 _ _)).trans
    (sum_four (by norm_num) (rowNT (m ((c : Thread nD τ).loc main_arg0)) (m ((c : Thread nD τ).loc main_arg1)) _))

/-- The result array is the product. -/
theorem final (c : Dev nD) : (dats m 0 c).arrAt 2 (cfgs 0).N
    = mulNT (m ((c : Thread nD τ).loc main_arg0)) (m ((c : Thread nD τ).loc main_arg1)) := by
  refine (dats m 0 c).arrAt_eq_of_covers 2 _ (by decide +kernel) fun t hf y => ?_
  blk_simp
  rw [after0_2]
  have h := (flush0_2 t).mp hf
  exact (point m c t h y)

end Cert.ProjBwdXIdeal.Value

namespace Cert.ProjBwdXRefIdeal.Value

open Idealize.ShloMosaic Cert.ProjBwdXRefIdeal Cert.ProjBwdXRefIdeal.Gen Cert.Attn Cert.Mat

/-- The reference's result is the product. -/
theorem ref_eq (X0 : FVec Ideal S2048x7168 .f32) (X1 : FVec Ideal S2048x7168 .f32) :
    Host.dotGeneral (F := Ideal) dot_S2048x7168_S2048x7168_S2048x2048_1_1_0_0_n_n none X0 X1
      = mulNT X0 X1 := by
  funext i
  idx_vars i
  pointwise [mulNT]

end Cert.ProjBwdXRefIdeal.Value

end
-- ==== Proof.MatMixBwdW.lean ====
/-  The gradient of the output projection's weights: the kernel's tiles are the tiles of the product. -/
module

public import proofs.«01_k».proof.Proof.Mat
public import proofs.«01_k».proof.Proof.Gen.MixBwdWIdeal.Value
public import proofs.«01_k».proof.Proof.Gen.MixBwdWRefIdeal.Run

@[expose] public section

set_option maxRecDepth 16384

noncomputable section

namespace Cert.MixBwdWIdeal.Value

open Idealize.ShloMosaic Idealize.ShloMosaic.TcCoe Idealize.SL.Sem
open Cert.MixBwdWIdeal Cert.MixBwdWIdeal.Gen Cert.Attn Cert.Mat

variable (m : (ℓ : Loc nD τ sig) → Buf (Elt Ideal) ℓ)

/-- The blocks of the two operands at a point, by the block of the result. -/
theorem idx : ∀ t : Fin cfg0.N, win0_0.index t = ![0, win0_2.index t 0] ∧ win0_1.index t = ![0, win0_2.index t 1] :=
  (by decide +kernel : ∀ t : Fin grid0.N, _)

/-- One tile of the product. -/
theorem tile (x0 : FVec Ideal S2048x1024 .bf16) (x1 : FVec Ideal S2048x1024 .bf16) (a : Fin 1024) (b : Fin 1024) :
    k0_pay1 (F := Ideal) x0 x1 (ix2 a b) = ∑ s : Fin 2048, x0 (ix2 s a) * x1 (ix2 s b) := by
  pointwise [k0_pay1]

/-- What a point leaves for its block of the result. -/
theorem point (c : Dev nD) (t : Fin cfg0.N) (y : S1024x1024.Idx) : k0_pay1 (F := Ideal) (iblk m c 0 t) (iblk m c 1 t) y
    = (mulTN (m ((c : Thread nD τ).loc main_arg0)) (m ((c : Thread nD τ).loc main_arg1))) ((win0_2.blk t).view.emb y) := by
  idx_vars y
  refine (tile ..).trans ?_
  refine Finset.sum_congr rfl fun s _ => ?_
  blk_point [iblk, V, idx t]

/-- The result array is the product. -/
theorem final (c : Dev nD) : (dats m 0 c).arrAt 2 (cfgs 0).N
    = mulTN (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.MixBwdWIdeal.Value

namespace Cert.MixBwdWRefIdeal.Value

open Idealize.ShloMosaic Cert.MixBwdWRefIdeal Cert.MixBwdWRefIdeal.Gen Cert.Attn Cert.Mat

/-- The reference's result is the product. -/
theorem ref_eq (X0 : FVec Ideal S2048x2048 .f32) (X1 : FVec Ideal S2048x2048 .f32) :
    truncf (F := Ideal) .bf16 (transpose S2048x2048 [1, 0] (Host.dotGeneral dot_S2048x2048_S2048x2048_S2048x2048_0_0_1_1_n_n none X1 X0) transposes_S2048x2048_S2048x2048_1_0) bitsLt_bf16_f32
      = mulTN X0 X1 := by
  funext i
  idx_vars i
  pointwise [mulTN]
  exact Finset.sum_congr rfl fun s _ => mul_comm _ _

end Cert.MixBwdWRefIdeal.Value

end
-- ==== Proof.MatMixBwdX.lean ====
/-  The gradient of the output projection's input: the kernel's tiles are the tiles of the product. -/
module

public import proofs.«01_k».proof.Proof.Mat
public import proofs.«01_k».proof.Proof.Gen.MixBwdXIdeal.Value
public import proofs.«01_k».proof.Proof.Gen.MixBwdXRefIdeal.Run

@[expose] public section

set_option maxRecDepth 16384

noncomputable section

namespace Cert.MixBwdXIdeal.Value

open Idealize.ShloMosaic Idealize.ShloMosaic.TcCoe Idealize.SL.Sem
open Cert.MixBwdXIdeal Cert.MixBwdXIdeal.Gen Cert.Attn Cert.Mat

variable (m : (ℓ : Loc nD τ sig) → Buf (Elt Ideal) ℓ)

/-- The blocks of the two operands at a point, by the block of the result. -/
theorem idx : ∀ t : Fin cfg0.N, win0_0.index t = ![win0_2.index t 0, 0] ∧ win0_1.index t = ![win0_2.index t 1, 0] :=
  (by decide +kernel : ∀ t : Fin grid0.N, _)

/-- One tile of the product. -/
theorem tile (x0 : FVec Ideal S1024x2048 .bf16) (x1 : FVec Ideal S1024x2048 .bf16) (a : Fin 1024) (b : Fin 1024) :
    k0_pay1 (F := Ideal) x0 x1 (ix2 a b) = ∑ s : Fin 2048, x0 (ix2 a s) * x1 (ix2 b s) := by
  pointwise [k0_pay1]

/-- What a point leaves for its block of the result. -/
theorem point (c : Dev nD) (t : Fin cfg0.N) (y : S1024x1024.Idx) : k0_pay1 (F := Ideal) (iblk m c 0 t) (iblk m c 1 t) y
    = (mulNT (m ((c : Thread nD τ).loc main_arg0)) (m ((c : Thread nD τ).loc main_arg1))) ((win0_2.blk t).view.emb y) := by
  idx_vars y
  refine (tile ..).trans ?_
  refine Finset.sum_congr rfl fun s _ => ?_
  blk_point [iblk, V, idx t]

/-- The result array is the product. -/
theorem final (c : Dev nD) : (dats m 0 c).arrAt 2 (cfgs 0).N
    = mulNT (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.MixBwdXIdeal.Value

namespace Cert.MixBwdXRefIdeal.Value

open Idealize.ShloMosaic Cert.MixBwdXRefIdeal Cert.MixBwdXRefIdeal.Gen Cert.Attn Cert.Mat

/-- The reference's result is the product. -/
theorem ref_eq (X0 : FVec Ideal S2048x2048 .f32) (X1 : FVec Ideal S2048x2048 .f32) :
    Host.dotGeneral (F := Ideal) dot_S2048x2048_S2048x2048_S2048x2048_1_1_0_0_n_n none X0 X1
      = mulNT X0 X1 := by
  funext i
  idx_vars i
  pointwise [mulNT]

end Cert.MixBwdXRefIdeal.Value

end
-- ==== Proof.MatUpFwd.lean ====
/-  The up projection: the kernel's tiles are the tiles of the product. -/
module

public import proofs.«01_k».proof.Proof.Mat
public import proofs.«01_k».proof.Proof.Gen.UpFwdIdeal.Value
public import proofs.«01_k».proof.Proof.Gen.UpFwdRefIdeal.Run

@[expose] public section

set_option maxRecDepth 16384

noncomputable section

namespace Cert.UpFwdIdeal.Value

open Idealize.ShloMosaic Idealize.ShloMosaic.TcCoe Idealize.SL.Sem
open Cert.UpFwdIdeal Cert.UpFwdIdeal.Gen Cert.Attn Cert.Mat

variable (m : (ℓ : Loc nD τ sig) → Buf (Elt Ideal) ℓ)

/-- The blocks of the two operands at a point, by the block of the result. -/
theorem idx : ∀ t : Fin cfg0.N, win0_0.index t = ![win0_2.index t 0, 0] ∧ win0_1.index t = ![0, win0_2.index t 1] :=
  (by decide +kernel : ∀ t : Fin grid0.N, _)

/-- One tile of the product. -/
theorem tile (x0 : FVec Ideal S1024x2048 .bf16) (x1 : FVec Ideal S2048x1024 .bf16) (a : Fin 1024) (b : Fin 1024) :
    k0_pay1 (F := Ideal) x0 x1 (ix2 a b) = ∑ s : Fin 2048, x0 (ix2 a s) * x1 (ix2 s b) := by
  pointwise [k0_pay1]

/-- What a point leaves for its block of the result. -/
theorem point (c : Dev nD) (t : Fin cfg0.N) (y : S1024x1024.Idx) : k0_pay1 (F := Ideal) (iblk m c 0 t) (iblk m c 1 t) y
    = (mulNN (m ((c : Thread nD τ).loc main_arg0)) (m ((c : Thread nD τ).loc main_arg1))) ((win0_2.blk t).view.emb y) := by
  idx_vars y
  refine (tile ..).trans ?_
  refine Finset.sum_congr rfl fun s _ => ?_
  blk_point [iblk, V, idx t]

/-- The result array is the product. -/
theorem final (c : Dev nD) : (dats m 0 c).arrAt 2 (cfgs 0).N
    = mulNN (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.UpFwdIdeal.Value

namespace Cert.UpFwdRefIdeal.Value

open Idealize.ShloMosaic Cert.UpFwdRefIdeal Cert.UpFwdRefIdeal.Gen Cert.Attn Cert.Mat

/-- The reference's result is the product. -/
theorem ref_eq (X0 : FVec Ideal S2048x2048 .f32) (X1 : FVec Ideal S2048x11264 .f32) :
    truncf (F := Ideal) .bf16 (Host.dotGeneral dot_S2048x2048_S2048x11264_S2048x11264_1_0_0_1_n_n none X0 X1) bitsLt_bf16_f32
      = mulNN X0 X1 := by
  funext i
  idx_vars i
  pointwise [mulNN]

end Cert.UpFwdRefIdeal.Value

end
-- ==== Proof.MatDownFwd.lean ====
/-  The down projection: the kernel's tiles are the tiles of the product. -/
module

public import proofs.«01_k».proof.Proof.Mat
public import proofs.«01_k».proof.Proof.Gen.DownFwdIdeal.Value
public import proofs.«01_k».proof.Proof.Gen.DownFwdRefIdeal.Run
public import Idealize.ShloMosaic.Lib.Pipeline.ReadBack

@[expose] public section

set_option maxRecDepth 16384

noncomputable section

namespace Cert.DownFwdIdeal.Value

open Idealize.ShloMosaic Idealize.ShloMosaic.TcCoe Idealize.SL.Sem
open Cert.DownFwdIdeal Cert.DownFwdIdeal.Gen Cert.Attn Cert.Mat

variable (m : (ℓ : Loc nD τ sig) → Buf (Elt Ideal) ℓ)

/-- The blocks of the two operands at a point, by the block of the result. -/
theorem idx : ∀ t : Fin cfg0.N, win0_0.index t = ![win0_2.index t 0, t.val % 2] ∧ win0_1.index t = ![t.val % 2, win0_2.index t 1] :=
  (by decide +kernel : ∀ t : Fin grid0.N, _)

/-- One tile of the product. -/
theorem tile (x0 : FVec Ideal S1024x2816 .bf16) (x1 : FVec Ideal S2816x1024 .bf16) (a : Fin 1024) (b : Fin 1024) :
    k0_pay1 (F := Ideal) x0 x1 (ix2 a b) = ∑ s : Fin 2816, x0 (ix2 a s) * x1 (ix2 s b) := by
  pointwise [k0_pay1]

/-- What a point adds to its block of the result. -/
def part (c : Dev nD) (t : Fin cfg0.N) : FVec Ideal S1024x1024 .f32 := k0_pay1 (F := Ideal) (iblk m c 0 t) (iblk m c 1 t)

/-- The first point of a block of the result starts the accumulator. -/
theorem start (c : Dev nD) (t : Fin cfg0.N) (h0 : t.val % 2 = 0) (y : S1024x1024.Idx) : (outsAt0 m c t.val t.isLt).2 y = part m c t y := by
  rw [outsAt0_A m c t h0 (by omega)]
  frame_out
  pointwise [k0_pay2, part]

/-- The last point writes the sum out. -/
theorem last (c : Dev nD) (t : Fin cfg0.N) (h2 : t.val % 2 = 1) (y : S1024x1024.Idx) : (outsAt0 m c t.val t.isLt).1 y
    = (show EReal from (outsAt0 m c (t.val - 1) (Nat.lt_of_le_of_lt (Nat.sub_le _ _) t.isLt)).2 y) + part m c t y := by
  rw [outsAt0_B m c t (by omega) h2]
  frame_out
  pointwise [k0_pay4, part]
  exact congrArg (· + _) (congrFun (read_unread_whole cc0_scratch0 (Memref.isWhole_whole _) _) y)

/-- The block of the result does not change along its 2 points. -/
theorem same : ∀ (t : Fin cfg0.N) (j : Fin 2), t.val % 2 = 1 → win0_2.index ⟨t.val - j.val, lt_of_le_of_lt (Nat.sub_le _ _) t.isLt⟩ = win0_2.index t :=
  (by decide +kernel : ∀ (t : Fin grid0.N) (j : Fin 2), _)

/-- The part of a point: the sum over its range of the inner index. -/
theorem part_at (c : Dev nD) (t : Fin cfg0.N) (h : t.val % 2 = 1) (j : Fin 2) (a : Fin 1024) (b : Fin 1024) :
    part m c ⟨t.val - j.val, lt_of_le_of_lt (Nat.sub_le _ _) t.isLt⟩ (ix2 a b)
      = ∑ x : Fin 2816, rowNN (m ((c : Thread nD τ).loc main_arg0)) (m ((c : Thread nD τ).loc main_arg1))
          ((win0_2.blk t).view.emb (ix2 a b)) ⟨(1 - j.val) * 2816 + x.val, by omega⟩ := by
  have e := same t j h
  have hj : (t.val - j.val) % 2 = 1 - j.val := by omega
  refine (tile ..).trans ?_
  refine Finset.sum_congr rfl fun s _ => ?_
  blk_point [iblk, V, rowNN, idx ⟨t.val - j.val, lt_of_le_of_lt (Nat.sub_le _ _) t.isLt⟩, e, hj]

/-- What the last point of a block writes: the sum of the parts of its two points. -/
theorem total (c : Dev nD) (t : Fin cfg0.N) (h : t.val % 2 = 1) (y : S1024x1024.Idx) : (show EReal from (outsAt0 m c t.val t.isLt).1 y)
    = part m c ⟨t.val - 1, lt_of_le_of_lt (Nat.sub_le _ _) t.isLt⟩ y + part m c ⟨t.val - 0, lt_of_le_of_lt (Nat.sub_le _ _) t.isLt⟩ y := by
  obtain ⟨k, hk⟩ := t
  obtain ⟨n, rfl⟩ : ∃ n, k = n + 1 := ⟨k - 1, by dsimp only at h; omega⟩
  dsimp only at h
  exact (last m c _ h y).trans (congrArg (· + _) (start m c ⟨n, by omega⟩ (by dsimp only; omega) y))

/-- What the last point of a block writes is the block of the product. -/
theorem point (c : Dev nD) (t : Fin cfg0.N) (h : t.val % 2 = 1) (y : S1024x1024.Idx) : (show EReal from (outsAt0 m c t.val t.isLt).1 y)
    = (mulNN (m ((c : Thread nD τ).loc main_arg0)) (m ((c : Thread nD τ).loc main_arg1))) ((win0_2.blk t).view.emb y) := by
  idx_vars y
  refine (total m c t h _).trans ?_
  exact (congrArg₂ (· + ·) (part_at m c t h 1 _ _) (part_at m c t h 0 _ _)).trans
    (sum_pair (by norm_num) (rowNN (m ((c : Thread nD τ).loc main_arg0)) (m ((c : Thread nD τ).loc main_arg1)) _))

/-- The result array is the product. -/
theorem final (c : Dev nD) : (dats m 0 c).arrAt 2 (cfgs 0).N
    = mulNN (m ((c : Thread nD τ).loc main_arg0)) (m ((c : Thread nD τ).loc main_arg1)) := by
  refine (dats m 0 c).arrAt_eq_of_covers 2 _ (by decide +kernel) fun t hf y => ?_
  blk_simp
  rw [after0_2]
  have h := (flush0_2 t).mp hf
  exact (point m c t h y)

end Cert.DownFwdIdeal.Value

namespace Cert.DownFwdRefIdeal.Value

open Idealize.ShloMosaic Cert.DownFwdRefIdeal Cert.DownFwdRefIdeal.Gen Cert.Attn Cert.Mat

/-- The reference's result is the product. -/
theorem ref_eq (X0 : FVec Ideal S2048x5632 .f32) (X1 : FVec Ideal S5632x2048 .f32) :
    Host.dotGeneral (F := Ideal) dot_S2048x5632_S5632x2048_S2048x2048_1_0_0_1_n_n none X0 X1
      = mulNN X0 X1 := by
  funext i
  idx_vars i
  pointwise [mulNN]

end Cert.DownFwdRefIdeal.Value

end
-- ==== Proof.MatProjFwd.lean ====
/-  The input projection: the kernel's tiles are the tiles of the product. -/
module

public import proofs.«01_k».proof.Proof.Mat
public import proofs.«01_k».proof.Proof.Gen.ProjFwdIdeal.Value
public import proofs.«01_k».proof.Proof.Gen.ProjFwdRefIdeal.Run

@[expose] public section

set_option maxRecDepth 16384

noncomputable section

namespace Cert.ProjFwdIdeal.Value

open Idealize.ShloMosaic Idealize.ShloMosaic.TcCoe Idealize.SL.Sem
open Cert.ProjFwdIdeal Cert.ProjFwdIdeal.Gen Cert.Attn Cert.Mat

variable (m : (ℓ : Loc nD τ sig) → Buf (Elt Ideal) ℓ)

/-- The blocks of the two operands at a point, by the block of the result. -/
theorem idx : ∀ t : Fin cfg0.N, win0_0.index t = ![win0_2.index t 0, 0] ∧ win0_1.index t = ![0, win0_2.index t 1] :=
  (by decide +kernel : ∀ t : Fin grid0.N, _)

/-- One tile of the product. -/
theorem tile (x0 : FVec Ideal S1024x2048 .bf16) (x1 : FVec Ideal S2048x1024 .bf16) (a : Fin 1024) (b : Fin 1024) :
    k0_pay1 (F := Ideal) x0 x1 (ix2 a b) = ∑ s : Fin 2048, x0 (ix2 a s) * x1 (ix2 s b) := by
  pointwise [k0_pay1]

/-- What a point leaves for its block of the result. -/
theorem point (c : Dev nD) (t : Fin cfg0.N) (y : S1024x1024.Idx) : k0_pay1 (F := Ideal) (iblk m c 0 t) (iblk m c 1 t) y
    = (mulNN (m ((c : Thread nD τ).loc main_arg0)) (m ((c : Thread nD τ).loc main_arg1))) ((win0_2.blk t).view.emb y) := by
  idx_vars y
  refine (tile ..).trans ?_
  refine Finset.sum_congr rfl fun s _ => ?_
  blk_point [iblk, V, idx t]

/-- The result array is the product. -/
theorem final (c : Dev nD) : (dats m 0 c).arrAt 2 (cfgs 0).N
    = mulNN (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.ProjFwdIdeal.Value

namespace Cert.ProjFwdRefIdeal.Value

open Idealize.ShloMosaic Cert.ProjFwdRefIdeal Cert.ProjFwdRefIdeal.Gen Cert.Attn Cert.Mat

/-- The reference's result is the product. -/
theorem ref_eq (X0 : FVec Ideal S2048x2048 .f32) (X1 : FVec Ideal S2048x7168 .f32) :
    Host.dotGeneral (F := Ideal) dot_S2048x2048_S2048x7168_S2048x7168_1_0_0_1_n_n none X0 X1
      = mulNN X0 X1 := by
  funext i
  idx_vars i
  pointwise [mulNN]

end Cert.ProjFwdRefIdeal.Value

end
-- ==== Proof.MatMixFwd.lean ====
/-  The output projection: the kernel's tiles are the tiles of the product. -/
module

public import proofs.«01_k».proof.Proof.Mat
public import proofs.«01_k».proof.Proof.Gen.MixFwdIdeal.Value
public import proofs.«01_k».proof.Proof.Gen.MixFwdRefIdeal.Run

@[expose] public section

set_option maxRecDepth 16384

noncomputable section

namespace Cert.MixFwdIdeal.Value

open Idealize.ShloMosaic Idealize.ShloMosaic.TcCoe Idealize.SL.Sem
open Cert.MixFwdIdeal Cert.MixFwdIdeal.Gen Cert.Attn Cert.Mat

variable (m : (ℓ : Loc nD τ sig) → Buf (Elt Ideal) ℓ)

/-- The blocks of the two operands at a point, by the block of the result. -/
theorem idx : ∀ t : Fin cfg0.N, win0_0.index t = ![win0_2.index t 0, 0] ∧ win0_1.index t = ![0, win0_2.index t 1] :=
  (by decide +kernel : ∀ t : Fin grid0.N, _)

/-- One tile of the product. -/
theorem tile (x0 : FVec Ideal S1024x2048 .bf16) (x1 : FVec Ideal S2048x1024 .bf16) (a : Fin 1024) (b : Fin 1024) :
    k0_pay1 (F := Ideal) x0 x1 (ix2 a b) = ∑ s : Fin 2048, x0 (ix2 a s) * x1 (ix2 s b) := by
  pointwise [k0_pay1]

/-- What a point leaves for its block of the result. -/
theorem point (c : Dev nD) (t : Fin cfg0.N) (y : S1024x1024.Idx) : k0_pay1 (F := Ideal) (iblk m c 0 t) (iblk m c 1 t) y
    = (mulNN (m ((c : Thread nD τ).loc main_arg0)) (m ((c : Thread nD τ).loc main_arg1))) ((win0_2.blk t).view.emb y) := by
  idx_vars y
  refine (tile ..).trans ?_
  refine Finset.sum_congr rfl fun s _ => ?_
  blk_point [iblk, V, idx t]

/-- The result array is the product. -/
theorem final (c : Dev nD) : (dats m 0 c).arrAt 2 (cfgs 0).N
    = mulNN (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.MixFwdIdeal.Value

namespace Cert.MixFwdRefIdeal.Value

open Idealize.ShloMosaic Cert.MixFwdRefIdeal Cert.MixFwdRefIdeal.Gen Cert.Attn Cert.Mat

/-- The reference's result is the product. -/
theorem ref_eq (X0 : FVec Ideal S2048x2048 .f32) (X1 : FVec Ideal S2048x2048 .f32) :
    Host.dotGeneral (F := Ideal) dot_S2048x2048_S2048x2048_S2048x2048_1_0_0_1_n_n none X0 X1
      = mulNN X0 X1 := by
  funext i
  idx_vars i
  pointwise [mulNN]

end Cert.MixFwdRefIdeal.Value

end
-- ==== Proof.Products.lean ====
/-  The products of the step, one call after another: every run of each reference ends quiescent, and over the extended
    reals each call's array is its reference's. -/
module

public import proofs.«01_k».proof.Defs
public import proofs.«01_k».proof.Proof.MatUpBwdW
public import proofs.«01_k».proof.Proof.Gen.UpBwdWIdeal.Frame
public import proofs.«01_k».proof.Proof.Gen.UpBwdWIdeal
public import proofs.«01_k».proof.Proof.Gen.UpBwdWRefIdeal
public import proofs.«01_k».proof.Proof.MatUpBwdX
public import proofs.«01_k».proof.Proof.Gen.UpBwdXIdeal.Frame
public import proofs.«01_k».proof.Proof.Gen.UpBwdXIdeal
public import proofs.«01_k».proof.Proof.Gen.UpBwdXRefIdeal
public import proofs.«01_k».proof.Proof.MatDownBwdW
public import proofs.«01_k».proof.Proof.Gen.DownBwdWIdeal.Frame
public import proofs.«01_k».proof.Proof.Gen.DownBwdWIdeal
public import proofs.«01_k».proof.Proof.Gen.DownBwdWRefIdeal
public import proofs.«01_k».proof.Proof.MatDownBwdX
public import proofs.«01_k».proof.Proof.Gen.DownBwdXIdeal.Frame
public import proofs.«01_k».proof.Proof.Gen.DownBwdXIdeal
public import proofs.«01_k».proof.Proof.Gen.DownBwdXRefIdeal
public import proofs.«01_k».proof.Proof.MatProjBwdW0
public import proofs.«01_k».proof.Proof.Gen.ProjBwdW0Ideal.Frame
public import proofs.«01_k».proof.Proof.Gen.ProjBwdW0Ideal
public import proofs.«01_k».proof.Proof.Gen.ProjBwdW0RefIdeal
public import proofs.«01_k».proof.Proof.MatProjBwdW1
public import proofs.«01_k».proof.Proof.Gen.ProjBwdW1Ideal.Frame
public import proofs.«01_k».proof.Proof.Gen.ProjBwdW1Ideal
public import proofs.«01_k».proof.Proof.Gen.ProjBwdW1RefIdeal
public import proofs.«01_k».proof.Proof.MatProjBwdX
public import proofs.«01_k».proof.Proof.Gen.ProjBwdXIdeal.Frame
public import proofs.«01_k».proof.Proof.Gen.ProjBwdXIdeal
public import proofs.«01_k».proof.Proof.Gen.ProjBwdXRefIdeal
public import proofs.«01_k».proof.Proof.MatMixBwdW
public import proofs.«01_k».proof.Proof.Gen.MixBwdWIdeal.Frame
public import proofs.«01_k».proof.Proof.Gen.MixBwdWIdeal
public import proofs.«01_k».proof.Proof.Gen.MixBwdWRefIdeal
public import proofs.«01_k».proof.Proof.MatMixBwdX
public import proofs.«01_k».proof.Proof.Gen.MixBwdXIdeal.Frame
public import proofs.«01_k».proof.Proof.Gen.MixBwdXIdeal
public import proofs.«01_k».proof.Proof.Gen.MixBwdXRefIdeal
public import proofs.«01_k».proof.Proof.MatUpFwd
public import proofs.«01_k».proof.Proof.Gen.UpFwdIdeal.Frame
public import proofs.«01_k».proof.Proof.Gen.UpFwdIdeal
public import proofs.«01_k».proof.Proof.Gen.UpFwdRefIdeal
public import proofs.«01_k».proof.Proof.MatDownFwd
public import proofs.«01_k».proof.Proof.Gen.DownFwdIdeal.Frame
public import proofs.«01_k».proof.Proof.Gen.DownFwdIdeal
public import proofs.«01_k».proof.Proof.Gen.DownFwdRefIdeal
public import proofs.«01_k».proof.Proof.MatProjFwd
public import proofs.«01_k».proof.Proof.Gen.ProjFwdIdeal.Frame
public import proofs.«01_k».proof.Proof.Gen.ProjFwdIdeal
public import proofs.«01_k».proof.Proof.Gen.ProjFwdRefIdeal
public import proofs.«01_k».proof.Proof.MatMixFwd
public import proofs.«01_k».proof.Proof.Gen.MixFwdIdeal.Frame
public import proofs.«01_k».proof.Proof.Gen.MixFwdIdeal
public import proofs.«01_k».proof.Proof.Gen.MixFwdRefIdeal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- Every run of the reference of `UpBwdW` ends, with its arguments kept and every counter at zero. -/
theorem frame_UpBwdWRef : Cert.quiescent_UpBwdWRefIdeal := by
  intro m g _
  exact (θ_run Cert.UpBwdWRefIdeal.defs _ _).mono
    (fun r h => ⟨fun c => (h c).2, sem_eq_zero_of_no_sems (by decide) r.2⟩) (Cert.UpBwdWRefIdeal.Value.run m g)

set_option maxHeartbeats 1600000 in
/-- Over the extended reals the array of `UpBwdW` is its reference's. -/
theorem algebraic_UpBwdW : Cert.algebraic_UpBwdWIdeal_UpBwdWRefIdeal := by
  pair_intro
  · run_from Cert.UpBwdWIdeal.Value.run_blocks m g
  · run_from Cert.UpBwdWRefIdeal.Value.run m' g'
    · exact (Cert.UpBwdWRefIdeal.Value.ref_eq _ _).trans (Cert.UpBwdWIdeal.Value.final m c).symm

/-- Every run of the reference of `UpBwdX` ends, with its arguments kept and every counter at zero. -/
theorem frame_UpBwdXRef : Cert.quiescent_UpBwdXRefIdeal := by
  intro m g _
  exact (θ_run Cert.UpBwdXRefIdeal.defs _ _).mono
    (fun r h => ⟨fun c => (h c).2, sem_eq_zero_of_no_sems (by decide) r.2⟩) (Cert.UpBwdXRefIdeal.Value.run m g)

set_option maxHeartbeats 1600000 in
/-- Over the extended reals the array of `UpBwdX` is its reference's. -/
theorem algebraic_UpBwdX : Cert.algebraic_UpBwdXIdeal_UpBwdXRefIdeal := by
  pair_intro
  · run_from Cert.UpBwdXIdeal.Value.run_blocks m g
  · run_from Cert.UpBwdXRefIdeal.Value.run m' g'
    · exact (Cert.UpBwdXRefIdeal.Value.ref_eq _ _).trans (Cert.UpBwdXIdeal.Value.final m c).symm

/-- Every run of the reference of `DownBwdW` ends, with its arguments kept and every counter at zero. -/
theorem frame_DownBwdWRef : Cert.quiescent_DownBwdWRefIdeal := by
  intro m g _
  exact (θ_run Cert.DownBwdWRefIdeal.defs _ _).mono
    (fun r h => ⟨fun c => (h c).2, sem_eq_zero_of_no_sems (by decide) r.2⟩) (Cert.DownBwdWRefIdeal.Value.run m g)

set_option maxHeartbeats 1600000 in
/-- Over the extended reals the array of `DownBwdW` is its reference's. -/
theorem algebraic_DownBwdW : Cert.algebraic_DownBwdWIdeal_DownBwdWRefIdeal := by
  pair_intro
  · run_from Cert.DownBwdWIdeal.Value.run_blocks m g
  · run_from Cert.DownBwdWRefIdeal.Value.run m' g'
    · exact (Cert.DownBwdWRefIdeal.Value.ref_eq _ _).trans (Cert.DownBwdWIdeal.Value.final m c).symm

/-- Every run of the reference of `DownBwdX` ends, with its arguments kept and every counter at zero. -/
theorem frame_DownBwdXRef : Cert.quiescent_DownBwdXRefIdeal := by
  intro m g _
  exact (θ_run Cert.DownBwdXRefIdeal.defs _ _).mono
    (fun r h => ⟨fun c => (h c).2, sem_eq_zero_of_no_sems (by decide) r.2⟩) (Cert.DownBwdXRefIdeal.Value.run m g)

set_option maxHeartbeats 1600000 in
/-- Over the extended reals the array of `DownBwdX` is its reference's. -/
theorem algebraic_DownBwdX : Cert.algebraic_DownBwdXIdeal_DownBwdXRefIdeal := by
  pair_intro
  · run_from Cert.DownBwdXIdeal.Value.run_blocks m g
  · run_from Cert.DownBwdXRefIdeal.Value.run m' g'
    · exact (Cert.DownBwdXRefIdeal.Value.ref_eq _ _).trans (Cert.DownBwdXIdeal.Value.final m c).symm

/-- Every run of the reference of `ProjBwdW0` ends, with its arguments kept and every counter at zero. -/
theorem frame_ProjBwdW0Ref : Cert.quiescent_ProjBwdW0RefIdeal := by
  intro m g _
  exact (θ_run Cert.ProjBwdW0RefIdeal.defs _ _).mono
    (fun r h => ⟨fun c => (h c).2, sem_eq_zero_of_no_sems (by decide) r.2⟩) (Cert.ProjBwdW0RefIdeal.Value.run m g)

set_option maxHeartbeats 1600000 in
/-- Over the extended reals the array of `ProjBwdW0` is its reference's. -/
theorem algebraic_ProjBwdW0 : Cert.algebraic_ProjBwdW0Ideal_ProjBwdW0RefIdeal := by
  pair_intro
  · run_from Cert.ProjBwdW0Ideal.Value.run_blocks m g
  · run_from Cert.ProjBwdW0RefIdeal.Value.run m' g'
    · exact (Cert.ProjBwdW0RefIdeal.Value.ref_eq _ _).trans (Cert.ProjBwdW0Ideal.Value.final m c).symm

/-- Every run of the reference of `ProjBwdW1` ends, with its arguments kept and every counter at zero. -/
theorem frame_ProjBwdW1Ref : Cert.quiescent_ProjBwdW1RefIdeal := by
  intro m g _
  exact (θ_run Cert.ProjBwdW1RefIdeal.defs _ _).mono
    (fun r h => ⟨fun c => (h c).2, sem_eq_zero_of_no_sems (by decide) r.2⟩) (Cert.ProjBwdW1RefIdeal.Value.run m g)

set_option maxHeartbeats 1600000 in
/-- Over the extended reals the array of `ProjBwdW1` is its reference's. -/
theorem algebraic_ProjBwdW1 : Cert.algebraic_ProjBwdW1Ideal_ProjBwdW1RefIdeal := by
  pair_intro
  · run_from Cert.ProjBwdW1Ideal.Value.run_blocks m g
  · run_from Cert.ProjBwdW1RefIdeal.Value.run m' g'
    · exact (Cert.ProjBwdW1RefIdeal.Value.ref_eq _ _).trans (Cert.ProjBwdW1Ideal.Value.final m c).symm

/-- Every run of the reference of `ProjBwdX` ends, with its arguments kept and every counter at zero. -/
theorem frame_ProjBwdXRef : Cert.quiescent_ProjBwdXRefIdeal := by
  intro m g _
  exact (θ_run Cert.ProjBwdXRefIdeal.defs _ _).mono
    (fun r h => ⟨fun c => (h c).2, sem_eq_zero_of_no_sems (by decide) r.2⟩) (Cert.ProjBwdXRefIdeal.Value.run m g)

set_option maxHeartbeats 1600000 in
/-- Over the extended reals the array of `ProjBwdX` is its reference's. -/
theorem algebraic_ProjBwdX : Cert.algebraic_ProjBwdXIdeal_ProjBwdXRefIdeal := by
  pair_intro
  · run_from Cert.ProjBwdXIdeal.Value.run_blocks m g
  · run_from Cert.ProjBwdXRefIdeal.Value.run m' g'
    · exact (Cert.ProjBwdXRefIdeal.Value.ref_eq _ _).trans (Cert.ProjBwdXIdeal.Value.final m c).symm

/-- Every run of the reference of `MixBwdW` ends, with its arguments kept and every counter at zero. -/
theorem frame_MixBwdWRef : Cert.quiescent_MixBwdWRefIdeal := by
  intro m g _
  exact (θ_run Cert.MixBwdWRefIdeal.defs _ _).mono
    (fun r h => ⟨fun c => (h c).2, sem_eq_zero_of_no_sems (by decide) r.2⟩) (Cert.MixBwdWRefIdeal.Value.run m g)

set_option maxHeartbeats 1600000 in
/-- Over the extended reals the array of `MixBwdW` is its reference's. -/
theorem algebraic_MixBwdW : Cert.algebraic_MixBwdWIdeal_MixBwdWRefIdeal := by
  pair_intro
  · run_from Cert.MixBwdWIdeal.Value.run_blocks m g
  · run_from Cert.MixBwdWRefIdeal.Value.run m' g'
    · exact (Cert.MixBwdWRefIdeal.Value.ref_eq _ _).trans (Cert.MixBwdWIdeal.Value.final m c).symm

/-- Every run of the reference of `MixBwdX` ends, with its arguments kept and every counter at zero. -/
theorem frame_MixBwdXRef : Cert.quiescent_MixBwdXRefIdeal := by
  intro m g _
  exact (θ_run Cert.MixBwdXRefIdeal.defs _ _).mono
    (fun r h => ⟨fun c => (h c).2, sem_eq_zero_of_no_sems (by decide) r.2⟩) (Cert.MixBwdXRefIdeal.Value.run m g)

set_option maxHeartbeats 1600000 in
/-- Over the extended reals the array of `MixBwdX` is its reference's. -/
theorem algebraic_MixBwdX : Cert.algebraic_MixBwdXIdeal_MixBwdXRefIdeal := by
  pair_intro
  · run_from Cert.MixBwdXIdeal.Value.run_blocks m g
  · run_from Cert.MixBwdXRefIdeal.Value.run m' g'
    · exact (Cert.MixBwdXRefIdeal.Value.ref_eq _ _).trans (Cert.MixBwdXIdeal.Value.final m c).symm

/-- Every run of the reference of `UpFwd` ends, with its arguments kept and every counter at zero. -/
theorem frame_UpFwdRef : Cert.quiescent_UpFwdRefIdeal := by
  intro m g _
  exact (θ_run Cert.UpFwdRefIdeal.defs _ _).mono
    (fun r h => ⟨fun c => (h c).2, sem_eq_zero_of_no_sems (by decide) r.2⟩) (Cert.UpFwdRefIdeal.Value.run m g)

set_option maxHeartbeats 1600000 in
/-- Over the extended reals the array of `UpFwd` is its reference's. -/
theorem algebraic_UpFwd : Cert.algebraic_UpFwdIdeal_UpFwdRefIdeal := by
  pair_intro
  · run_from Cert.UpFwdIdeal.Value.run_blocks m g
  · run_from Cert.UpFwdRefIdeal.Value.run m' g'
    · exact (Cert.UpFwdRefIdeal.Value.ref_eq _ _).trans (Cert.UpFwdIdeal.Value.final m c).symm

/-- Every run of the reference of `DownFwd` ends, with its arguments kept and every counter at zero. -/
theorem frame_DownFwdRef : Cert.quiescent_DownFwdRefIdeal := by
  intro m g _
  exact (θ_run Cert.DownFwdRefIdeal.defs _ _).mono
    (fun r h => ⟨fun c => (h c).2, sem_eq_zero_of_no_sems (by decide) r.2⟩) (Cert.DownFwdRefIdeal.Value.run m g)

set_option maxHeartbeats 1600000 in
/-- Over the extended reals the array of `DownFwd` is its reference's. -/
theorem algebraic_DownFwd : Cert.algebraic_DownFwdIdeal_DownFwdRefIdeal := by
  pair_intro
  · run_from Cert.DownFwdIdeal.Value.run_blocks m g
  · run_from Cert.DownFwdRefIdeal.Value.run m' g'
    · exact (Cert.DownFwdRefIdeal.Value.ref_eq _ _).trans (Cert.DownFwdIdeal.Value.final m c).symm

/-- Every run of the reference of `ProjFwd` ends, with its arguments kept and every counter at zero. -/
theorem frame_ProjFwdRef : Cert.quiescent_ProjFwdRefIdeal := by
  intro m g _
  exact (θ_run Cert.ProjFwdRefIdeal.defs _ _).mono
    (fun r h => ⟨fun c => (h c).2, sem_eq_zero_of_no_sems (by decide) r.2⟩) (Cert.ProjFwdRefIdeal.Value.run m g)

set_option maxHeartbeats 1600000 in
/-- Over the extended reals the array of `ProjFwd` is its reference's. -/
theorem algebraic_ProjFwd : Cert.algebraic_ProjFwdIdeal_ProjFwdRefIdeal := by
  pair_intro
  · run_from Cert.ProjFwdIdeal.Value.run_blocks m g
  · run_from Cert.ProjFwdRefIdeal.Value.run m' g'
    · exact (Cert.ProjFwdRefIdeal.Value.ref_eq _ _).trans (Cert.ProjFwdIdeal.Value.final m c).symm

/-- Every run of the reference of `MixFwd` ends, with its arguments kept and every counter at zero. -/
theorem frame_MixFwdRef : Cert.quiescent_MixFwdRefIdeal := by
  intro m g _
  exact (θ_run Cert.MixFwdRefIdeal.defs _ _).mono
    (fun r h => ⟨fun c => (h c).2, sem_eq_zero_of_no_sems (by decide) r.2⟩) (Cert.MixFwdRefIdeal.Value.run m g)

set_option maxHeartbeats 1600000 in
/-- Over the extended reals the array of `MixFwd` is its reference's. -/
theorem algebraic_MixFwd : Cert.algebraic_MixFwdIdeal_MixFwdRefIdeal := by
  pair_intro
  · run_from Cert.MixFwdIdeal.Value.run_blocks m g
  · run_from Cert.MixFwdRefIdeal.Value.run m' g'
    · exact (Cert.MixFwdRefIdeal.Value.ref_eq _ _).trans (Cert.MixFwdIdeal.Value.final m c).symm

end Cert.Proof

end
-- ==== Proof.UpdateWIn.lean ====
/-  The AdamW step of the input projection's weights: the arrays its grid points leave, entry by entry. -/
module

public import proofs.«01_k».proof.Proof.Mat
public import proofs.«01_k».proof.Proof.Gen.AdamWInIdeal.Value

@[expose] public section

set_option maxRecDepth 16384

noncomputable section

namespace Cert.AdamWInIdeal.Value

open Idealize.ShloMosaic Idealize.ShloMosaic.TcCoe Idealize.SL.Sem
open Cert.AdamWInIdeal Cert.AdamWInIdeal.Gen Cert.Attn

/-- The running mean of the gradient. -/
def mean (g m : EReal) : EReal := Ideal.ofBits .f32 0x3F666666#32 * m + Ideal.ofBits .f32 0x3DCCCCCD#32 * g

/-- The running mean of its square. -/
def meanSq (g v : EReal) : EReal := Ideal.ofBits .f32 0x3F7FBE77#32 * v + Ideal.ofBits .f32 0x3A83126F#32 * (g * g)

/-- The step of a weight. -/
def delta (w g m v : EReal) : EReal :=
  Ideal.ofBits .f32 0xBA83126F#32 * (Ideal.div (Ideal.div (mean g m) (Ideal.ofBits .f32 0x3F26BD02#32))
      (Ideal.sqrt (Ideal.div (meanSq g v) (Ideal.ofBits .f32 0x3C231ACC#32)) + Ideal.ofBits .f32 0x322BCC77#32)
    + Ideal.ofBits .f32 0x3C23D70A#32 * w)

variable (m : (ℓ : Loc nD τ sig) → Buf (Elt Ideal) ℓ)

/-- The four arguments' blocks at a point are the result's. -/
theorem idx : ∀ t : Fin cfg0.N, win0_0.index t = win0_4.index t ∧ win0_1.index t = win0_4.index t ∧ win0_2.index t = win0_4.index t
    ∧ win0_3.index t = win0_4.index t ∧ win0_5.index t = win0_4.index t ∧ win0_6.index t = win0_4.index t ∧ win0_7.index t = win0_4.index t :=
  (by decide +kernel : ∀ t : Fin grid0.N, _)

variable (c : Dev nD)

theorem final4 : (dats m 0 c).arrAt 4 (cfgs 0).N = (fun i => delta (m ((c : Thread nD τ).loc main_arg0) i) (m ((c : Thread nD τ).loc main_arg1) i)
    (m ((c : Thread nD τ).loc main_arg2) i) (m ((c : Thread nD τ).loc main_arg3) i) : Arr 2048 1792) := by
  refine (dats m 0 c).arrAt_eq_of_covers 4 _ (by decide +kernel) fun t _ y => ?_
  blk_simp
  rw [after0_4]
  frame_out
  pointwise [k0_pay3, k0_pay1, k0_pay2, delta, mean, meanSq]
  blk_point [iblk, V, idx t]

theorem final5 : (dats m 0 c).arrAt 5 (cfgs 0).N = (fun i => mean (m ((c : Thread nD τ).loc main_arg1) i)
    (m ((c : Thread nD τ).loc main_arg2) i) : Arr 2048 1792) := by
  refine (dats m 0 c).arrAt_eq_of_covers 5 _ (by decide +kernel) fun t _ y => ?_
  blk_simp
  rw [after0_5]
  frame_out
  pointwise [k0_pay1, mean]
  blk_point [iblk, V, idx t]

theorem final6 : (dats m 0 c).arrAt 6 (cfgs 0).N = (fun i => meanSq (m ((c : Thread nD τ).loc main_arg1) i)
    (m ((c : Thread nD τ).loc main_arg3) i) : Arr 2048 1792) := by
  refine (dats m 0 c).arrAt_eq_of_covers 6 _ (by decide +kernel) fun t _ y => ?_
  blk_simp
  rw [after0_6]
  frame_out
  pointwise [k0_pay2, meanSq]
  blk_point [iblk, V, idx t]

/-- The kept gradient. -/
theorem final7 : (dats m 0 c).arrAt 7 (cfgs 0).N = m ((c : Thread nD τ).loc main_arg1) := by
  refine (dats m 0 c).arrAt_eq_of_covers 7 _ (by decide +kernel) fun t _ y => ?_
  blk_simp
  rw [after0_7]
  frame_out
  blk_point [iblk, V, idx t]

end Cert.AdamWInIdeal.Value

end
-- ==== Proof.Updates.lean ====
/-  The AdamW steps: entry by entry the kernel computes what the reference does. -/
module

public import proofs.«01_k».proof.Defs
public import proofs.«01_k».proof.Proof.UpdateWIn
public import proofs.«01_k».proof.Proof.Gen.AdamWInIdeal.Value
public import proofs.«01_k».proof.Proof.Gen.AdamWInIdeal.Frame
public import proofs.«01_k».proof.Proof.Gen.AdamWInIdeal
public import proofs.«01_k».proof.Proof.Gen.AdamWInRefIdeal.Run
public import proofs.«01_k».proof.Proof.Gen.AdamWInRefIdeal
public import proofs.«01_k».proof.Proof.Gen.AdamBAdaIdeal.Value
public import proofs.«01_k».proof.Proof.Gen.AdamBAdaIdeal.Frame
public import proofs.«01_k».proof.Proof.Gen.AdamBAdaIdeal
public import proofs.«01_k».proof.Proof.Gen.AdamBAdaRefIdeal.Run
public import proofs.«01_k».proof.Proof.Gen.AdamBAdaRefIdeal
public import proofs.«01_k».proof.Proof.Gen.AdamNormIdeal.Value
public import proofs.«01_k».proof.Proof.Gen.AdamNormIdeal.Frame
public import proofs.«01_k».proof.Proof.Gen.AdamNormIdeal
public import proofs.«01_k».proof.Proof.Gen.AdamNormRefIdeal.Run
public import proofs.«01_k».proof.Proof.Gen.AdamNormRefIdeal
public import proofs.«01_k».proof.Proof.Gen.AdamLbIdeal.Value
public import proofs.«01_k».proof.Proof.Gen.AdamLbIdeal.Frame
public import proofs.«01_k».proof.Proof.Gen.AdamLbIdeal
public import proofs.«01_k».proof.Proof.Gen.AdamLbRefIdeal.Run
public import proofs.«01_k».proof.Proof.Gen.AdamLbRefIdeal
public import proofs.«01_k».proof.Proof.Gen.AdamHeadIdeal.Value
public import proofs.«01_k».proof.Proof.Gen.AdamHeadIdeal.Frame
public import proofs.«01_k».proof.Proof.Gen.AdamHeadIdeal
public import proofs.«01_k».proof.Proof.Gen.AdamHeadRefIdeal.Run
public import proofs.«01_k».proof.Proof.Gen.AdamHeadRefIdeal
public import proofs.«01_k».proof.Proof.Gen.AdamConvWIdeal.Value
public import proofs.«01_k».proof.Proof.Gen.AdamConvWIdeal.Frame
public import proofs.«01_k».proof.Proof.Gen.AdamConvWIdeal
public import proofs.«01_k».proof.Proof.Gen.AdamConvWRefIdeal.Run
public import proofs.«01_k».proof.Proof.Gen.AdamConvWRefIdeal
public import proofs.«01_k».proof.Proof.Gen.AdamConvBIdeal.Value
public import proofs.«01_k».proof.Proof.Gen.AdamConvBIdeal.Frame
public import proofs.«01_k».proof.Proof.Gen.AdamConvBIdeal
public import proofs.«01_k».proof.Proof.Gen.AdamConvBRefIdeal.Run
public import proofs.«01_k».proof.Proof.Gen.AdamConvBRefIdeal
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- Every run of the reference of `AdamWIn` ends, with its arguments kept and every counter at zero. -/
theorem frame_AdamWInRef : Cert.quiescent_AdamWInRefIdeal := by
  intro m g _
  exact (θ_run Cert.AdamWInRefIdeal.defs _ _).mono
    (fun r h => ⟨fun c => (h c).2.2.2.2, sem_eq_zero_of_no_sems (by decide) r.2⟩) (Cert.AdamWInRefIdeal.Value.run m g)

/-- Over the extended reals the step, the two moments and the kept gradient of `AdamWIn` are its reference's. -/
theorem algebraic_AdamWIn : Cert.algebraic_AdamWInIdeal_AdamWInRefIdeal := by
  pair_intro
  · run_from Cert.AdamWInIdeal.Value.run_blocks m g
  · run_from Cert.AdamWInRefIdeal.Value.run m' g'
    · refine Eq.trans ?_ (Cert.AdamWInIdeal.Value.final4 m c).symm
      funext i
      idx_vars i
      pointwise [Cert.AdamWInIdeal.Value.delta, Cert.AdamWInIdeal.Value.mean, Cert.AdamWInIdeal.Value.meanSq]
    · refine Eq.trans ?_ (Cert.AdamWInIdeal.Value.final5 m c).symm
      funext i
      idx_vars i
      pointwise [Cert.AdamWInIdeal.Value.delta, Cert.AdamWInIdeal.Value.mean, Cert.AdamWInIdeal.Value.meanSq]
    · refine Eq.trans ?_ (Cert.AdamWInIdeal.Value.final6 m c).symm
      funext i
      idx_vars i
      pointwise [Cert.AdamWInIdeal.Value.delta, Cert.AdamWInIdeal.Value.mean, Cert.AdamWInIdeal.Value.meanSq]
    · exact (Cert.AdamWInIdeal.Value.final7 m c).symm

/-- Every run of the reference of `AdamBAda` ends, with its arguments kept and every counter at zero. -/
theorem frame_AdamBAdaRef : Cert.quiescent_AdamBAdaRefIdeal := by
  intro m g _
  exact (θ_run Cert.AdamBAdaRefIdeal.defs _ _).mono
    (fun r h => ⟨fun c => (h c).2.2.2, sem_eq_zero_of_no_sems (by decide) r.2⟩) (Cert.AdamBAdaRefIdeal.Value.run m g)

/-- Over the extended reals the step, the two moments of `AdamBAda` are its reference's. -/
theorem algebraic_AdamBAda : Cert.algebraic_AdamBAdaIdeal_AdamBAdaRefIdeal := by
  pair_intro
  · run_from Cert.AdamBAdaIdeal.Value.run_blocks m g
  · run_from Cert.AdamBAdaRefIdeal.Value.run m' g'
    · refine Eq.trans ?_ (Cert.AdamBAdaIdeal.Value.final4 m c).symm
      funext i
      idx_vars i
      pointwise [Cert.AdamBAdaIdeal.Value.G4]
    · refine Eq.trans ?_ (Cert.AdamBAdaIdeal.Value.final5 m c).symm
      funext i
      idx_vars i
      pointwise [Cert.AdamBAdaIdeal.Value.G5]
    · refine Eq.trans ?_ (Cert.AdamBAdaIdeal.Value.final6 m c).symm
      funext i
      idx_vars i
      pointwise [Cert.AdamBAdaIdeal.Value.G6]

/-- Every run of the reference of `AdamNorm` ends, with its arguments kept and every counter at zero. -/
theorem frame_AdamNormRef : Cert.quiescent_AdamNormRefIdeal := by
  intro m g _
  exact (θ_run Cert.AdamNormRefIdeal.defs _ _).mono
    (fun r h => ⟨fun c => (h c).2.2.2, sem_eq_zero_of_no_sems (by decide) r.2⟩) (Cert.AdamNormRefIdeal.Value.run m g)

/-- Over the extended reals the step, the two moments of `AdamNorm` are its reference's. -/
theorem algebraic_AdamNorm : Cert.algebraic_AdamNormIdeal_AdamNormRefIdeal := by
  pair_intro
  · run_from Cert.AdamNormIdeal.Value.run_blocks m g
  · run_from Cert.AdamNormRefIdeal.Value.run m' g'
    · refine Eq.trans ?_ (Cert.AdamNormIdeal.Value.final4 m c).symm
      funext i
      idx_vars i
      pointwise [Cert.AdamNormIdeal.Value.G4]
    · refine Eq.trans ?_ (Cert.AdamNormIdeal.Value.final5 m c).symm
      funext i
      idx_vars i
      pointwise [Cert.AdamNormIdeal.Value.G5]
    · refine Eq.trans ?_ (Cert.AdamNormIdeal.Value.final6 m c).symm
      funext i
      idx_vars i
      pointwise [Cert.AdamNormIdeal.Value.G6]

/-- Every run of the reference of `AdamLb` ends, with its arguments kept and every counter at zero. -/
theorem frame_AdamLbRef : Cert.quiescent_AdamLbRefIdeal := by
  intro m g _
  exact (θ_run Cert.AdamLbRefIdeal.defs _ _).mono
    (fun r h => ⟨fun c => (h c).2.2.2, sem_eq_zero_of_no_sems (by decide) r.2⟩) (Cert.AdamLbRefIdeal.Value.run m g)

/-- Over the extended reals the step, the two moments of `AdamLb` are its reference's. -/
theorem algebraic_AdamLb : Cert.algebraic_AdamLbIdeal_AdamLbRefIdeal := by
  pair_intro
  · run_from Cert.AdamLbIdeal.Value.run_blocks m g
  · run_from Cert.AdamLbRefIdeal.Value.run m' g'
    · refine Eq.trans ?_ (Cert.AdamLbIdeal.Value.final4 m c).symm
      funext i
      idx_vars i
      pointwise [Cert.AdamLbIdeal.Value.G4]
    · refine Eq.trans ?_ (Cert.AdamLbIdeal.Value.final5 m c).symm
      funext i
      idx_vars i
      pointwise [Cert.AdamLbIdeal.Value.G5]
    · refine Eq.trans ?_ (Cert.AdamLbIdeal.Value.final6 m c).symm
      funext i
      idx_vars i
      pointwise [Cert.AdamLbIdeal.Value.G6]

/-- Every run of the reference of `AdamHead` ends, with its arguments kept and every counter at zero. -/
theorem frame_AdamHeadRef : Cert.quiescent_AdamHeadRefIdeal := by
  intro m g _
  exact (θ_run Cert.AdamHeadRefIdeal.defs _ _).mono
    (fun r h => ⟨fun c => (h c).2.2.2, sem_eq_zero_of_no_sems (by decide) r.2⟩) (Cert.AdamHeadRefIdeal.Value.run m g)

/-- Over the extended reals the step, the two moments of `AdamHead` are its reference's. -/
theorem algebraic_AdamHead : Cert.algebraic_AdamHeadIdeal_AdamHeadRefIdeal := by
  pair_intro
  · run_from Cert.AdamHeadIdeal.Value.run_blocks m g
  · run_from Cert.AdamHeadRefIdeal.Value.run m' g'
    · refine Eq.trans ?_ (Cert.AdamHeadIdeal.Value.final4 m c).symm
      funext i
      idx_vars i
      pointwise [Cert.AdamHeadIdeal.Value.G4]
    · refine Eq.trans ?_ (Cert.AdamHeadIdeal.Value.final5 m c).symm
      funext i
      idx_vars i
      pointwise [Cert.AdamHeadIdeal.Value.G5]
    · refine Eq.trans ?_ (Cert.AdamHeadIdeal.Value.final6 m c).symm
      funext i
      idx_vars i
      pointwise [Cert.AdamHeadIdeal.Value.G6]

/-- Every run of the reference of `AdamConvW` ends, with its arguments kept and every counter at zero. -/
theorem frame_AdamConvWRef : Cert.quiescent_AdamConvWRefIdeal := by
  intro m g _
  exact (θ_run Cert.AdamConvWRefIdeal.defs _ _).mono
    (fun r h => ⟨fun c => (h c).2.2.2, sem_eq_zero_of_no_sems (by decide) r.2⟩) (Cert.AdamConvWRefIdeal.Value.run m g)

/-- Over the extended reals the step, the two moments of `AdamConvW` are its reference's. -/
theorem algebraic_AdamConvW : Cert.algebraic_AdamConvWIdeal_AdamConvWRefIdeal := by
  pair_intro
  · run_from Cert.AdamConvWIdeal.Value.run_blocks m g
  · run_from Cert.AdamConvWRefIdeal.Value.run m' g'
    · refine Eq.trans ?_ (Cert.AdamConvWIdeal.Value.final4 m c).symm
      funext i
      idx_vars i
      pointwise [Cert.AdamConvWIdeal.Value.G4]
    · refine Eq.trans ?_ (Cert.AdamConvWIdeal.Value.final5 m c).symm
      funext i
      idx_vars i
      pointwise [Cert.AdamConvWIdeal.Value.G5]
    · refine Eq.trans ?_ (Cert.AdamConvWIdeal.Value.final6 m c).symm
      funext i
      idx_vars i
      pointwise [Cert.AdamConvWIdeal.Value.G6]

/-- Every run of the reference of `AdamConvB` ends, with its arguments kept and every counter at zero. -/
theorem frame_AdamConvBRef : Cert.quiescent_AdamConvBRefIdeal := by
  intro m g _
  exact (θ_run Cert.AdamConvBRefIdeal.defs _ _).mono
    (fun r h => ⟨fun c => (h c).2.2.2, sem_eq_zero_of_no_sems (by decide) r.2⟩) (Cert.AdamConvBRefIdeal.Value.run m g)

/-- Over the extended reals the step, the two moments of `AdamConvB` are its reference's. -/
theorem algebraic_AdamConvB : Cert.algebraic_AdamConvBIdeal_AdamConvBRefIdeal := by
  pair_intro
  · run_from Cert.AdamConvBIdeal.Value.run_blocks m g
  · run_from Cert.AdamConvBRefIdeal.Value.run m' g'
    · refine Eq.trans ?_ (Cert.AdamConvBIdeal.Value.final4 m c).symm
      funext i
      idx_vars i
      pointwise [Cert.AdamConvBIdeal.Value.G4]
    · refine Eq.trans ?_ (Cert.AdamConvBIdeal.Value.final5 m c).symm
      funext i
      idx_vars i
      pointwise [Cert.AdamConvBIdeal.Value.G5]
    · refine Eq.trans ?_ (Cert.AdamConvBIdeal.Value.final6 m c).symm
      funext i
      idx_vars i
      pointwise [Cert.AdamConvBIdeal.Value.G6]

end Cert.Proof

end
-- ==== Proof.Ada.lean ====
/-  The modulation weights: their gradient and step, entry by entry. -/
module

public import proofs.«01_k».proof.Proof.UpdateWIn
public import proofs.«01_k».proof.Proof.Gen.AdaBwdIdeal.Value
public import Idealize.ShloMosaic.Lib.Pipeline.ValueKit

@[expose] public section

set_option maxRecDepth 16384

noncomputable section

namespace Cert.AdaBwdIdeal.Value

open Idealize.ShloMosaic Idealize.ShloMosaic.TcCoe Idealize.SL.Sem
open Cert.AdaBwdIdeal Cert.AdaBwdIdeal.Gen Cert.Attn Cert.Mat
open Cert.AdamWInIdeal.Value (mean meanSq delta)

/-- The gate of a number times the number. -/
def silu (x : EReal) : EReal := x * Ideal.div (Ideal.ofBits .f32 0x3F800000#32) (Ideal.ofBits .f32 0x3F800000#32 + Ideal.exp (-x))

/-- The gradient of the modulation weights: the gated conditioning against the gradient of the modulation. -/
def grad {D N : ℕ} (X : Arr 8 D) (Y : Arr 8 N) : Arr D N := fun i => ∑ s : Fin 8, Y (ix2 s (i 1)) * silu (X (ix2 s (i 0)))

/-- The modulation. -/
def modulation {D N : ℕ} (X : Arr 8 D) (W : Arr D N) (B : Arr 1 N) : Arr 8 N :=
  fun i => ∑ s : Fin D, silu (X (ix2 (i 0) s)) * W (ix2 s (i 1)) + B (ix2 0 (i 1))

variable (m : (ℓ : Loc nD τ sig) → Buf (Elt Ideal) ℓ)

theorem idx : ∀ t : Fin cfg0.N, win0_0.index t = ![0, win0_5.index t 0] ∧ win0_1.index t = ![0, 0] ∧ win0_5.index t 1 = 0
    ∧ win0_2.index t = win0_5.index t ∧ win0_3.index t = win0_5.index t ∧ win0_4.index t = win0_5.index t
    ∧ win0_6.index t = win0_5.index t ∧ win0_7.index t = win0_5.index t ∧ win0_8.index t = win0_5.index t :=
  (by decide +kernel : ∀ t : Fin grid0.N, _)

/-- A block of the gradient. -/
theorem tile (x0 : FVec Ideal S8x128 .f32) (x1 : FVec Ideal S8x3072 .f32) (a : Fin 128) (b : Fin 3072) :
    k0_pay2 (F := Ideal) x0 x1 (ix2 a b) = ∑ s : Fin 8, x1 (ix2 s b) * silu (x0 (ix2 s a)) := by
  pointwise [k0_pay2, silu]
  simp only [zero_sub]
  exact Finset.sum_congr rfl fun _ _ => mul_comm _ _

/-- The gradient at a place of a point's block. -/
theorem point (c : Dev nD) (t : Fin cfg0.N) (a : Fin 128) (b : Fin 3072) : k0_pay2 (F := Ideal) (iblk m c 0 t) (iblk m c 1 t) (ix2 a b)
    = grad (m ((c : Thread nD τ).loc main_arg0)) (m ((c : Thread nD τ).loc main_arg1)) ((win0_5.blk t).view.emb (ix2 a b)) := by
  refine (tile ..).trans ?_
  refine Finset.sum_congr rfl fun s _ => ?_
  blk_point [iblk, V, idx t]

variable (c : Dev nD)

/-- The gradient the kernel keeps. -/
theorem final5 : (dats m 0 c).arrAt 5 (cfgs 0).N = grad (m ((c : Thread nD τ).loc main_arg0)) (m ((c : Thread nD τ).loc main_arg1)) := by
  refine (dats m 0 c).arrAt_eq_of_covers 5 _ (by decide +kernel) fun t _ y => ?_
  blk_simp
  rw [after0_5]
  frame_out
  idx_vars y
  exact point m c t _ _

theorem final6 : (dats m 0 c).arrAt 6 (cfgs 0).N = (fun i => delta (m ((c : Thread nD τ).loc main_arg2) i) (grad (m ((c : Thread nD τ).loc main_arg0)) (m ((c : Thread nD τ).loc main_arg1)) i) (m ((c : Thread nD τ).loc main_arg3) i) (m ((c : Thread nD τ).loc main_arg4) i) : Arr 2048 3072) := by
  refine (dats m 0 c).arrAt_eq_of_covers 6 _ (by decide +kernel) fun t _ y => ?_
  blk_simp
  rw [after0_6]
  frame_out
  idx_vars y
  pointwise [k0_pay1, k0_pay5, k0_pay3, k0_pay4, delta, mean, meanSq, point m c t]
  blk_point [iblk, V, idx t]

theorem final7 : (dats m 0 c).arrAt 7 (cfgs 0).N = (fun i => mean (grad (m ((c : Thread nD τ).loc main_arg0)) (m ((c : Thread nD τ).loc main_arg1)) i) (m ((c : Thread nD τ).loc main_arg3) i) : Arr 2048 3072) := by
  refine (dats m 0 c).arrAt_eq_of_covers 7 _ (by decide +kernel) fun t _ y => ?_
  blk_simp
  rw [after0_7]
  frame_out
  idx_vars y
  pointwise [k0_pay3, delta, mean, meanSq, point m c t]
  blk_point [iblk, V, idx t]

theorem final8 : (dats m 0 c).arrAt 8 (cfgs 0).N = (fun i => meanSq (grad (m ((c : Thread nD τ).loc main_arg0)) (m ((c : Thread nD τ).loc main_arg1)) i) (m ((c : Thread nD τ).loc main_arg4) i) : Arr 2048 3072) := by
  refine (dats m 0 c).arrAt_eq_of_covers 8 _ (by decide +kernel) fun t _ y => ?_
  blk_simp
  rw [after0_8]
  frame_out
  idx_vars y
  pointwise [k0_pay4, delta, mean, meanSq, point m c t]
  blk_point [iblk, V, idx t]

end Cert.AdaBwdIdeal.Value

end
-- ==== Proof.AdaForward.lean ====
/-  The modulation: the kernel's tiles are the tiles of the product. -/
module

public import proofs.«01_k».proof.Proof.Ada
public import proofs.«01_k».proof.Proof.Gen.AdaFwdIdeal.Value
public import Idealize.ShloMosaic.Lib.Pipeline.ValueKit

@[expose] public section

set_option maxRecDepth 16384

noncomputable section

namespace Cert.AdaFwdIdeal.Value

open Idealize.ShloMosaic Idealize.ShloMosaic.TcCoe Idealize.SL.Sem
open Cert.AdaFwdIdeal Cert.AdaFwdIdeal.Gen Cert.Attn Cert.Mat
open Cert.AdaBwdIdeal.Value (silu modulation)

variable (m : (ℓ : Loc nD τ sig) → Buf (Elt Ideal) ℓ)

theorem idx : ∀ t : Fin cfg0.N, win0_0.index t = ![0, 0] ∧ win0_1.index t = ![0, win0_3.index t 1] ∧ win0_2.index t = ![0, win0_3.index t 1]
    ∧ win0_3.index t 0 = 0 :=
  (by decide +kernel : ∀ t : Fin grid0.N, _)

/-- A block of the modulation. -/
theorem tile (x0 : FVec Ideal S8x2048 .f32) (x1 : FVec Ideal S2048x512 .f32) (x2 : FVec Ideal S1x512 .f32) (a : Fin 8) (b : Fin 512) :
    k0_pay1 (F := Ideal) x0 x1 x2 (ix2 a b) = ∑ s : Fin 2048, silu (x0 (ix2 a s)) * x1 (ix2 s b) + x2 (ix2 0 b) := by
  pointwise [k0_pay1, silu]
  simp only [zero_sub]

/-- The result array is the modulation. -/
theorem final (c : Dev nD) : (dats m 0 c).arrAt 3 (cfgs 0).N
    = modulation (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  idx_vars y
  refine (tile ..).trans ?_
  refine congrArg₂ (· + ·) (Finset.sum_congr rfl fun s _ => ?_) ?_
  · blk_point [iblk, V, idx t]
  · blk_point [iblk, V, idx t]

end Cert.AdaFwdIdeal.Value

end
-- ==== Proof.Rows.lean ====
/-  Sums of the rows of a matrix. -/
module

public import proofs.«01_k».proof.Proof.Mat
public import Idealize.ShloMosaic.Lib.Pipeline.ValueKit

@[expose] public section

set_option maxRecDepth 16384

noncomputable section

namespace Cert.Rows

open Idealize.ShloMosaic Idealize.ShloMosaic.TcCoe Idealize.SL.Sem
open Cert.Mat Cert.Attn

/-- The sum of the eight rows. -/
def rowSum {N : ℕ} (a : Arr 8 N) : Arr 1 N := fun i => ∑ s : Fin 8, a (ix2 s (i 1))

/-- A row read through its rectangle. -/
theorem ld_row {N : ℕ} (a : Arr 8 N) (k : ℕ) (hk : k < 8) (inb) (i : Fin 1) (j : Fin N) :
    View.ld (Val := Elt Ideal) (e' := .f32) a (Rect.unit (s := ⟨2, ![8, N]⟩) ![k, 0] ![1, N] inb) (ix2 i j) = a (ix2 ⟨k, hk⟩ j) :=
  View.ld_unit_apply_of (Val := Elt Ideal) (e := .f32) (S := ⟨2, ![8, N]⟩) a _ _ inb _ _
    (Fin.cases (congrArg (k + ·) (Nat.lt_one_iff.mp i.isLt)).symm (Fin.cases (Nat.zero_add _).symm fun d => d.elim0))

/-- A sum over rows, collected block after block. -/
theorem sum_blocks (f : (n : ℕ) → n < 8 → EReal) (g : Fin 2048 → EReal)
    (h0 : f 0 (by decide) = ∑ x : Fin 256, g ⟨0 * 256 + x.val, by omega⟩)
    (hs : ∀ (n : ℕ) (hn : n + 1 < 8), f (n + 1) hn = f n (by omega) + ∑ x : Fin 256, g ⟨(n + 1) * 256 + x.val, by omega⟩)
    (n : ℕ) (hn : n < 8) (h : n = 7) : f n hn = ∑ s : Fin 2048, g s := by
  subst h
  rw [Fin.sum_univ_tiles 8 256 (by decide) g, Fin.sum_univ_eight, hs 6, hs 5, hs 4, hs 3, hs 2, hs 1, hs 0, h0]
  rfl

/-- A real factor that is not negative distributes over a sum of extended reals. -/
theorem sum_mul_real {ι : Type} (s : Finset ι) (f : ι → EReal) (r : ℝ) (h : 0 ≤ r) :
    (∑ i ∈ s, f i) * (r : EReal) = ∑ i ∈ s, f i * (r : EReal) := by
  classical
  induction s using Finset.induction_on with
  | empty => simp
  | insert i s hi ih =>
    rw [Finset.sum_insert hi, Finset.sum_insert hi, ← ih]
    exact EReal.right_distrib_of_nonneg_of_ne_top (by exact_mod_cast h) (EReal.coe_ne_top _) _ _

/-- A quotient by a real that is not zero is the product with its inverse. -/
theorem div_real (x : EReal) (r : ℝ) (h : r ≠ 0) : Ideal.div x (r : EReal) = x * ((r⁻¹ : ℝ) : EReal) := by
  unfold Ideal.div
  rw [if_neg (by exact_mod_cast h), EReal.coe_inv]

theorem bits_2048 : Ideal.ofBits .f32 0x45000000#32 = ((2048 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_inv2048 : Ideal.ofBits .f32 0x3A000000#32 = ((1 / 2048 : ℝ) : EReal) := by
  simp [Ideal.ofBits, Ideal.ieee, -EReal.coe_mul]; norm_num

theorem bits_inv4096 : Ideal.ofBits .f32 0x39800000#32 = ((1 / 4096 : ℝ) : EReal) := by
  simp [Ideal.ofBits, Ideal.ieee, -EReal.coe_mul]; norm_num

end Cert.Rows

end
-- ==== Proof.RowsSumSmall.lean ====
/-  The sum of eight rows: the kernel and its reference. -/
module

public import proofs.«01_k».proof.Proof.Rows
public import Idealize.ShloMosaic.Lib.Pipeline.ValueKit
public import proofs.«01_k».proof.Proof.Gen.SumSmallIdeal.Value
public import proofs.«01_k».proof.Proof.Gen.SumSmallIdeal.Frame
public import proofs.«01_k».proof.Proof.Gen.SumSmallIdeal
public import proofs.«01_k».proof.Proof.Gen.SumSmallRefIdeal.Run
public import proofs.«01_k».proof.Proof.Gen.SumSmallRefIdeal

@[expose] public section

set_option maxRecDepth 16384

noncomputable section

namespace Cert.SumSmallRefIdeal.Value

open Idealize.ShloMosaic Idealize.ShloMosaic.TcCoe Idealize.SL.Sem
open Cert.Mat Cert.Attn Cert.Rows

/-- What the kernel writes. -/
theorem kernel_eq (a : Arr 8 28160) : Cert.SumSmallIdeal.Value.G1 (F := Ideal) a = rowSum a := by
  funext i
  idx_vars i
  unfold Cert.SumSmallIdeal.Value.G1 Cert.SumSmallIdeal.Gen.k0_pay1
  simp only [addf_apply]
  rw [ld_row a 0 (by decide), ld_row a 1 (by decide), ld_row a 2 (by decide), ld_row a 3 (by decide), ld_row a 4 (by decide), ld_row a 5 (by decide), ld_row a 6 (by decide), ld_row a 7 (by decide)]
  exact (Fin.sum_univ_eight fun s : Fin 8 => a (ix2 s i1)).symm

open Cert.SumSmallRefIdeal Cert.SumSmallRefIdeal.Gen

/-- What the reference writes. -/
theorem ref_eq (a : FVec Ideal S8x28160 .f32) : broadcastInDim S1x28160 ![1] bcast_S28160_S1x28160_1
    (Host.reduceAdd a (constant S_ .f32 0x00000000#32) reducesTo_S8x28160_S28160_d0 h_S_) = rowSum a := by
  funext i
  idx_vars i
  pointwise [rowSum]

end Cert.SumSmallRefIdeal.Value

end
-- ==== Proof.RowsSumBAda.lean ====
/-  The sum of eight rows: the kernel and its reference. -/
module

public import proofs.«01_k».proof.Proof.Rows
public import Idealize.ShloMosaic.Lib.Pipeline.ValueKit
public import proofs.«01_k».proof.Proof.Gen.SumBAdaIdeal.Value
public import proofs.«01_k».proof.Proof.Gen.SumBAdaIdeal.Frame
public import proofs.«01_k».proof.Proof.Gen.SumBAdaIdeal
public import proofs.«01_k».proof.Proof.Gen.SumBAdaRefIdeal.Run
public import proofs.«01_k».proof.Proof.Gen.SumBAdaRefIdeal

@[expose] public section

set_option maxRecDepth 16384

noncomputable section

namespace Cert.SumBAdaRefIdeal.Value

open Idealize.ShloMosaic Idealize.ShloMosaic.TcCoe Idealize.SL.Sem
open Cert.Mat Cert.Attn Cert.Rows

/-- What the kernel writes. -/
theorem kernel_eq (a : Arr 8 12288) : Cert.SumBAdaIdeal.Value.G1 (F := Ideal) a = rowSum a := by
  funext i
  idx_vars i
  unfold Cert.SumBAdaIdeal.Value.G1 Cert.SumBAdaIdeal.Gen.k0_pay1
  simp only [addf_apply]
  rw [ld_row a 0 (by decide), ld_row a 1 (by decide), ld_row a 2 (by decide), ld_row a 3 (by decide), ld_row a 4 (by decide), ld_row a 5 (by decide), ld_row a 6 (by decide), ld_row a 7 (by decide)]
  exact (Fin.sum_univ_eight fun s : Fin 8 => a (ix2 s i1)).symm

open Cert.SumBAdaRefIdeal Cert.SumBAdaRefIdeal.Gen

/-- What the reference writes. -/
theorem ref_eq (a : FVec Ideal S8x12288 .f32) : broadcastInDim S1x12288 ![1] bcast_S12288_S1x12288_1
    (Host.reduceAdd a (constant S_ .f32 0x00000000#32) reducesTo_S8x12288_S12288_d0 h_S_) = rowSum a := by
  funext i
  idx_vars i
  pointwise [rowSum]

end Cert.SumBAdaRefIdeal.Value

end
-- ==== Proof.AdaSums.lean ====
/-  The modulation and the sums over devices: the kernels compute what their references do. -/
module

public import proofs.«01_k».proof.Defs
public import proofs.«01_k».proof.Proof.Ada
public import proofs.«01_k».proof.Proof.AdaForward
public import proofs.«01_k».proof.Proof.RowsSumSmall
public import proofs.«01_k».proof.Proof.RowsSumBAda
public import proofs.«01_k».proof.Proof.Gen.AdaBwdIdeal.Value
public import proofs.«01_k».proof.Proof.Gen.AdaBwdIdeal.Frame
public import proofs.«01_k».proof.Proof.Gen.AdaBwdIdeal
public import proofs.«01_k».proof.Proof.Gen.AdaBwdRefIdeal.Run
public import proofs.«01_k».proof.Proof.Gen.AdaBwdRefIdeal
public import proofs.«01_k».proof.Proof.Gen.AdaFwdIdeal.Value
public import proofs.«01_k».proof.Proof.Gen.AdaFwdIdeal.Frame
public import proofs.«01_k».proof.Proof.Gen.AdaFwdIdeal
public import proofs.«01_k».proof.Proof.Gen.AdaFwdRefIdeal.Run
public import proofs.«01_k».proof.Proof.Gen.AdaFwdRefIdeal
public import proofs.«01_k».proof.Proof.Gen.SumSmallIdeal.Value
public import proofs.«01_k».proof.Proof.Gen.SumSmallIdeal.Frame
public import proofs.«01_k».proof.Proof.Gen.SumSmallIdeal
public import proofs.«01_k».proof.Proof.Gen.SumSmallRefIdeal.Run
public import proofs.«01_k».proof.Proof.Gen.SumSmallRefIdeal
public import proofs.«01_k».proof.Proof.Gen.SumBAdaIdeal.Value
public import proofs.«01_k».proof.Proof.Gen.SumBAdaIdeal.Frame
public import proofs.«01_k».proof.Proof.Gen.SumBAdaIdeal
public import proofs.«01_k».proof.Proof.Gen.SumBAdaRefIdeal.Run
public import proofs.«01_k».proof.Proof.Gen.SumBAdaRefIdeal
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem
open Cert.Mat Cert.Attn

/-- Every run of the reference of `SumSmall` ends, with its arguments kept and every counter at zero. -/
theorem frame_SumSmallRef : Cert.quiescent_SumSmallRefIdeal := by
  intro m g _
  exact (θ_run Cert.SumSmallRefIdeal.defs _ _).mono
    (fun r h => ⟨fun c => (h c).2, sem_eq_zero_of_no_sems (by decide) r.2⟩) (Cert.SumSmallRefIdeal.Value.run m g)

/-- Over the extended reals the row of `SumSmall` is the sum of the eight rows. -/
theorem algebraic_SumSmall : Cert.algebraic_SumSmallIdeal_SumSmallRefIdeal := by
  pair_intro
  case refine_1 => exact fun c => Cert.Rows.rowSum (m ((c.tc : Thread Cert.SumSmallIdeal.nD Cert.SumSmallIdeal.τ).loc Cert.SumSmallIdeal.main_arg0))
  · exact θ_run_mono (Cert.SumSmallIdeal.Value.run m g) fun r h c => ⟨(h c).1.trans (Cert.SumSmallRefIdeal.Value.kernel_eq _), (h c).2⟩
  · exact θ_run_mono (Cert.SumSmallRefIdeal.Value.run m' g') fun r h c =>
      ⟨(h c).1.trans ((Cert.SumSmallRefIdeal.Value.ref_eq _).trans (congrArg Cert.Rows.rowSum (hagree c))), (h c).2⟩

/-- Every run of the reference of `SumBAda` ends, with its arguments kept and every counter at zero. -/
theorem frame_SumBAdaRef : Cert.quiescent_SumBAdaRefIdeal := by
  intro m g _
  exact (θ_run Cert.SumBAdaRefIdeal.defs _ _).mono
    (fun r h => ⟨fun c => (h c).2, sem_eq_zero_of_no_sems (by decide) r.2⟩) (Cert.SumBAdaRefIdeal.Value.run m g)

/-- Over the extended reals the row of `SumBAda` is the sum of the eight rows. -/
theorem algebraic_SumBAda : Cert.algebraic_SumBAdaIdeal_SumBAdaRefIdeal := by
  pair_intro
  case refine_1 => exact fun c => Cert.Rows.rowSum (m ((c.tc : Thread Cert.SumBAdaIdeal.nD Cert.SumBAdaIdeal.τ).loc Cert.SumBAdaIdeal.main_arg0))
  · exact θ_run_mono (Cert.SumBAdaIdeal.Value.run m g) fun r h c => ⟨(h c).1.trans (Cert.SumBAdaRefIdeal.Value.kernel_eq _), (h c).2⟩
  · exact θ_run_mono (Cert.SumBAdaRefIdeal.Value.run m' g') fun r h c =>
      ⟨(h c).1.trans ((Cert.SumBAdaRefIdeal.Value.ref_eq _).trans (congrArg Cert.Rows.rowSum (hagree c))), (h c).2⟩

/-- Every run of the reference of `AdaBwd` ends, with its arguments kept and every counter at zero. -/
theorem frame_AdaBwdRef : Cert.quiescent_AdaBwdRefIdeal := by
  intro m g _
  exact (θ_run Cert.AdaBwdRefIdeal.defs _ _).mono
    (fun r h => ⟨fun c => (h c).2.2.2.2, sem_eq_zero_of_no_sems (by decide) r.2⟩) (Cert.AdaBwdRefIdeal.Value.run m g)

/-- Over the extended reals the gradient, the step and the moments of the modulation weights are the reference's. -/
theorem algebraic_AdaBwd : Cert.algebraic_AdaBwdIdeal_AdaBwdRefIdeal := by
  pair_intro
  · run_from Cert.AdaBwdIdeal.Value.run_blocks m g
  · run_from Cert.AdaBwdRefIdeal.Value.run m' g'
    · refine Eq.trans ?_ (Cert.AdaBwdIdeal.Value.final5 m c).symm
      funext i
      idx_vars i
      pointwise [Cert.AdaBwdIdeal.Value.grad, Cert.AdaBwdIdeal.Value.silu, Cert.AdamWInIdeal.Value.delta, Cert.AdamWInIdeal.Value.mean, Cert.AdamWInIdeal.Value.meanSq]
    · refine Eq.trans ?_ (Cert.AdaBwdIdeal.Value.final6 m c).symm
      funext i
      idx_vars i
      pointwise [Cert.AdaBwdIdeal.Value.grad, Cert.AdaBwdIdeal.Value.silu, Cert.AdamWInIdeal.Value.delta, Cert.AdamWInIdeal.Value.mean, Cert.AdamWInIdeal.Value.meanSq]
    · refine Eq.trans ?_ (Cert.AdaBwdIdeal.Value.final7 m c).symm
      funext i
      idx_vars i
      pointwise [Cert.AdaBwdIdeal.Value.grad, Cert.AdaBwdIdeal.Value.silu, Cert.AdamWInIdeal.Value.delta, Cert.AdamWInIdeal.Value.mean, Cert.AdamWInIdeal.Value.meanSq]
    · refine Eq.trans ?_ (Cert.AdaBwdIdeal.Value.final8 m c).symm
      funext i
      idx_vars i
      pointwise [Cert.AdaBwdIdeal.Value.grad, Cert.AdaBwdIdeal.Value.silu, Cert.AdamWInIdeal.Value.delta, Cert.AdamWInIdeal.Value.mean, Cert.AdamWInIdeal.Value.meanSq]

/-- Every run of the reference of `AdaFwd` ends, with its arguments kept and every counter at zero. -/
theorem frame_AdaFwdRef : Cert.quiescent_AdaFwdRefIdeal := by
  intro m g _
  exact (θ_run Cert.AdaFwdRefIdeal.defs _ _).mono
    (fun r h => ⟨fun c => (h c).2, sem_eq_zero_of_no_sems (by decide) r.2⟩) (Cert.AdaFwdRefIdeal.Value.run m g)

/-- Over the extended reals the modulation is the reference's. -/
theorem algebraic_AdaFwd : Cert.algebraic_AdaFwdIdeal_AdaFwdRefIdeal := by
  pair_intro
  · run_from Cert.AdaFwdIdeal.Value.run_blocks m g
  · run_from Cert.AdaFwdRefIdeal.Value.run m' g'
    refine Eq.trans ?_ (Cert.AdaFwdIdeal.Value.final m c).symm
    funext i
    idx_vars i
    pointwise [Cert.AdaBwdIdeal.Value.modulation, Cert.AdaBwdIdeal.Value.silu]

end Cert.Proof

end
-- ==== Proof.Loss.lean ====
/-  The loss and its gradients: the arrays the kernel leaves, entry by entry. -/
module

public import proofs.«01_k».proof.Proof.Rows
public import Idealize.ShloMosaic.Lib.Pipeline.ValueKit
public import proofs.«01_k».proof.Proof.Gen.OutLossIdeal.Value

@[expose] public section

set_option maxRecDepth 16384

noncomputable section

namespace Cert.OutLossIdeal.Value

open Idealize.ShloMosaic Idealize.ShloMosaic.TcCoe Idealize.SL.Sem
open Cert.OutLossIdeal Cert.OutLossIdeal.Gen Cert.Attn Cert.Mat Cert.Rows

/-- How far a place of the output is from the target. -/
def err (z x y g : EReal) : EReal := x + g * z - y

/-- The reciprocal of the width. -/
def invWidth : EReal := Ideal.ofBits .f32 0x3A000000#32

/-- Half of it. -/
def halfInvWidth : EReal := Ideal.ofBits .f32 0x39800000#32

section Arrays

variable (Z X Y : Arr 2048 2048) (G : Arr 1 2048)

/-- The error at a place. -/
def errAt (t s : Fin 2048) : EReal := err (Z (ix2 t s)) (X (ix2 t s)) (Y (ix2 t s)) (G (ix2 0 s))

/-- The gradient of the residual stream. -/
def gradX : Arr 2048 2048 := fun i => errAt Z X Y G (i 0) (i 1) * invWidth

/-- The gradient of the block's output. -/
def gradZ : Arr 2048 2048 := fun i => errAt Z X Y G (i 0) (i 1) * invWidth * G (ix2 0 (i 1))

/-- What a row adds to the gradient of the gate. -/
def gateRow (s t : Fin 2048) : EReal := errAt Z X Y G t s * invWidth * Z (ix2 t s)

/-- The gradient of the gate. -/
def gradGate : Arr 1 2048 := fun i => ∑ t : Fin 2048, gateRow Z X Y G (i 1) t

/-- What a row adds to the loss. -/
def lossRow (t : Fin 2048) : EReal := (∑ s : Fin 2048, errAt Z X Y G t s * errAt Z X Y G t s) * halfInvWidth

/-- The loss, in the first place of a row of zeros. -/
def loss : Arr 1 128 := fun i => if (i 1).val = 0 then ∑ t : Fin 2048, lossRow Z X Y G t else 0

end Arrays

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![0, 0] ∧ win0_7.index t = ![0, 0] :=
  (by decide +kernel : ∀ t : Fin grid0.N, _)

theorem pay3_at (x0 : FVec Ideal S256x2048 .f32) (x1 : FVec Ideal S1x2048 .f32) (x2 x3 : FVec Ideal S256x2048 .f32) (a : Fin 256) (b : Fin 2048) :
    k0_pay3 (F := Ideal) x0 x1 x2 x3 (ix2 a b) = err (x0 (ix2 a b)) (x2 (ix2 a b)) (x3 (ix2 a b)) (x1 (ix2 0 b)) * invWidth := by
  pointwise [k0_pay3, k0_pay2, err, invWidth]

theorem pay4_at (x0 : FVec Ideal S256x2048 .f32) (x1 : FVec Ideal S1x2048 .f32) (x2 x3 : FVec Ideal S256x2048 .f32) (a : Fin 256) (b : Fin 2048) :
    k0_pay4 (F := Ideal) x0 x1 x2 x3 (ix2 a b) = err (x0 (ix2 a b)) (x2 (ix2 a b)) (x3 (ix2 a b)) (x1 (ix2 0 b)) * invWidth * x1 (ix2 0 b) := by
  pointwise [k0_pay4, k0_pay3, k0_pay2, err, invWidth]

theorem pay7_at (x0 : FVec Ideal S256x2048 .f32) (x1 : FVec Ideal S1x2048 .f32) (x2 x3 : FVec Ideal S256x2048 .f32) (x4 : FVec Ideal S1x2048 .f32)
    (a : Fin 1) (b : Fin 2048) : k0_pay7 (F := Ideal) x0 x1 x2 x3 x4 (ix2 a b)
      = x4 (ix2 a b) + ∑ x : Fin 256, err (x0 (ix2 x b)) (x2 (ix2 x b)) (x3 (ix2 x b)) (x1 (ix2 0 b)) * invWidth * x0 (ix2 x b) := by
  pointwise [k0_pay7, k0_pay3, k0_pay2, err, invWidth]

theorem pay1_at (x0 : FVec Ideal S256x2048 .f32) (x1 : FVec Ideal S1x2048 .f32) (x2 x3 : FVec Ideal S256x2048 .f32) (x4 : FVec Ideal S1x128 .f32)
    (a : Fin 1) (b : Fin 128) : k0_pay1 (F := Ideal) (k0_pay8 x0 x1 x2 x3) x4 (ix2 a b)
      = x4 (ix2 a b) + if b.val = 0 then (∑ s : Fin 2048, ∑ x : Fin 256, err (x0 (ix2 x s)) (x2 (ix2 x s)) (x3 (ix2 x s)) (x1 (ix2 0 s))
          * err (x0 (ix2 x s)) (x2 (ix2 x s)) (x3 (ix2 x s)) (x1 (ix2 0 s))) * halfInvWidth else 0 := by
  pointwise [k0_pay1, k0_pay8, k0_pay2, err, halfInvWidth]
  refine congrArg (x4 (ix2 a b) + ·) ?_
  by_cases h : b.val = 0
  · rw [if_pos h, h]
    rfl
  · rw [if_neg h]
    have e : IntOp.cmpi CmpIPredicate.eq (BitVec.ofNat 32 b.val) 0#32 = 0#1 := by
      revert b
      decide
    rw [e]
    rfl

variable (c : Dev nD) (t : Fin cfg0.N)

theorem row0 (a : Fin 256) (b : Fin 2048) : iblk m c 0 t (ix2 a b) = m ((c : Thread nD τ).loc main_arg0)
    (ix2 ⟨t.val * 256 + a.val, by have h : t.val < 8 := t.isLt; omega⟩ b) := by
  blk_point [iblk, V, idx t]

theorem row1 (a : Fin 256) (b : Fin 2048) : iblk m c 1 t (ix2 a b) = m ((c : Thread nD τ).loc main_arg1)
    (ix2 ⟨t.val * 256 + a.val, by have h : t.val < 8 := t.isLt; omega⟩ b) := by
  blk_point [iblk, V, idx t]

theorem row2 (a : Fin 256) (b : Fin 2048) : iblk m c 2 t (ix2 a b) = m ((c : Thread nD τ).loc main_arg2)
    (ix2 ⟨t.val * 256 + a.val, by have h : t.val < 8 := t.isLt; omega⟩ b) := by
  blk_point [iblk, V, idx t]

theorem row3 (a : Fin 1) (b : Fin 2048) : iblk m c 3 t (ix2 a b) = m ((c : Thread nD τ).loc main_arg3) (ix2 a b) := by
  blk_point [iblk, V, idx t]

/-- What a point adds to the gradient of the gate. -/
theorem gate_part (b : Fin 2048) (n : ℕ) (hn : n < 8) : (∑ x : Fin 256, err (iblk m c 0 ⟨n, hn⟩ (ix2 x b)) (iblk m c 1 ⟨n, hn⟩ (ix2 x b)) (iblk m c 2 ⟨n, hn⟩ (ix2 x b))
      (iblk m c 3 ⟨n, hn⟩ (ix2 0 b)) * invWidth * (show EReal from iblk m c 0 ⟨n, hn⟩ (ix2 x b)))
    = ∑ x : Fin 256, gateRow (m ((c : Thread nD τ).loc main_arg0)) (m ((c : Thread nD τ).loc main_arg1)) (m ((c : Thread nD τ).loc main_arg2))
        (m ((c : Thread nD τ).loc main_arg3)) b ⟨n * 256 + x.val, by omega⟩ := by
  refine Finset.sum_congr rfl fun x _ => ?_
  rw [row0, row1, row2, row3]
  rfl

/-- What a point adds to the loss. -/
theorem loss_part (n : ℕ) (hn : n < 8) : (∑ s : Fin 2048, ∑ x : Fin 256, err (iblk m c 0 ⟨n, hn⟩ (ix2 x s)) (iblk m c 1 ⟨n, hn⟩ (ix2 x s)) (iblk m c 2 ⟨n, hn⟩ (ix2 x s)) (iblk m c 3 ⟨n, hn⟩ (ix2 0 s))
      * err (iblk m c 0 ⟨n, hn⟩ (ix2 x s)) (iblk m c 1 ⟨n, hn⟩ (ix2 x s)) (iblk m c 2 ⟨n, hn⟩ (ix2 x s)) (iblk m c 3 ⟨n, hn⟩ (ix2 0 s))) * halfInvWidth
    = ∑ x : Fin 256, lossRow (m ((c : Thread nD τ).loc main_arg0)) (m ((c : Thread nD τ).loc main_arg1)) (m ((c : Thread nD τ).loc main_arg2))
        (m ((c : Thread nD τ).loc main_arg3)) ⟨n * 256 + x.val, by omega⟩ := by
  rw [Finset.sum_comm, halfInvWidth, bits_inv4096, sum_mul_real _ _ _ (by norm_num)]
  refine Finset.sum_congr rfl fun x _ => ?_
  rw [lossRow, halfInvWidth, bits_inv4096]
  refine congrArg (· * _) (Finset.sum_congr rfl fun s _ => ?_)
  rw [row0, row1, row2, row3]
  rfl

theorem zero5 (a : Fin 1) (b : Fin 2048) : k0_pay5 (F := Ideal) (ix2 a b) = 0 := by
  pointwise [k0_pay5]

theorem zero6 (a : Fin 1) (b : Fin 128) : k0_pay6 (F := Ideal) (ix2 a b) = 0 := by
  pointwise [k0_pay6]

theorem gate_first (h : t.val % 8 = 0) (y : S1x2048.Idx) : (outsAt0 m c t.val t.isLt).2.2.1 y
    = k0_pay7 (F := Ideal) (iblk m c 0 t) (iblk m c 3 t) (iblk m c 1 t) (iblk m c 2 t) (k0_pay5 (F := Ideal)) y := by
  rw [outsAt0_A m c t h]
  frame_out

theorem gate_next (h : ¬t.val % 8 = 0) (y : S1x2048.Idx) : (outsAt0 m c t.val t.isLt).2.2.1 y
    = k0_pay7 (F := Ideal) (iblk m c 0 t) (iblk m c 3 t) (iblk m c 1 t) (iblk m c 2 t) (outsAt0 m c (t.val - 1) (Nat.lt_of_le_of_lt (Nat.sub_le _ _) t.isLt)).2.2.1 y := by
  rw [outsAt0_B m c t h]
  frame_out

theorem loss_first (h : t.val % 8 = 0) (y : S1x128.Idx) : (outsAt0 m c t.val t.isLt).2.2.2 y
    = k0_pay1 (F := Ideal) (k0_pay8 (iblk m c 0 t) (iblk m c 3 t) (iblk m c 1 t) (iblk m c 2 t)) (k0_pay6 (F := Ideal)) y := by
  rw [outsAt0_A m c t h]
  frame_out

theorem loss_next (h : ¬t.val % 8 = 0) (y : S1x128.Idx) : (outsAt0 m c t.val t.isLt).2.2.2 y
    = k0_pay1 (F := Ideal) (k0_pay8 (iblk m c 0 t) (iblk m c 3 t) (iblk m c 1 t) (iblk m c 2 t)) (outsAt0 m c (t.val - 1) (Nat.lt_of_le_of_lt (Nat.sub_le _ _) t.isLt)).2.2.2 y := by
  rw [outsAt0_B m c t h]
  frame_out

/-- The gradient of the gate after the last point. -/
theorem gate_total (a : Fin 1) (b : Fin 2048) (n : ℕ) (hn : n < cfg0.N) (h7 : n = 7) : (outsAt0 m c n hn).2.2.1 (ix2 a b)
    = gradGate (m ((c : Thread nD τ).loc main_arg0)) (m ((c : Thread nD τ).loc main_arg1)) (m ((c : Thread nD τ).loc main_arg2))
        (m ((c : Thread nD τ).loc main_arg3)) (ix2 a b) := by
  refine sum_blocks (fun n hn => (outsAt0 m c n hn).2.2.1 (ix2 a b)) (gateRow _ _ _ _ b) ?_ (fun n hn => ?_) n hn h7
  · exact (gate_first m c ⟨0, by decide⟩ rfl _).trans ((pay7_at ..).trans
      ((congrArg₂ (· + ·) (zero5 a b) (gate_part m c b 0 (by decide))).trans (zero_add _)))
  · exact (gate_next m c ⟨n + 1, hn⟩ (by dsimp only; omega) _).trans ((pay7_at ..).trans (congrArg (_ + ·) (gate_part m c b (n + 1) hn)))

/-- The loss after the last point. -/
theorem loss_total (a : Fin 1) (b : Fin 128) (n : ℕ) (hn : n < cfg0.N) (h7 : n = 7) : (outsAt0 m c n hn).2.2.2 (ix2 a b)
    = loss (m ((c : Thread nD τ).loc main_arg0)) (m ((c : Thread nD τ).loc main_arg1)) (m ((c : Thread nD τ).loc main_arg2))
        (m ((c : Thread nD τ).loc main_arg3)) (ix2 a b) := by
  have e : ∀ x : EReal, loss (m ((c : Thread nD τ).loc main_arg0)) (m ((c : Thread nD τ).loc main_arg1)) (m ((c : Thread nD τ).loc main_arg2))
      (m ((c : Thread nD τ).loc main_arg3)) (ix2 a b) = ∑ t : Fin 2048, if b.val = 0 then lossRow (m ((c : Thread nD τ).loc main_arg0))
        (m ((c : Thread nD τ).loc main_arg1)) (m ((c : Thread nD τ).loc main_arg2)) (m ((c : Thread nD τ).loc main_arg3)) t else 0 := by
    intro x
    by_cases h : b.val = 0
    · simp only [if_pos h]
      exact if_pos h
    · simp only [if_neg h, Finset.sum_const_zero]
      exact if_neg h
  have g : ∀ (n : ℕ) (hn : n < 8), (if b.val = 0 then ∑ x : Fin 256, lossRow (m ((c : Thread nD τ).loc main_arg0))
        (m ((c : Thread nD τ).loc main_arg1)) (m ((c : Thread nD τ).loc main_arg2)) (m ((c : Thread nD τ).loc main_arg3)) ⟨n * 256 + x.val, by omega⟩ else 0)
      = ∑ x : Fin 256, if b.val = 0 then lossRow (m ((c : Thread nD τ).loc main_arg0))
        (m ((c : Thread nD τ).loc main_arg1)) (m ((c : Thread nD τ).loc main_arg2)) (m ((c : Thread nD τ).loc main_arg3)) ⟨n * 256 + x.val, by omega⟩ else 0 := by
    intro n hn
    by_cases h : b.val = 0
    · simp only [if_pos h]
    · simp only [if_neg h, Finset.sum_const_zero]
  refine Eq.trans ?_ (e 0).symm
  refine sum_blocks (fun n hn => (outsAt0 m c n hn).2.2.2 (ix2 a b)) _ ?_ (fun n hn => ?_) n hn h7
  · refine (loss_first m c ⟨0, by decide⟩ rfl _).trans ((pay1_at ..).trans ?_)
    rw [loss_part m c 0 (by decide), g 0 (by decide)]
    exact (congrArg (· + _) (zero6 a b)).trans (zero_add _)
  · refine (loss_next m c ⟨n + 1, hn⟩ (by dsimp only; omega) _).trans ((pay1_at ..).trans ?_)
    rw [loss_part m c (n + 1) hn, g (n + 1) hn]
    rfl

theorem at4 (A : Arr 2048 2048) (a : Fin 256) (b : Fin 2048) : A ((win0_4.blk t).view.emb (ix2 a b))
    = A (ix2 ⟨t.val * 256 + a.val, by have h : t.val < 8 := t.isLt; omega⟩ b) := by
  blk_point [idx t]

theorem final4 : (dats m 0 c).arrAt 4 (cfgs 0).N = gradX (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]
  idx_vars y
  refine Eq.trans ?_ (at4 t _ _ _).symm
  by_cases h : t.val % 8 = 0
  · rw [outsAt0_A m c t h]
    frame_out
    refine (pay3_at ..).trans ?_
    rw [row0, row1, row2, row3]
    rfl
  · rw [outsAt0_B m c t h]
    frame_out
    refine (pay3_at ..).trans ?_
    rw [row0, row1, row2, row3]
    rfl

theorem at5 (A : Arr 2048 2048) (a : Fin 256) (b : Fin 2048) : A ((win0_5.blk t).view.emb (ix2 a b))
    = A (ix2 ⟨t.val * 256 + a.val, by have h : t.val < 8 := t.isLt; omega⟩ b) := by
  blk_point [idx t]

theorem final5 : (dats m 0 c).arrAt 5 (cfgs 0).N = gradZ (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t _ y => ?_
  blk_simp
  rw [after0_5]
  idx_vars y
  refine Eq.trans ?_ (at5 t _ _ _).symm
  by_cases h : t.val % 8 = 0
  · rw [outsAt0_A m c t h]
    frame_out
    refine (pay4_at ..).trans ?_
    rw [row0, row1, row2, row3]
    rfl
  · rw [outsAt0_B m c t h]
    frame_out
    refine (pay4_at ..).trans ?_
    rw [row0, row1, row2, row3]
    rfl

theorem at6 (A : Arr 1 2048) (a : Fin 1) (b : Fin 2048) : A ((win0_6.blk t).view.emb (ix2 a b)) = A (ix2 a b) := by
  blk_point [idx t]

theorem last6 (h : t.val % 8 = 7) (a : Fin 1) (b : Fin 2048) : (outsAt0 m c t.val t.isLt).2.2.1 (ix2 a b)
    = gradGate (m ((c : Thread nD τ).loc main_arg0)) (m ((c : Thread nD τ).loc main_arg1)) (m ((c : Thread nD τ).loc main_arg2))
        (m ((c : Thread nD τ).loc main_arg3)) (ix2 a b) := by
  have h' : t.val < 8 := t.isLt
  exact gate_total m c a b t.val t.isLt (by omega)

theorem final6 : (dats m 0 c).arrAt 6 (cfgs 0).N = gradGate (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf y => ?_
  blk_simp
  rw [after0_6]
  idx_vars y
  exact (last6 m c t ((flush0_6 t).mp hf) _ _).trans (at6 t _ _ _).symm

theorem at7 (A : Arr 1 128) (a : Fin 1) (b : Fin 128) : A ((win0_7.blk t).view.emb (ix2 a b)) = A (ix2 a b) := by
  blk_point [idx t]

theorem last7 (h : t.val % 8 = 7) (a : Fin 1) (b : Fin 128) : (outsAt0 m c t.val t.isLt).2.2.2 (ix2 a b)
    = loss (m ((c : Thread nD τ).loc main_arg0)) (m ((c : Thread nD τ).loc main_arg1)) (m ((c : Thread nD τ).loc main_arg2))
        (m ((c : Thread nD τ).loc main_arg3)) (ix2 a b) := by
  have h' : t.val < 8 := t.isLt
  exact loss_total m c a b t.val t.isLt (by omega)

theorem final7 : (dats m 0 c).arrAt 7 (cfgs 0).N = loss (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t hf y => ?_
  blk_simp
  rw [after0_7]
  idx_vars y
  exact (last7 m c t ((flush0_7 t).mp hf) _ _).trans (at7 t _ _ _).symm

end Cert.OutLossIdeal.Value

end
-- ==== Proof.LossRef.lean ====
/-  The loss and its gradients: the kernel computes what its reference does. -/
module

public import proofs.«01_k».proof.Defs
public import proofs.«01_k».proof.Proof.Loss
public import proofs.«01_k».proof.Proof.Gen.OutLossIdeal.Value
public import proofs.«01_k».proof.Proof.Gen.OutLossIdeal.Frame
public import proofs.«01_k».proof.Proof.Gen.OutLossIdeal
public import proofs.«01_k».proof.Proof.Gen.OutLossRefIdeal.Run
public import proofs.«01_k».proof.Proof.Gen.OutLossRefIdeal
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem
open Cert.Mat Cert.Attn Cert.Rows

/-- Every run of the reference of `OutLoss` ends, with its arguments kept and every counter at zero. -/
theorem frame_OutLossRef : Cert.quiescent_OutLossRefIdeal := by
  intro m g _
  exact (θ_run Cert.OutLossRefIdeal.defs _ _).mono
    (fun r h => ⟨fun c => (h c).2.2.2.2, sem_eq_zero_of_no_sems (by decide) r.2⟩) (Cert.OutLossRefIdeal.Value.run m g)

open Cert.OutLossIdeal.Value (err invWidth halfInvWidth errAt gradX gradZ gateRow gradGate lossRow loss)

/-- The factor of the mean of squares' gradient. -/
theorem mean_grad (e : EReal) : Ideal.div (Ideal.ofBits .f32 0x3F000000#32) (Ideal.ofBits .f32 0x45000000#32) * (Ideal.ofBits .f32 0x40000000#32 * e)
    = e * invWidth := by
  rw [invWidth, bits_half, bits_2048, bits_two, bits_inv2048, div_real _ _ (by norm_num), ← mul_assoc, ← EReal.coe_mul, ← EReal.coe_mul, mul_comm]
  norm_num

/-- Over the extended reals the loss and its gradients are the reference's. -/
theorem algebraic_OutLoss : Cert.algebraic_OutLossIdeal_OutLossRefIdeal := by
  pair_intro
  · run_from Cert.OutLossIdeal.Value.run_blocks m g
  · run_from Cert.OutLossRefIdeal.Value.run m' g'
    · refine Eq.trans ?_ (Cert.OutLossIdeal.Value.final4 m c).symm
      funext i
      idx_vars i
      pointwise [gradX, errAt, err]
      simp only [mean_grad]
    · refine Eq.trans ?_ (Cert.OutLossIdeal.Value.final5 m c).symm
      funext i
      idx_vars i
      pointwise [gradZ, errAt, err]
      simp only [mean_grad]
      exact mul_comm _ _
    · refine Eq.trans ?_ (Cert.OutLossIdeal.Value.final6 m c).symm
      funext i
      idx_vars i
      pointwise [gradGate, gateRow, errAt, err]
      simp only [mean_grad]
    · refine Eq.trans ?_ (Cert.OutLossIdeal.Value.final7 m c).symm
      funext i
      idx_vars i
      pointwise [loss, lossRow, errAt, err]
      by_cases h : i1.val = 0
      · rw [dif_pos (by omega), if_pos h, bits_half, mul_comm, sum_mul_real _ _ _ (by norm_num)]
        refine Finset.sum_congr rfl fun t _ => ?_
        rw [bits_2048, div_real _ _ (by norm_num), halfInvWidth, bits_inv4096, mul_assoc, ← EReal.coe_mul]
        norm_num
      · rw [dif_neg (by omega), if_neg h]
        show (((0#32 : BitVec 32).toInt : ℝ) : EReal) = 0
        simp

end Cert.Proof

end
-- ==== Proof.Norm.lean ====
/-  Normalised rows: a row over the root of its mean square, and the gradient through it. -/
module

public import proofs.«01_k».proof.Proof.Rows
public import Idealize.ShloMosaic.Lib.Pipeline.ValueKit

@[expose] public section

set_option maxRecDepth 16384

noncomputable section

namespace Cert.Norm

open Idealize.ShloMosaic Idealize.ShloMosaic.TcCoe Idealize.SL.Sem
open Cert.Mat Cert.Attn Cert.Rows

/-- The small constant under the root. -/
def eps : EReal := Ideal.ofBits .f32 0x358637BD#32

/-- One. -/
def one : EReal := 1

/-- The mean square of a row, with the small constant. -/
def meanSq {n : ℕ} (W : EReal) (x : Fin n → EReal) : EReal := Ideal.div (∑ s, x s * x s) W + eps

/-- The factor that normalises a row. -/
def factor {n : ℕ} (W : EReal) (x : Fin n → EReal) : EReal := Ideal.rsqrt (meanSq W x)

/-- The gradient of a row, from the gradient of the normalised row. -/
def pull {n : ℕ} (W : EReal) (x d : Fin n → EReal) (s : Fin n) : EReal :=
  factor W x * (d s - x s * factor W x * Ideal.div (∑ j, d j * (x j * factor W x)) W)

theorem bits_128 : Ideal.ofBits .f32 0x43000000#32 = ((128 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul]; norm_num

theorem bits_eps : ∃ e : ℝ, 0 < e ∧ eps = (e : EReal) := by
  refine ⟨(8796093 : ℝ) / 8796093022208, by norm_num, ?_⟩
  simp [eps, Ideal.ofBits, Ideal.ieee, -EReal.coe_mul]; norm_num

theorem square_nonneg (x : EReal) : 0 ≤ x * x := by
  induction x with
  | bot => simp
  | top => simp
  | coe r => exact_mod_cast mul_self_nonneg r

/-- The mean square is infinite or a positive real. -/
theorem meanSq_cases {n : ℕ} (w : ℝ) (hw : 0 < w) (x : Fin n → EReal) :
    meanSq (w : EReal) x = ⊤ ∨ ∃ v : ℝ, 0 < v ∧ meanSq (w : EReal) x = (v : EReal) := by
  obtain ⟨e, he, h⟩ := bits_eps
  have hs : 0 ≤ ∑ s, x s * x s := Finset.sum_nonneg fun s _ => square_nonneg (x s)
  unfold meanSq
  rw [h, div_real _ _ hw.ne']
  generalize (∑ s, x s * x s) = y at hs ⊢
  induction y with
  | bot => exact absurd hs (by simp)
  | top =>
    left
    rw [EReal.top_mul_coe_of_pos (inv_pos.mpr hw), EReal.top_add_coe]
  | coe r =>
    right
    have hr : 0 ≤ r := by exact_mod_cast hs
    exact ⟨r * w⁻¹ + e, by positivity, by push_cast; rfl⟩

/-- The gradient through a normalised row, written with the root's own derivative. -/
theorem pull_eq {n : ℕ} (w : ℝ) (hw : 0 < w) (x d : Fin n → EReal) (s : Fin n) :
    d s * factor (w : EReal) x
      + x s * Ideal.div ((∑ j, x j * d j) * (Ideal.ofBits .f32 0xBF000000#32 * Ideal.div (factor (w : EReal) x) (meanSq (w : EReal) x))) (w : EReal)
      + Ideal.div ((∑ j, x j * d j) * (Ideal.ofBits .f32 0xBF000000#32 * Ideal.div (factor (w : EReal) x) (meanSq (w : EReal) x))) (w : EReal) * x s
      = pull (w : EReal) x d s := by
  obtain ⟨r, hr, e1, e2⟩ : ∃ r : ℝ, 0 ≤ r ∧ factor (w : EReal) x = (r : EReal)
      ∧ Ideal.div (factor (w : EReal) x) (meanSq (w : EReal) x) = ((r * r * r : ℝ) : EReal) := by
    rcases meanSq_cases w hw x with h | ⟨v, hv, h⟩
    · refine ⟨0, le_refl _, ?_, ?_⟩
      · rw [factor, h]
        rfl
      · rw [factor, h]
        show Ideal.div 0 ⊤ = _
        simp [Ideal.div]
    · have hf : factor (w : EReal) x = (((Real.sqrt v)⁻¹ : ℝ) : EReal) := by
        rw [factor, h]
        show (if v < 0 then (⊥ : EReal) else if v = 0 then ⊤ else (((Real.sqrt v)⁻¹ : ℝ) : EReal)) = _
        rw [if_neg (not_lt.mpr hv.le), if_neg hv.ne']
      refine ⟨(Real.sqrt v)⁻¹, inv_nonneg.mpr (Real.sqrt_nonneg v), hf, ?_⟩
      rw [hf, h, div_real _ _ hv.ne', ← EReal.coe_mul]
      congr 1
      have h2 : (Real.sqrt v)⁻¹ * (Real.sqrt v)⁻¹ = v⁻¹ := by
        rw [← mul_inv, Real.mul_self_sqrt hv.le]
      rw [mul_assoc, h2]
  have e3 : (∑ j, d j * (x j * (r : EReal))) = (∑ j, x j * d j) * (r : EReal) := by
    rw [sum_mul_real _ _ _ hr]
    refine Finset.sum_congr rfl fun j _ => ?_
    rw [← mul_assoc, mul_comm (d j)]
  unfold pull
  rw [e2, e1, e3, bits_neg_half, div_real _ _ hw.ne', div_real _ _ hw.ne']
  generalize (∑ j, x j * d j) = y
  have hd : ∀ a b : EReal, (r : EReal) * (a - b) = (r : EReal) * a + -((r : EReal) * b) := fun a b => by
    rw [sub_eq_add_neg, EReal.left_distrib_of_nonneg_of_ne_top (by exact_mod_cast hr) (EReal.coe_ne_top _), mul_neg]
  have h2 : ∀ a : EReal, a + a = a * ((2 : ℝ) : EReal) := fun a => by
    induction a with
    | bot => exact (EReal.bot_mul_coe_of_pos (by norm_num)).symm
    | top => exact (EReal.top_mul_coe_of_pos (by norm_num)).symm
    | coe b => rw [← EReal.coe_add, ← EReal.coe_mul]; congr 1; ring
  rw [hd, mul_comm (d s), add_assoc, mul_comm (_ * _) (x s), h2]
  refine congrArg ((r : EReal) * d s + ·) ?_
  have l : x s * (y * (((-(1 / 2) : ℝ) : EReal) * ((r * r * r : ℝ) : EReal)) * ((w⁻¹ : ℝ) : EReal)) * ((2 : ℝ) : EReal)
      = x s * y * ((-(r * r * r * w⁻¹) : ℝ) : EReal) := by
    rw [mul_assoc (x s), mul_assoc (x s), mul_assoc y, mul_assoc y, ← EReal.coe_mul, ← EReal.coe_mul, ← EReal.coe_mul]
    congr 3
    ring
  have q : (r : EReal) * (x s * (r : EReal) * (y * (r : EReal) * ((w⁻¹ : ℝ) : EReal))) = x s * y * ((r * r * r * w⁻¹ : ℝ) : EReal) := by
    push_cast
    ac_rfl
  rw [l, q, EReal.coe_neg, mul_neg]

/-- The same for a row of the stream, whose gradient comes through the weight and the scale. -/
theorem pull_width {n : ℕ} (x dh nw sc : Fin n → EReal) (s : Fin n) :
    dh s * (1 + sc s) * nw s * Ideal.rsqrt (Ideal.div (∑ j, x j * x j) (Ideal.ofBits .f32 0x45000000#32) + Ideal.ofBits .f32 0x358637BD#32)
      + x s * Ideal.div ((∑ j, x j * (dh j * (1 + sc j) * nw j)) * (Ideal.ofBits .f32 0xBF000000#32
        * Ideal.div (Ideal.rsqrt (Ideal.div (∑ j, x j * x j) (Ideal.ofBits .f32 0x45000000#32) + Ideal.ofBits .f32 0x358637BD#32))
          (Ideal.div (∑ j, x j * x j) (Ideal.ofBits .f32 0x45000000#32) + Ideal.ofBits .f32 0x358637BD#32))) (Ideal.ofBits .f32 0x45000000#32)
      + Ideal.div ((∑ j, x j * (dh j * (1 + sc j) * nw j)) * (Ideal.ofBits .f32 0xBF000000#32
        * Ideal.div (Ideal.rsqrt (Ideal.div (∑ j, x j * x j) (Ideal.ofBits .f32 0x45000000#32) + Ideal.ofBits .f32 0x358637BD#32))
          (Ideal.div (∑ j, x j * x j) (Ideal.ofBits .f32 0x45000000#32) + Ideal.ofBits .f32 0x358637BD#32))) (Ideal.ofBits .f32 0x45000000#32) * x s
      = pull (Ideal.ofBits .f32 0x45000000#32) x (fun j => dh j * nw j * (one + sc j)) s := by
  have e : (fun j => dh j * nw j * (one + sc j)) = fun j => dh j * (one + sc j) * nw j := funext fun j => mul_right_comm _ _ _
  rw [e, bits_2048]
  exact pull_eq 2048 (by norm_num) x (fun j => dh j * (one + sc j) * nw j) s

theorem add_four (a b c d e : EReal) (h : b + c + d = e) : a + b + c + d = a + e := by
  rw [← h, add_assoc a, add_assoc a]

section Arrays

/-- A residual stream after a gated block. -/
def residual (X MIX : Arr 2048 2048) (GATE : Arr 1 2048) : Arr 2048 2048 := fun i => X i + GATE (ix2 0 (i 1)) * MIX i

/-- The width of a row. -/
def width : EReal := Ideal.ofBits .f32 0x45000000#32

variable (DH X : Arr 2048 2048) (NW SC : Arr 1 2048) (DR MIX : Arr 2048 2048) (GATE : Arr 1 2048)

/-- A place of the normalised rows. -/
def xr (t s : Fin 2048) : EReal := X (ix2 t s) * factor width fun j => X (ix2 t j)

/-- The gradient that reaches the normalised rows. -/
def dIn (t s : Fin 2048) : EReal := DH (ix2 t s) * NW (ix2 0 s) * (one + SC (ix2 0 s))

/-- The gradient of the rows, on top of what the residual stream brings. -/
def gradRow (t s : Fin 2048) : EReal := DR (ix2 t s) + pull width (fun j => X (ix2 t j)) (dIn DH NW SC t) s

def gradRows : Arr 2048 2048 := fun i => gradRow DH X NW SC DR (i 0) (i 1)

def shiftRow (s t : Fin 2048) : EReal := DH (ix2 t s)

def gradShift : Arr 1 2048 := fun i => ∑ t : Fin 2048, shiftRow DH (i 1) t

def scaleRow (s t : Fin 2048) : EReal := DH (ix2 t s) * xr X t s * NW (ix2 0 s)

def gradScale : Arr 1 2048 := fun i => ∑ t : Fin 2048, scaleRow DH X NW (i 1) t

def weightRow (s t : Fin 2048) : EReal := DH (ix2 t s) * xr X t s * (one + SC (ix2 0 s))

def gradWeight : Arr 1 2048 := fun i => ∑ t : Fin 2048, weightRow DH X SC (i 1) t

def gateRow (s t : Fin 2048) : EReal := gradRow DH X NW SC DR t s * MIX (ix2 t s)

def gradGate : Arr 1 2048 := fun i => ∑ t : Fin 2048, gateRow DH X NW SC DR MIX (i 1) t

def gradMix : Arr 2048 2048 := fun i => gradRow DH X NW SC DR (i 0) (i 1) * GATE (ix2 0 (i 1))

end Arrays

end Cert.Norm

end
-- ==== Proof.NormOne.lean ====
/-  The backward pass through a normalised and modulated stream: the arrays the kernel leaves, entry by entry. -/
module

public import proofs.«01_k».proof.Proof.Norm
public import Idealize.ShloMosaic.Lib.Pipeline.ValueKit
public import proofs.«01_k».proof.Proof.Gen.Norm1BwdIdeal.Value

@[expose] public section

set_option maxRecDepth 16384

noncomputable section

namespace Cert.Norm1BwdIdeal.Value

open Idealize.ShloMosaic Idealize.ShloMosaic.TcCoe Idealize.SL.Sem
open Cert.Norm1BwdIdeal Cert.Norm1BwdIdeal.Gen Cert.Attn Cert.Mat Cert.Rows Cert.Norm

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![0, 0] ∧ win0_7.index t = ![0, 0] ∧ win0_8.index t = ![0, 0] :=
  (by decide +kernel : ∀ t : Fin grid0.N, _)

theorem row_at (x : FVec Ideal S256x2048 .f32) (a : Fin 256) (b : Fin 2048) :
    k0_pay5 (F := Ideal) x (ix2 a b) = x (ix2 a b) * factor width fun j => x (ix2 a j) := by
  pointwise [k0_pay5, k0_pay4, factor, meanSq, width, eps]

theorem dx_at (dh x : FVec Ideal S256x2048 .f32) (nw sc : FVec Ideal S1x2048 .f32) (dr : FVec Ideal S256x2048 .f32) (a : Fin 256) (b : Fin 2048) :
    k0_pay7 (F := Ideal) dh x nw sc dr (ix2 a b) = dr (ix2 a b)
      + pull width (fun j => x (ix2 a j)) (fun j => dh (ix2 a j) * nw (ix2 0 j) * (one + sc (ix2 0 j))) b := by
  pointwise [k0_pay7, k0_pay5, k0_pay4, k0_pay6, pull, factor, meanSq, width, eps, one]

theorem shift_at (dh : FVec Ideal S256x2048 .f32) (acc : FVec Ideal S1x2048 .f32) (a : Fin 1) (b : Fin 2048) :
    k0_pay1 (F := Ideal) dh acc (ix2 a b) = acc (ix2 a b) + ∑ s : Fin 256, dh (ix2 s b) := by
  pointwise [k0_pay1]

theorem scale_at (dh x : FVec Ideal S256x2048 .f32) (nw acc : FVec Ideal S1x2048 .f32) (a : Fin 1) (b : Fin 2048) :
    k0_pay2 (F := Ideal) dh (k0_pay5 x) nw acc (ix2 a b)
      = acc (ix2 a b) + ∑ s : Fin 256, dh (ix2 s b) * (x (ix2 s b) * factor width fun j => x (ix2 s j)) * nw (ix2 0 b) := by
  pointwise [k0_pay2, k0_pay5, k0_pay4, factor, meanSq, width, eps]

theorem weight_at (dh x : FVec Ideal S256x2048 .f32) (sc acc : FVec Ideal S1x2048 .f32) (a : Fin 1) (b : Fin 2048) :
    k0_pay3 (F := Ideal) dh (k0_pay5 x) (k0_pay6 sc) acc (ix2 a b)
      = acc (ix2 a b) + ∑ s : Fin 256, dh (ix2 s b) * (x (ix2 s b) * factor width fun j => x (ix2 s j)) * (one + sc (ix2 0 b)) := by
  pointwise [k0_pay3, k0_pay5, k0_pay4, k0_pay6, factor, meanSq, width, eps, one]

theorem zero8 (a : Fin 1) (b : Fin 2048) : k0_pay8 (F := Ideal) (ix2 a b) = 0 := by
  pointwise [k0_pay8]

theorem zero9 (a : Fin 1) (b : Fin 2048) : k0_pay9 (F := Ideal) (ix2 a b) = 0 := by
  pointwise [k0_pay9]

theorem zero10 (a : Fin 1) (b : Fin 2048) : k0_pay10 (F := Ideal) (ix2 a b) = 0 := by
  pointwise [k0_pay10]

variable (c : Dev nD) (t : Fin cfg0.N)

theorem row0 (a : Fin 256) (b : Fin 2048) : iblk m c 0 t (ix2 a b) = (m ((c : Thread nD τ).loc main_arg0))
    (ix2 ⟨t.val * 256 + a.val, by have h : t.val < 8 := t.isLt; omega⟩ b) := by

  blk_point [iblk, V, idx t]

theorem row1 (a : Fin 256) (b : Fin 2048) : iblk m c 1 t (ix2 a b) = (m ((c : Thread nD τ).loc main_arg1))
    (ix2 ⟨t.val * 256 + a.val, by have h : t.val < 8 := t.isLt; omega⟩ b) := by

  blk_point [iblk, V, idx t]

theorem row2 (a : Fin 1) (b : Fin 2048) : iblk m c 2 t (ix2 a b) = (m ((c : Thread nD τ).loc main_arg2)) (ix2 a b) := by
  blk_point [iblk, V, idx t]

theorem row3 (a : Fin 1) (b : Fin 2048) : iblk m c 3 t (ix2 a b) = (m ((c : Thread nD τ).loc main_arg3)) (ix2 a b) := by
  blk_point [iblk, V, idx t]

theorem row4 (a : Fin 256) (b : Fin 2048) : iblk m c 4 t (ix2 a b) = (m ((c : Thread nD τ).loc main_arg5))
    (ix2 ⟨t.val * 256 + a.val, by have h : t.val < 8 := t.isLt; omega⟩ b) := by

  blk_point [iblk, V, idx t]

theorem shift_first (h : t.val % 8 = 0) (y : S1x2048.Idx) : (outsAt0 m c t.val t.isLt).2.1 y
    = k0_pay1 (F := Ideal) (iblk m c 0 t) (k0_pay8 (F := Ideal)) y := by
  rw [outsAt0_A m c t h]
  frame_out

theorem shift_next (h : ¬t.val % 8 = 0) (y : S1x2048.Idx) : (outsAt0 m c t.val t.isLt).2.1 y
    = k0_pay1 (F := Ideal) (iblk m c 0 t) (outsAt0 m c (t.val - 1) (Nat.lt_of_le_of_lt (Nat.sub_le _ _) t.isLt)).2.1 y := by
  rw [outsAt0_B m c t h]
  frame_out

theorem shift_part (b : Fin 2048) (n : ℕ) (hn : n < 8) : (∑ s : Fin 256, (show EReal from iblk m c 0 ⟨n, hn⟩ (ix2 s b)))
    = ∑ s : Fin 256, (shiftRow (m ((c : Thread nD τ).loc main_arg0)) b) ⟨n * 256 + s.val, by omega⟩ := by
  refine Finset.sum_congr rfl fun s _ => ?_
  simp only [row0, row1, row2, row3, row4]
  rfl

theorem shift_total (a : Fin 1) (b : Fin 2048) (n : ℕ) (hn : n < cfg0.N) (h7 : n = 7) : (outsAt0 m c n hn).2.1 (ix2 a b)
    = gradShift (m ((c : Thread nD τ).loc main_arg0)) (ix2 a b) := by
  refine sum_blocks (fun n hn => (outsAt0 m c n hn).2.1 (ix2 a b)) (shiftRow (m ((c : Thread nD τ).loc main_arg0)) b) ?_ (fun n hn => ?_) n hn h7
  · exact (shift_first m c ⟨0, by decide⟩ rfl _).trans ((shift_at ..).trans
      ((congrArg₂ (· + ·) (zero8 a b) (shift_part m c b 0 (by decide))).trans (zero_add _)))
  · exact (shift_next m c ⟨n + 1, hn⟩ (by dsimp only; omega) _).trans ((shift_at ..).trans (congrArg (_ + ·) (shift_part m c b (n + 1) hn)))

theorem at6 (A : Arr 1 2048) (a : Fin 1) (b : Fin 2048) : A ((win0_6.blk t).view.emb (ix2 a b)) = A (ix2 a b) := by
  blk_point [idx t]

theorem final6 : (dats m 0 c).arrAt 6 (cfgs 0).N = gradShift (m ((c : Thread nD τ).loc main_arg0)) := by
  refine (dats m 0 c).arrAt_eq_of_covers 6 _ (by decide +kernel) fun t hf y => ?_
  blk_simp
  rw [after0_6]
  idx_vars y
  have h : t.val % 8 = 7 := (flush0_6 t).mp hf
  have h' : t.val < 8 := t.isLt
  exact (shift_total m c _ _ t.val t.isLt (by omega)).trans (at6 t _ _ _).symm

theorem scale_first (h : t.val % 8 = 0) (y : S1x2048.Idx) : (outsAt0 m c t.val t.isLt).2.2.1 y
    = k0_pay2 (F := Ideal) (iblk m c 0 t) (k0_pay5 (iblk m c 1 t)) (iblk m c 2 t) (k0_pay9 (F := Ideal)) y := by
  rw [outsAt0_A m c t h]
  frame_out

theorem scale_next (h : ¬t.val % 8 = 0) (y : S1x2048.Idx) : (outsAt0 m c t.val t.isLt).2.2.1 y
    = k0_pay2 (F := Ideal) (iblk m c 0 t) (k0_pay5 (iblk m c 1 t)) (iblk m c 2 t) (outsAt0 m c (t.val - 1) (Nat.lt_of_le_of_lt (Nat.sub_le _ _) t.isLt)).2.2.1 y := by
  rw [outsAt0_B m c t h]
  frame_out

theorem scale_part (b : Fin 2048) (n : ℕ) (hn : n < 8) : (∑ s : Fin 256, (show EReal from iblk m c 0 ⟨n, hn⟩ (ix2 s b)) * ((show EReal from iblk m c 1 ⟨n, hn⟩ (ix2 s b)) * factor width fun j => iblk m c 1 ⟨n, hn⟩ (ix2 s j)) * (show EReal from iblk m c 2 ⟨n, hn⟩ (ix2 0 b)))
    = ∑ s : Fin 256, (scaleRow (m ((c : Thread nD τ).loc main_arg0)) (m ((c : Thread nD τ).loc main_arg1)) (m ((c : Thread nD τ).loc main_arg2)) b) ⟨n * 256 + s.val, by omega⟩ := by
  refine Finset.sum_congr rfl fun s _ => ?_
  simp only [row0, row1, row2, row3, row4]
  rfl

theorem scale_total (a : Fin 1) (b : Fin 2048) (n : ℕ) (hn : n < cfg0.N) (h7 : n = 7) : (outsAt0 m c n hn).2.2.1 (ix2 a b)
    = gradScale (m ((c : Thread nD τ).loc main_arg0)) (m ((c : Thread nD τ).loc main_arg1)) (m ((c : Thread nD τ).loc main_arg2)) (ix2 a b) := by
  refine sum_blocks (fun n hn => (outsAt0 m c n hn).2.2.1 (ix2 a b)) (scaleRow (m ((c : Thread nD τ).loc main_arg0)) (m ((c : Thread nD τ).loc main_arg1)) (m ((c : Thread nD τ).loc main_arg2)) b) ?_ (fun n hn => ?_) n hn h7
  · exact (scale_first m c ⟨0, by decide⟩ rfl _).trans ((scale_at ..).trans
      ((congrArg₂ (· + ·) (zero9 a b) (scale_part m c b 0 (by decide))).trans (zero_add _)))
  · exact (scale_next m c ⟨n + 1, hn⟩ (by dsimp only; omega) _).trans ((scale_at ..).trans (congrArg (_ + ·) (scale_part m c b (n + 1) hn)))

theorem at7 (A : Arr 1 2048) (a : Fin 1) (b : Fin 2048) : A ((win0_7.blk t).view.emb (ix2 a b)) = A (ix2 a b) := by
  blk_point [idx t]

theorem final7 : (dats m 0 c).arrAt 7 (cfgs 0).N = gradScale (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  idx_vars y
  have h : t.val % 8 = 7 := (flush0_7 t).mp hf
  have h' : t.val < 8 := t.isLt
  exact (scale_total m c _ _ t.val t.isLt (by omega)).trans (at7 t _ _ _).symm

theorem weight_first (h : t.val % 8 = 0) (y : S1x2048.Idx) : (outsAt0 m c t.val t.isLt).2.2.2 y
    = k0_pay3 (F := Ideal) (iblk m c 0 t) (k0_pay5 (iblk m c 1 t)) (k0_pay6 (iblk m c 3 t)) (k0_pay10 (F := Ideal)) y := by
  rw [outsAt0_A m c t h]
  frame_out

theorem weight_next (h : ¬t.val % 8 = 0) (y : S1x2048.Idx) : (outsAt0 m c t.val t.isLt).2.2.2 y
    = k0_pay3 (F := Ideal) (iblk m c 0 t) (k0_pay5 (iblk m c 1 t)) (k0_pay6 (iblk m c 3 t)) (outsAt0 m c (t.val - 1) (Nat.lt_of_le_of_lt (Nat.sub_le _ _) t.isLt)).2.2.2 y := by
  rw [outsAt0_B m c t h]
  frame_out

theorem weight_part (b : Fin 2048) (n : ℕ) (hn : n < 8) : (∑ s : Fin 256, (show EReal from iblk m c 0 ⟨n, hn⟩ (ix2 s b)) * ((show EReal from iblk m c 1 ⟨n, hn⟩ (ix2 s b)) * factor width fun j => iblk m c 1 ⟨n, hn⟩ (ix2 s j)) * (one + (show EReal from iblk m c 3 ⟨n, hn⟩ (ix2 0 b))))
    = ∑ s : Fin 256, (weightRow (m ((c : Thread nD τ).loc main_arg0)) (m ((c : Thread nD τ).loc main_arg1)) (m ((c : Thread nD τ).loc main_arg3)) b) ⟨n * 256 + s.val, by omega⟩ := by
  refine Finset.sum_congr rfl fun s _ => ?_
  simp only [row0, row1, row2, row3, row4]
  rfl

theorem weight_total (a : Fin 1) (b : Fin 2048) (n : ℕ) (hn : n < cfg0.N) (h7 : n = 7) : (outsAt0 m c n hn).2.2.2 (ix2 a b)
    = gradWeight (m ((c : Thread nD τ).loc main_arg0)) (m ((c : Thread nD τ).loc main_arg1)) (m ((c : Thread nD τ).loc main_arg3)) (ix2 a b) := by
  refine sum_blocks (fun n hn => (outsAt0 m c n hn).2.2.2 (ix2 a b)) (weightRow (m ((c : Thread nD τ).loc main_arg0)) (m ((c : Thread nD τ).loc main_arg1)) (m ((c : Thread nD τ).loc main_arg3)) b) ?_ (fun n hn => ?_) n hn h7
  · exact (weight_first m c ⟨0, by decide⟩ rfl _).trans ((weight_at ..).trans
      ((congrArg₂ (· + ·) (zero10 a b) (weight_part m c b 0 (by decide))).trans (zero_add _)))
  · exact (weight_next m c ⟨n + 1, hn⟩ (by dsimp only; omega) _).trans ((weight_at ..).trans (congrArg (_ + ·) (weight_part m c b (n + 1) hn)))

theorem at8 (A : Arr 1 2048) (a : Fin 1) (b : Fin 2048) : A ((win0_8.blk t).view.emb (ix2 a b)) = A (ix2 a b) := by
  blk_point [idx t]

theorem final8 : (dats m 0 c).arrAt 8 (cfgs 0).N = gradWeight (m ((c : Thread nD τ).loc main_arg0)) (m ((c : Thread nD τ).loc main_arg1)) (m ((c : Thread nD τ).loc main_arg3)) := by
  refine (dats m 0 c).arrAt_eq_of_covers 8 _ (by decide +kernel) fun t hf y => ?_
  blk_simp
  rw [after0_8]
  idx_vars y
  have h : t.val % 8 = 7 := (flush0_8 t).mp hf
  have h' : t.val < 8 := t.isLt
  exact (weight_total m c _ _ t.val t.isLt (by omega)).trans (at8 t _ _ _).symm

theorem at5 (A : Arr 2048 2048) (a : Fin 256) (b : Fin 2048) : A ((win0_5.blk t).view.emb (ix2 a b))
    = A (ix2 ⟨t.val * 256 + a.val, by have h : t.val < 8 := t.isLt; omega⟩ b) := by
  blk_point [idx t]

theorem final5 : (dats m 0 c).arrAt 5 (cfgs 0).N = gradRows (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 5 _ (by decide +kernel) fun t _ y => ?_
  blk_simp
  rw [after0_5]
  idx_vars y
  refine Eq.trans ?_ (at5 t _ _ _).symm
  by_cases h : t.val % 8 = 0
  · rw [outsAt0_A m c t h]
    frame_out
    refine (dx_at ..).trans ?_
    simp only [row0, row1, row2, row3, row4]
    rfl
  · rw [outsAt0_B m c t h]
    frame_out
    refine (dx_at ..).trans ?_
    simp only [row0, row1, row2, row3, row4]
    rfl

end Cert.Norm1BwdIdeal.Value

end
-- ==== Proof.NormOneRows.lean ====
/-  The backward pass through a normalised and modulated stream, as the reference writes it. -/
module

public import proofs.«01_k».proof.Proof.Norm
public import Idealize.ShloMosaic.Lib.Pipeline.ValueKit
public import proofs.«01_k».proof.Proof.Gen.Norm1BwdRefIdeal.Run

@[expose] public section

set_option maxRecDepth 16384

noncomputable section

namespace Cert.Norm1BwdRefIdeal.Value

open Idealize.ShloMosaic Idealize.ShloMosaic.TcCoe Idealize.SL.Sem
open Cert.Norm1BwdRefIdeal Cert.Attn Cert.Mat Cert.Rows Cert.Norm

variable (m : (ℓ : Loc nD τ sig) → Buf (Elt Ideal) ℓ)

theorem rows (c : Dev nD) : res_main_v48 m c = gradRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  funext i
  idx_vars i
  pointwise [res_main_v48, gradRows, gradRow]
  simp only [Fin.sum_univ_one]
  refine congrArg₂ (fun x y : EReal => x + y) rfl ?_
  exact pull_width (fun j => (m ((c.tc : Thread nD τ).loc main_arg1)) (ix2 i0 j))
    (fun j => (m ((c.tc : Thread nD τ).loc main_arg0)) (ix2 i0 j)) (fun j => (m ((c.tc : Thread nD τ).loc main_arg2)) (ix2 0 j)) (fun j => (m ((c.tc : Thread nD τ).loc main_arg3)) (ix2 0 j)) i1

end Cert.Norm1BwdRefIdeal.Value

end
-- ==== Proof.NormTwo.lean ====
/-  The backward pass through a normalised and modulated stream: the arrays the kernel leaves, entry by entry. -/
module

public import proofs.«01_k».proof.Proof.Norm
public import Idealize.ShloMosaic.Lib.Pipeline.ValueKit
public import proofs.«01_k».proof.Proof.Gen.Norm2BwdIdeal.Value

@[expose] public section

set_option maxRecDepth 16384

noncomputable section

namespace Cert.Norm2BwdIdeal.Value

open Idealize.ShloMosaic Idealize.ShloMosaic.TcCoe Idealize.SL.Sem
open Cert.Norm2BwdIdeal Cert.Norm2BwdIdeal.Gen Cert.Attn Cert.Mat Cert.Rows Cert.Norm

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![0, 0] ∧ win0_7.index t = ![t.val, 0] ∧ win0_8.index t = ![0, 0] ∧ win0_9.index t = ![0, 0] ∧ win0_10.index t = ![0, 0] ∧ win0_11.index t = ![0, 0] ∧ win0_12.index t = ![t.val, 0] :=
  (by decide +kernel : ∀ t : Fin grid0.N, _)

theorem row_at (x : FVec Ideal S256x2048 .f32) (a : Fin 256) (b : Fin 2048) :
    k0_pay4 (F := Ideal) x (ix2 a b) = x (ix2 a b) * factor width fun j => x (ix2 a j) := by
  pointwise [k0_pay4, k0_pay3, k0_pay2, factor, meanSq, width, eps]

theorem dx_at (dh x : FVec Ideal S256x2048 .f32) (nw sc : FVec Ideal S1x2048 .f32) (dr : FVec Ideal S256x2048 .f32) (a : Fin 256) (b : Fin 2048) :
    k0_pay6 (F := Ideal) dh x nw sc dr (ix2 a b) = dr (ix2 a b)
      + pull width (fun j => x (ix2 a j)) (fun j => dh (ix2 a j) * nw (ix2 0 j) * (one + sc (ix2 0 j))) b := by
  pointwise [k0_pay6, k0_pay4, k0_pay3, k0_pay2, k0_pay5, pull, factor, meanSq, width, eps, one]

theorem shift_at (dh : FVec Ideal S256x2048 .f32) (acc : FVec Ideal S1x2048 .f32) (a : Fin 1) (b : Fin 2048) :
    k0_pay11 (F := Ideal) dh acc (ix2 a b) = acc (ix2 a b) + ∑ s : Fin 256, dh (ix2 s b) := by
  pointwise [k0_pay11]

theorem scale_at (dh x : FVec Ideal S256x2048 .f32) (nw acc : FVec Ideal S1x2048 .f32) (a : Fin 1) (b : Fin 2048) :
    k0_pay12 (F := Ideal) dh (k0_pay4 x) nw acc (ix2 a b)
      = acc (ix2 a b) + ∑ s : Fin 256, dh (ix2 s b) * (x (ix2 s b) * factor width fun j => x (ix2 s j)) * nw (ix2 0 b) := by
  pointwise [k0_pay12, k0_pay4, k0_pay3, k0_pay2, factor, meanSq, width, eps]

theorem weight_at (dh x : FVec Ideal S256x2048 .f32) (sc acc : FVec Ideal S1x2048 .f32) (a : Fin 1) (b : Fin 2048) :
    k0_pay13 (F := Ideal) dh (k0_pay4 x) (k0_pay5 sc) acc (ix2 a b)
      = acc (ix2 a b) + ∑ s : Fin 256, dh (ix2 s b) * (x (ix2 s b) * factor width fun j => x (ix2 s j)) * (one + sc (ix2 0 b)) := by
  pointwise [k0_pay13, k0_pay4, k0_pay3, k0_pay2, k0_pay5, factor, meanSq, width, eps, one]

theorem zero7 (a : Fin 1) (b : Fin 2048) : k0_pay7 (F := Ideal) (ix2 a b) = 0 := by
  pointwise [k0_pay7]

theorem zero8 (a : Fin 1) (b : Fin 2048) : k0_pay8 (F := Ideal) (ix2 a b) = 0 := by
  pointwise [k0_pay8]

theorem zero9 (a : Fin 1) (b : Fin 2048) : k0_pay9 (F := Ideal) (ix2 a b) = 0 := by
  pointwise [k0_pay9]

theorem zero10 (a : Fin 1) (b : Fin 2048) : k0_pay10 (F := Ideal) (ix2 a b) = 0 := by
  pointwise [k0_pay10]

theorem gate_at (dh x : FVec Ideal S256x2048 .f32) (nw sc : FVec Ideal S1x2048 .f32) (dr mix : FVec Ideal S256x2048 .f32) (acc : FVec Ideal S1x2048 .f32) (a : Fin 1) (b : Fin 2048) :
    k0_pay14 (F := Ideal) (k0_pay6 dh x nw sc dr) acc mix (ix2 a b) = acc (ix2 a b) + ∑ s : Fin 256, (dr (ix2 s b)
      + pull width (fun j => x (ix2 s j)) (fun j => dh (ix2 s j) * nw (ix2 0 j) * (one + sc (ix2 0 j))) b) * mix (ix2 s b) := by
  pointwise [k0_pay14, k0_pay6, k0_pay4, k0_pay3, k0_pay2, k0_pay5, pull, factor, meanSq, width, eps, one]

theorem mix_at (dh x : FVec Ideal S256x2048 .f32) (nw sc : FVec Ideal S1x2048 .f32) (dr : FVec Ideal S256x2048 .f32) (g : FVec Ideal S1x2048 .f32) (a : Fin 256) (b : Fin 2048) :
    k0_pay1 (F := Ideal) (k0_pay6 dh x nw sc dr) g (ix2 a b) = (dr (ix2 a b)
      + pull width (fun j => x (ix2 a j)) (fun j => dh (ix2 a j) * nw (ix2 0 j) * (one + sc (ix2 0 j))) b) * g (ix2 0 b) := by
  pointwise [k0_pay1, k0_pay6, k0_pay4, k0_pay3, k0_pay2, k0_pay5, pull, factor, meanSq, width, eps, one]

variable (c : Dev nD) (t : Fin cfg0.N)

theorem stream (i : S2048x2048.Idx) : V m c main_v2 i = (Norm.residual (m ((c : Thread nD τ).loc main_arg1)) (m ((c : Thread nD τ).loc main_arg2)) (m ((c : Thread nD τ).loc main_arg3))) i := by
  have e : V m c main_v2 = addf (F := Ideal) (φ := .f32) (m ((c : Thread nD τ).loc main_arg1))
      (mulf (F := Ideal) (φ := .f32) (broadcastInDim (α := Ideal .f32) S2048x2048 ![0, 1] bcast_S1x2048_S2048x2048_0_1 (m ((c : Thread nD τ).loc main_arg3))) (m ((c : Thread nD τ).loc main_arg2))) := by
    unfold V hostOps0
    after_results_simp <;> rfl
  rw [e]
  idx_vars i
  pointwise [Norm.residual]

theorem row0 (a : Fin 256) (b : Fin 2048) : iblk m c 0 t (ix2 a b) = (m ((c : Thread nD τ).loc main_arg0))
    (ix2 ⟨t.val * 256 + a.val, by have h : t.val < 8 := t.isLt; omega⟩ b) := by

  blk_point [iblk, V, idx t]

theorem row1 (a : Fin 256) (b : Fin 2048) : iblk m c 1 t (ix2 a b) = (Norm.residual (m ((c : Thread nD τ).loc main_arg1)) (m ((c : Thread nD τ).loc main_arg2)) (m ((c : Thread nD τ).loc main_arg3)))
    (ix2 ⟨t.val * 256 + a.val, by have h : t.val < 8 := t.isLt; omega⟩ b) := by
  refine (stream m c _).trans ?_
  blk_point [iblk, V, idx t]

theorem row2 (a : Fin 1) (b : Fin 2048) : iblk m c 2 t (ix2 a b) = (m ((c : Thread nD τ).loc main_arg4)) (ix2 a b) := by
  blk_point [iblk, V, idx t]

theorem row3 (a : Fin 1) (b : Fin 2048) : iblk m c 3 t (ix2 a b) = (m ((c : Thread nD τ).loc main_arg5)) (ix2 a b) := by
  blk_point [iblk, V, idx t]

theorem row4 (a : Fin 256) (b : Fin 2048) : iblk m c 4 t (ix2 a b) = (m ((c : Thread nD τ).loc main_arg7))
    (ix2 ⟨t.val * 256 + a.val, by have h : t.val < 8 := t.isLt; omega⟩ b) := by

  blk_point [iblk, V, idx t]

theorem row5 (a : Fin 256) (b : Fin 2048) : iblk m c 5 t (ix2 a b) = (m ((c : Thread nD τ).loc main_arg2))
    (ix2 ⟨t.val * 256 + a.val, by have h : t.val < 8 := t.isLt; omega⟩ b) := by

  blk_point [iblk, V, idx t]

theorem row6 (a : Fin 1) (b : Fin 2048) : iblk m c 6 t (ix2 a b) = (m ((c : Thread nD τ).loc main_arg3)) (ix2 a b) := by
  blk_point [iblk, V, idx t]

theorem shift_first (h : t.val % 8 = 0) (y : S1x2048.Idx) : (outsAt0 m c t.val t.isLt).2.1 y
    = k0_pay11 (F := Ideal) (iblk m c 0 t) (k0_pay7 (F := Ideal)) y := by
  rw [outsAt0_A m c t h]
  frame_out

theorem shift_next (h : ¬t.val % 8 = 0) (y : S1x2048.Idx) : (outsAt0 m c t.val t.isLt).2.1 y
    = k0_pay11 (F := Ideal) (iblk m c 0 t) (outsAt0 m c (t.val - 1) (Nat.lt_of_le_of_lt (Nat.sub_le _ _) t.isLt)).2.1 y := by
  rw [outsAt0_B m c t h]
  frame_out

theorem shift_part (b : Fin 2048) (n : ℕ) (hn : n < 8) : (∑ s : Fin 256, (show EReal from iblk m c 0 ⟨n, hn⟩ (ix2 s b)))
    = ∑ s : Fin 256, (shiftRow (m ((c : Thread nD τ).loc main_arg0)) b) ⟨n * 256 + s.val, by omega⟩ := by
  refine Finset.sum_congr rfl fun s _ => ?_
  simp only [row0, row1, row2, row3, row4, row5, row6]
  rfl

theorem shift_total (a : Fin 1) (b : Fin 2048) (n : ℕ) (hn : n < cfg0.N) (h7 : n = 7) : (outsAt0 m c n hn).2.1 (ix2 a b)
    = gradShift (m ((c : Thread nD τ).loc main_arg0)) (ix2 a b) := by
  refine sum_blocks (fun n hn => (outsAt0 m c n hn).2.1 (ix2 a b)) (shiftRow (m ((c : Thread nD τ).loc main_arg0)) b) ?_ (fun n hn => ?_) n hn h7
  · exact (shift_first m c ⟨0, by decide⟩ rfl _).trans ((shift_at ..).trans
      ((congrArg₂ (· + ·) (zero7 a b) (shift_part m c b 0 (by decide))).trans (zero_add _)))
  · exact (shift_next m c ⟨n + 1, hn⟩ (by dsimp only; omega) _).trans ((shift_at ..).trans (congrArg (_ + ·) (shift_part m c b (n + 1) hn)))

theorem at8 (A : Arr 1 2048) (a : Fin 1) (b : Fin 2048) : A ((win0_8.blk t).view.emb (ix2 a b)) = A (ix2 a b) := by
  blk_point [idx t]

theorem final8 : (dats m 0 c).arrAt 8 (cfgs 0).N = gradShift (m ((c : Thread nD τ).loc main_arg0)) := by
  refine (dats m 0 c).arrAt_eq_of_covers 8 _ (by decide +kernel) fun t hf y => ?_
  blk_simp
  rw [after0_8]
  idx_vars y
  have h : t.val % 8 = 7 := (flush0_8 t).mp hf
  have h' : t.val < 8 := t.isLt
  exact (shift_total m c _ _ t.val t.isLt (by omega)).trans (at8 t _ _ _).symm

theorem scale_first (h : t.val % 8 = 0) (y : S1x2048.Idx) : (outsAt0 m c t.val t.isLt).2.2.1 y
    = k0_pay12 (F := Ideal) (iblk m c 0 t) (k0_pay4 (iblk m c 1 t)) (iblk m c 2 t) (k0_pay8 (F := Ideal)) y := by
  rw [outsAt0_A m c t h]
  frame_out

theorem scale_next (h : ¬t.val % 8 = 0) (y : S1x2048.Idx) : (outsAt0 m c t.val t.isLt).2.2.1 y
    = k0_pay12 (F := Ideal) (iblk m c 0 t) (k0_pay4 (iblk m c 1 t)) (iblk m c 2 t) (outsAt0 m c (t.val - 1) (Nat.lt_of_le_of_lt (Nat.sub_le _ _) t.isLt)).2.2.1 y := by
  rw [outsAt0_B m c t h]
  frame_out

theorem scale_part (b : Fin 2048) (n : ℕ) (hn : n < 8) : (∑ s : Fin 256, (show EReal from iblk m c 0 ⟨n, hn⟩ (ix2 s b)) * ((show EReal from iblk m c 1 ⟨n, hn⟩ (ix2 s b)) * factor width fun j => iblk m c 1 ⟨n, hn⟩ (ix2 s j)) * (show EReal from iblk m c 2 ⟨n, hn⟩ (ix2 0 b)))
    = ∑ s : Fin 256, (scaleRow (m ((c : Thread nD τ).loc main_arg0)) (Norm.residual (m ((c : Thread nD τ).loc main_arg1)) (m ((c : Thread nD τ).loc main_arg2)) (m ((c : Thread nD τ).loc main_arg3))) (m ((c : Thread nD τ).loc main_arg4)) b) ⟨n * 256 + s.val, by omega⟩ := by
  refine Finset.sum_congr rfl fun s _ => ?_
  simp only [row0, row1, row2, row3, row4, row5, row6]
  rfl

theorem scale_total (a : Fin 1) (b : Fin 2048) (n : ℕ) (hn : n < cfg0.N) (h7 : n = 7) : (outsAt0 m c n hn).2.2.1 (ix2 a b)
    = gradScale (m ((c : Thread nD τ).loc main_arg0)) (Norm.residual (m ((c : Thread nD τ).loc main_arg1)) (m ((c : Thread nD τ).loc main_arg2)) (m ((c : Thread nD τ).loc main_arg3))) (m ((c : Thread nD τ).loc main_arg4)) (ix2 a b) := by
  refine sum_blocks (fun n hn => (outsAt0 m c n hn).2.2.1 (ix2 a b)) (scaleRow (m ((c : Thread nD τ).loc main_arg0)) (Norm.residual (m ((c : Thread nD τ).loc main_arg1)) (m ((c : Thread nD τ).loc main_arg2)) (m ((c : Thread nD τ).loc main_arg3))) (m ((c : Thread nD τ).loc main_arg4)) b) ?_ (fun n hn => ?_) n hn h7
  · exact (scale_first m c ⟨0, by decide⟩ rfl _).trans ((scale_at ..).trans
      ((congrArg₂ (· + ·) (zero8 a b) (scale_part m c b 0 (by decide))).trans (zero_add _)))
  · exact (scale_next m c ⟨n + 1, hn⟩ (by dsimp only; omega) _).trans ((scale_at ..).trans (congrArg (_ + ·) (scale_part m c b (n + 1) hn)))

theorem at9 (A : Arr 1 2048) (a : Fin 1) (b : Fin 2048) : A ((win0_9.blk t).view.emb (ix2 a b)) = A (ix2 a b) := by
  blk_point [idx t]

theorem final9 : (dats m 0 c).arrAt 9 (cfgs 0).N = gradScale (m ((c : Thread nD τ).loc main_arg0)) (Norm.residual (m ((c : Thread nD τ).loc main_arg1)) (m ((c : Thread nD τ).loc main_arg2)) (m ((c : Thread nD τ).loc main_arg3))) (m ((c : Thread nD τ).loc main_arg4)) := by
  refine (dats m 0 c).arrAt_eq_of_covers 9 _ (by decide +kernel) fun t hf y => ?_
  blk_simp
  rw [after0_9]
  idx_vars y
  have h : t.val % 8 = 7 := (flush0_9 t).mp hf
  have h' : t.val < 8 := t.isLt
  exact (scale_total m c _ _ t.val t.isLt (by omega)).trans (at9 t _ _ _).symm

theorem weight_first (h : t.val % 8 = 0) (y : S1x2048.Idx) : (outsAt0 m c t.val t.isLt).2.2.2.1 y
    = k0_pay13 (F := Ideal) (iblk m c 0 t) (k0_pay4 (iblk m c 1 t)) (k0_pay5 (iblk m c 3 t)) (k0_pay9 (F := Ideal)) y := by
  rw [outsAt0_A m c t h]
  frame_out

theorem weight_next (h : ¬t.val % 8 = 0) (y : S1x2048.Idx) : (outsAt0 m c t.val t.isLt).2.2.2.1 y
    = k0_pay13 (F := Ideal) (iblk m c 0 t) (k0_pay4 (iblk m c 1 t)) (k0_pay5 (iblk m c 3 t)) (outsAt0 m c (t.val - 1) (Nat.lt_of_le_of_lt (Nat.sub_le _ _) t.isLt)).2.2.2.1 y := by
  rw [outsAt0_B m c t h]
  frame_out

theorem weight_part (b : Fin 2048) (n : ℕ) (hn : n < 8) : (∑ s : Fin 256, (show EReal from iblk m c 0 ⟨n, hn⟩ (ix2 s b)) * ((show EReal from iblk m c 1 ⟨n, hn⟩ (ix2 s b)) * factor width fun j => iblk m c 1 ⟨n, hn⟩ (ix2 s j)) * (one + (show EReal from iblk m c 3 ⟨n, hn⟩ (ix2 0 b))))
    = ∑ s : Fin 256, (weightRow (m ((c : Thread nD τ).loc main_arg0)) (Norm.residual (m ((c : Thread nD τ).loc main_arg1)) (m ((c : Thread nD τ).loc main_arg2)) (m ((c : Thread nD τ).loc main_arg3))) (m ((c : Thread nD τ).loc main_arg5)) b) ⟨n * 256 + s.val, by omega⟩ := by
  refine Finset.sum_congr rfl fun s _ => ?_
  simp only [row0, row1, row2, row3, row4, row5, row6]
  rfl

theorem weight_total (a : Fin 1) (b : Fin 2048) (n : ℕ) (hn : n < cfg0.N) (h7 : n = 7) : (outsAt0 m c n hn).2.2.2.1 (ix2 a b)
    = gradWeight (m ((c : Thread nD τ).loc main_arg0)) (Norm.residual (m ((c : Thread nD τ).loc main_arg1)) (m ((c : Thread nD τ).loc main_arg2)) (m ((c : Thread nD τ).loc main_arg3))) (m ((c : Thread nD τ).loc main_arg5)) (ix2 a b) := by
  refine sum_blocks (fun n hn => (outsAt0 m c n hn).2.2.2.1 (ix2 a b)) (weightRow (m ((c : Thread nD τ).loc main_arg0)) (Norm.residual (m ((c : Thread nD τ).loc main_arg1)) (m ((c : Thread nD τ).loc main_arg2)) (m ((c : Thread nD τ).loc main_arg3))) (m ((c : Thread nD τ).loc main_arg5)) b) ?_ (fun n hn => ?_) n hn h7
  · exact (weight_first m c ⟨0, by decide⟩ rfl _).trans ((weight_at ..).trans
      ((congrArg₂ (· + ·) (zero9 a b) (weight_part m c b 0 (by decide))).trans (zero_add _)))
  · exact (weight_next m c ⟨n + 1, hn⟩ (by dsimp only; omega) _).trans ((weight_at ..).trans (congrArg (_ + ·) (weight_part m c b (n + 1) hn)))

theorem at10 (A : Arr 1 2048) (a : Fin 1) (b : Fin 2048) : A ((win0_10.blk t).view.emb (ix2 a b)) = A (ix2 a b) := by
  blk_point [idx t]

theorem final10 : (dats m 0 c).arrAt 10 (cfgs 0).N = gradWeight (m ((c : Thread nD τ).loc main_arg0)) (Norm.residual (m ((c : Thread nD τ).loc main_arg1)) (m ((c : Thread nD τ).loc main_arg2)) (m ((c : Thread nD τ).loc main_arg3))) (m ((c : Thread nD τ).loc main_arg5)) := by
  refine (dats m 0 c).arrAt_eq_of_covers 10 _ (by decide +kernel) fun t hf y => ?_
  blk_simp
  rw [after0_10]
  idx_vars y
  have h : t.val % 8 = 7 := (flush0_10 t).mp hf
  have h' : t.val < 8 := t.isLt
  exact (weight_total m c _ _ t.val t.isLt (by omega)).trans (at10 t _ _ _).symm

theorem gate_first (h : t.val % 8 = 0) (y : S1x2048.Idx) : (outsAt0 m c t.val t.isLt).2.2.2.2.1 y
    = k0_pay14 (F := Ideal) (k0_pay6 (iblk m c 0 t) (iblk m c 1 t) (iblk m c 2 t) (iblk m c 3 t) (iblk m c 4 t)) (k0_pay10 (F := Ideal)) (iblk m c 5 t) y := by
  rw [outsAt0_A m c t h]
  frame_out

theorem gate_next (h : ¬t.val % 8 = 0) (y : S1x2048.Idx) : (outsAt0 m c t.val t.isLt).2.2.2.2.1 y
    = k0_pay14 (F := Ideal) (k0_pay6 (iblk m c 0 t) (iblk m c 1 t) (iblk m c 2 t) (iblk m c 3 t) (iblk m c 4 t)) (outsAt0 m c (t.val - 1) (Nat.lt_of_le_of_lt (Nat.sub_le _ _) t.isLt)).2.2.2.2.1 (iblk m c 5 t) y := by
  rw [outsAt0_B m c t h]
  frame_out

theorem gate_part (b : Fin 2048) (n : ℕ) (hn : n < 8) : (∑ s : Fin 256, ((show EReal from iblk m c 4 ⟨n, hn⟩ (ix2 s b)) + pull width (fun j => iblk m c 1 ⟨n, hn⟩ (ix2 s j)) (fun j => (show EReal from iblk m c 0 ⟨n, hn⟩ (ix2 s j)) * (show EReal from iblk m c 2 ⟨n, hn⟩ (ix2 0 j)) * (one + (show EReal from iblk m c 3 ⟨n, hn⟩ (ix2 0 j)))) b) * (show EReal from iblk m c 5 ⟨n, hn⟩ (ix2 s b)))
    = ∑ s : Fin 256, (gateRow (m ((c : Thread nD τ).loc main_arg0)) (Norm.residual (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg7)) (m ((c : Thread nD τ).loc main_arg2)) b) ⟨n * 256 + s.val, by omega⟩ := by
  refine Finset.sum_congr rfl fun s _ => ?_
  simp only [row0, row1, row2, row3, row4, row5, row6]
  rfl

theorem gate_total (a : Fin 1) (b : Fin 2048) (n : ℕ) (hn : n < cfg0.N) (h7 : n = 7) : (outsAt0 m c n hn).2.2.2.2.1 (ix2 a b)
    = gradGate (m ((c : Thread nD τ).loc main_arg0)) (Norm.residual (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg7)) (m ((c : Thread nD τ).loc main_arg2)) (ix2 a b) := by
  refine sum_blocks (fun n hn => (outsAt0 m c n hn).2.2.2.2.1 (ix2 a b)) (gateRow (m ((c : Thread nD τ).loc main_arg0)) (Norm.residual (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg7)) (m ((c : Thread nD τ).loc main_arg2)) b) ?_ (fun n hn => ?_) n hn h7
  · exact (gate_first m c ⟨0, by decide⟩ rfl _).trans ((gate_at ..).trans
      ((congrArg₂ (· + ·) (zero10 a b) (gate_part m c b 0 (by decide))).trans (zero_add _)))
  · exact (gate_next m c ⟨n + 1, hn⟩ (by dsimp only; omega) _).trans ((gate_at ..).trans (congrArg (_ + ·) (gate_part m c b (n + 1) hn)))

theorem at11 (A : Arr 1 2048) (a : Fin 1) (b : Fin 2048) : A ((win0_11.blk t).view.emb (ix2 a b)) = A (ix2 a b) := by
  blk_point [idx t]

theorem final11 : (dats m 0 c).arrAt 11 (cfgs 0).N = gradGate (m ((c : Thread nD τ).loc main_arg0)) (Norm.residual (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg7)) (m ((c : Thread nD τ).loc main_arg2)) := by
  refine (dats m 0 c).arrAt_eq_of_covers 11 _ (by decide +kernel) fun t hf y => ?_
  blk_simp
  rw [after0_11]
  idx_vars y
  have h : t.val % 8 = 7 := (flush0_11 t).mp hf
  have h' : t.val < 8 := t.isLt
  exact (gate_total m c _ _ t.val t.isLt (by omega)).trans (at11 t _ _ _).symm

theorem at7 (A : Arr 2048 2048) (a : Fin 256) (b : Fin 2048) : A ((win0_7.blk t).view.emb (ix2 a b))
    = A (ix2 ⟨t.val * 256 + a.val, by have h : t.val < 8 := t.isLt; omega⟩ b) := by
  blk_point [idx t]

theorem final7 : (dats m 0 c).arrAt 7 (cfgs 0).N = gradRows (m ((c : Thread nD τ).loc main_arg0)) (Norm.residual (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg7)) := by
  refine (dats m 0 c).arrAt_eq_of_covers 7 _ (by decide +kernel) fun t _ y => ?_
  blk_simp
  rw [after0_7]
  idx_vars y
  refine Eq.trans ?_ (at7 t _ _ _).symm
  by_cases h : t.val % 8 = 0
  · rw [outsAt0_A m c t h]
    frame_out
    refine (dx_at ..).trans ?_
    simp only [row0, row1, row2, row3, row4, row5, row6]
    rfl
  · rw [outsAt0_B m c t h]
    frame_out
    refine (dx_at ..).trans ?_
    simp only [row0, row1, row2, row3, row4, row5, row6]
    rfl

theorem at12 (A : Arr 2048 2048) (a : Fin 256) (b : Fin 2048) : A ((win0_12.blk t).view.emb (ix2 a b))
    = A (ix2 ⟨t.val * 256 + a.val, by have h : t.val < 8 := t.isLt; omega⟩ b) := by
  blk_point [idx t]

theorem final12 : (dats m 0 c).arrAt 12 (cfgs 0).N = gradMix (m ((c : Thread nD τ).loc main_arg0)) (Norm.residual (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg7)) (m ((c : Thread nD τ).loc main_arg3)) := by
  refine (dats m 0 c).arrAt_eq_of_covers 12 _ (by decide +kernel) fun t _ y => ?_
  blk_simp
  rw [after0_12]
  idx_vars y
  refine Eq.trans ?_ (at12 t _ _ _).symm
  by_cases h : t.val % 8 = 0
  · rw [outsAt0_A m c t h]
    frame_out
    refine (mix_at ..).trans ?_
    simp only [row0, row1, row2, row3, row4, row5, row6]
    rfl
  · rw [outsAt0_B m c t h]
    frame_out
    refine (mix_at ..).trans ?_
    simp only [row0, row1, row2, row3, row4, row5, row6]
    rfl

end Cert.Norm2BwdIdeal.Value

end
-- ==== Proof.NormTwoRows.lean ====
/-  The backward pass through a normalised and modulated stream, as the reference writes it. -/
module

public import proofs.«01_k».proof.Proof.Norm
public import Idealize.ShloMosaic.Lib.Pipeline.ValueKit
public import proofs.«01_k».proof.Proof.Gen.Norm2BwdRefIdeal.Run

@[expose] public section

set_option maxRecDepth 16384

noncomputable section

namespace Cert.Norm2BwdRefIdeal.Value

open Idealize.ShloMosaic Idealize.ShloMosaic.TcCoe Idealize.SL.Sem
open Cert.Norm2BwdRefIdeal Cert.Attn Cert.Mat Cert.Rows Cert.Norm

variable (m : (ℓ : Loc nD τ sig) → Buf (Elt Ideal) ℓ)

theorem rows (c : Dev nD) : res_main_v51 m c = gradRows (m ((c.tc : Thread nD τ).loc main_arg0)) (Norm.residual (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg7)) := by
  funext i
  idx_vars i
  pointwise [res_main_v51, Norm.residual, gradRows, gradRow]
  simp only [Fin.sum_univ_one]
  refine add_four _ _ _ _ _ ?_
  exact pull_width (fun j => (show EReal from (m ((c.tc : Thread nD τ).loc main_arg1)) (ix2 i0 j)) + (show EReal from (m ((c.tc : Thread nD τ).loc main_arg3)) (ix2 0 j)) * (show EReal from (m ((c.tc : Thread nD τ).loc main_arg2)) (ix2 i0 j)))
    (fun j => (m ((c.tc : Thread nD τ).loc main_arg0)) (ix2 i0 j)) (fun j => (m ((c.tc : Thread nD τ).loc main_arg4)) (ix2 0 j)) (fun j => (m ((c.tc : Thread nD τ).loc main_arg5)) (ix2 0 j)) i1

theorem gate (c : Dev nD) : res_main_v57 m c = gradGate (m ((c.tc : Thread nD τ).loc main_arg0)) (Norm.residual (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg7)) (m ((c.tc : Thread nD τ).loc main_arg2)) := by
  funext i
  idx_vars i
  pointwise [res_main_v57, Norm.residual, gradGate, gateRow, gradRow]
  simp only [Fin.sum_univ_one]
  show @Eq EReal _ _
  refine Finset.sum_congr rfl fun t _ => congrArg₂ (fun x y : EReal => x * y) (add_four _ _ _ _ _ ?_) rfl
  exact pull_width (fun j => (show EReal from (m ((c.tc : Thread nD τ).loc main_arg1)) (ix2 t j)) + (show EReal from (m ((c.tc : Thread nD τ).loc main_arg3)) (ix2 0 j)) * (show EReal from (m ((c.tc : Thread nD τ).loc main_arg2)) (ix2 t j)))
    (fun j => (m ((c.tc : Thread nD τ).loc main_arg0)) (ix2 t j)) (fun j => (m ((c.tc : Thread nD τ).loc main_arg4)) (ix2 0 j)) (fun j => (m ((c.tc : Thread nD τ).loc main_arg5)) (ix2 0 j)) i1

theorem mix (c : Dev nD) : res_main_v58 m c = gradMix (m ((c.tc : Thread nD τ).loc main_arg0)) (Norm.residual (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg7)) (m ((c.tc : Thread nD τ).loc main_arg3)) := by
  funext i
  idx_vars i
  pointwise [res_main_v58, Norm.residual, gradMix, gradRow]
  simp only [Fin.sum_univ_one]
  refine (mul_comm (G := EReal) _ _).trans (congrArg₂ (fun x y : EReal => x * y) (add_four _ _ _ _ _ ?_) rfl)
  exact pull_width (fun j => (show EReal from (m ((c.tc : Thread nD τ).loc main_arg1)) (ix2 i0 j)) + (show EReal from (m ((c.tc : Thread nD τ).loc main_arg3)) (ix2 0 j)) * (show EReal from (m ((c.tc : Thread nD τ).loc main_arg2)) (ix2 i0 j)))
    (fun j => (m ((c.tc : Thread nD τ).loc main_arg0)) (ix2 i0 j)) (fun j => (m ((c.tc : Thread nD τ).loc main_arg4)) (ix2 0 j)) (fun j => (m ((c.tc : Thread nD τ).loc main_arg5)) (ix2 0 j)) i1

end Cert.Norm2BwdRefIdeal.Value

end
-- ==== Proof.NormRef.lean ====
/-  The backward passes of the two norms: the kernels compute what their references do. -/
module

public import proofs.«01_k».proof.Defs
public import proofs.«01_k».proof.Proof.NormOne
public import proofs.«01_k».proof.Proof.NormOneRows
public import proofs.«01_k».proof.Proof.NormTwo
public import proofs.«01_k».proof.Proof.NormTwoRows
public import proofs.«01_k».proof.Proof.Gen.Norm1BwdIdeal.Value
public import proofs.«01_k».proof.Proof.Gen.Norm1BwdIdeal.Frame
public import proofs.«01_k».proof.Proof.Gen.Norm1BwdIdeal
public import proofs.«01_k».proof.Proof.Gen.Norm1BwdRefIdeal.Run
public import proofs.«01_k».proof.Proof.Gen.Norm1BwdRefIdeal
public import proofs.«01_k».proof.Proof.Gen.Norm2BwdIdeal.Value
public import proofs.«01_k».proof.Proof.Gen.Norm2BwdIdeal.Frame
public import proofs.«01_k».proof.Proof.Gen.Norm2BwdIdeal
public import proofs.«01_k».proof.Proof.Gen.Norm2BwdRefIdeal.Run
public import proofs.«01_k».proof.Proof.Gen.Norm2BwdRefIdeal
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem
open Cert.Mat Cert.Attn Cert.Rows

open Cert.Norm (shiftRow scaleRow weightRow xr factor meanSq width eps one gradRows gradShift gradScale gradWeight gradGate gradMix)

/-- Every run of the reference of `Norm1Bwd` ends, with its arguments kept and every counter at zero. -/
theorem frame_Norm1BwdRef : Cert.quiescent_Norm1BwdRefIdeal := by
  intro m g _
  exact (θ_run Cert.Norm1BwdRefIdeal.defs _ _).mono
    (fun r h => ⟨fun c => (h c).2.2.2.2, sem_eq_zero_of_no_sems (by decide) r.2⟩) (Cert.Norm1BwdRefIdeal.Value.run m g)

/-- Over the extended reals the backward pass of the first norm is its reference's. -/
theorem algebraic_Norm1Bwd : Cert.algebraic_Norm1BwdIdeal_Norm1BwdRefIdeal := by
  intro m g m' g' _ hagree
  refine ⟨fun c => gradRows (m ((c.tc : Thread Cert.Norm1BwdIdeal.nD Cert.Norm1BwdIdeal.τ).loc Cert.Norm1BwdIdeal.main_arg0)) (m ((c.tc : Thread Cert.Norm1BwdIdeal.nD Cert.Norm1BwdIdeal.τ).loc Cert.Norm1BwdIdeal.main_arg1)) (m ((c.tc : Thread Cert.Norm1BwdIdeal.nD Cert.Norm1BwdIdeal.τ).loc Cert.Norm1BwdIdeal.main_arg2)) (m ((c.tc : Thread Cert.Norm1BwdIdeal.nD Cert.Norm1BwdIdeal.τ).loc Cert.Norm1BwdIdeal.main_arg3)) (m ((c.tc : Thread Cert.Norm1BwdIdeal.nD Cert.Norm1BwdIdeal.τ).loc Cert.Norm1BwdIdeal.main_arg5)),
    fun c => gradShift (m ((c.tc : Thread Cert.Norm1BwdIdeal.nD Cert.Norm1BwdIdeal.τ).loc Cert.Norm1BwdIdeal.main_arg0)),
    fun c => gradScale (m ((c.tc : Thread Cert.Norm1BwdIdeal.nD Cert.Norm1BwdIdeal.τ).loc Cert.Norm1BwdIdeal.main_arg0)) (m ((c.tc : Thread Cert.Norm1BwdIdeal.nD Cert.Norm1BwdIdeal.τ).loc Cert.Norm1BwdIdeal.main_arg1)) (m ((c.tc : Thread Cert.Norm1BwdIdeal.nD Cert.Norm1BwdIdeal.τ).loc Cert.Norm1BwdIdeal.main_arg2)),
    fun c => gradWeight (m ((c.tc : Thread Cert.Norm1BwdIdeal.nD Cert.Norm1BwdIdeal.τ).loc Cert.Norm1BwdIdeal.main_arg0)) (m ((c.tc : Thread Cert.Norm1BwdIdeal.nD Cert.Norm1BwdIdeal.τ).loc Cert.Norm1BwdIdeal.main_arg1)) (m ((c.tc : Thread Cert.Norm1BwdIdeal.nD Cert.Norm1BwdIdeal.τ).loc Cert.Norm1BwdIdeal.main_arg3)), ?_, ?_⟩
  · exact θ_run_mono (Cert.Norm1BwdIdeal.Value.run_blocks m g) fun r h c => ⟨(h c).1.trans (Cert.Norm1BwdIdeal.Value.final5 m c), (h c).2.1.trans (Cert.Norm1BwdIdeal.Value.final6 m c), (h c).2.2.1.trans (Cert.Norm1BwdIdeal.Value.final7 m c), (h c).2.2.2.1.trans (Cert.Norm1BwdIdeal.Value.final8 m c), (h c).2.2.2.2⟩
  · refine θ_run_mono (Cert.Norm1BwdRefIdeal.Value.run m' g') fun r h c => ⟨(h c).1.trans ((Cert.Norm1BwdRefIdeal.Value.rows m' c).trans ?_), (h c).2.1.trans ?_, (h c).2.2.1.trans ?_, (h c).2.2.2.1.trans ?_, (h c).2.2.2.2⟩
    · rw [(hagree c).1, (hagree c).2.1, (hagree c).2.2.1, (hagree c).2.2.2.1, (hagree c).2.2.2.2.2]
    · rw [(hagree c).1]
      funext i
      idx_vars i
      pointwise [gradShift, shiftRow]
    · rw [(hagree c).1, (hagree c).2.1, (hagree c).2.2.1]
      funext i
      idx_vars i
      pointwise [gradScale, scaleRow, xr, factor, meanSq, width, eps, one, Cert.Norm.residual]
      exact Finset.sum_congr rfl fun t _ => by ac_rfl
    · rw [(hagree c).1, (hagree c).2.1, (hagree c).2.2.2.1]
      funext i
      idx_vars i
      pointwise [gradWeight, weightRow, xr, factor, meanSq, width, eps, one, Cert.Norm.residual]
      exact Finset.sum_congr rfl fun t _ => by ac_rfl

/-- Every run of the reference of `Norm2Bwd` ends, with its arguments kept and every counter at zero. -/
theorem frame_Norm2BwdRef : Cert.quiescent_Norm2BwdRefIdeal := by
  intro m g _
  exact (θ_run Cert.Norm2BwdRefIdeal.defs _ _).mono
    (fun r h => ⟨fun c => (h c).2.2.2.2.2.2, sem_eq_zero_of_no_sems (by decide) r.2⟩) (Cert.Norm2BwdRefIdeal.Value.run m g)

/-- Over the extended reals the backward pass of the second norm is its reference's. -/
theorem algebraic_Norm2Bwd : Cert.algebraic_Norm2BwdIdeal_Norm2BwdRefIdeal := by
  intro m g m' g' _ hagree
  refine ⟨fun c => gradRows (m ((c.tc : Thread Cert.Norm2BwdIdeal.nD Cert.Norm2BwdIdeal.τ).loc Cert.Norm2BwdIdeal.main_arg0)) (Norm.residual (m ((c.tc : Thread Cert.Norm2BwdIdeal.nD Cert.Norm2BwdIdeal.τ).loc Cert.Norm2BwdIdeal.main_arg1)) (m ((c.tc : Thread Cert.Norm2BwdIdeal.nD Cert.Norm2BwdIdeal.τ).loc Cert.Norm2BwdIdeal.main_arg2)) (m ((c.tc : Thread Cert.Norm2BwdIdeal.nD Cert.Norm2BwdIdeal.τ).loc Cert.Norm2BwdIdeal.main_arg3))) (m ((c.tc : Thread Cert.Norm2BwdIdeal.nD Cert.Norm2BwdIdeal.τ).loc Cert.Norm2BwdIdeal.main_arg4)) (m ((c.tc : Thread Cert.Norm2BwdIdeal.nD Cert.Norm2BwdIdeal.τ).loc Cert.Norm2BwdIdeal.main_arg5)) (m ((c.tc : Thread Cert.Norm2BwdIdeal.nD Cert.Norm2BwdIdeal.τ).loc Cert.Norm2BwdIdeal.main_arg7)),
    fun c => gradShift (m ((c.tc : Thread Cert.Norm2BwdIdeal.nD Cert.Norm2BwdIdeal.τ).loc Cert.Norm2BwdIdeal.main_arg0)),
    fun c => gradScale (m ((c.tc : Thread Cert.Norm2BwdIdeal.nD Cert.Norm2BwdIdeal.τ).loc Cert.Norm2BwdIdeal.main_arg0)) (Norm.residual (m ((c.tc : Thread Cert.Norm2BwdIdeal.nD Cert.Norm2BwdIdeal.τ).loc Cert.Norm2BwdIdeal.main_arg1)) (m ((c.tc : Thread Cert.Norm2BwdIdeal.nD Cert.Norm2BwdIdeal.τ).loc Cert.Norm2BwdIdeal.main_arg2)) (m ((c.tc : Thread Cert.Norm2BwdIdeal.nD Cert.Norm2BwdIdeal.τ).loc Cert.Norm2BwdIdeal.main_arg3))) (m ((c.tc : Thread Cert.Norm2BwdIdeal.nD Cert.Norm2BwdIdeal.τ).loc Cert.Norm2BwdIdeal.main_arg4)),
    fun c => gradWeight (m ((c.tc : Thread Cert.Norm2BwdIdeal.nD Cert.Norm2BwdIdeal.τ).loc Cert.Norm2BwdIdeal.main_arg0)) (Norm.residual (m ((c.tc : Thread Cert.Norm2BwdIdeal.nD Cert.Norm2BwdIdeal.τ).loc Cert.Norm2BwdIdeal.main_arg1)) (m ((c.tc : Thread Cert.Norm2BwdIdeal.nD Cert.Norm2BwdIdeal.τ).loc Cert.Norm2BwdIdeal.main_arg2)) (m ((c.tc : Thread Cert.Norm2BwdIdeal.nD Cert.Norm2BwdIdeal.τ).loc Cert.Norm2BwdIdeal.main_arg3))) (m ((c.tc : Thread Cert.Norm2BwdIdeal.nD Cert.Norm2BwdIdeal.τ).loc Cert.Norm2BwdIdeal.main_arg5)),
    fun c => gradGate (m ((c.tc : Thread Cert.Norm2BwdIdeal.nD Cert.Norm2BwdIdeal.τ).loc Cert.Norm2BwdIdeal.main_arg0)) (Norm.residual (m ((c.tc : Thread Cert.Norm2BwdIdeal.nD Cert.Norm2BwdIdeal.τ).loc Cert.Norm2BwdIdeal.main_arg1)) (m ((c.tc : Thread Cert.Norm2BwdIdeal.nD Cert.Norm2BwdIdeal.τ).loc Cert.Norm2BwdIdeal.main_arg2)) (m ((c.tc : Thread Cert.Norm2BwdIdeal.nD Cert.Norm2BwdIdeal.τ).loc Cert.Norm2BwdIdeal.main_arg3))) (m ((c.tc : Thread Cert.Norm2BwdIdeal.nD Cert.Norm2BwdIdeal.τ).loc Cert.Norm2BwdIdeal.main_arg4)) (m ((c.tc : Thread Cert.Norm2BwdIdeal.nD Cert.Norm2BwdIdeal.τ).loc Cert.Norm2BwdIdeal.main_arg5)) (m ((c.tc : Thread Cert.Norm2BwdIdeal.nD Cert.Norm2BwdIdeal.τ).loc Cert.Norm2BwdIdeal.main_arg7)) (m ((c.tc : Thread Cert.Norm2BwdIdeal.nD Cert.Norm2BwdIdeal.τ).loc Cert.Norm2BwdIdeal.main_arg2)),
    fun c => gradMix (m ((c.tc : Thread Cert.Norm2BwdIdeal.nD Cert.Norm2BwdIdeal.τ).loc Cert.Norm2BwdIdeal.main_arg0)) (Norm.residual (m ((c.tc : Thread Cert.Norm2BwdIdeal.nD Cert.Norm2BwdIdeal.τ).loc Cert.Norm2BwdIdeal.main_arg1)) (m ((c.tc : Thread Cert.Norm2BwdIdeal.nD Cert.Norm2BwdIdeal.τ).loc Cert.Norm2BwdIdeal.main_arg2)) (m ((c.tc : Thread Cert.Norm2BwdIdeal.nD Cert.Norm2BwdIdeal.τ).loc Cert.Norm2BwdIdeal.main_arg3))) (m ((c.tc : Thread Cert.Norm2BwdIdeal.nD Cert.Norm2BwdIdeal.τ).loc Cert.Norm2BwdIdeal.main_arg4)) (m ((c.tc : Thread Cert.Norm2BwdIdeal.nD Cert.Norm2BwdIdeal.τ).loc Cert.Norm2BwdIdeal.main_arg5)) (m ((c.tc : Thread Cert.Norm2BwdIdeal.nD Cert.Norm2BwdIdeal.τ).loc Cert.Norm2BwdIdeal.main_arg7)) (m ((c.tc : Thread Cert.Norm2BwdIdeal.nD Cert.Norm2BwdIdeal.τ).loc Cert.Norm2BwdIdeal.main_arg3)), ?_, ?_⟩
  · exact θ_run_mono (Cert.Norm2BwdIdeal.Value.run_blocks m g) fun r h c => ⟨(h c).1.trans (Cert.Norm2BwdIdeal.Value.final7 m c), (h c).2.1.trans (Cert.Norm2BwdIdeal.Value.final8 m c), (h c).2.2.1.trans (Cert.Norm2BwdIdeal.Value.final9 m c), (h c).2.2.2.1.trans (Cert.Norm2BwdIdeal.Value.final10 m c), (h c).2.2.2.2.1.trans (Cert.Norm2BwdIdeal.Value.final11 m c), (h c).2.2.2.2.2.1.trans (Cert.Norm2BwdIdeal.Value.final12 m c), (h c).2.2.2.2.2.2⟩
  · refine θ_run_mono (Cert.Norm2BwdRefIdeal.Value.run m' g') fun r h c => ⟨(h c).1.trans ((Cert.Norm2BwdRefIdeal.Value.rows m' c).trans ?_), (h c).2.1.trans ?_, (h c).2.2.1.trans ?_, (h c).2.2.2.1.trans ?_, (h c).2.2.2.2.1.trans ((Cert.Norm2BwdRefIdeal.Value.gate m' c).trans ?_), (h c).2.2.2.2.2.1.trans ((Cert.Norm2BwdRefIdeal.Value.mix m' c).trans ?_), (h c).2.2.2.2.2.2⟩
    · rw [(hagree c).1, (hagree c).2.1, (hagree c).2.2.1, (hagree c).2.2.2.1, (hagree c).2.2.2.2.1, (hagree c).2.2.2.2.2.1, (hagree c).2.2.2.2.2.2.2]
    · rw [(hagree c).1]
      funext i
      idx_vars i
      pointwise [gradShift, shiftRow]
    · rw [(hagree c).1, (hagree c).2.1, (hagree c).2.2.1, (hagree c).2.2.2.1, (hagree c).2.2.2.2.1]
      funext i
      idx_vars i
      pointwise [gradScale, scaleRow, xr, factor, meanSq, width, eps, one, Cert.Norm.residual]
      exact Finset.sum_congr rfl fun t _ => by ac_rfl
    · rw [(hagree c).1, (hagree c).2.1, (hagree c).2.2.1, (hagree c).2.2.2.1, (hagree c).2.2.2.2.2.1]
      funext i
      idx_vars i
      pointwise [gradWeight, weightRow, xr, factor, meanSq, width, eps, one, Cert.Norm.residual]
      exact Finset.sum_congr rfl fun t _ => by ac_rfl
    · rw [(hagree c).1, (hagree c).2.1, (hagree c).2.2.1, (hagree c).2.2.2.1, (hagree c).2.2.2.2.1, (hagree c).2.2.2.2.2.1, (hagree c).2.2.2.2.2.2.2]
    · rw [(hagree c).1, (hagree c).2.1, (hagree c).2.2.1, (hagree c).2.2.2.1, (hagree c).2.2.2.2.1, (hagree c).2.2.2.2.2.1, (hagree c).2.2.2.2.2.2.2]

end Cert.Proof

end
-- ==== Proof.Lanes.lean ====
/-  Rows normalised head by head: 8 heads of 128 lanes side by side. -/
module

public import proofs.«01_k».proof.Proof.Norm
public import proofs.«01_k».proof.Proof.Arrays

@[expose] public section

set_option maxRecDepth 16384

noncomputable section

namespace Cert.Norm

open Idealize.ShloMosaic Idealize.ShloMosaic.TcCoe Idealize.SL.Sem
open Cert.Attn Cert.Rows

/-- The width of a head. -/
def lanes : EReal := Ideal.ofBits .f32 0x43000000#32

variable (P : Arr 2048 7168) (D : Arr 2048 1024) (W : Arr 1 128)

/-- The gradient that reaches a head's normalised row. -/
def headIn (t : Fin 2048) (h : Fin 8) (j : Fin 128) : EReal := D (ix2 t ⟨h.val * 128 + j.val, by omega⟩) * W (ix2 0 j)

variable (o : ℕ) (ho : o + 1024 ≤ 7168)

/-- A head's row in the columns of the projection that begin at `o`. -/
def headRow (t : Fin 2048) (h : Fin 8) (j : Fin 128) : EReal := P (ix2 t ⟨o + (h.val * 128 + j.val), by omega⟩)

/-- The gradient of the columns that begin at `o`. -/
def gradLanes : Arr 2048 1024 := fun i =>
  pull lanes (headRow P o ho (i 0) (headIx (i 1))) (headIn D W (i 0) (headIx (i 1))) (laneIx (i 1))

/-- A head's part in the gradient of the weight. -/
def headPart (s : Fin 128) (t : Fin 2048) (h : Fin 8) : EReal :=
  D (ix2 t ⟨h.val * 128 + s.val, by omega⟩) * (headRow P o ho t h s * factor lanes (headRow P o ho t h))

/-- A row's part in the gradient of the weight, over the 8 heads. -/
def lanePart (s : Fin 128) (t : Fin 2048) : EReal := ∑ h : Fin 8, headPart P D o ho s t h

/-- The gradient of the weight. -/
def gradLaneWeight : Arr 1 128 := fun i => ∑ t : Fin 2048, lanePart P D o ho (i 1) t

/-- The gradient of a head's row, written with the root's own derivative. -/
theorem pull_lane (x d : Fin 128 → EReal) (s : Fin 128) (a b : EReal) (ha : a = x s) (hb : b = d s) :
    b * Ideal.rsqrt (Ideal.div (∑ j, x j * x j) (Ideal.ofBits .f32 0x43000000#32) + Ideal.ofBits .f32 0x358637BD#32)
      + a * Ideal.div ((∑ j, x j * d j) * (Ideal.ofBits .f32 0xBF000000#32
        * Ideal.div (Ideal.rsqrt (Ideal.div (∑ j, x j * x j) (Ideal.ofBits .f32 0x43000000#32) + Ideal.ofBits .f32 0x358637BD#32))
          (Ideal.div (∑ j, x j * x j) (Ideal.ofBits .f32 0x43000000#32) + Ideal.ofBits .f32 0x358637BD#32))) (Ideal.ofBits .f32 0x43000000#32)
      + Ideal.div ((∑ j, x j * d j) * (Ideal.ofBits .f32 0xBF000000#32
        * Ideal.div (Ideal.rsqrt (Ideal.div (∑ j, x j * x j) (Ideal.ofBits .f32 0x43000000#32) + Ideal.ofBits .f32 0x358637BD#32))
          (Ideal.div (∑ j, x j * x j) (Ideal.ofBits .f32 0x43000000#32) + Ideal.ofBits .f32 0x358637BD#32))) (Ideal.ofBits .f32 0x43000000#32) * a
      = pull lanes x d s := by
  rw [ha, hb, lanes, bits_128]
  exact pull_eq 128 (by norm_num) x d s

/-- Eight parts added one after the other. -/
theorem eight_parts (f : Fin 8 → EReal) (a : EReal) :
    a + f 0 + f 1 + f 2 + f 3 + f 4 + f 5 + f 6 + f 7 = a + ∑ h : Fin 8, f h := by
  rw [Fin.sum_univ_eight]
  ac_rfl

theorem sum_swap (f : Fin 8 → Fin 256 → EReal) : (∑ h : Fin 8, ∑ s : Fin 256, f h s) = ∑ s : Fin 256, ∑ h : Fin 8, f h s :=
  Finset.sum_comm

end Cert.Norm

end
-- ==== Proof.LanesBwd.lean ====
/-  The backward pass through the norms of the queries and keys: the arrays the kernel leaves, entry by entry. -/
module

public import proofs.«01_k».proof.Proof.Lanes
public import Idealize.ShloMosaic.Lib.Pipeline.ValueKit
public import proofs.«01_k».proof.Proof.Gen.QkNormBwdIdeal.Value

@[expose] public section

set_option maxRecDepth 16384

noncomputable section

namespace Cert.QkNormBwdIdeal.Value

open Idealize.ShloMosaic Idealize.ShloMosaic.TcCoe Idealize.SL.Sem
open Cert.QkNormBwdIdeal Cert.QkNormBwdIdeal.Gen Cert.Attn Cert.Mat Cert.Rows Cert.Norm

variable (m : (ℓ : Loc nD τ sig) → Buf (Elt Ideal) ℓ)

theorem idx : ∀ t : Fin cfg0.N, win0_0.index t = ![t.val, 4] ∧ win0_1.index t = ![t.val, 5] ∧ win0_2.index t = ![t.val, 0] ∧ win0_3.index t = ![t.val, 0]
    ∧ win0_4.index t = ![t.val, 0] ∧ win0_5.index t = ![0, 0] ∧ win0_6.index t = ![0, 0] ∧ win0_7.index t = ![t.val, 0] ∧ win0_8.index t = ![t.val, 0]
    ∧ win0_9.index t = ![t.val, 0] ∧ win0_10.index t = ![0, 0] ∧ win0_11.index t = ![0, 0] :=
  (by decide +kernel : ∀ t : Fin grid0.N, _)

/-- The lanes of head `h` in a block of rows. -/
def cols (X : Vec Ideal S256x1024 .f32) (h : Fin 8) : Vec Ideal S256x128 .f32 :=
  fun i => X (ix2 (i 0) ⟨h.val * 128 + (i 1).val, by have : (i 1).val < 128 := (i 1).isLt; omega⟩)

theorem cols_at (X : Vec Ideal S256x1024 .f32) (h : Fin 8) (a : Fin 256) (b : Fin 128) :
    cols X h (ix2 a b) = X (ix2 a ⟨h.val * 128 + b.val, by omega⟩) := rfl

theorem ld_cols0 (X : Vec Ideal S256x1024 .f32) :
    View.ld X (Rect.unit (s := S256x1024) ![0, 0] S256x128.size inb_S256x1024_S256x128_0_0) = cols X 0 := by
  funext i; idx_vars i; pointwise [cols]; blk_ext

theorem ld_cols1 (X : Vec Ideal S256x1024 .f32) :
    View.ld X (Rect.unit (s := S256x1024) ![0, 128] S256x128.size inb_S256x1024_S256x128_0_128) = cols X 1 := by
  funext i; idx_vars i; pointwise [cols]; blk_ext

theorem ld_cols2 (X : Vec Ideal S256x1024 .f32) :
    View.ld X (Rect.unit (s := S256x1024) ![0, 256] S256x128.size inb_S256x1024_S256x128_0_256) = cols X 2 := by
  funext i; idx_vars i; pointwise [cols]; blk_ext

theorem ld_cols3 (X : Vec Ideal S256x1024 .f32) :
    View.ld X (Rect.unit (s := S256x1024) ![0, 384] S256x128.size inb_S256x1024_S256x128_0_384) = cols X 3 := by
  funext i; idx_vars i; pointwise [cols]; blk_ext

theorem ld_cols4 (X : Vec Ideal S256x1024 .f32) :
    View.ld X (Rect.unit (s := S256x1024) ![0, 512] S256x128.size inb_S256x1024_S256x128_0_512) = cols X 4 := by
  funext i; idx_vars i; pointwise [cols]; blk_ext

theorem ld_cols5 (X : Vec Ideal S256x1024 .f32) :
    View.ld X (Rect.unit (s := S256x1024) ![0, 640] S256x128.size inb_S256x1024_S256x128_0_640) = cols X 5 := by
  funext i; idx_vars i; pointwise [cols]; blk_ext

theorem ld_cols6 (X : Vec Ideal S256x1024 .f32) :
    View.ld X (Rect.unit (s := S256x1024) ![0, 768] S256x128.size inb_S256x1024_S256x128_0_768) = cols X 6 := by
  funext i; idx_vars i; pointwise [cols]; blk_ext

theorem ld_cols7 (X : Vec Ideal S256x1024 .f32) :
    View.ld X (Rect.unit (s := S256x1024) ![0, 896] S256x128.size inb_S256x1024_S256x128_0_896) = cols X 7 := by
  funext i; idx_vars i; pointwise [cols]; blk_ext

theorem ix_eq (y : S256x1024.Idx) (x : S256x128.Idx) (h0 : (y 0 : ℕ) = x 0) (h1 : (y 1 : ℕ) % 128 = x 1) :
    (ix2 (y 0) (laneIx (y 1)) : S256x128.Idx) = x := by
  idx_vars x
  exact (ix2_inj ..).2 ⟨Fin.ext h0, Fin.ext h1⟩

theorem head_eq (y : S256x1024.Idx) (h : Fin 8) (e : (y 1 : ℕ) / 128 = h.val) : headIx (y 1) = h := Fin.ext e

/-- A head's part in a block's gradient of the weight, on top of what is there. -/
def addPart (x d : FVec Ideal S256x128 .f32) (acc : FVec Ideal S1x128 .f32) : FVec Ideal S1x128 .f32 := k0_pay15 (F := Ideal) x d acc

/-- A head's gradient in a block of rows. -/
def headGrad (x d : FVec Ideal S256x128 .f32) (w : FVec Ideal S1x128 .f32) : FVec Ideal S256x128 .bf16 := k0_pay16 (F := Ideal) x d w

theorem addPart_at (x d : FVec Ideal S256x128 .f32) (acc : FVec Ideal S1x128 .f32) (a : Fin 1) (b : Fin 128) :
    addPart x d acc (ix2 a b) = acc (ix2 a b) + ∑ s : Fin 256, d (ix2 s b) * (x (ix2 s b) * factor lanes fun j => x (ix2 s j)) := by
  pointwise [addPart, k0_pay15, k0_pay14, k0_pay13, factor, meanSq, lanes, eps]

theorem headGrad_at (x d : FVec Ideal S256x128 .f32) (w : FVec Ideal S1x128 .f32) (a : Fin 256) (b : Fin 128) :
    headGrad x d w (ix2 a b) = pull lanes (fun j => x (ix2 a j)) (fun j => d (ix2 a j) * w (ix2 0 j)) b := by
  pointwise [headGrad, k0_pay16, k0_pay14, k0_pay13, pull, factor, meanSq, lanes, eps]

/-- The 8 heads' parts of a block, one after the other. -/
def addEight (X D : Vec Ideal S256x1024 .f32) (acc : FVec Ideal S1x128 .f32) : FVec Ideal S1x128 .f32 :=
  addPart (cols X 7) (cols D 7) (addPart (cols X 6) (cols D 6) (addPart (cols X 5) (cols D 5) (addPart (cols X 4) (cols D 4) (addPart (cols X 3) (cols D 3) (addPart (cols X 2) (cols D 2) (addPart (cols X 1) (cols D 1) (addPart (cols X 0) (cols D 0) acc)))))))

theorem addEight_at (X D : Vec Ideal S256x1024 .f32) (acc : FVec Ideal S1x128 .f32) (a : Fin 1) (b : Fin 128) :
    addEight X D acc (ix2 a b) = acc (ix2 a b) + ∑ h : Fin 8, ∑ s : Fin 256,
      cols D h (ix2 s b) * (cols X h (ix2 s b) * factor lanes fun j => cols X h (ix2 s j)) := by
  unfold addEight
  simp only [addPart_at]
  exact eight_parts (fun h => ∑ s : Fin 256, cols D h (ix2 s b) * (cols X h (ix2 s b) * factor lanes fun j => cols X h (ix2 s j))) _

theorem zero4 (a : Fin 1) (b : Fin 128) : k0_pay4 (F := Ideal) (ix2 a b) = 0 := by
  pointwise [k0_pay4]

theorem zero5 (a : Fin 1) (b : Fin 128) : k0_pay5 (F := Ideal) (ix2 a b) = 0 := by
  pointwise [k0_pay5]

variable (c : Dev nD) (t : Fin cfg0.N)

theorem row0 (a : Fin 256) (b : Fin 1024) : iblk m c 0 t (ix2 a b) = (m ((c : Thread nD τ).loc main_arg0))
    (ix2 ⟨t.val * 256 + a.val, by have h : t.val < 8 := t.isLt; omega⟩ ⟨4096 + b.val, by omega⟩) := by
  blk_point [iblk, V, idx t]

theorem row1 (a : Fin 256) (b : Fin 1024) : iblk m c 1 t (ix2 a b) = (m ((c : Thread nD τ).loc main_arg0))
    (ix2 ⟨t.val * 256 + a.val, by have h : t.val < 8 := t.isLt; omega⟩ ⟨5120 + b.val, by omega⟩) := by
  blk_point [iblk, V, idx t]

theorem row2 (a : Fin 256) (b : Fin 1024) : iblk m c 2 t (ix2 a b) = (m ((c : Thread nD τ).loc main_arg1))
    (ix2 ⟨t.val * 256 + a.val, by have h : t.val < 8 := t.isLt; omega⟩ b) := by
  blk_point [iblk, V, idx t]

theorem row3 (a : Fin 256) (b : Fin 1024) : iblk m c 3 t (ix2 a b) = (m ((c : Thread nD τ).loc main_arg2))
    (ix2 ⟨t.val * 256 + a.val, by have h : t.val < 8 := t.isLt; omega⟩ b) := by
  blk_point [iblk, V, idx t]

theorem row4 (a : Fin 256) (b : Fin 1024) : iblk m c 4 t (ix2 a b) = (m ((c : Thread nD τ).loc main_arg3))
    (ix2 ⟨t.val * 256 + a.val, by have h : t.val < 8 := t.isLt; omega⟩ b) := by
  blk_point [iblk, V, idx t]

theorem row5 (a : Fin 1) (b : Fin 128) : iblk m c 5 t (ix2 a b) = (m ((c : Thread nD τ).loc main_arg4)) (ix2 a b) := by
  blk_point [iblk, V, idx t]

theorem row6 (a : Fin 1) (b : Fin 128) : iblk m c 6 t (ix2 a b) = (m ((c : Thread nD τ).loc main_arg5)) (ix2 a b) := by
  blk_point [iblk, V, idx t]

theorem query_first (h : t.val % 8 = 0) (y : S1x128.Idx) : (outsAt0 m c t.val t.isLt).2.2.2.1 y
    = addEight (iblk m c 0 t) (iblk m c 2 t) (k0_pay4 (F := Ideal)) y := by
  rw [outsAt0_A m c t h]
  unfold addEight
  frame_out
  simp only [← ld_cols0, ← ld_cols1, ← ld_cols2, ← ld_cols3, ← ld_cols4, ← ld_cols5, ← ld_cols6, ← ld_cols7]
  rfl

theorem query_next (h : ¬t.val % 8 = 0) (y : S1x128.Idx) : (outsAt0 m c t.val t.isLt).2.2.2.1 y
    = addEight (iblk m c 0 t) (iblk m c 2 t) (outsAt0 m c (t.val - 1) (Nat.lt_of_le_of_lt (Nat.sub_le _ _) t.isLt)).2.2.2.1 y := by
  rw [outsAt0_B m c t h]
  unfold addEight
  frame_out
  simp only [← ld_cols0, ← ld_cols1, ← ld_cols2, ← ld_cols3, ← ld_cols4, ← ld_cols5, ← ld_cols6, ← ld_cols7]
  rfl

theorem query_part (b : Fin 128) (n : ℕ) (hn : n < 8) : (∑ h : Fin 8, ∑ s : Fin 256, cols (iblk m c 2 ⟨n, hn⟩) h (ix2 s b)
    * (cols (iblk m c 0 ⟨n, hn⟩) h (ix2 s b) * factor lanes fun j => cols (iblk m c 0 ⟨n, hn⟩) h (ix2 s j)))
    = ∑ s : Fin 256, (lanePart (m ((c : Thread nD τ).loc main_arg0)) (m ((c : Thread nD τ).loc main_arg1)) 4096 (by omega) b) ⟨n * 256 + s.val, by omega⟩ := by
  refine (sum_swap _).trans (Finset.sum_congr rfl fun s _ => Finset.sum_congr rfl fun h _ => ?_)
  show (show EReal from iblk m c 2 ⟨n, hn⟩ (ix2 s ⟨h.val * 128 + b.val, by omega⟩)) * ((show EReal from iblk m c 0 ⟨n, hn⟩ (ix2 s ⟨h.val * 128 + b.val, by omega⟩))
    * factor lanes fun j : Fin 128 => iblk m c 0 ⟨n, hn⟩ (ix2 s ⟨h.val * 128 + j.val, by omega⟩)) = _
  simp only [row0, row1, row2, row3, row4, row5, row6]
  rfl

theorem query_total (a : Fin 1) (b : Fin 128) (n : ℕ) (hn : n < cfg0.N) (h7 : n = 7) : (outsAt0 m c n hn).2.2.2.1 (ix2 a b)
    = gradLaneWeight (m ((c : Thread nD τ).loc main_arg0)) (m ((c : Thread nD τ).loc main_arg1)) 4096 (by omega) (ix2 a b) := by
  refine sum_blocks (fun n hn => (outsAt0 m c n hn).2.2.2.1 (ix2 a b)) (lanePart (m ((c : Thread nD τ).loc main_arg0)) (m ((c : Thread nD τ).loc main_arg1)) 4096 (by omega) b) ?_ (fun n hn => ?_) n hn h7
  · exact (query_first m c ⟨0, by decide⟩ rfl _).trans ((addEight_at ..).trans
      ((congrArg₂ (· + ·) (zero4 a b) (query_part m c b 0 (by decide))).trans (zero_add _)))
  · exact (query_next m c ⟨n + 1, hn⟩ (by dsimp only; omega) _).trans ((addEight_at ..).trans (congrArg (_ + ·) (query_part m c b (n + 1) hn)))

theorem at10 (A : Arr 1 128) (a : Fin 1) (b : Fin 128) : A ((win0_10.blk t).view.emb (ix2 a b)) = A (ix2 a b) := by
  blk_point [idx t]

theorem final10 : (dats m 0 c).arrAt 10 (cfgs 0).N = gradLaneWeight (m ((c : Thread nD τ).loc main_arg0)) (m ((c : Thread nD τ).loc main_arg1)) 4096 (by omega) := by
  refine (dats m 0 c).arrAt_eq_of_covers 10 _ (by decide +kernel) fun t hf y => ?_
  blk_simp
  rw [after0_10]
  idx_vars y
  have h : t.val % 8 = 7 := (flush0_10 t).mp hf
  have h' : t.val < 8 := t.isLt
  exact (query_total m c _ _ t.val t.isLt (by omega)).trans (at10 t _ _ _).symm

theorem key_first (h : t.val % 8 = 0) (y : S1x128.Idx) : (outsAt0 m c t.val t.isLt).2.2.2.2 y
    = addEight (iblk m c 1 t) (iblk m c 3 t) (k0_pay5 (F := Ideal)) y := by
  rw [outsAt0_A m c t h]
  unfold addEight
  frame_out
  simp only [← ld_cols0, ← ld_cols1, ← ld_cols2, ← ld_cols3, ← ld_cols4, ← ld_cols5, ← ld_cols6, ← ld_cols7]
  rfl

theorem key_next (h : ¬t.val % 8 = 0) (y : S1x128.Idx) : (outsAt0 m c t.val t.isLt).2.2.2.2 y
    = addEight (iblk m c 1 t) (iblk m c 3 t) (outsAt0 m c (t.val - 1) (Nat.lt_of_le_of_lt (Nat.sub_le _ _) t.isLt)).2.2.2.2 y := by
  rw [outsAt0_B m c t h]
  unfold addEight
  frame_out
  simp only [← ld_cols0, ← ld_cols1, ← ld_cols2, ← ld_cols3, ← ld_cols4, ← ld_cols5, ← ld_cols6, ← ld_cols7]
  rfl

theorem key_part (b : Fin 128) (n : ℕ) (hn : n < 8) : (∑ h : Fin 8, ∑ s : Fin 256, cols (iblk m c 3 ⟨n, hn⟩) h (ix2 s b)
    * (cols (iblk m c 1 ⟨n, hn⟩) h (ix2 s b) * factor lanes fun j => cols (iblk m c 1 ⟨n, hn⟩) h (ix2 s j)))
    = ∑ s : Fin 256, (lanePart (m ((c : Thread nD τ).loc main_arg0)) (m ((c : Thread nD τ).loc main_arg2)) 5120 (by omega) b) ⟨n * 256 + s.val, by omega⟩ := by
  refine (sum_swap _).trans (Finset.sum_congr rfl fun s _ => Finset.sum_congr rfl fun h _ => ?_)
  show (show EReal from iblk m c 3 ⟨n, hn⟩ (ix2 s ⟨h.val * 128 + b.val, by omega⟩)) * ((show EReal from iblk m c 1 ⟨n, hn⟩ (ix2 s ⟨h.val * 128 + b.val, by omega⟩))
    * factor lanes fun j : Fin 128 => iblk m c 1 ⟨n, hn⟩ (ix2 s ⟨h.val * 128 + j.val, by omega⟩)) = _
  simp only [row0, row1, row2, row3, row4, row5, row6]
  rfl

theorem key_total (a : Fin 1) (b : Fin 128) (n : ℕ) (hn : n < cfg0.N) (h7 : n = 7) : (outsAt0 m c n hn).2.2.2.2 (ix2 a b)
    = gradLaneWeight (m ((c : Thread nD τ).loc main_arg0)) (m ((c : Thread nD τ).loc main_arg2)) 5120 (by omega) (ix2 a b) := by
  refine sum_blocks (fun n hn => (outsAt0 m c n hn).2.2.2.2 (ix2 a b)) (lanePart (m ((c : Thread nD τ).loc main_arg0)) (m ((c : Thread nD τ).loc main_arg2)) 5120 (by omega) b) ?_ (fun n hn => ?_) n hn h7
  · exact (key_first m c ⟨0, by decide⟩ rfl _).trans ((addEight_at ..).trans
      ((congrArg₂ (· + ·) (zero5 a b) (key_part m c b 0 (by decide))).trans (zero_add _)))
  · exact (key_next m c ⟨n + 1, hn⟩ (by dsimp only; omega) _).trans ((addEight_at ..).trans (congrArg (_ + ·) (key_part m c b (n + 1) hn)))

theorem at11 (A : Arr 1 128) (a : Fin 1) (b : Fin 128) : A ((win0_11.blk t).view.emb (ix2 a b)) = A (ix2 a b) := by
  blk_point [idx t]

theorem final11 : (dats m 0 c).arrAt 11 (cfgs 0).N = gradLaneWeight (m ((c : Thread nD τ).loc main_arg0)) (m ((c : Thread nD τ).loc main_arg2)) 5120 (by omega) := by
  refine (dats m 0 c).arrAt_eq_of_covers 11 _ (by decide +kernel) fun t hf y => ?_
  blk_simp
  rw [after0_11]
  idx_vars y
  have h : t.val % 8 = 7 := (flush0_11 t).mp hf
  have h' : t.val < 8 := t.isLt
  exact (key_total m c _ _ t.val t.isLt (by omega)).trans (at11 t _ _ _).symm

theorem queries_A (h : t.val % 8 = 0) (y : S256x1024.Idx) : (outsAt0 m c t.val t.isLt).1 y
    = headGrad (cols (iblk m c 0 t) (headIx (y 1))) (cols (iblk m c 2 t) (headIx (y 1))) (iblk m c 5 t) (ix2 (y 0) (laneIx (y 1))) := by
  rw [outsAt0_A m c t h]
  frame_out
  canon_tiles x h
  case piece0 =>
    rw [head_eq y 7 (by omega), ix_eq y x (by omega) (by omega)]
    simp only [← ld_cols7]
    rfl
  case piece1 =>
    rw [head_eq y 6 (by omega), ix_eq y x (by omega) (by omega)]
    simp only [← ld_cols6]
    rfl
  case piece2 =>
    rw [head_eq y 5 (by omega), ix_eq y x (by omega) (by omega)]
    simp only [← ld_cols5]
    rfl
  case piece3 =>
    rw [head_eq y 4 (by omega), ix_eq y x (by omega) (by omega)]
    simp only [← ld_cols4]
    rfl
  case piece4 =>
    rw [head_eq y 3 (by omega), ix_eq y x (by omega) (by omega)]
    simp only [← ld_cols3]
    rfl
  case piece5 =>
    rw [head_eq y 2 (by omega), ix_eq y x (by omega) (by omega)]
    simp only [← ld_cols2]
    rfl
  case piece6 =>
    rw [head_eq y 1 (by omega), ix_eq y x (by omega) (by omega)]
    simp only [← ld_cols1]
    rfl
  case piece7 =>
    rw [head_eq y 0 (by omega), ix_eq y x (by omega) (by omega)]
    simp only [← ld_cols0]
    rfl

theorem queries_B (h : ¬t.val % 8 = 0) (y : S256x1024.Idx) : (outsAt0 m c t.val t.isLt).1 y
    = headGrad (cols (iblk m c 0 t) (headIx (y 1))) (cols (iblk m c 2 t) (headIx (y 1))) (iblk m c 5 t) (ix2 (y 0) (laneIx (y 1))) := by
  rw [outsAt0_B m c t h]
  frame_out
  canon_tiles x h
  case piece0 =>
    rw [head_eq y 7 (by omega), ix_eq y x (by omega) (by omega)]
    simp only [← ld_cols7]
    rfl
  case piece1 =>
    rw [head_eq y 6 (by omega), ix_eq y x (by omega) (by omega)]
    simp only [← ld_cols6]
    rfl
  case piece2 =>
    rw [head_eq y 5 (by omega), ix_eq y x (by omega) (by omega)]
    simp only [← ld_cols5]
    rfl
  case piece3 =>
    rw [head_eq y 4 (by omega), ix_eq y x (by omega) (by omega)]
    simp only [← ld_cols4]
    rfl
  case piece4 =>
    rw [head_eq y 3 (by omega), ix_eq y x (by omega) (by omega)]
    simp only [← ld_cols3]
    rfl
  case piece5 =>
    rw [head_eq y 2 (by omega), ix_eq y x (by omega) (by omega)]
    simp only [← ld_cols2]
    rfl
  case piece6 =>
    rw [head_eq y 1 (by omega), ix_eq y x (by omega) (by omega)]
    simp only [← ld_cols1]
    rfl
  case piece7 =>
    rw [head_eq y 0 (by omega), ix_eq y x (by omega) (by omega)]
    simp only [← ld_cols0]
    rfl

theorem queries_at (y : S256x1024.Idx) : (outsAt0 m c t.val t.isLt).1 y
    = gradLanes (m ((c : Thread nD τ).loc main_arg0)) (m ((c : Thread nD τ).loc main_arg1)) (m ((c : Thread nD τ).loc main_arg4)) 4096 (by omega) (ix2 ⟨t.val * 256 + (y 0).val, by have h : t.val < 8 := t.isLt; have h' : (y 0).val < 256 := (y 0).isLt; omega⟩ (y 1)) := by
  have e : (outsAt0 m c t.val t.isLt).1 y = headGrad (cols (iblk m c 0 t) (headIx (y 1))) (cols (iblk m c 2 t) (headIx (y 1))) (iblk m c 5 t) (ix2 (y 0) (laneIx (y 1))) := by
    by_cases h : t.val % 8 = 0
    · exact queries_A m c t h y
    · exact queries_B m c t h y
  refine e.trans ((headGrad_at ..).trans ?_)
  exact congrArg₂ (fun x d : Fin 128 → EReal => pull lanes x d (laneIx (y 1))) (funext fun j => row0 m c t _ _)
    (funext fun j => congrArg₂ (fun a b : EReal => a * b) (row2 m c t _ _) (row5 m c t _ _))

theorem at7 (A : Arr 2048 1024) (a : Fin 256) (b : Fin 1024) : A ((win0_7.blk t).view.emb (ix2 a b))
    = A (ix2 ⟨t.val * 256 + a.val, by have h : t.val < 8 := t.isLt; omega⟩ b) := by
  blk_point [idx t]

theorem final7 : (dats m 0 c).arrAt 7 (cfgs 0).N = gradLanes (m ((c : Thread nD τ).loc main_arg0)) (m ((c : Thread nD τ).loc main_arg1)) (m ((c : Thread nD τ).loc main_arg4)) 4096 (by omega) := by
  refine (dats m 0 c).arrAt_eq_of_covers 7 _ (by decide +kernel) fun t _ y => ?_
  blk_simp
  rw [after0_7]
  idx_vars y
  exact (queries_at m c t _).trans (at7 t _ _ _).symm

theorem keys_A (h : t.val % 8 = 0) (y : S256x1024.Idx) : (outsAt0 m c t.val t.isLt).2.1 y
    = headGrad (cols (iblk m c 1 t) (headIx (y 1))) (cols (iblk m c 3 t) (headIx (y 1))) (iblk m c 6 t) (ix2 (y 0) (laneIx (y 1))) := by
  rw [outsAt0_A m c t h]
  frame_out
  canon_tiles x h
  case piece0 =>
    rw [head_eq y 7 (by omega), ix_eq y x (by omega) (by omega)]
    simp only [← ld_cols7]
    rfl
  case piece1 =>
    rw [head_eq y 6 (by omega), ix_eq y x (by omega) (by omega)]
    simp only [← ld_cols6]
    rfl
  case piece2 =>
    rw [head_eq y 5 (by omega), ix_eq y x (by omega) (by omega)]
    simp only [← ld_cols5]
    rfl
  case piece3 =>
    rw [head_eq y 4 (by omega), ix_eq y x (by omega) (by omega)]
    simp only [← ld_cols4]
    rfl
  case piece4 =>
    rw [head_eq y 3 (by omega), ix_eq y x (by omega) (by omega)]
    simp only [← ld_cols3]
    rfl
  case piece5 =>
    rw [head_eq y 2 (by omega), ix_eq y x (by omega) (by omega)]
    simp only [← ld_cols2]
    rfl
  case piece6 =>
    rw [head_eq y 1 (by omega), ix_eq y x (by omega) (by omega)]
    simp only [← ld_cols1]
    rfl
  case piece7 =>
    rw [head_eq y 0 (by omega), ix_eq y x (by omega) (by omega)]
    simp only [← ld_cols0]
    rfl

theorem keys_B (h : ¬t.val % 8 = 0) (y : S256x1024.Idx) : (outsAt0 m c t.val t.isLt).2.1 y
    = headGrad (cols (iblk m c 1 t) (headIx (y 1))) (cols (iblk m c 3 t) (headIx (y 1))) (iblk m c 6 t) (ix2 (y 0) (laneIx (y 1))) := by
  rw [outsAt0_B m c t h]
  frame_out
  canon_tiles x h
  case piece0 =>
    rw [head_eq y 7 (by omega), ix_eq y x (by omega) (by omega)]
    simp only [← ld_cols7]
    rfl
  case piece1 =>
    rw [head_eq y 6 (by omega), ix_eq y x (by omega) (by omega)]
    simp only [← ld_cols6]
    rfl
  case piece2 =>
    rw [head_eq y 5 (by omega), ix_eq y x (by omega) (by omega)]
    simp only [← ld_cols5]
    rfl
  case piece3 =>
    rw [head_eq y 4 (by omega), ix_eq y x (by omega) (by omega)]
    simp only [← ld_cols4]
    rfl
  case piece4 =>
    rw [head_eq y 3 (by omega), ix_eq y x (by omega) (by omega)]
    simp only [← ld_cols3]
    rfl
  case piece5 =>
    rw [head_eq y 2 (by omega), ix_eq y x (by omega) (by omega)]
    simp only [← ld_cols2]
    rfl
  case piece6 =>
    rw [head_eq y 1 (by omega), ix_eq y x (by omega) (by omega)]
    simp only [← ld_cols1]
    rfl
  case piece7 =>
    rw [head_eq y 0 (by omega), ix_eq y x (by omega) (by omega)]
    simp only [← ld_cols0]
    rfl

theorem keys_at (y : S256x1024.Idx) : (outsAt0 m c t.val t.isLt).2.1 y
    = gradLanes (m ((c : Thread nD τ).loc main_arg0)) (m ((c : Thread nD τ).loc main_arg2)) (m ((c : Thread nD τ).loc main_arg5)) 5120 (by omega) (ix2 ⟨t.val * 256 + (y 0).val, by have h : t.val < 8 := t.isLt; have h' : (y 0).val < 256 := (y 0).isLt; omega⟩ (y 1)) := by
  have e : (outsAt0 m c t.val t.isLt).2.1 y = headGrad (cols (iblk m c 1 t) (headIx (y 1))) (cols (iblk m c 3 t) (headIx (y 1))) (iblk m c 6 t) (ix2 (y 0) (laneIx (y 1))) := by
    by_cases h : t.val % 8 = 0
    · exact keys_A m c t h y
    · exact keys_B m c t h y
  refine e.trans ((headGrad_at ..).trans ?_)
  exact congrArg₂ (fun x d : Fin 128 → EReal => pull lanes x d (laneIx (y 1))) (funext fun j => row1 m c t _ _)
    (funext fun j => congrArg₂ (fun a b : EReal => a * b) (row3 m c t _ _) (row6 m c t _ _))

theorem at8 (A : Arr 2048 1024) (a : Fin 256) (b : Fin 1024) : A ((win0_8.blk t).view.emb (ix2 a b))
    = A (ix2 ⟨t.val * 256 + a.val, by have h : t.val < 8 := t.isLt; omega⟩ b) := by
  blk_point [idx t]

theorem final8 : (dats m 0 c).arrAt 8 (cfgs 0).N = gradLanes (m ((c : Thread nD τ).loc main_arg0)) (m ((c : Thread nD τ).loc main_arg2)) (m ((c : Thread nD τ).loc main_arg5)) 5120 (by omega) := by
  refine (dats m 0 c).arrAt_eq_of_covers 8 _ (by decide +kernel) fun t _ y => ?_
  blk_simp
  rw [after0_8]
  idx_vars y
  exact (keys_at m c t _).trans (at8 t _ _ _).symm

theorem at9 (A : Arr 2048 1024) (a : Fin 256) (b : Fin 1024) : A ((win0_9.blk t).view.emb (ix2 a b))
    = A (ix2 ⟨t.val * 256 + a.val, by have h : t.val < 8 := t.isLt; omega⟩ b) := by
  blk_point [idx t]

theorem values_at (x : FVec Ideal S256x1024 .f32) (a : Fin 256) (b : Fin 1024) : k0_pay6 (F := Ideal) x (ix2 a b) = x (ix2 a b) := by
  pointwise [k0_pay6]

theorem final9 : (dats m 0 c).arrAt 9 (cfgs 0).N = (show Arr 2048 1024 from (m ((c : Thread nD τ).loc main_arg3))) := by
  refine (dats m 0 c).arrAt_eq_of_covers 9 _ (by decide +kernel) fun t _ y => ?_
  blk_simp
  rw [after0_9]
  idx_vars y
  refine Eq.trans ?_ (at9 t _ _ _).symm
  by_cases h : t.val % 8 = 0
  · rw [outsAt0_A m c t h]
    frame_out
    exact (values_at ..).trans (row4 m c t _ _)
  · rw [outsAt0_B m c t h]
    frame_out
    exact (values_at ..).trans (row4 m c t _ _)

end Cert.QkNormBwdIdeal.Value

end
-- ==== Proof.LanesRows.lean ====
/-  The backward pass through the norms of the queries and keys, as the reference writes it. -/
module

public import proofs.«01_k».proof.Proof.Lanes
public import Idealize.ShloMosaic.Lib.Pipeline.ValueKit
public import proofs.«01_k».proof.Proof.Gen.QkNormBwdRefIdeal.Run

@[expose] public section

set_option maxRecDepth 16384

noncomputable section

namespace Cert.QkNormBwdRefIdeal.Value

open Idealize.ShloMosaic Idealize.ShloMosaic.TcCoe Idealize.SL.Sem
open Cert.QkNormBwdRefIdeal Cert.QkNormBwdRefIdeal.Gen Cert.Attn Cert.Mat Cert.Rows Cert.Norm

variable (m : (ℓ : Loc nD τ sig) → Buf (Elt Ideal) ℓ) (c : Dev nD)

theorem queries : res_main_v88 m c = gradLanes (m ((c.tc : Thread nD τ).loc main_arg0)) (m ((c.tc : Thread nD τ).loc main_arg1)) (m ((c.tc : Thread nD τ).loc main_arg4)) 4096 (by omega) := by
  funext i
  idx_vars i
  pointwise [res_main_v88]
  simp only [Fin.sum_univ_one]
  refine pull_lane (headRow (m ((c.tc : Thread nD τ).loc main_arg0)) 4096 (by omega) i0 (headIx i1)) (headIn (m ((c.tc : Thread nD τ).loc main_arg1)) (m ((c.tc : Thread nD τ).loc main_arg4)) i0 (headIx i1)) (laneIx i1) _ _ ?_ ?_
  · exact congrArg (fun k => (m ((c.tc : Thread nD τ).loc main_arg0)) (ix2 i0 k)) (Fin.ext (show 4096 + i1.val = 4096 + (i1.val / 128 * 128 + i1.val % 128) by omega))
  · refine congrArg₂ (fun a b : EReal => a * b) (congrArg (fun k => (m ((c.tc : Thread nD τ).loc main_arg1)) (ix2 i0 k)) (Fin.ext (show i1.val = i1.val / 128 * 128 + i1.val % 128 by omega))) rfl

theorem queries_weight : (show FVec Ideal S1x128 .f32 from broadcastInDim S1x128 ![1] bcast_S128_S1x128_1 (Host.reduceAdd (Host.reduceAdd (shapeCast _ (Host.reduceAdd (mulf (mulf (shapeCast _ (extractStridedSlice S2048x1024 ![0, 4096] (m ((c.tc : Thread nD τ).loc main_arg0)) slices_S2048x7168_S2048x1024_0_4096) shapeCasts_S2048x1024_S2048x8x128) (broadcastInDim S2048x8x128 ![0, 1, 2] bcast_S2048x8x1_S2048x8x128_0_1_2 (Host.rsqrt (addf (Host.divf (broadcastInDim S2048x8x1 ![0, 1] bcast_S2048x8_S2048x8x1_0_1 (Host.reduceAdd (mulf (shapeCast _ (extractStridedSlice S2048x1024 ![0, 4096] (m ((c.tc : Thread nD τ).loc main_arg0)) slices_S2048x7168_S2048x1024_0_4096) shapeCasts_S2048x1024_S2048x8x128) (shapeCast _ (extractStridedSlice S2048x1024 ![0, 4096] (m ((c.tc : Thread nD τ).loc main_arg0)) slices_S2048x7168_S2048x1024_0_4096) shapeCasts_S2048x1024_S2048x8x128)) (constant S_ .f32 0x00000000#32) reducesTo_S2048x8x128_S2048x8_d2 h_S_)) (broadcastInDim S2048x8x1 ![] bcast_S_S2048x8x1 (constant S_ .f32 0x43000000#32))) (broadcastInDim S2048x8x1 ![] bcast_S_S2048x8x1 (constant S_ .f32 0x358637BD#32)))))) (shapeCast _ (m ((c.tc : Thread nD τ).loc main_arg1)) shapeCasts_S2048x1024_S2048x8x128)) (constant S_ .f32 0x00000000#32) reducesTo_S2048x8x128_S8x128_d0 h_S_) shapeCasts_S8x128_S1x8x128) (constant S_ .f32 0x00000000#32) reducesTo_S1x8x128_S8x128_d0 h_S_) (constant S_ .f32 0x00000000#32) reducesTo_S8x128_S128_d0 h_S_)) = gradLaneWeight (m ((c.tc : Thread nD τ).loc main_arg0)) (m ((c.tc : Thread nD τ).loc main_arg1)) 4096 (by omega) := by
  funext i
  idx_vars i
  pointwise [gradLaneWeight, lanePart, headPart, headRow, factor, meanSq, lanes, eps]
  simp only [Fin.sum_univ_one]
  show @Eq EReal _ _
  refine Finset.sum_comm.trans (Finset.sum_congr rfl fun t _ => Finset.sum_congr rfl fun h _ => ?_)
  exact mul_comm (G := EReal) _ _

theorem keys : res_main_v89 m c = gradLanes (m ((c.tc : Thread nD τ).loc main_arg0)) (m ((c.tc : Thread nD τ).loc main_arg2)) (m ((c.tc : Thread nD τ).loc main_arg5)) 5120 (by omega) := by
  funext i
  idx_vars i
  pointwise [res_main_v89]
  simp only [Fin.sum_univ_one]
  refine pull_lane (headRow (m ((c.tc : Thread nD τ).loc main_arg0)) 5120 (by omega) i0 (headIx i1)) (headIn (m ((c.tc : Thread nD τ).loc main_arg2)) (m ((c.tc : Thread nD τ).loc main_arg5)) i0 (headIx i1)) (laneIx i1) _ _ ?_ ?_
  · exact congrArg (fun k => (m ((c.tc : Thread nD τ).loc main_arg0)) (ix2 i0 k)) (Fin.ext (show 5120 + i1.val = 5120 + (i1.val / 128 * 128 + i1.val % 128) by omega))
  · refine congrArg₂ (fun a b : EReal => a * b) (congrArg (fun k => (m ((c.tc : Thread nD τ).loc main_arg2)) (ix2 i0 k)) (Fin.ext (show i1.val = i1.val / 128 * 128 + i1.val % 128 by omega))) rfl

theorem keys_weight : (show FVec Ideal S1x128 .f32 from broadcastInDim S1x128 ![1] bcast_S128_S1x128_1 (Host.reduceAdd (Host.reduceAdd (shapeCast _ (Host.reduceAdd (mulf (mulf (shapeCast _ (extractStridedSlice S2048x1024 ![0, 5120] (m ((c.tc : Thread nD τ).loc main_arg0)) slices_S2048x7168_S2048x1024_0_5120) shapeCasts_S2048x1024_S2048x8x128) (broadcastInDim S2048x8x128 ![0, 1, 2] bcast_S2048x8x1_S2048x8x128_0_1_2 (Host.rsqrt (addf (Host.divf (broadcastInDim S2048x8x1 ![0, 1] bcast_S2048x8_S2048x8x1_0_1 (Host.reduceAdd (mulf (shapeCast _ (extractStridedSlice S2048x1024 ![0, 5120] (m ((c.tc : Thread nD τ).loc main_arg0)) slices_S2048x7168_S2048x1024_0_5120) shapeCasts_S2048x1024_S2048x8x128) (shapeCast _ (extractStridedSlice S2048x1024 ![0, 5120] (m ((c.tc : Thread nD τ).loc main_arg0)) slices_S2048x7168_S2048x1024_0_5120) shapeCasts_S2048x1024_S2048x8x128)) (constant S_ .f32 0x00000000#32) reducesTo_S2048x8x128_S2048x8_d2 h_S_)) (broadcastInDim S2048x8x1 ![] bcast_S_S2048x8x1 (constant S_ .f32 0x43000000#32))) (broadcastInDim S2048x8x1 ![] bcast_S_S2048x8x1 (constant S_ .f32 0x358637BD#32)))))) (shapeCast _ (m ((c.tc : Thread nD τ).loc main_arg2)) shapeCasts_S2048x1024_S2048x8x128)) (constant S_ .f32 0x00000000#32) reducesTo_S2048x8x128_S8x128_d0 h_S_) shapeCasts_S8x128_S1x8x128) (constant S_ .f32 0x00000000#32) reducesTo_S1x8x128_S8x128_d0 h_S_) (constant S_ .f32 0x00000000#32) reducesTo_S8x128_S128_d0 h_S_)) = gradLaneWeight (m ((c.tc : Thread nD τ).loc main_arg0)) (m ((c.tc : Thread nD τ).loc main_arg2)) 5120 (by omega) := by
  funext i
  idx_vars i
  pointwise [gradLaneWeight, lanePart, headPart, headRow, factor, meanSq, lanes, eps]
  simp only [Fin.sum_univ_one]
  show @Eq EReal _ _
  refine Finset.sum_comm.trans (Finset.sum_congr rfl fun t _ => Finset.sum_congr rfl fun h _ => ?_)
  exact mul_comm (G := EReal) _ _

end Cert.QkNormBwdRefIdeal.Value

end
-- ==== Proof.LanesRef.lean ====
/-  The backward pass of the norms of the queries and keys: the kernel computes what its reference does. -/
module

public import proofs.«01_k».proof.Defs
public import proofs.«01_k».proof.Proof.LanesBwd
public import proofs.«01_k».proof.Proof.LanesRows
public import proofs.«01_k».proof.Proof.Gen.QkNormBwdIdeal.Value
public import proofs.«01_k».proof.Proof.Gen.QkNormBwdIdeal.Frame
public import proofs.«01_k».proof.Proof.Gen.QkNormBwdIdeal
public import proofs.«01_k».proof.Proof.Gen.QkNormBwdRefIdeal.Run
public import proofs.«01_k».proof.Proof.Gen.QkNormBwdRefIdeal
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem
open Cert.Mat Cert.Attn Cert.Rows

open Cert.Norm (gradLanes gradLaneWeight)

/-- Every run of the reference of `QkNormBwd` ends, with its arguments kept and every counter at zero. -/
theorem frame_QkNormBwdRef : Cert.quiescent_QkNormBwdRefIdeal := by
  intro m g _
  exact (θ_run Cert.QkNormBwdRefIdeal.defs _ _).mono
    (fun r h => ⟨fun c => (h c).2.2.2.2.2, sem_eq_zero_of_no_sems (by decide) r.2⟩) (Cert.QkNormBwdRefIdeal.Value.run m g)

/-- Over the extended reals the backward pass of the norms of the queries and keys is its reference's. -/
theorem algebraic_QkNormBwd : Cert.algebraic_QkNormBwdIdeal_QkNormBwdRefIdeal := by
  intro m g m' g' _ hagree
  refine ⟨fun c => gradLanes (m ((c.tc : Thread Cert.QkNormBwdIdeal.nD Cert.QkNormBwdIdeal.τ).loc Cert.QkNormBwdIdeal.main_arg0)) (m ((c.tc : Thread Cert.QkNormBwdIdeal.nD Cert.QkNormBwdIdeal.τ).loc Cert.QkNormBwdIdeal.main_arg1)) (m ((c.tc : Thread Cert.QkNormBwdIdeal.nD Cert.QkNormBwdIdeal.τ).loc Cert.QkNormBwdIdeal.main_arg4)) 4096 (by omega),
    fun c => gradLanes (m ((c.tc : Thread Cert.QkNormBwdIdeal.nD Cert.QkNormBwdIdeal.τ).loc Cert.QkNormBwdIdeal.main_arg0)) (m ((c.tc : Thread Cert.QkNormBwdIdeal.nD Cert.QkNormBwdIdeal.τ).loc Cert.QkNormBwdIdeal.main_arg2)) (m ((c.tc : Thread Cert.QkNormBwdIdeal.nD Cert.QkNormBwdIdeal.τ).loc Cert.QkNormBwdIdeal.main_arg5)) 5120 (by omega),
    fun c => (show Cert.Attn.Arr 2048 1024 from (m ((c.tc : Thread Cert.QkNormBwdIdeal.nD Cert.QkNormBwdIdeal.τ).loc Cert.QkNormBwdIdeal.main_arg3))),
    fun c => gradLaneWeight (m ((c.tc : Thread Cert.QkNormBwdIdeal.nD Cert.QkNormBwdIdeal.τ).loc Cert.QkNormBwdIdeal.main_arg0)) (m ((c.tc : Thread Cert.QkNormBwdIdeal.nD Cert.QkNormBwdIdeal.τ).loc Cert.QkNormBwdIdeal.main_arg1)) 4096 (by omega),
    fun c => gradLaneWeight (m ((c.tc : Thread Cert.QkNormBwdIdeal.nD Cert.QkNormBwdIdeal.τ).loc Cert.QkNormBwdIdeal.main_arg0)) (m ((c.tc : Thread Cert.QkNormBwdIdeal.nD Cert.QkNormBwdIdeal.τ).loc Cert.QkNormBwdIdeal.main_arg2)) 5120 (by omega), ?_, ?_⟩
  · exact θ_run_mono (Cert.QkNormBwdIdeal.Value.run_blocks m g) fun r h c => ⟨(h c).1.trans (Cert.QkNormBwdIdeal.Value.final7 m c), (h c).2.1.trans (Cert.QkNormBwdIdeal.Value.final8 m c), (h c).2.2.1.trans (Cert.QkNormBwdIdeal.Value.final9 m c), (h c).2.2.2.1.trans (Cert.QkNormBwdIdeal.Value.final10 m c), (h c).2.2.2.2.1.trans (Cert.QkNormBwdIdeal.Value.final11 m c), (h c).2.2.2.2.2⟩
  · refine θ_run_mono (Cert.QkNormBwdRefIdeal.Value.run m' g') fun r h c => ⟨(h c).1.trans ((Cert.QkNormBwdRefIdeal.Value.queries m' c).trans ?_), (h c).2.1.trans ((Cert.QkNormBwdRefIdeal.Value.keys m' c).trans ?_), (h c).2.2.1.trans ?_, (h c).2.2.2.1.trans ((Cert.QkNormBwdRefIdeal.Value.queries_weight m' c).trans ?_), (h c).2.2.2.2.1.trans ((Cert.QkNormBwdRefIdeal.Value.keys_weight m' c).trans ?_), (h c).2.2.2.2.2⟩
    · rw [(hagree c).1, (hagree c).2.1, (hagree c).2.2.2.2.1]
    · rw [(hagree c).1, (hagree c).2.2.1, (hagree c).2.2.2.2.2]
    · rw [(hagree c).2.2.2.1]
      funext i
      idx_vars i
      pointwise []
    · rw [(hagree c).1, (hagree c).2.1]
    · rw [(hagree c).1, (hagree c).2.2.1]

end Cert.Proof

end
-- ==== Proof.Bounds.lean ====
/-  The gradient of the two rows of logits behind the lower bounds. -/
module

public import proofs.«01_k».proof.Proof.Norm

@[expose] public section

set_option maxRecDepth 16384

noncomputable section

namespace Cert.Bounds

open Idealize.ShloMosaic Idealize.ShloMosaic.TcCoe Idealize.SL.Sem
open Cert.Attn Cert.Rows

/-- The gradient of the first of two logits, whose softmax is a logistic function of their difference. -/
def gradFirst (a b d : EReal) : EReal :=
  d * Ideal.div 1 (1 + Ideal.exp (b - a)) * (1 - Ideal.div 1 (1 + Ideal.exp (b - a)))

/-- The gradient of the two rows of logits. -/
def gradLogits (L : Arr 2 1024) (D : Arr 1 1024) : Arr 2 1024 := fun i =>
  if (i 0).val = 0 then gradFirst (L (ix2 0 (i 1))) (L (ix2 1 (i 1))) (D (ix2 0 (i 1)))
  else 0 - gradFirst (L (ix2 0 (i 1))) (L (ix2 1 (i 1))) (D (ix2 0 (i 1)))

theorem finite_of_abs (x : EReal) (h : max x (-x) < ⊤) : ∃ r : ℝ, x = (r : EReal) := by
  induction x with
  | bot => simp at h
  | top => simp at h
  | coe r => exact ⟨r, rfl⟩

theorem div_coe (x y : ℝ) (hy : y ≠ 0) : Ideal.div (x : EReal) (y : EReal) = ((x / y : ℝ) : EReal) := by
  rw [div_real _ _ hy, ← EReal.coe_mul, div_eq_mul_inv]

theorem exp_sub_coe (x y : ℝ) : Ideal.exp ((x : EReal) - (y : EReal)) = ((Real.exp (x - y) : ℝ) : EReal) := by
  rw [← EReal.coe_sub]
  rfl

theorem gradFirst_coe (a b d M : ℝ) : gradFirst (a : EReal) (b : EReal) (d : EReal)
    = ((d * (Real.exp (a - M) * Real.exp (b - M)) / ((Real.exp (a - M) + Real.exp (b - M)) * (Real.exp (a - M) + Real.exp (b - M))) : ℝ) : EReal) := by
  have hp : (1 + Real.exp (b - a)) ≠ 0 := by positivity
  unfold gradFirst
  rw [exp_sub_coe, ← EReal.coe_one, ← EReal.coe_add, div_coe _ _ hp, ← EReal.coe_mul, ← EReal.coe_sub, ← EReal.coe_mul]
  congr 1
  have e : Real.exp (b - a) = Real.exp (b - M) / Real.exp (a - M) := by rw [← Real.exp_sub]; congr 1; ring
  have h1 := Real.exp_pos (a - M)
  have h2 := Real.exp_pos (b - M)
  rw [e]
  generalize Real.exp (a - M) = p at *
  generalize Real.exp (b - M) = q at *
  field_simp
  ring

/-- The same as the softmax's own gradient writes it. -/
theorem first_row (a b d M : ℝ) :
    (Ideal.div (d : EReal) (Ideal.exp ((a : EReal) - (M : EReal)) + Ideal.exp ((b : EReal) - (M : EReal)))
      + -((d : EReal) * Ideal.div 1 ((Ideal.exp ((a : EReal) - (M : EReal)) + Ideal.exp ((b : EReal) - (M : EReal))) * (Ideal.exp ((a : EReal) - (M : EReal)) + Ideal.exp ((b : EReal) - (M : EReal)))) * Ideal.exp ((a : EReal) - (M : EReal))
        + 0 * Ideal.div 1 ((Ideal.exp ((a : EReal) - (M : EReal)) + Ideal.exp ((b : EReal) - (M : EReal))) * (Ideal.exp ((a : EReal) - (M : EReal)) + Ideal.exp ((b : EReal) - (M : EReal)))) * Ideal.exp ((b : EReal) - (M : EReal))))
      * Ideal.exp ((a : EReal) - (M : EReal)) = gradFirst (a : EReal) (b : EReal) (d : EReal) := by
  rw [gradFirst_coe a b d M, exp_sub_coe, exp_sub_coe]
  have h1 := Real.exp_pos (a - M)
  have h2 := Real.exp_pos (b - M)
  generalize Real.exp (a - M) = p at *
  generalize Real.exp (b - M) = q at *
  have h3 : p + q ≠ 0 := by positivity
  rw [zero_mul, zero_mul, add_zero, ← EReal.coe_one, ← EReal.coe_add, ← EReal.coe_mul, div_coe _ _ h3, div_coe _ _ (mul_ne_zero h3 h3),
    ← EReal.coe_mul, ← EReal.coe_mul, ← EReal.coe_neg, ← EReal.coe_add, ← EReal.coe_mul]
  congr 1
  field_simp
  ring

theorem first_row_of (A B D Z M : EReal) (a b d M' : ℝ) (ha : A = (a : EReal)) (hb : B = (b : EReal)) (hd : D = (d : EReal)) (hz : Z = 0) (hM : M = (M' : EReal)) :
    (Ideal.div D (Ideal.exp (A - M) + Ideal.exp (B - M))
      + -(D * Ideal.div 1 ((Ideal.exp (A - M) + Ideal.exp (B - M)) * (Ideal.exp (A - M) + Ideal.exp (B - M))) * Ideal.exp (A - M)
        + Z * Ideal.div 1 ((Ideal.exp (A - M) + Ideal.exp (B - M)) * (Ideal.exp (A - M) + Ideal.exp (B - M))) * Ideal.exp (B - M)))
      * Ideal.exp (A - M) = gradFirst A B D := by
  subst ha hb hd hz hM
  exact first_row a b d M'

theorem second_row (a b d M : ℝ) :
    (Ideal.div 0 (Ideal.exp ((a : EReal) - (M : EReal)) + Ideal.exp ((b : EReal) - (M : EReal)))
      + -((d : EReal) * Ideal.div 1 ((Ideal.exp ((a : EReal) - (M : EReal)) + Ideal.exp ((b : EReal) - (M : EReal))) * (Ideal.exp ((a : EReal) - (M : EReal)) + Ideal.exp ((b : EReal) - (M : EReal)))) * Ideal.exp ((a : EReal) - (M : EReal))
        + 0 * Ideal.div 1 ((Ideal.exp ((a : EReal) - (M : EReal)) + Ideal.exp ((b : EReal) - (M : EReal))) * (Ideal.exp ((a : EReal) - (M : EReal)) + Ideal.exp ((b : EReal) - (M : EReal)))) * Ideal.exp ((b : EReal) - (M : EReal))))
      * Ideal.exp ((b : EReal) - (M : EReal)) = 0 - gradFirst (a : EReal) (b : EReal) (d : EReal) := by
  rw [gradFirst_coe a b d M, exp_sub_coe, exp_sub_coe]
  have h1 := Real.exp_pos (a - M)
  have h2 := Real.exp_pos (b - M)
  generalize Real.exp (a - M) = p at *
  generalize Real.exp (b - M) = q at *
  have h3 : p + q ≠ 0 := by positivity
  rw [zero_mul, zero_mul, add_zero, zero_sub, ← EReal.coe_one, ← EReal.coe_zero, ← EReal.coe_add, ← EReal.coe_mul, div_coe _ _ h3, div_coe _ _ (mul_ne_zero h3 h3),
    ← EReal.coe_mul, ← EReal.coe_mul, ← EReal.coe_neg, ← EReal.coe_add, ← EReal.coe_mul, ← EReal.coe_neg]
  congr 1
  field_simp
  ring

theorem second_row_of (A B D Z M : EReal) (a b d M' : ℝ) (ha : A = (a : EReal)) (hb : B = (b : EReal)) (hd : D = (d : EReal)) (hz : Z = 0) (hM : M = (M' : EReal)) :
    (Ideal.div Z (Ideal.exp (A - M) + Ideal.exp (B - M))
      + -(D * Ideal.div 1 ((Ideal.exp (A - M) + Ideal.exp (B - M)) * (Ideal.exp (A - M) + Ideal.exp (B - M))) * Ideal.exp (A - M)
        + Z * Ideal.div 1 ((Ideal.exp (A - M) + Ideal.exp (B - M)) * (Ideal.exp (A - M) + Ideal.exp (B - M))) * Ideal.exp (B - M)))
      * Ideal.exp (B - M) = 0 - gradFirst A B D := by
  subst ha hb hd hz hM
  exact second_row a b d M'

/-- The greatest of finitely many reals, at least one, is a real. -/
theorem fold_max_real {ι : Type} (s : Finset ι) (f : ι → EReal) (i : ι) (hi : i ∈ s) (hf : ∀ j, ∃ r : ℝ, f j = (r : EReal)) :
    ∃ r : ℝ, max (Ideal.ofBits .f32 0xFF800000#32) (s.fold max (Ideal.ofBits .f32 0xFF800000#32) f) = (r : EReal) := by
  have hb : Ideal.ofBits .f32 0xFF800000#32 = (⊥ : EReal) := by simp [Ideal.ofBits, Ideal.ieee]
  rw [hb]
  refine finite_of_abs _ ?_
  have e : max (⊥ : EReal) (s.fold max ⊥ f) = s.fold max ⊥ f := max_eq_right bot_le
  rw [e]
  have h1 : s.fold max ⊥ f < ⊤ := (Finset.fold_max_lt _).mpr ⟨bot_lt_top, fun x _ => by obtain ⟨r, h⟩ := hf x; rw [h]; exact EReal.coe_lt_top r⟩
  have h2 : ⊥ < s.fold max ⊥ f := (Finset.lt_fold_max _).mpr (Or.inr ⟨i, hi, by obtain ⟨r, h⟩ := hf i; rw [h]; exact EReal.bot_lt_coe r⟩)
  refine max_lt h1 (lt_top_iff_ne_top.mpr fun h => ?_)
  rw [EReal.neg_eq_top_iff] at h
  exact absurd h h2.ne'

end Cert.Bounds

end
-- ==== Proof.BoundsOne.lean ====
/-  The gradient of the logits: the array the kernel leaves. -/
module

public import proofs.«01_k».proof.Proof.Bounds
public import Idealize.ShloMosaic.Lib.Pipeline.ValueKit
public import proofs.«01_k».proof.Proof.Gen.LbGradIdeal.Value

@[expose] public section

set_option maxRecDepth 16384

noncomputable section

namespace Cert.LbGradIdeal.Value

open Idealize.ShloMosaic Idealize.ShloMosaic.TcCoe Idealize.SL.Sem
open Cert.LbGradIdeal Cert.LbGradIdeal.Gen Cert.Attn

theorem ld_first (X : Vec Ideal S2x1024 .f32) (a : Fin 1) (b : Fin 1024) : View.ld X r0_1 (ix2 a b) = X (ix2 0 b) := by
  refine congrArg X (funext fun d => Fin.ext ?_)
  match d with
  | ⟨0, _⟩ => show 0 + 1 * a.val = 0; omega
  | ⟨1, _⟩ => show 0 + 1 * b.val = b.val; omega

theorem ld_second (X : Vec Ideal S2x1024 .f32) (a : Fin 1) (b : Fin 1024) : View.ld X r0_0 (ix2 a b) = X (ix2 1 b) := by
  refine congrArg X (funext fun d => Fin.ext ?_)
  match d with
  | ⟨0, _⟩ => show 1 + 1 * a.val = 1; omega
  | ⟨1, _⟩ => show 0 + 1 * b.val = b.val; omega

theorem first_at (l1 l0 d : Vec Ideal S1x1024 .f32) (a : Fin 1) (b : Fin 1024) :
    k0_pay1 (F := Ideal) l1 l0 d (ix2 a b) = Cert.Bounds.gradFirst (l0 (ix2 a b)) (l1 (ix2 a b)) (d (ix2 a b)) := by
  pointwise [k0_pay1, Cert.Bounds.gradFirst]

theorem second_at (l1 l0 d : Vec Ideal S1x1024 .f32) (a : Fin 1) (b : Fin 1024) :
    k0_pay2 (F := Ideal) l1 l0 d (ix2 a b) = (0 : EReal) - Cert.Bounds.gradFirst (l0 (ix2 a b)) (l1 (ix2 a b)) (d (ix2 a b)) := by
  pointwise [k0_pay2, k0_pay1, Cert.Bounds.gradFirst]

theorem rows (L : Vec Ideal S2x1024 .f32) (D : Vec Ideal S1x1024 .f32) : G2 L D = Cert.Bounds.gradLogits L D := by
  funext y
  unfold G2
  canon_tiles x h
  case piece0 =>
    idx_vars x
    have e : y = ix2 1 (x1 : Fin 1024) := by
      funext d
      match d with
      | ⟨0, _⟩ => exact Fin.ext (by show (y 0).val = 1; omega)
      | ⟨1, _⟩ => exact Fin.ext h1
    obtain rfl : x0 = 0 := Subsingleton.elim _ _
    rw [e]
    exact (second_at ..).trans (by rw [ld_first, ld_second]; rfl)
  case piece1 =>
    idx_vars x
    have e : y = ix2 0 (x1 : Fin 1024) := by
      funext d
      match d with
      | ⟨0, _⟩ => exact Fin.ext (by show (y 0).val = 0; omega)
      | ⟨1, _⟩ => exact Fin.ext h1
    obtain rfl : x0 = 0 := Subsingleton.elim _ _
    rw [e]
    exact (first_at ..).trans (by rw [ld_first, ld_second]; rfl)

end Cert.LbGradIdeal.Value

end
-- ==== Proof.BoundsRows.lean ====
/-  The gradient of the logits, as the reference writes it. -/
module

public import proofs.«01_k».proof.Proof.Bounds
public import Idealize.ShloMosaic.Lib.Pipeline.ValueKit
public import proofs.«01_k».proof.Proof.Gen.LbGradRefIdeal.Run

@[expose] public section

set_option maxRecDepth 16384

noncomputable section

namespace Cert.LbGradRefIdeal.Value

open Idealize.ShloMosaic Idealize.ShloMosaic.TcCoe Idealize.SL.Sem
open Cert.LbGradRefIdeal Cert.LbGradRefIdeal.Gen Cert.Attn

/-- The sum over a window of two rows, below the last of which stands the initial value. -/
theorem window_at (X : FVec Ideal S2x1024 .f32) (init : S_.Idx → Ideal .f32) (h : S2x1024.ReduceWindows ![2, 1] ![1, 1] ![0, 0] ![1, 0] S2x1024) (hu : 0 < S_.numel) (i0 : Fin 2) (i1 : Fin 1024) :
    Host.reduceWindowAdd ![2, 1] ![1, 1] ![0, 0] ![1, 0] X init h hu (ix2 i0 i1)
      = ((show EReal from init (Shape.Idx.first hu)) + (show EReal from X (ix2 i0 i1))) + (if h : i0.val + 1 < 2 then (show EReal from X (ix2 ⟨i0.val + 1, h⟩ i1)) else (show EReal from init (Shape.Idx.first hu))) := by
  have e : List.finRange (⟨2, ![2, 1]⟩ : Shape).numel = [⟨0, by decide⟩, ⟨1, by decide⟩] := by decide
  have p00 : ((⟨2, ![2, 1]⟩ : Shape).rowMajor.symm ⟨0, by decide⟩ 0).val = 0 := by decide +kernel
  have p01 : ((⟨2, ![2, 1]⟩ : Shape).rowMajor.symm ⟨0, by decide⟩ 1).val = 0 := by decide +kernel
  have p10 : ((⟨2, ![2, 1]⟩ : Shape).rowMajor.symm ⟨1, by decide⟩ 0).val = 1 := by decide +kernel
  have p11 : ((⟨2, ![2, 1]⟩ : Shape).rowMajor.symm ⟨1, by decide⟩ 1).val = 0 := by decide +kernel
  show Host.reduceWindow (s := S2x1024) (t := S2x1024) (u := ⟨0, ![]⟩) (fun x y : EReal => x + y) ![2, 1] ![1, 1] ![0, 0] ![1, 0] X (fun _ => (init (Shape.Idx.first hu) : EReal)) h (by decide) (ix2 i0 i1) = _
  unfold Host.reduceWindow
  simp only [e, List.foldl]
  refine congrArg₂ (fun x y : EReal => x + y) (congrArg (fun x : EReal => (show EReal from init (Shape.Idx.first hu)) + x) ?_) ?_
  · rw [dif_pos (by
      intro a
      match a with
      | ⟨0, _⟩ => exact ⟨Nat.zero_le _, by show i0.val * 1 + ((⟨2, ![2, 1]⟩ : Shape).rowMajor.symm ⟨0, by decide⟩ 0).val - 0 < 2; rw [p00]; omega⟩
      | ⟨1, _⟩ => exact ⟨Nat.zero_le _, by show i1.val * 1 + ((⟨2, ![2, 1]⟩ : Shape).rowMajor.symm ⟨0, by decide⟩ 1).val - 0 < 1024; rw [p01]; omega⟩)]
    refine congrArg X (funext fun a => Fin.ext ?_)
    match a with
    | ⟨0, _⟩ => show i0.val * 1 + ((⟨2, ![2, 1]⟩ : Shape).rowMajor.symm ⟨0, by decide⟩ 0).val - 0 = i0.val; rw [p00]; omega
    | ⟨1, _⟩ => show i1.val * 1 + ((⟨2, ![2, 1]⟩ : Shape).rowMajor.symm ⟨0, by decide⟩ 1).val - 0 = i1.val; rw [p01]; omega
  · by_cases hb : i0.val + 1 < 2
    · rw [dif_pos hb, dif_pos (by
        intro a
        match a with
        | ⟨0, _⟩ => exact ⟨Nat.zero_le _, by show i0.val * 1 + ((⟨2, ![2, 1]⟩ : Shape).rowMajor.symm ⟨1, by decide⟩ 0).val - 0 < 2; rw [p10]; omega⟩
        | ⟨1, _⟩ => exact ⟨Nat.zero_le _, by show i1.val * 1 + ((⟨2, ![2, 1]⟩ : Shape).rowMajor.symm ⟨1, by decide⟩ 1).val - 0 < 1024; rw [p11]; omega⟩)]
      refine congrArg X (funext fun a => Fin.ext ?_)
      match a with
      | ⟨0, _⟩ => show i0.val * 1 + ((⟨2, ![2, 1]⟩ : Shape).rowMajor.symm ⟨1, by decide⟩ 0).val - 0 = i0.val + 1; rw [p10]; omega
      | ⟨1, _⟩ => show i1.val * 1 + ((⟨2, ![2, 1]⟩ : Shape).rowMajor.symm ⟨1, by decide⟩ 1).val - 0 = i1.val; rw [p11]; omega
    · rw [dif_neg hb, dif_neg (fun q => hb (by
        have h0 := (q 0).2
        have h1 : i0.val * 1 + ((⟨2, ![2, 1]⟩ : Shape).rowMajor.symm ⟨1, by decide⟩ 0).val - 0 < 2 := h0
        rw [p10] at h1
        omega))]

variable (m : (ℓ : Loc nD τ sig) → Buf (Elt Ideal) ℓ) (c : Dev nD)

/-- The cotangent of the first bound, below it a row of zeros. -/
def firstRow (D : FVec Ideal S1x1024 .f32) : FVec Ideal S2x1024 .f32 := fun i => if (i 0).val = 0 then D (ix2 0 (i 1)) else 0

theorem padded (D : FVec Ideal S1x1024 .f32) (i0 : Fin 2) (i1 : Fin 1024) :
    pad S2x1024 ![0, 0] ![1, 0] ![0, 0] D (constant S_ .f32 0x00000000#32) pads_S1x1024_S2x1024_010_000 h_S_ (ix2 i0 i1) = firstRow D (ix2 i0 i1) := by
  pointwise [firstRow]
  match i0 with
  | ⟨0, _⟩ => rfl
  | ⟨1, _⟩ => rfl

theorem cumulated : (show FVec Ideal S2x1024 .f32 from (Host.reduceWindowAdd ![2, 1] ![1, 1] ![0, 0] ![1, 0] (pad S2x1024 ![0, 0] ![1, 0] ![0, 0] (m ((c.tc : Thread nD τ).loc main_arg1)) (constant S_ .f32 0x00000000#32) pads_S1x1024_S2x1024_010_000 h_S_) (broadcastInDim S_ ![] bcast_S_S_ (constant S_ .f32 0x00000000#32)) reduceWindows_S2x1024_S2x1024_w2s1p0_1_w1s1p0_0 h_S_)) = firstRow (m ((c.tc : Thread nD τ).loc main_arg1)) := by
  funext i
  idx_vars i
  refine (window_at _ _ _ _ i0 i1).trans ?_
  have hz : (show EReal from broadcastInDim S_ ![] bcast_S_S_ (constant S_ .f32 0x00000000#32 : FVec Ideal S_ .f32) (Shape.Idx.first h_S_)) = 0 :=
    Ideal.ofBits_zero_f32
  rw [hz, padded]
  match i0 with
  | ⟨0, _⟩ =>
    rw [dif_pos (show 0 + 1 < 2 by decide), padded]
    exact (congrArg (fun x : EReal => x + 0) (zero_add _)).trans (add_zero (M := EReal) _)
  | ⟨1, _⟩ =>
    rw [dif_neg (show ¬ 1 + 1 < 2 by decide)]
    exact (congrArg (fun x : EReal => x + 0) (zero_add _)).trans (add_zero (M := EReal) _)

/-- The gradient of finite logits, as the reference writes it. -/
theorem logits (fL : ∀ i, ∃ r : ℝ, (show EReal from (m ((c.tc : Thread nD τ).loc main_arg0)) i) = (r : EReal)) (fD : ∀ i, ∃ r : ℝ, (show EReal from (m ((c.tc : Thread nD τ).loc main_arg1)) i) = (r : EReal)) :
    (show FVec Ideal S2x1024 .f32 from mulf (addf (Host.divf (Host.reduceWindowAdd ![2, 1] ![1, 1] ![0, 0] ![1, 0] (pad S2x1024 ![0, 0] ![1, 0] ![0, 0] (m ((c.tc : Thread nD τ).loc main_arg1)) (constant S_ .f32 0x00000000#32) pads_S1x1024_S2x1024_010_000 h_S_) (broadcastInDim S_ ![] bcast_S_S_ (constant S_ .f32 0x00000000#32)) reduceWindows_S2x1024_S2x1024_w2s1p0_1_w1s1p0_0 h_S_) (broadcastInDim S2x1024 ![0, 1] bcast_S1x1024_S2x1024_0_1 (broadcastInDim S1x1024 ![1] bcast_S1024_S1x1024_1 (Host.reduceAdd (Host.exp (subf (m ((c.tc : Thread nD τ).loc main_arg0)) (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf (m ((c.tc : Thread nD τ).loc main_arg0)) (constant S_ .f32 0xFF800000#32) reducesTo_S2x1024_S1024_d0 h_S_)))))) (constant S_ .f32 0x00000000#32) reducesTo_S2x1024_S1024_d0 h_S_)))) (broadcastInDim S2x1024 ![1] bcast_S1024_S2x1024_1 (Host.reduceAdd (Host.negf (shapeCast _ (Host.reduceAdd (mulf (mulf (Host.reduceWindowAdd ![2, 1] ![1, 1] ![0, 0] ![1, 0] (pad S2x1024 ![0, 0] ![1, 0] ![0, 0] (m ((c.tc : Thread nD τ).loc main_arg1)) (constant S_ .f32 0x00000000#32) pads_S1x1024_S2x1024_010_000 h_S_) (broadcastInDim S_ ![] bcast_S_S_ (constant S_ .f32 0x00000000#32)) reduceWindows_S2x1024_S2x1024_w2s1p0_1_w1s1p0_0 h_S_) (broadcastInDim S2x1024 ![0, 1] bcast_S1x1024_S2x1024_0_1 (Host.divf (broadcastInDim S1x1024 ![] bcast_S_S1x1024 (constant S_ .f32 0x3F800000#32)) (mulf (broadcastInDim S1x1024 ![1] bcast_S1024_S1x1024_1 (Host.reduceAdd (Host.exp (subf (m ((c.tc : Thread nD τ).loc main_arg0)) (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf (m ((c.tc : Thread nD τ).loc main_arg0)) (constant S_ .f32 0xFF800000#32) reducesTo_S2x1024_S1024_d0 h_S_)))))) (constant S_ .f32 0x00000000#32) reducesTo_S2x1024_S1024_d0 h_S_)) (broadcastInDim S1x1024 ![1] bcast_S1024_S1x1024_1 (Host.reduceAdd (Host.exp (subf (m ((c.tc : Thread nD τ).loc main_arg0)) (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf (m ((c.tc : Thread nD τ).loc main_arg0)) (constant S_ .f32 0xFF800000#32) reducesTo_S2x1024_S1024_d0 h_S_)))))) (constant S_ .f32 0x00000000#32) reducesTo_S2x1024_S1024_d0 h_S_)))))) (Host.exp (subf (m ((c.tc : Thread nD τ).loc main_arg0)) (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf (m ((c.tc : Thread nD τ).loc main_arg0)) (constant S_ .f32 0xFF800000#32) reducesTo_S2x1024_S1024_d0 h_S_))))))) (constant S_ .f32 0x00000000#32) reducesTo_S2x1024_S1024_d0 h_S_) shapeCasts_S1024_S1x1024)) (constant S_ .f32 0x00000000#32) reducesTo_S1x1024_S1024_d0 h_S_))) (Host.exp (subf (m ((c.tc : Thread nD τ).loc main_arg0)) (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf (m ((c.tc : Thread nD τ).loc main_arg0)) (constant S_ .f32 0xFF800000#32) reducesTo_S2x1024_S1024_d0 h_S_))))))) = Cert.Bounds.gradLogits (m ((c.tc : Thread nD τ).loc main_arg0)) (m ((c.tc : Thread nD τ).loc main_arg1)) := by
  have e : (Host.reduceWindowAdd ![2, 1] ![1, 1] ![0, 0] ![1, 0] (pad S2x1024 ![0, 0] ![1, 0] ![0, 0] (m ((c.tc : Thread nD τ).loc main_arg1)) (constant S_ .f32 0x00000000#32) pads_S1x1024_S2x1024_010_000 h_S_) (broadcastInDim S_ ![] bcast_S_S_ (constant S_ .f32 0x00000000#32)) reduceWindows_S2x1024_S2x1024_w2s1p0_1_w1s1p0_0 h_S_) = firstRow (m ((c.tc : Thread nD τ).loc main_arg1)) := cumulated m c
  rw [e]
  funext i
  idx_vars i
  pointwise
  simp only [Fin.sum_univ_one, Fin.sum_univ_two]
  obtain ⟨M, hM⟩ := Cert.Bounds.fold_max_real (Finset.univ.filter (fun i => reducesTo_S2x1024_S1024_d0.drop i = ix1 i1)) (fun i => (show EReal from (m ((c.tc : Thread nD τ).loc main_arg0)) i)) (ix2 0 i1)
    (by rw [Finset.mem_filter]; exact ⟨Finset.mem_univ _, (Shape.ReducesTo.fiber_r2_a0 _ _ _).mpr ⟨0, rfl⟩⟩) fL
  obtain ⟨a, ha⟩ := fL (ix2 0 i1)
  obtain ⟨b, hb⟩ := fL (ix2 1 i1)
  obtain ⟨d, hd⟩ := fD (ix2 0 i1)
  have g0 : firstRow (m ((c.tc : Thread nD τ).loc main_arg1)) (ix2 0 i1) = (d : EReal) := hd
  have g1 : firstRow (m ((c.tc : Thread nD τ).loc main_arg1)) (ix2 1 i1) = (0 : EReal) := rfl
  match i0 with
  | ⟨0, _⟩ => exact Cert.Bounds.first_row_of ((m ((c.tc : Thread nD τ).loc main_arg0)) (ix2 0 i1)) ((m ((c.tc : Thread nD τ).loc main_arg0)) (ix2 1 i1)) (firstRow (m ((c.tc : Thread nD τ).loc main_arg1)) (ix2 0 i1)) (firstRow (m ((c.tc : Thread nD τ).loc main_arg1)) (ix2 1 i1)) _ a b d M ha hb g0 g1 hM
  | ⟨1, _⟩ => exact Cert.Bounds.second_row_of ((m ((c.tc : Thread nD τ).loc main_arg0)) (ix2 0 i1)) ((m ((c.tc : Thread nD τ).loc main_arg0)) (ix2 1 i1)) (firstRow (m ((c.tc : Thread nD τ).loc main_arg1)) (ix2 0 i1)) (firstRow (m ((c.tc : Thread nD τ).loc main_arg1)) (ix2 1 i1)) _ a b d M ha hb g0 g1 hM

end Cert.LbGradRefIdeal.Value

end
-- ==== Proof.BoundsRef.lean ====
/-  The gradient of the logits: the kernel computes what its reference does. -/
module

public import proofs.«01_k».proof.Defs
public import proofs.«01_k».proof.Proof.BoundsOne
public import proofs.«01_k».proof.Proof.BoundsRows
public import proofs.«01_k».proof.Proof.Gen.LbGradIdeal.Value
public import proofs.«01_k».proof.Proof.Gen.LbGradIdeal.Frame
public import proofs.«01_k».proof.Proof.Gen.LbGradIdeal
public import proofs.«01_k».proof.Proof.Gen.LbGradRefIdeal.Run
public import proofs.«01_k».proof.Proof.Gen.LbGradRefIdeal
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem
open Cert.Mat Cert.Attn Cert.Rows

/-- The shapes the precondition states. -/
instance finite_facts : Cert.Pre_all_finite.Facts where
  bcast_S_S2x1024 := by decide
  bcast_S_S1x1024 := by decide
  bcast_S1x1024_S2x1024_0_1 := by decide

/-- Every run of the reference of `LbGrad` ends, with its arguments kept and every counter at zero. -/
theorem frame_LbGradRef : Cert.quiescent_LbGradRefIdeal := by
  intro m g _
  exact (θ_run Cert.LbGradRefIdeal.defs _ _).mono
    (fun r h => ⟨fun c => (h c).2, sem_eq_zero_of_no_sems (by decide) r.2⟩) (Cert.LbGradRefIdeal.Value.run m g)

/-- What the precondition says of an entry: it is a real number. -/
theorem real_of_finite (x : EReal) (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  exact Cert.Bounds.finite_of_abs x ((Ideal.cmp_olt_eq_one _ _).mp h)

theorem repeated (V : IVec Cert.Pre_all_finite.S1x1024 1) (h : Cert.Pre_all_finite.S1x1024.BroadcastsInDim Cert.Pre_all_finite.S2x1024 (![0, 1] : Fin 2 → Fin Cert.Pre_all_finite.S2x1024.rank)) (i0 : Fin 2) (i1 : Fin 1024) :
    broadcastInDim Cert.Pre_all_finite.S2x1024 ![0, 1] h V (ix2 i0 i1) = V (ix2 0 i1) := by
  pointwise

/-- Over the extended reals the gradient of finite logits is its reference's. -/
theorem algebraic_LbGrad : Cert.algebraic_LbGradIdeal_LbGradRefIdeal_pre_all_finite := by
  intro m g m' g' hpre hagree
  have hf : ∀ (c : Dev Cert.LbGradIdeal.nD) (i0 : Fin 2) (i1 : Fin 1024),
      (∃ r : ℝ, (show EReal from (m ((c.tc : Thread Cert.LbGradIdeal.nD Cert.LbGradIdeal.τ).loc Cert.LbGradIdeal.main_arg0)) (ix2 i0 i1)) = (r : EReal)) ∧ ∃ r : ℝ, (show EReal from (m ((c.tc : Thread Cert.LbGradIdeal.nD Cert.LbGradIdeal.τ).loc Cert.LbGradIdeal.main_arg1)) (ix2 0 i1)) = (r : EReal) := fun c i0 i1 => by
    have h := congrFun (hpre c) (ix2 i0 i1)
    obtain ⟨h1, h2⟩ := IntOp.andi_eq_one.1 h
    exact ⟨real_of_finite _ h1, real_of_finite _ ((repeated _ _ i0 i1).symm.trans h2)⟩
  refine ⟨fun c => Cert.Bounds.gradLogits (m ((c.tc : Thread Cert.LbGradIdeal.nD Cert.LbGradIdeal.τ).loc Cert.LbGradIdeal.main_arg0)) (m ((c.tc : Thread Cert.LbGradIdeal.nD Cert.LbGradIdeal.τ).loc Cert.LbGradIdeal.main_arg1)), ?_, ?_⟩
  · exact θ_run_mono (Cert.LbGradIdeal.Value.run m g) fun r h c => ⟨(h c).1.trans (Cert.LbGradIdeal.Value.rows _ _), (h c).2⟩
  · refine θ_run_mono (Cert.LbGradRefIdeal.Value.run m' g') fun r h c => ⟨(h c).1.trans ((Cert.LbGradRefIdeal.Value.logits m' c ?_ ?_).trans ?_), (h c).2⟩
    · intro i
      idx_vars i
      rw [(hagree c).1]
      exact (hf c i0 i1).1
    · intro i
      idx_vars i
      obtain rfl : i0 = 0 := Subsingleton.elim _ _
      rw [(hagree c).2]
      exact (hf c 0 i1).2
    · rw [(hagree c).1, (hagree c).2]

end Cert.Proof

end
-- ==== Proof.Modulate.lean ====
/-  Normalised and modulated rows, and normalised heads. -/
module

public import proofs.«01_k».proof.Proof.Lanes

@[expose] public section

set_option maxRecDepth 16384

noncomputable section

namespace Cert.Norm

open Idealize.ShloMosaic Idealize.ShloMosaic.TcCoe Idealize.SL.Sem
open Cert.Mat Cert.Attn Cert.Rows

/-- A normalised row, weighted and modulated. -/
def modulateRow {n : ℕ} (W : EReal) (x nw sc sh : Fin n → EReal) (s : Fin n) : EReal := x s * factor W x * nw s * (one + sc s) + sh s

/-- Every row normalised, weighted and modulated. -/
def modulate (X : Arr 2048 2048) (NW SC SH : Arr 1 2048) : Arr 2048 2048 := fun i =>
  modulateRow width (fun j => X (ix2 (i 0) j)) (fun j => NW (ix2 0 j)) (fun j => SC (ix2 0 j)) (fun j => SH (ix2 0 j)) (i 1)

/-- The heads of the columns that begin at `o`, each row of each head normalised and weighted. -/
def normLanes (P : Arr 2048 7168) (W : Arr 1 128) (o : ℕ) (ho : o + 1024 ≤ 7168) : Arr 2048 1024 := fun i =>
  headRow P o ho (i 0) (headIx (i 1)) (laneIx (i 1)) * factor lanes (headRow P o ho (i 0) (headIx (i 1))) * W (ix2 0 (laneIx (i 1)))

end Cert.Norm

end
-- ==== Proof.NormForward.lean ====
/-  The normalised and modulated stream, entry by entry. -/
module

public import proofs.«01_k».proof.Proof.Modulate
public import Idealize.ShloMosaic.Lib.Pipeline.ValueKit
public import proofs.«01_k».proof.Proof.Gen.NormFwdIdeal.Value

@[expose] public section

set_option maxRecDepth 16384

noncomputable section

namespace Cert.NormFwdIdeal.Value

open Idealize.ShloMosaic Idealize.ShloMosaic.TcCoe Idealize.SL.Sem
open Cert.NormFwdIdeal Cert.NormFwdIdeal.Gen Cert.Attn Cert.Mat Cert.Rows Cert.Norm

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

theorem tile (x : FVec Ideal S256x2048 .f32) (nw sc sh : FVec Ideal S1x2048 .f32) (a : Fin 256) (b : Fin 2048) :
    k0_pay1 (F := Ideal) x nw sc sh (ix2 a b)
      = modulateRow width (fun j => x (ix2 a j)) (fun j => nw (ix2 0 j)) (fun j => sc (ix2 0 j)) (fun j => sh (ix2 0 j)) b := by
  pointwise [k0_pay1, modulateRow, factor, meanSq, width, eps, one]

variable (c : Dev nD) (t : Fin cfg0.N)

theorem row0 (a : Fin 256) (b : Fin 2048) : iblk m c 0 t (ix2 a b) = (m ((c : Thread nD τ).loc main_arg0))
    (ix2 ⟨t.val * 256 + a.val, by have h : t.val < 8 := t.isLt; omega⟩ b) := by
  blk_point [iblk, V, idx t]

theorem row1 (a : Fin 1) (b : Fin 2048) : iblk m c 1 t (ix2 a b) = (m ((c : Thread nD τ).loc main_arg1)) (ix2 a b) := by
  blk_point [iblk, V, idx t]

theorem row2 (a : Fin 1) (b : Fin 2048) : iblk m c 2 t (ix2 a b) = (m ((c : Thread nD τ).loc main_arg2)) (ix2 a b) := by
  blk_point [iblk, V, idx t]

theorem row3 (a : Fin 1) (b : Fin 2048) : iblk m c 3 t (ix2 a b) = (m ((c : Thread nD τ).loc main_arg3)) (ix2 a b) := by
  blk_point [iblk, V, idx t]

theorem at4 (A : Arr 2048 2048) (a : Fin 256) (b : Fin 2048) : A ((win0_4.blk t).view.emb (ix2 a b))
    = A (ix2 ⟨t.val * 256 + a.val, by have h : t.val < 8 := t.isLt; omega⟩ b) := by
  blk_point [idx t]

theorem final4 : (dats m 0 c).arrAt 4 (cfgs 0).N = modulate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  idx_vars y
  refine ((tile ..).trans ?_).trans (at4 t _ _ _).symm
  simp only [row0, row1, row2, row3]
  rfl

end Cert.NormFwdIdeal.Value

end
-- ==== Proof.NormForwardRows.lean ====
/-  The normalised and modulated stream, as the reference writes it. -/
module

public import proofs.«01_k».proof.Proof.Modulate
public import Idealize.ShloMosaic.Lib.Pipeline.ValueKit
public import proofs.«01_k».proof.Proof.Gen.NormFwdRefIdeal.Run

@[expose] public section

set_option maxRecDepth 16384

noncomputable section

namespace Cert.NormFwdRefIdeal.Value

open Idealize.ShloMosaic Idealize.ShloMosaic.TcCoe Idealize.SL.Sem
open Cert.NormFwdRefIdeal Cert.NormFwdRefIdeal.Gen Cert.Attn Cert.Mat Cert.Rows Cert.Norm

variable (m : (ℓ : Loc nD τ sig) → Buf (Elt Ideal) ℓ)

variable (c : Dev nD)

theorem stream : (show FVec Ideal S2048x2048 .bf16 from truncf .bf16 (addf (mulf (mulf (mulf (m ((c.tc : Thread nD τ).loc main_arg0)) (broadcastInDim S2048x2048 ![0, 1] bcast_S2048x1_S2048x2048_0_1 (Host.rsqrt (addf (Host.divf (broadcastInDim S2048x1 ![0] bcast_S2048_S2048x1_0 (Host.reduceAdd (mulf (m ((c.tc : Thread nD τ).loc main_arg0)) (m ((c.tc : Thread nD τ).loc main_arg0))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (m ((c.tc : Thread nD τ).loc main_arg1)))) (broadcastInDim S2048x2048 ![0, 1] bcast_S1x2048_S2048x2048_0_1 (addf (broadcastInDim S1x2048 ![] bcast_S_S1x2048 (constant S_ .f32 0x3F800000#32)) (m ((c.tc : Thread nD τ).loc main_arg2))))) (broadcastInDim S2048x2048 ![0, 1] bcast_S1x2048_S2048x2048_0_1 (m ((c.tc : Thread nD τ).loc main_arg3)))) bitsLt_bf16_f32) = modulate (m ((c.tc : Thread nD τ).loc main_arg0)) (m ((c.tc : Thread nD τ).loc main_arg1)) (m ((c.tc : Thread nD τ).loc main_arg2)) (m ((c.tc : Thread nD τ).loc main_arg3)) := by
  funext i
  idx_vars i
  pointwise [modulate, modulateRow, factor, meanSq, width, eps, one]
  all_goals simp only [Fin.sum_univ_one]

end Cert.NormFwdRefIdeal.Value

end
-- ==== Proof.ResidForward.lean ====
/-  The residual stream after the attention block, and its normalised and modulated rows, entry by entry. -/
module

public import proofs.«01_k».proof.Proof.Modulate
public import Idealize.ShloMosaic.Lib.Pipeline.ValueKit
public import proofs.«01_k».proof.Proof.Gen.ResidFwdIdeal.Value

@[expose] public section

set_option maxRecDepth 16384

noncomputable section

namespace Cert.ResidFwdIdeal.Value

open Idealize.ShloMosaic Idealize.ShloMosaic.TcCoe Idealize.SL.Sem
open Cert.ResidFwdIdeal Cert.ResidFwdIdeal.Gen Cert.Attn Cert.Mat Cert.Rows Cert.Norm

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)

theorem sum_at (x : FVec Ideal S256x2048 .f32) (g : FVec Ideal S1x2048 .f32) (y : FVec Ideal S256x2048 .f32) (a : Fin 256) (b : Fin 2048) :
    k0_pay1 (F := Ideal) x g y (ix2 a b) = x (ix2 a b) + g (ix2 0 b) * y (ix2 a b) := by
  pointwise [k0_pay1]

theorem tile (x : FVec Ideal S256x2048 .f32) (g : FVec Ideal S1x2048 .f32) (y : FVec Ideal S256x2048 .f32) (nw sc sh : FVec Ideal S1x2048 .f32) (a : Fin 256) (b : Fin 2048) :
    k0_pay2 (F := Ideal) x g y nw sc sh (ix2 a b)
      = modulateRow width (fun j => x (ix2 a j) + g (ix2 0 j) * y (ix2 a j)) (fun j => nw (ix2 0 j)) (fun j => sc (ix2 0 j)) (fun j => sh (ix2 0 j)) b := by
  pointwise [k0_pay2, k0_pay1, modulateRow, factor, meanSq, width, eps, one]

variable (c : Dev nD) (t : Fin cfg0.N)

theorem row0 (a : Fin 256) (b : Fin 2048) : iblk m c 0 t (ix2 a b) = (m ((c : Thread nD τ).loc main_arg0))
    (ix2 ⟨t.val * 256 + a.val, by have h : t.val < 8 := t.isLt; omega⟩ b) := by
  blk_point [iblk, V, idx t]

theorem row1 (a : Fin 256) (b : Fin 2048) : iblk m c 1 t (ix2 a b) = (m ((c : Thread nD τ).loc main_arg1))
    (ix2 ⟨t.val * 256 + a.val, by have h : t.val < 8 := t.isLt; omega⟩ b) := by
  blk_point [iblk, V, idx t]

theorem row2 (a : Fin 1) (b : Fin 2048) : iblk m c 2 t (ix2 a b) = (m ((c : Thread nD τ).loc main_arg2)) (ix2 a b) := by
  blk_point [iblk, V, idx t]

theorem row3 (a : Fin 1) (b : Fin 2048) : iblk m c 3 t (ix2 a b) = (m ((c : Thread nD τ).loc main_arg3)) (ix2 a b) := by
  blk_point [iblk, V, idx t]

theorem row4 (a : Fin 1) (b : Fin 2048) : iblk m c 4 t (ix2 a b) = (m ((c : Thread nD τ).loc main_arg4)) (ix2 a b) := by
  blk_point [iblk, V, idx t]

theorem row5 (a : Fin 1) (b : Fin 2048) : iblk m c 5 t (ix2 a b) = (m ((c : Thread nD τ).loc main_arg5)) (ix2 a b) := by
  blk_point [iblk, V, idx t]

theorem at6 (A : Arr 2048 2048) (a : Fin 256) (b : Fin 2048) : A ((win0_6.blk t).view.emb (ix2 a b))
    = A (ix2 ⟨t.val * 256 + a.val, by have h : t.val < 8 := t.isLt; omega⟩ b) := by
  blk_point [idx t]

theorem at7 (A : Arr 2048 2048) (a : Fin 256) (b : Fin 2048) : A ((win0_7.blk t).view.emb (ix2 a b))
    = A (ix2 ⟨t.val * 256 + a.val, by have h : t.val < 8 := t.isLt; omega⟩ b) := by
  blk_point [idx t]

theorem final6 : (dats m 0 c).arrAt 6 (cfgs 0).N = (Norm.residual (m ((c : Thread nD τ).loc main_arg0)) (m ((c : Thread nD τ).loc main_arg1)) (m ((c : Thread nD τ).loc main_arg2))) := by
  refine (dats m 0 c).arrAt_eq_of_covers 6 _ (by decide +kernel) fun t _ y => ?_
  blk_simp
  rw [after0_6]
  frame_out
  idx_vars y
  refine ((sum_at ..).trans ?_).trans (at6 t _ _ _).symm
  simp only [row0, row1, row2]
  rfl
theorem final7 : (dats m 0 c).arrAt 7 (cfgs 0).N = modulate (Norm.residual (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  frame_out
  idx_vars y
  refine ((tile ..).trans ?_).trans (at7 t _ _ _).symm
  simp only [row0, row1, row2, row3, row4, row5]
  rfl

end Cert.ResidFwdIdeal.Value

end
-- ==== Proof.ResidForwardRows.lean ====
/-  The residual stream and its normalised and modulated rows, as the reference writes them. -/
module

public import proofs.«01_k».proof.Proof.Modulate
public import Idealize.ShloMosaic.Lib.Pipeline.ValueKit
public import proofs.«01_k».proof.Proof.Gen.ResidFwdRefIdeal.Run

@[expose] public section

set_option maxRecDepth 16384

noncomputable section

namespace Cert.ResidFwdRefIdeal.Value

open Idealize.ShloMosaic Idealize.ShloMosaic.TcCoe Idealize.SL.Sem
open Cert.ResidFwdRefIdeal Cert.ResidFwdRefIdeal.Gen Cert.Attn Cert.Mat Cert.Rows Cert.Norm

variable (m : (ℓ : Loc nD τ sig) → Buf (Elt Ideal) ℓ)

variable (c : Dev nD)

theorem residual : (show FVec Ideal S2048x2048 .f32 from addf (m ((c.tc : Thread nD τ).loc main_arg0)) (mulf (broadcastInDim S2048x2048 ![0, 1] bcast_S1x2048_S2048x2048_0_1 (m ((c.tc : Thread nD τ).loc main_arg2))) (m ((c.tc : Thread nD τ).loc main_arg1)))) = (Norm.residual (m ((c.tc : Thread nD τ).loc main_arg0)) (m ((c.tc : Thread nD τ).loc main_arg1)) (m ((c.tc : Thread nD τ).loc main_arg2))) := by
  funext i
  idx_vars i
  pointwise [Norm.residual]

theorem stream : (show FVec Ideal S2048x2048 .bf16 from truncf .bf16 (addf (mulf (mulf (mulf (addf (m ((c.tc : Thread nD τ).loc main_arg0)) (mulf (broadcastInDim S2048x2048 ![0, 1] bcast_S1x2048_S2048x2048_0_1 (m ((c.tc : Thread nD τ).loc main_arg2))) (m ((c.tc : Thread nD τ).loc main_arg1)))) (broadcastInDim S2048x2048 ![0, 1] bcast_S2048x1_S2048x2048_0_1 (Host.rsqrt (addf (Host.divf (broadcastInDim S2048x1 ![0] bcast_S2048_S2048x1_0 (Host.reduceAdd (mulf (addf (m ((c.tc : Thread nD τ).loc main_arg0)) (mulf (broadcastInDim S2048x2048 ![0, 1] bcast_S1x2048_S2048x2048_0_1 (m ((c.tc : Thread nD τ).loc main_arg2))) (m ((c.tc : Thread nD τ).loc main_arg1)))) (addf (m ((c.tc : Thread nD τ).loc main_arg0)) (mulf (broadcastInDim S2048x2048 ![0, 1] bcast_S1x2048_S2048x2048_0_1 (m ((c.tc : Thread nD τ).loc main_arg2))) (m ((c.tc : Thread nD τ).loc main_arg1))))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (m ((c.tc : Thread nD τ).loc main_arg3)))) (broadcastInDim S2048x2048 ![0, 1] bcast_S1x2048_S2048x2048_0_1 (addf (broadcastInDim S1x2048 ![] bcast_S_S1x2048 (constant S_ .f32 0x3F800000#32)) (m ((c.tc : Thread nD τ).loc main_arg4))))) (broadcastInDim S2048x2048 ![0, 1] bcast_S1x2048_S2048x2048_0_1 (m ((c.tc : Thread nD τ).loc main_arg5)))) bitsLt_bf16_f32) = modulate (Norm.residual (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) := by
  funext i
  idx_vars i
  pointwise [modulate, modulateRow, Norm.residual, factor, meanSq, width, eps, one]
  all_goals simp only [Fin.sum_univ_one]

end Cert.ResidFwdRefIdeal.Value

end
-- ==== Proof.LanesForward.lean ====
/-  The normalised queries and keys, entry by entry. -/
module

public import proofs.«01_k».proof.Proof.Modulate
public import Idealize.ShloMosaic.Lib.Pipeline.ValueKit
public import proofs.«01_k».proof.Proof.Gen.QkPrepIdeal.Value

@[expose] public section

set_option maxRecDepth 16384

noncomputable section

namespace Cert.QkPrepIdeal.Value

open Idealize.ShloMosaic Idealize.ShloMosaic.TcCoe Idealize.SL.Sem
open Cert.QkPrepIdeal Cert.QkPrepIdeal.Gen Cert.Attn Cert.Mat Cert.Rows Cert.Norm

variable (m : (ℓ : Loc nD τ sig) → Buf (Elt Ideal) ℓ)

theorem idx : ∀ t : Fin cfg0.N, win0_0.index t = ![t.val, 4] ∧ win0_1.index t = ![t.val, 5] ∧ win0_2.index t = ![0, 0] ∧ win0_3.index t = ![0, 0] ∧ win0_4.index t = ![t.val, 0] ∧ win0_5.index t = ![t.val, 0] :=
  (by decide +kernel : ∀ t : Fin grid0.N, _)

/-- The lanes of head `h` in a block of rows. -/
def cols (X : Vec Ideal S256x1024 .f32) (h : Fin 8) : Vec Ideal S256x128 .f32 :=
  fun i => X (ix2 (i 0) ⟨h.val * 128 + (i 1).val, by have : (i 1).val < 128 := (i 1).isLt; omega⟩)

theorem cols_at (X : Vec Ideal S256x1024 .f32) (h : Fin 8) (a : Fin 256) (b : Fin 128) :
    cols X h (ix2 a b) = X (ix2 a ⟨h.val * 128 + b.val, by omega⟩) := rfl

theorem ld_cols0 (X : Vec Ideal S256x1024 .f32) :
    View.ld X (Rect.unit (s := S256x1024) ![0, 0] S256x128.size inb_S256x1024_S256x128_0_0) = cols X 0 := by
  funext i; idx_vars i; pointwise [cols]; blk_ext

theorem ld_cols1 (X : Vec Ideal S256x1024 .f32) :
    View.ld X (Rect.unit (s := S256x1024) ![0, 128] S256x128.size inb_S256x1024_S256x128_0_128) = cols X 1 := by
  funext i; idx_vars i; pointwise [cols]; blk_ext

theorem ld_cols2 (X : Vec Ideal S256x1024 .f32) :
    View.ld X (Rect.unit (s := S256x1024) ![0, 256] S256x128.size inb_S256x1024_S256x128_0_256) = cols X 2 := by
  funext i; idx_vars i; pointwise [cols]; blk_ext

theorem ld_cols3 (X : Vec Ideal S256x1024 .f32) :
    View.ld X (Rect.unit (s := S256x1024) ![0, 384] S256x128.size inb_S256x1024_S256x128_0_384) = cols X 3 := by
  funext i; idx_vars i; pointwise [cols]; blk_ext

theorem ld_cols4 (X : Vec Ideal S256x1024 .f32) :
    View.ld X (Rect.unit (s := S256x1024) ![0, 512] S256x128.size inb_S256x1024_S256x128_0_512) = cols X 4 := by
  funext i; idx_vars i; pointwise [cols]; blk_ext

theorem ld_cols5 (X : Vec Ideal S256x1024 .f32) :
    View.ld X (Rect.unit (s := S256x1024) ![0, 640] S256x128.size inb_S256x1024_S256x128_0_640) = cols X 5 := by
  funext i; idx_vars i; pointwise [cols]; blk_ext

theorem ld_cols6 (X : Vec Ideal S256x1024 .f32) :
    View.ld X (Rect.unit (s := S256x1024) ![0, 768] S256x128.size inb_S256x1024_S256x128_0_768) = cols X 6 := by
  funext i; idx_vars i; pointwise [cols]; blk_ext

theorem ld_cols7 (X : Vec Ideal S256x1024 .f32) :
    View.ld X (Rect.unit (s := S256x1024) ![0, 896] S256x128.size inb_S256x1024_S256x128_0_896) = cols X 7 := by
  funext i; idx_vars i; pointwise [cols]; blk_ext

theorem ix_eq (y : S256x1024.Idx) (x : S256x128.Idx) (h0 : (y 0 : ℕ) = x 0) (h1 : (y 1 : ℕ) % 128 = x 1) :
    (ix2 (y 0) (laneIx (y 1)) : S256x128.Idx) = x := by
  idx_vars x
  exact (ix2_inj ..).2 ⟨Fin.ext h0, Fin.ext h1⟩

theorem head_eq (y : S256x1024.Idx) (h : Fin 8) (e : (y 1 : ℕ) / 128 = h.val) : headIx (y 1) = h := Fin.ext e

/-- A head's rows in a block, normalised and weighted. -/
def headNorm (x : FVec Ideal S256x128 .f32) (w : FVec Ideal S1x128 .f32) : FVec Ideal S256x128 .f32 := k0_pay3 (F := Ideal) x w

theorem norm_at (x : FVec Ideal S256x128 .f32) (w : FVec Ideal S1x128 .f32) (a : Fin 256) (b : Fin 128) :
    headNorm x w (ix2 a b) = x (ix2 a b) * (factor lanes fun j => x (ix2 a j)) * w (ix2 0 b) := by
  pointwise [headNorm, k0_pay3, factor, meanSq, lanes, eps]

variable (c : Dev nD) (t : Fin cfg0.N)

theorem row0 (a : Fin 256) (b : Fin 1024) : iblk m c 0 t (ix2 a b) = (m ((c : Thread nD τ).loc main_arg0))
    (ix2 ⟨t.val * 256 + a.val, by have h : t.val < 8 := t.isLt; omega⟩ ⟨4096 + b.val, by omega⟩) := by
  blk_point [iblk, V, idx t]

theorem row1 (a : Fin 256) (b : Fin 1024) : iblk m c 1 t (ix2 a b) = (m ((c : Thread nD τ).loc main_arg0))
    (ix2 ⟨t.val * 256 + a.val, by have h : t.val < 8 := t.isLt; omega⟩ ⟨5120 + b.val, by omega⟩) := by
  blk_point [iblk, V, idx t]

theorem row2 (a : Fin 1) (b : Fin 128) : iblk m c 2 t (ix2 a b) = (m ((c : Thread nD τ).loc main_arg1)) (ix2 a b) := by
  blk_point [iblk, V, idx t]

theorem row3 (a : Fin 1) (b : Fin 128) : iblk m c 3 t (ix2 a b) = (m ((c : Thread nD τ).loc main_arg2)) (ix2 a b) := by
  blk_point [iblk, V, idx t]

theorem at4 (A : Arr 2048 1024) (a : Fin 256) (b : Fin 1024) : A ((win0_4.blk t).view.emb (ix2 a b))
    = A (ix2 ⟨t.val * 256 + a.val, by have h : t.val < 8 := t.isLt; omega⟩ b) := by
  blk_point [idx t]

theorem at5 (A : Arr 2048 1024) (a : Fin 256) (b : Fin 1024) : A ((win0_5.blk t).view.emb (ix2 a b))
    = A (ix2 ⟨t.val * 256 + a.val, by have h : t.val < 8 := t.isLt; omega⟩ b) := by
  blk_point [idx t]

theorem heads4 (y : S256x1024.Idx) : out0_4 (F := Ideal) (iblk m c 0 t) (iblk m c 1 t) (iblk m c 2 t) (iblk m c 3 t) y
    = headNorm (cols (iblk m c 0 t) (headIx (y 1))) (iblk m c 2 t) (ix2 (y 0) (laneIx (y 1))) := by
  frame_out
  canon_tiles x h
  case piece0 =>
    rw [head_eq y 7 (by omega), ix_eq y x (by omega) (by omega)]
    simp only [← ld_cols7]
    rfl
  case piece1 =>
    rw [head_eq y 6 (by omega), ix_eq y x (by omega) (by omega)]
    simp only [← ld_cols6]
    rfl
  case piece2 =>
    rw [head_eq y 5 (by omega), ix_eq y x (by omega) (by omega)]
    simp only [← ld_cols5]
    rfl
  case piece3 =>
    rw [head_eq y 4 (by omega), ix_eq y x (by omega) (by omega)]
    simp only [← ld_cols4]
    rfl
  case piece4 =>
    rw [head_eq y 3 (by omega), ix_eq y x (by omega) (by omega)]
    simp only [← ld_cols3]
    rfl
  case piece5 =>
    rw [head_eq y 2 (by omega), ix_eq y x (by omega) (by omega)]
    simp only [← ld_cols2]
    rfl
  case piece6 =>
    rw [head_eq y 1 (by omega), ix_eq y x (by omega) (by omega)]
    simp only [← ld_cols1]
    rfl
  case piece7 =>
    rw [head_eq y 0 (by omega), ix_eq y x (by omega) (by omega)]
    simp only [← ld_cols0]
    rfl

theorem final4 : (dats m 0 c).arrAt 4 (cfgs 0).N = normLanes (m ((c : Thread nD τ).loc main_arg0)) (m ((c : Thread nD τ).loc main_arg1)) 4096 (by omega) := by
  refine (dats m 0 c).arrAt_eq_of_covers 4 _ (by decide +kernel) fun t _ y => ?_
  blk_simp
  rw [after0_4]
  refine (heads4 m c t y).trans ?_
  idx_vars y
  refine ((norm_at ..).trans ?_).trans (at4 t _ _ _).symm
  exact congrArg₂ (fun a b : EReal => a * b) (congrArg₂ (fun a b : EReal => a * b) (row0 m c t _ _)
    (congrArg (factor lanes) (funext fun j => row0 m c t _ _))) (row2 m c t _ _)
theorem heads5 (y : S256x1024.Idx) : out0_5 (F := Ideal) (iblk m c 0 t) (iblk m c 1 t) (iblk m c 2 t) (iblk m c 3 t) y
    = headNorm (cols (iblk m c 1 t) (headIx (y 1))) (iblk m c 3 t) (ix2 (y 0) (laneIx (y 1))) := by
  frame_out
  canon_tiles x h
  case piece0 =>
    rw [head_eq y 7 (by omega), ix_eq y x (by omega) (by omega)]
    simp only [← ld_cols7]
    rfl
  case piece1 =>
    rw [head_eq y 6 (by omega), ix_eq y x (by omega) (by omega)]
    simp only [← ld_cols6]
    rfl
  case piece2 =>
    rw [head_eq y 5 (by omega), ix_eq y x (by omega) (by omega)]
    simp only [← ld_cols5]
    rfl
  case piece3 =>
    rw [head_eq y 4 (by omega), ix_eq y x (by omega) (by omega)]
    simp only [← ld_cols4]
    rfl
  case piece4 =>
    rw [head_eq y 3 (by omega), ix_eq y x (by omega) (by omega)]
    simp only [← ld_cols3]
    rfl
  case piece5 =>
    rw [head_eq y 2 (by omega), ix_eq y x (by omega) (by omega)]
    simp only [← ld_cols2]
    rfl
  case piece6 =>
    rw [head_eq y 1 (by omega), ix_eq y x (by omega) (by omega)]
    simp only [← ld_cols1]
    rfl
  case piece7 =>
    rw [head_eq y 0 (by omega), ix_eq y x (by omega) (by omega)]
    simp only [← ld_cols0]
    rfl

theorem final5 : (dats m 0 c).arrAt 5 (cfgs 0).N = normLanes (m ((c : Thread nD τ).loc main_arg0)) (m ((c : Thread nD τ).loc main_arg2)) 5120 (by omega) := by
  refine (dats m 0 c).arrAt_eq_of_covers 5 _ (by decide +kernel) fun t _ y => ?_
  blk_simp
  rw [after0_5]
  refine (heads5 m c t y).trans ?_
  idx_vars y
  refine ((norm_at ..).trans ?_).trans (at5 t _ _ _).symm
  exact congrArg₂ (fun a b : EReal => a * b) (congrArg₂ (fun a b : EReal => a * b) (row1 m c t _ _)
    (congrArg (factor lanes) (funext fun j => row1 m c t _ _))) (row3 m c t _ _)

end Cert.QkPrepIdeal.Value

end
-- ==== Proof.LanesForwardRows.lean ====
/-  The normalised queries and keys, as the reference writes them. -/
module

public import proofs.«01_k».proof.Proof.Modulate
public import Idealize.ShloMosaic.Lib.Pipeline.ValueKit
public import proofs.«01_k».proof.Proof.Gen.QkPrepRefIdeal.Run

@[expose] public section

set_option maxRecDepth 16384

noncomputable section

namespace Cert.QkPrepRefIdeal.Value

open Idealize.ShloMosaic Idealize.ShloMosaic.TcCoe Idealize.SL.Sem
open Cert.QkPrepRefIdeal Cert.QkPrepRefIdeal.Gen Cert.Attn Cert.Mat Cert.Rows Cert.Norm

variable (m : (ℓ : Loc nD τ sig) → Buf (Elt Ideal) ℓ)

variable (c : Dev nD)

theorem queries : (show FVec Ideal S2048x1024 .f32 from shapeCast _ (mulf (mulf (shapeCast _ (extractStridedSlice S2048x1024 ![0, 4096] (m ((c.tc : Thread nD τ).loc main_arg0)) slices_S2048x7168_S2048x1024_0_4096) shapeCasts_S2048x1024_S2048x8x128) (broadcastInDim S2048x8x128 ![0, 1, 2] bcast_S2048x8x1_S2048x8x128_0_1_2 (Host.rsqrt (addf (Host.divf (broadcastInDim S2048x8x1 ![0, 1] bcast_S2048x8_S2048x8x1_0_1 (Host.reduceAdd (mulf (shapeCast _ (extractStridedSlice S2048x1024 ![0, 4096] (m ((c.tc : Thread nD τ).loc main_arg0)) slices_S2048x7168_S2048x1024_0_4096) shapeCasts_S2048x1024_S2048x8x128) (shapeCast _ (extractStridedSlice S2048x1024 ![0, 4096] (m ((c.tc : Thread nD τ).loc main_arg0)) slices_S2048x7168_S2048x1024_0_4096) shapeCasts_S2048x1024_S2048x8x128)) (constant S_ .f32 0x00000000#32) reducesTo_S2048x8x128_S2048x8_d2 h_S_)) (broadcastInDim S2048x8x1 ![] bcast_S_S2048x8x1 (constant S_ .f32 0x43000000#32))) (broadcastInDim S2048x8x1 ![] bcast_S_S2048x8x1 (constant S_ .f32 0x358637BD#32)))))) (broadcastInDim S2048x8x128 ![0, 1, 2] bcast_S1x1x128_S2048x8x128_0_1_2 (broadcastInDim S1x1x128 ![1, 2] bcast_S1x128_S1x1x128_1_2 (m ((c.tc : Thread nD τ).loc main_arg1))))) shapeCasts_S2048x8x128_S2048x1024) = normLanes (m ((c.tc : Thread nD τ).loc main_arg0)) (m ((c.tc : Thread nD τ).loc main_arg1)) 4096 (by omega) := by
  funext i
  idx_vars i
  pointwise [normLanes, headRow, factor, meanSq, lanes, eps]
  refine congrArg₂ (fun a b : EReal => a * b) (congrArg₂ (fun a b : EReal => a * b) ?_ rfl) rfl
  exact congrArg (fun k => (m ((c.tc : Thread nD τ).loc main_arg0)) (ix2 i0 k)) (Fin.ext (show 4096 + i1.val = 4096 + (i1.val / 128 * 128 + i1.val % 128) by omega))

theorem keys : (show FVec Ideal S2048x1024 .f32 from shapeCast _ (mulf (mulf (shapeCast _ (extractStridedSlice S2048x1024 ![0, 5120] (m ((c.tc : Thread nD τ).loc main_arg0)) slices_S2048x7168_S2048x1024_0_5120) shapeCasts_S2048x1024_S2048x8x128) (broadcastInDim S2048x8x128 ![0, 1, 2] bcast_S2048x8x1_S2048x8x128_0_1_2 (Host.rsqrt (addf (Host.divf (broadcastInDim S2048x8x1 ![0, 1] bcast_S2048x8_S2048x8x1_0_1 (Host.reduceAdd (mulf (shapeCast _ (extractStridedSlice S2048x1024 ![0, 5120] (m ((c.tc : Thread nD τ).loc main_arg0)) slices_S2048x7168_S2048x1024_0_5120) shapeCasts_S2048x1024_S2048x8x128) (shapeCast _ (extractStridedSlice S2048x1024 ![0, 5120] (m ((c.tc : Thread nD τ).loc main_arg0)) slices_S2048x7168_S2048x1024_0_5120) shapeCasts_S2048x1024_S2048x8x128)) (constant S_ .f32 0x00000000#32) reducesTo_S2048x8x128_S2048x8_d2 h_S_)) (broadcastInDim S2048x8x1 ![] bcast_S_S2048x8x1 (constant S_ .f32 0x43000000#32))) (broadcastInDim S2048x8x1 ![] bcast_S_S2048x8x1 (constant S_ .f32 0x358637BD#32)))))) (broadcastInDim S2048x8x128 ![0, 1, 2] bcast_S1x1x128_S2048x8x128_0_1_2 (broadcastInDim S1x1x128 ![1, 2] bcast_S1x128_S1x1x128_1_2 (m ((c.tc : Thread nD τ).loc main_arg2))))) shapeCasts_S2048x8x128_S2048x1024) = normLanes (m ((c.tc : Thread nD τ).loc main_arg0)) (m ((c.tc : Thread nD τ).loc main_arg2)) 5120 (by omega) := by
  funext i
  idx_vars i
  pointwise [normLanes, headRow, factor, meanSq, lanes, eps]
  refine congrArg₂ (fun a b : EReal => a * b) (congrArg₂ (fun a b : EReal => a * b) ?_ rfl) rfl
  exact congrArg (fun k => (m ((c.tc : Thread nD τ).loc main_arg0)) (ix2 i0 k)) (Fin.ext (show 5120 + i1.val = 5120 + (i1.val / 128 * 128 + i1.val % 128) by omega))

end Cert.QkPrepRefIdeal.Value

end
-- ==== Proof.ForwardRef.lean ====
/-  The norms of the forward pass: the kernels compute what their references do. -/
module

public import proofs.«01_k».proof.Defs
public import proofs.«01_k».proof.Proof.NormForward
public import proofs.«01_k».proof.Proof.NormForwardRows
public import proofs.«01_k».proof.Proof.ResidForward
public import proofs.«01_k».proof.Proof.ResidForwardRows
public import proofs.«01_k».proof.Proof.LanesForward
public import proofs.«01_k».proof.Proof.LanesForwardRows
public import proofs.«01_k».proof.Proof.Gen.NormFwdIdeal.Value
public import proofs.«01_k».proof.Proof.Gen.NormFwdIdeal.Frame
public import proofs.«01_k».proof.Proof.Gen.NormFwdIdeal
public import proofs.«01_k».proof.Proof.Gen.NormFwdRefIdeal.Run
public import proofs.«01_k».proof.Proof.Gen.NormFwdRefIdeal
public import proofs.«01_k».proof.Proof.Gen.ResidFwdIdeal.Value
public import proofs.«01_k».proof.Proof.Gen.ResidFwdIdeal.Frame
public import proofs.«01_k».proof.Proof.Gen.ResidFwdIdeal
public import proofs.«01_k».proof.Proof.Gen.ResidFwdRefIdeal.Run
public import proofs.«01_k».proof.Proof.Gen.ResidFwdRefIdeal
public import proofs.«01_k».proof.Proof.Gen.QkPrepIdeal.Value
public import proofs.«01_k».proof.Proof.Gen.QkPrepIdeal.Frame
public import proofs.«01_k».proof.Proof.Gen.QkPrepIdeal
public import proofs.«01_k».proof.Proof.Gen.QkPrepRefIdeal.Run
public import proofs.«01_k».proof.Proof.Gen.QkPrepRefIdeal
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem
open Cert.Mat Cert.Attn Cert.Rows

open Cert.Norm (modulate normLanes)

/-- Every run of the reference of `NormFwd` ends, with its arguments kept and every counter at zero. -/
theorem frame_NormFwdRef : Cert.quiescent_NormFwdRefIdeal := by
  intro m g _
  exact (θ_run Cert.NormFwdRefIdeal.defs _ _).mono
    (fun r h => ⟨fun c => (h c).2, sem_eq_zero_of_no_sems (by decide) r.2⟩) (Cert.NormFwdRefIdeal.Value.run m g)

/-- Over the extended reals the first norm is its reference's. -/
theorem algebraic_NormFwd : Cert.algebraic_NormFwdIdeal_NormFwdRefIdeal := by
  intro m g m' g' _ hagree
  refine ⟨fun c => modulate (m ((c.tc : Thread Cert.NormFwdIdeal.nD Cert.NormFwdIdeal.τ).loc Cert.NormFwdIdeal.main_arg0)) (m ((c.tc : Thread Cert.NormFwdIdeal.nD Cert.NormFwdIdeal.τ).loc Cert.NormFwdIdeal.main_arg1)) (m ((c.tc : Thread Cert.NormFwdIdeal.nD Cert.NormFwdIdeal.τ).loc Cert.NormFwdIdeal.main_arg2)) (m ((c.tc : Thread Cert.NormFwdIdeal.nD Cert.NormFwdIdeal.τ).loc Cert.NormFwdIdeal.main_arg3)), ?_, ?_⟩
  · exact θ_run_mono (Cert.NormFwdIdeal.Value.run_blocks m g) fun r h c => ⟨(h c).1.trans (Cert.NormFwdIdeal.Value.final4 m c), (h c).2⟩
  · refine θ_run_mono (Cert.NormFwdRefIdeal.Value.run m' g') fun r h c => ⟨(h c).1.trans ((Cert.NormFwdRefIdeal.Value.stream m' c).trans ?_), (h c).2⟩
    · rw [(hagree c).1, (hagree c).2.1, (hagree c).2.2.1, (hagree c).2.2.2]

/-- Every run of the reference of `ResidFwd` ends, with its arguments kept and every counter at zero. -/
theorem frame_ResidFwdRef : Cert.quiescent_ResidFwdRefIdeal := by
  intro m g _
  exact (θ_run Cert.ResidFwdRefIdeal.defs _ _).mono
    (fun r h => ⟨fun c => (h c).2.2, sem_eq_zero_of_no_sems (by decide) r.2⟩) (Cert.ResidFwdRefIdeal.Value.run m g)

/-- Over the extended reals the residual stream and the second norm are their reference's. -/
theorem algebraic_ResidFwd : Cert.algebraic_ResidFwdIdeal_ResidFwdRefIdeal := by
  intro m g m' g' _ hagree
  refine ⟨fun c => Cert.Norm.residual (m ((c.tc : Thread Cert.ResidFwdIdeal.nD Cert.ResidFwdIdeal.τ).loc Cert.ResidFwdIdeal.main_arg0)) (m ((c.tc : Thread Cert.ResidFwdIdeal.nD Cert.ResidFwdIdeal.τ).loc Cert.ResidFwdIdeal.main_arg1)) (m ((c.tc : Thread Cert.ResidFwdIdeal.nD Cert.ResidFwdIdeal.τ).loc Cert.ResidFwdIdeal.main_arg2)),
    fun c => modulate (Cert.Norm.residual (m ((c.tc : Thread Cert.ResidFwdIdeal.nD Cert.ResidFwdIdeal.τ).loc Cert.ResidFwdIdeal.main_arg0)) (m ((c.tc : Thread Cert.ResidFwdIdeal.nD Cert.ResidFwdIdeal.τ).loc Cert.ResidFwdIdeal.main_arg1)) (m ((c.tc : Thread Cert.ResidFwdIdeal.nD Cert.ResidFwdIdeal.τ).loc Cert.ResidFwdIdeal.main_arg2))) (m ((c.tc : Thread Cert.ResidFwdIdeal.nD Cert.ResidFwdIdeal.τ).loc Cert.ResidFwdIdeal.main_arg3)) (m ((c.tc : Thread Cert.ResidFwdIdeal.nD Cert.ResidFwdIdeal.τ).loc Cert.ResidFwdIdeal.main_arg4)) (m ((c.tc : Thread Cert.ResidFwdIdeal.nD Cert.ResidFwdIdeal.τ).loc Cert.ResidFwdIdeal.main_arg5)), ?_, ?_⟩
  · exact θ_run_mono (Cert.ResidFwdIdeal.Value.run_blocks m g) fun r h c => ⟨(h c).1.trans (Cert.ResidFwdIdeal.Value.final6 m c), (h c).2.1.trans (Cert.ResidFwdIdeal.Value.final7 m c), (h c).2.2⟩
  · refine θ_run_mono (Cert.ResidFwdRefIdeal.Value.run m' g') fun r h c => ⟨(h c).1.trans ((Cert.ResidFwdRefIdeal.Value.residual m' c).trans ?_), (h c).2.1.trans ((Cert.ResidFwdRefIdeal.Value.stream m' c).trans ?_), (h c).2.2⟩
    · rw [(hagree c).1, (hagree c).2.1, (hagree c).2.2.1]
    · rw [(hagree c).1, (hagree c).2.1, (hagree c).2.2.1, (hagree c).2.2.2.1, (hagree c).2.2.2.2.1, (hagree c).2.2.2.2.2]

/-- Every run of the reference of `QkPrep` ends, with its arguments kept and every counter at zero. -/
theorem frame_QkPrepRef : Cert.quiescent_QkPrepRefIdeal := by
  intro m g _
  exact (θ_run Cert.QkPrepRefIdeal.defs _ _).mono
    (fun r h => ⟨fun c => (h c).2.2, sem_eq_zero_of_no_sems (by decide) r.2⟩) (Cert.QkPrepRefIdeal.Value.run m g)

/-- Over the extended reals the normalised queries and keys are their reference's. -/
theorem algebraic_QkPrep : Cert.algebraic_QkPrepIdeal_QkPrepRefIdeal := by
  intro m g m' g' _ hagree
  refine ⟨fun c => normLanes (m ((c.tc : Thread Cert.QkPrepIdeal.nD Cert.QkPrepIdeal.τ).loc Cert.QkPrepIdeal.main_arg0)) (m ((c.tc : Thread Cert.QkPrepIdeal.nD Cert.QkPrepIdeal.τ).loc Cert.QkPrepIdeal.main_arg1)) 4096 (by omega),
    fun c => normLanes (m ((c.tc : Thread Cert.QkPrepIdeal.nD Cert.QkPrepIdeal.τ).loc Cert.QkPrepIdeal.main_arg0)) (m ((c.tc : Thread Cert.QkPrepIdeal.nD Cert.QkPrepIdeal.τ).loc Cert.QkPrepIdeal.main_arg2)) 5120 (by omega), ?_, ?_⟩
  · exact θ_run_mono (Cert.QkPrepIdeal.Value.run_blocks m g) fun r h c => ⟨(h c).1.trans (Cert.QkPrepIdeal.Value.final4 m c), (h c).2.1.trans (Cert.QkPrepIdeal.Value.final5 m c), (h c).2.2⟩
  · refine θ_run_mono (Cert.QkPrepRefIdeal.Value.run m' g') fun r h c => ⟨(h c).1.trans ((Cert.QkPrepRefIdeal.Value.queries m' c).trans ?_), (h c).2.1.trans ((Cert.QkPrepRefIdeal.Value.keys m' c).trans ?_), (h c).2.2⟩
    · rw [(hagree c).1, (hagree c).2.1]
    · rw [(hagree c).1, (hagree c).2.2]

end Cert.Proof

end
-- ==== Proof.lean ====
/- The certificate: each call claimed runs from any arrays and leaves the machine quiescent (on machine floats and over
   the reals), so does its reference, and over the extended reals the arrays it writes are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Final
public import proofs.«01_k».proof.Proof.Ref
public import proofs.«01_k».proof.Proof.Products
public import proofs.«01_k».proof.Proof.Updates
public import proofs.«01_k».proof.Proof.AdaSums
public import proofs.«01_k».proof.Proof.LossRef
public import proofs.«01_k».proof.Proof.NormRef
public import proofs.«01_k».proof.Proof.LanesRef
public import proofs.«01_k».proof.Proof.BoundsRef
public import proofs.«01_k».proof.Proof.ForwardRef
public import proofs.«01_k».proof.Proof.Gen.UpBwdW
public import proofs.«01_k».proof.Proof.Gen.UpBwdW.Frame
public import proofs.«01_k».proof.Proof.Gen.UpBwdWIdeal.Frame
public import proofs.«01_k».proof.Proof.Gen.UpBwdWIdeal.Value
public import proofs.«01_k».proof.Proof.Gen.UpBwdWRefIdeal.Run
public import proofs.«01_k».proof.Proof.Gen.UpBwdX
public import proofs.«01_k».proof.Proof.Gen.UpBwdX.Frame
public import proofs.«01_k».proof.Proof.Gen.UpBwdXIdeal.Frame
public import proofs.«01_k».proof.Proof.Gen.UpBwdXIdeal.Value
public import proofs.«01_k».proof.Proof.Gen.UpBwdXRefIdeal.Run
public import proofs.«01_k».proof.Proof.Gen.DownBwdW
public import proofs.«01_k».proof.Proof.Gen.DownBwdW.Frame
public import proofs.«01_k».proof.Proof.Gen.DownBwdWIdeal.Frame
public import proofs.«01_k».proof.Proof.Gen.DownBwdWIdeal.Value
public import proofs.«01_k».proof.Proof.Gen.DownBwdWRefIdeal.Run
public import proofs.«01_k».proof.Proof.Gen.DownBwdX
public import proofs.«01_k».proof.Proof.Gen.DownBwdX.Frame
public import proofs.«01_k».proof.Proof.Gen.DownBwdXIdeal.Frame
public import proofs.«01_k».proof.Proof.Gen.DownBwdXIdeal.Value
public import proofs.«01_k».proof.Proof.Gen.DownBwdXRefIdeal.Run
public import proofs.«01_k».proof.Proof.Gen.ProjBwdW0
public import proofs.«01_k».proof.Proof.Gen.ProjBwdW0.Frame
public import proofs.«01_k».proof.Proof.Gen.ProjBwdW0Ideal.Frame
public import proofs.«01_k».proof.Proof.Gen.ProjBwdW0Ideal.Value
public import proofs.«01_k».proof.Proof.Gen.ProjBwdW0RefIdeal.Run
public import proofs.«01_k».proof.Proof.Gen.ProjBwdW1
public import proofs.«01_k».proof.Proof.Gen.ProjBwdW1.Frame
public import proofs.«01_k».proof.Proof.Gen.ProjBwdW1Ideal.Frame
public import proofs.«01_k».proof.Proof.Gen.ProjBwdW1Ideal.Value
public import proofs.«01_k».proof.Proof.Gen.ProjBwdW1RefIdeal.Run
public import proofs.«01_k».proof.Proof.Gen.ProjBwdX
public import proofs.«01_k».proof.Proof.Gen.ProjBwdX.Frame
public import proofs.«01_k».proof.Proof.Gen.ProjBwdXIdeal.Frame
public import proofs.«01_k».proof.Proof.Gen.ProjBwdXIdeal.Value
public import proofs.«01_k».proof.Proof.Gen.ProjBwdXRefIdeal.Run
public import proofs.«01_k».proof.Proof.Gen.MixBwdW
public import proofs.«01_k».proof.Proof.Gen.MixBwdW.Frame
public import proofs.«01_k».proof.Proof.Gen.MixBwdWIdeal.Frame
public import proofs.«01_k».proof.Proof.Gen.MixBwdWIdeal.Value
public import proofs.«01_k».proof.Proof.Gen.MixBwdWRefIdeal.Run
public import proofs.«01_k».proof.Proof.Gen.MixBwdX
public import proofs.«01_k».proof.Proof.Gen.MixBwdX.Frame
public import proofs.«01_k».proof.Proof.Gen.MixBwdXIdeal.Frame
public import proofs.«01_k».proof.Proof.Gen.MixBwdXIdeal.Value
public import proofs.«01_k».proof.Proof.Gen.MixBwdXRefIdeal.Run
public import proofs.«01_k».proof.Proof.Gen.UpFwd
public import proofs.«01_k».proof.Proof.Gen.UpFwd.Frame
public import proofs.«01_k».proof.Proof.Gen.UpFwdIdeal.Frame
public import proofs.«01_k».proof.Proof.Gen.UpFwdIdeal.Value
public import proofs.«01_k».proof.Proof.Gen.UpFwdRefIdeal.Run
public import proofs.«01_k».proof.Proof.Gen.DownFwd
public import proofs.«01_k».proof.Proof.Gen.DownFwd.Frame
public import proofs.«01_k».proof.Proof.Gen.DownFwdIdeal.Frame
public import proofs.«01_k».proof.Proof.Gen.DownFwdIdeal.Value
public import proofs.«01_k».proof.Proof.Gen.DownFwdRefIdeal.Run
public import proofs.«01_k».proof.Proof.Gen.ProjFwd
public import proofs.«01_k».proof.Proof.Gen.ProjFwd.Frame
public import proofs.«01_k».proof.Proof.Gen.ProjFwdIdeal.Frame
public import proofs.«01_k».proof.Proof.Gen.ProjFwdIdeal.Value
public import proofs.«01_k».proof.Proof.Gen.ProjFwdRefIdeal.Run
public import proofs.«01_k».proof.Proof.Gen.MixFwd
public import proofs.«01_k».proof.Proof.Gen.MixFwd.Frame
public import proofs.«01_k».proof.Proof.Gen.MixFwdIdeal.Frame
public import proofs.«01_k».proof.Proof.Gen.MixFwdIdeal.Value
public import proofs.«01_k».proof.Proof.Gen.MixFwdRefIdeal.Run
public import proofs.«01_k».proof.Proof.Gen.AdamWIn
public import proofs.«01_k».proof.Proof.Gen.AdamWIn.Frame
public import proofs.«01_k».proof.Proof.Gen.AdamWInIdeal.Frame
public import proofs.«01_k».proof.Proof.Gen.AdamWInIdeal.Value
public import proofs.«01_k».proof.Proof.Gen.AdamWInRefIdeal.Run
public import proofs.«01_k».proof.Proof.Gen.AdamBAda
public import proofs.«01_k».proof.Proof.Gen.AdamBAda.Frame
public import proofs.«01_k».proof.Proof.Gen.AdamBAdaIdeal.Frame
public import proofs.«01_k».proof.Proof.Gen.AdamBAdaIdeal.Value
public import proofs.«01_k».proof.Proof.Gen.AdamBAdaRefIdeal.Run
public import proofs.«01_k».proof.Proof.Gen.AdamNorm
public import proofs.«01_k».proof.Proof.Gen.AdamNorm.Frame
public import proofs.«01_k».proof.Proof.Gen.AdamNormIdeal.Frame
public import proofs.«01_k».proof.Proof.Gen.AdamNormIdeal.Value
public import proofs.«01_k».proof.Proof.Gen.AdamNormRefIdeal.Run
public import proofs.«01_k».proof.Proof.Gen.AdamLb
public import proofs.«01_k».proof.Proof.Gen.AdamLb.Frame
public import proofs.«01_k».proof.Proof.Gen.AdamLbIdeal.Frame
public import proofs.«01_k».proof.Proof.Gen.AdamLbIdeal.Value
public import proofs.«01_k».proof.Proof.Gen.AdamLbRefIdeal.Run
public import proofs.«01_k».proof.Proof.Gen.AdamHead
public import proofs.«01_k».proof.Proof.Gen.AdamHead.Frame
public import proofs.«01_k».proof.Proof.Gen.AdamHeadIdeal.Frame
public import proofs.«01_k».proof.Proof.Gen.AdamHeadIdeal.Value
public import proofs.«01_k».proof.Proof.Gen.AdamHeadRefIdeal.Run
public import proofs.«01_k».proof.Proof.Gen.AdamConvW
public import proofs.«01_k».proof.Proof.Gen.AdamConvW.Frame
public import proofs.«01_k».proof.Proof.Gen.AdamConvWIdeal.Frame
public import proofs.«01_k».proof.Proof.Gen.AdamConvWIdeal.Value
public import proofs.«01_k».proof.Proof.Gen.AdamConvWRefIdeal.Run
public import proofs.«01_k».proof.Proof.Gen.AdamConvB
public import proofs.«01_k».proof.Proof.Gen.AdamConvB.Frame
public import proofs.«01_k».proof.Proof.Gen.AdamConvBIdeal.Frame
public import proofs.«01_k».proof.Proof.Gen.AdamConvBIdeal.Value
public import proofs.«01_k».proof.Proof.Gen.AdamConvBRefIdeal.Run
public import proofs.«01_k».proof.Proof.Gen.AdaBwd
public import proofs.«01_k».proof.Proof.Gen.AdaBwd.Frame
public import proofs.«01_k».proof.Proof.Gen.AdaBwdIdeal.Frame
public import proofs.«01_k».proof.Proof.Gen.AdaBwdIdeal.Value
public import proofs.«01_k».proof.Proof.Gen.AdaBwdRefIdeal.Run
public import proofs.«01_k».proof.Proof.Gen.AdaFwd
public import proofs.«01_k».proof.Proof.Gen.AdaFwd.Frame
public import proofs.«01_k».proof.Proof.Gen.AdaFwdIdeal.Frame
public import proofs.«01_k».proof.Proof.Gen.AdaFwdIdeal.Value
public import proofs.«01_k».proof.Proof.Gen.AdaFwdRefIdeal.Run
public import proofs.«01_k».proof.Proof.Gen.SumSmall
public import proofs.«01_k».proof.Proof.Gen.SumSmall.Frame
public import proofs.«01_k».proof.Proof.Gen.SumSmallIdeal.Frame
public import proofs.«01_k».proof.Proof.Gen.SumSmallIdeal.Value
public import proofs.«01_k».proof.Proof.Gen.SumSmallRefIdeal.Run
public import proofs.«01_k».proof.Proof.Gen.SumBAda
public import proofs.«01_k».proof.Proof.Gen.SumBAda.Frame
public import proofs.«01_k».proof.Proof.Gen.SumBAdaIdeal.Frame
public import proofs.«01_k».proof.Proof.Gen.SumBAdaIdeal.Value
public import proofs.«01_k».proof.Proof.Gen.SumBAdaRefIdeal.Run
public import proofs.«01_k».proof.Proof.Gen.LbGrad
public import proofs.«01_k».proof.Proof.Gen.LbGrad.Frame
public import proofs.«01_k».proof.Proof.Gen.LbGradIdeal.Frame
public import proofs.«01_k».proof.Proof.Gen.LbGradIdeal.Value
public import proofs.«01_k».proof.Proof.Gen.LbGradRefIdeal.Run
public import proofs.«01_k».proof.Proof.Gen.OutLoss
public import proofs.«01_k».proof.Proof.Gen.OutLoss.Frame
public import proofs.«01_k».proof.Proof.Gen.OutLossIdeal.Frame
public import proofs.«01_k».proof.Proof.Gen.OutLossIdeal.Value
public import proofs.«01_k».proof.Proof.Gen.OutLossRefIdeal.Run
public import proofs.«01_k».proof.Proof.Gen.Norm1Bwd
public import proofs.«01_k».proof.Proof.Gen.Norm1Bwd.Frame
public import proofs.«01_k».proof.Proof.Gen.Norm1BwdIdeal.Frame
public import proofs.«01_k».proof.Proof.Gen.Norm1BwdIdeal.Value
public import proofs.«01_k».proof.Proof.Gen.Norm1BwdRefIdeal.Run
public import proofs.«01_k».proof.Proof.Gen.Norm2Bwd
public import proofs.«01_k».proof.Proof.Gen.Norm2Bwd.Frame
public import proofs.«01_k».proof.Proof.Gen.Norm2BwdIdeal.Frame
public import proofs.«01_k».proof.Proof.Gen.Norm2BwdIdeal.Value
public import proofs.«01_k».proof.Proof.Gen.Norm2BwdRefIdeal.Run
public import proofs.«01_k».proof.Proof.Gen.QkNormBwd
public import proofs.«01_k».proof.Proof.Gen.QkNormBwd.Frame
public import proofs.«01_k».proof.Proof.Gen.QkNormBwdIdeal.Frame
public import proofs.«01_k».proof.Proof.Gen.QkNormBwdIdeal.Value
public import proofs.«01_k».proof.Proof.Gen.QkNormBwdRefIdeal.Run
public import proofs.«01_k».proof.Proof.Gen.NormFwd
public import proofs.«01_k».proof.Proof.Gen.NormFwd.Frame
public import proofs.«01_k».proof.Proof.Gen.NormFwdIdeal.Frame
public import proofs.«01_k».proof.Proof.Gen.NormFwdIdeal.Value
public import proofs.«01_k».proof.Proof.Gen.NormFwdRefIdeal.Run
public import proofs.«01_k».proof.Proof.Gen.ResidFwd
public import proofs.«01_k».proof.Proof.Gen.ResidFwd.Frame
public import proofs.«01_k».proof.Proof.Gen.ResidFwdIdeal.Frame
public import proofs.«01_k».proof.Proof.Gen.ResidFwdIdeal.Value
public import proofs.«01_k».proof.Proof.Gen.ResidFwdRefIdeal.Run
public import proofs.«01_k».proof.Proof.Gen.QkPrep
public import proofs.«01_k».proof.Proof.Gen.QkPrep.Frame
public import proofs.«01_k».proof.Proof.Gen.QkPrepIdeal.Frame
public import proofs.«01_k».proof.Proof.Gen.QkPrepIdeal.Value
public import proofs.«01_k».proof.Proof.Gen.QkPrepRefIdeal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- Every run of the reference ends, with its arguments kept and every counter at zero. -/
theorem frame_reference : Cert.quiescent_ReferenceIdeal := by
  intro m g _
  exact (θ_run Cert.ReferenceIdeal.defs _ _).mono
    (fun r h => ⟨fun c => (h c).2.2.2, sem_eq_zero_of_no_sems (by decide) r.2⟩) (Cert.ReferenceIdeal.Value.run m g)

set_option maxHeartbeats 1600000 in
/-- Over the extended reals the kernel's three arrays are the reference's three gradients. -/
theorem algebraic : Cert.algebraic_KernelIdeal_ReferenceIdeal := by
  pair_intro
  · run_from Cert.KernelIdeal.Value.run_blocks m g
  · run_from Cert.ReferenceIdeal.Value.run m' g'
    · exact (Cert.ReferenceIdeal.Value.refDq_eq _ _ _ _ _ _).trans (Cert.KernelIdeal.Value.final13 m c).symm
    · exact (Cert.ReferenceIdeal.Value.refDk_eq _ _ _ _ _ _).trans (Cert.KernelIdeal.Value.final14 m c).symm
    · exact (Cert.ReferenceIdeal.Value.refDv_eq _ _ _ _ _ _).trans (Cert.KernelIdeal.Value.final15 m c).symm

theorem claim : Cert.Claim :=
  ⟨Cert.Kernel.Gen.facts, Cert.KernelIdeal.Gen.facts, Cert.ReferenceIdeal.Gen.facts,
    Cert.UpBwdW.Gen.facts, Cert.UpBwdWIdeal.Gen.facts, Cert.UpBwdWRefIdeal.Gen.facts,
    Cert.UpBwdX.Gen.facts, Cert.UpBwdXIdeal.Gen.facts, Cert.UpBwdXRefIdeal.Gen.facts,
    Cert.DownBwdW.Gen.facts, Cert.DownBwdWIdeal.Gen.facts, Cert.DownBwdWRefIdeal.Gen.facts,
    Cert.DownBwdX.Gen.facts, Cert.DownBwdXIdeal.Gen.facts, Cert.DownBwdXRefIdeal.Gen.facts,
    Cert.ProjBwdW0.Gen.facts, Cert.ProjBwdW0Ideal.Gen.facts, Cert.ProjBwdW0RefIdeal.Gen.facts,
    Cert.ProjBwdW1.Gen.facts, Cert.ProjBwdW1Ideal.Gen.facts, Cert.ProjBwdW1RefIdeal.Gen.facts,
    Cert.ProjBwdX.Gen.facts, Cert.ProjBwdXIdeal.Gen.facts, Cert.ProjBwdXRefIdeal.Gen.facts,
    Cert.MixBwdW.Gen.facts, Cert.MixBwdWIdeal.Gen.facts, Cert.MixBwdWRefIdeal.Gen.facts,
    Cert.MixBwdX.Gen.facts, Cert.MixBwdXIdeal.Gen.facts, Cert.MixBwdXRefIdeal.Gen.facts,
    Cert.UpFwd.Gen.facts, Cert.UpFwdIdeal.Gen.facts, Cert.UpFwdRefIdeal.Gen.facts,
    Cert.DownFwd.Gen.facts, Cert.DownFwdIdeal.Gen.facts, Cert.DownFwdRefIdeal.Gen.facts,
    Cert.ProjFwd.Gen.facts, Cert.ProjFwdIdeal.Gen.facts, Cert.ProjFwdRefIdeal.Gen.facts,
    Cert.MixFwd.Gen.facts, Cert.MixFwdIdeal.Gen.facts, Cert.MixFwdRefIdeal.Gen.facts,
    Cert.AdamWIn.Gen.facts, Cert.AdamWInIdeal.Gen.facts, Cert.AdamWInRefIdeal.Gen.facts,
    Cert.AdamBAda.Gen.facts, Cert.AdamBAdaIdeal.Gen.facts, Cert.AdamBAdaRefIdeal.Gen.facts,
    Cert.AdamNorm.Gen.facts, Cert.AdamNormIdeal.Gen.facts, Cert.AdamNormRefIdeal.Gen.facts,
    Cert.AdamLb.Gen.facts, Cert.AdamLbIdeal.Gen.facts, Cert.AdamLbRefIdeal.Gen.facts,
    Cert.AdamHead.Gen.facts, Cert.AdamHeadIdeal.Gen.facts, Cert.AdamHeadRefIdeal.Gen.facts,
    Cert.AdamConvW.Gen.facts, Cert.AdamConvWIdeal.Gen.facts, Cert.AdamConvWRefIdeal.Gen.facts,
    Cert.AdamConvB.Gen.facts, Cert.AdamConvBIdeal.Gen.facts, Cert.AdamConvBRefIdeal.Gen.facts,
    Cert.AdaBwd.Gen.facts, Cert.AdaBwdIdeal.Gen.facts, Cert.AdaBwdRefIdeal.Gen.facts,
    Cert.AdaFwd.Gen.facts, Cert.AdaFwdIdeal.Gen.facts, Cert.AdaFwdRefIdeal.Gen.facts,
    Cert.SumSmall.Gen.facts, Cert.SumSmallIdeal.Gen.facts, Cert.SumSmallRefIdeal.Gen.facts,
    Cert.SumBAda.Gen.facts, Cert.SumBAdaIdeal.Gen.facts, Cert.SumBAdaRefIdeal.Gen.facts,
    Cert.LbGrad.Gen.facts, Cert.LbGradIdeal.Gen.facts, Cert.LbGradRefIdeal.Gen.facts,
    Cert.OutLoss.Gen.facts, Cert.OutLossIdeal.Gen.facts, Cert.OutLossRefIdeal.Gen.facts,
    Cert.Norm1Bwd.Gen.facts, Cert.Norm1BwdIdeal.Gen.facts, Cert.Norm1BwdRefIdeal.Gen.facts,
    Cert.Norm2Bwd.Gen.facts, Cert.Norm2BwdIdeal.Gen.facts, Cert.Norm2BwdRefIdeal.Gen.facts,
    Cert.QkNormBwd.Gen.facts, Cert.QkNormBwdIdeal.Gen.facts, Cert.QkNormBwdRefIdeal.Gen.facts,
    Cert.NormFwd.Gen.facts, Cert.NormFwdIdeal.Gen.facts, Cert.NormFwdRefIdeal.Gen.facts,
    Cert.ResidFwd.Gen.facts, Cert.ResidFwdIdeal.Gen.facts, Cert.ResidFwdRefIdeal.Gen.facts,
    Cert.QkPrep.Gen.facts, Cert.QkPrepIdeal.Gen.facts, Cert.QkPrepRefIdeal.Gen.facts,
    finite_facts,
    fun m ρ _ => Cert.Kernel.Gen.frame m ρ, fun m ρ _ => Cert.KernelIdeal.Gen.frame m ρ, frame_reference,
    fun m ρ _ => Cert.UpBwdW.Gen.frame m ρ, fun m ρ _ => Cert.UpBwdWIdeal.Gen.frame m ρ, frame_UpBwdWRef,
    fun m ρ _ => Cert.UpBwdX.Gen.frame m ρ, fun m ρ _ => Cert.UpBwdXIdeal.Gen.frame m ρ, frame_UpBwdXRef,
    fun m ρ _ => Cert.DownBwdW.Gen.frame m ρ, fun m ρ _ => Cert.DownBwdWIdeal.Gen.frame m ρ, frame_DownBwdWRef,
    fun m ρ _ => Cert.DownBwdX.Gen.frame m ρ, fun m ρ _ => Cert.DownBwdXIdeal.Gen.frame m ρ, frame_DownBwdXRef,
    fun m ρ _ => Cert.ProjBwdW0.Gen.frame m ρ, fun m ρ _ => Cert.ProjBwdW0Ideal.Gen.frame m ρ, frame_ProjBwdW0Ref,
    fun m ρ _ => Cert.ProjBwdW1.Gen.frame m ρ, fun m ρ _ => Cert.ProjBwdW1Ideal.Gen.frame m ρ, frame_ProjBwdW1Ref,
    fun m ρ _ => Cert.ProjBwdX.Gen.frame m ρ, fun m ρ _ => Cert.ProjBwdXIdeal.Gen.frame m ρ, frame_ProjBwdXRef,
    fun m ρ _ => Cert.MixBwdW.Gen.frame m ρ, fun m ρ _ => Cert.MixBwdWIdeal.Gen.frame m ρ, frame_MixBwdWRef,
    fun m ρ _ => Cert.MixBwdX.Gen.frame m ρ, fun m ρ _ => Cert.MixBwdXIdeal.Gen.frame m ρ, frame_MixBwdXRef,
    fun m ρ _ => Cert.UpFwd.Gen.frame m ρ, fun m ρ _ => Cert.UpFwdIdeal.Gen.frame m ρ, frame_UpFwdRef,
    fun m ρ _ => Cert.DownFwd.Gen.frame m ρ, fun m ρ _ => Cert.DownFwdIdeal.Gen.frame m ρ, frame_DownFwdRef,
    fun m ρ _ => Cert.ProjFwd.Gen.frame m ρ, fun m ρ _ => Cert.ProjFwdIdeal.Gen.frame m ρ, frame_ProjFwdRef,
    fun m ρ _ => Cert.MixFwd.Gen.frame m ρ, fun m ρ _ => Cert.MixFwdIdeal.Gen.frame m ρ, frame_MixFwdRef,
    fun m ρ _ => Cert.AdamWIn.Gen.frame m ρ, fun m ρ _ => Cert.AdamWInIdeal.Gen.frame m ρ, frame_AdamWInRef,
    fun m ρ _ => Cert.AdamBAda.Gen.frame m ρ, fun m ρ _ => Cert.AdamBAdaIdeal.Gen.frame m ρ, frame_AdamBAdaRef,
    fun m ρ _ => Cert.AdamNorm.Gen.frame m ρ, fun m ρ _ => Cert.AdamNormIdeal.Gen.frame m ρ, frame_AdamNormRef,
    fun m ρ _ => Cert.AdamLb.Gen.frame m ρ, fun m ρ _ => Cert.AdamLbIdeal.Gen.frame m ρ, frame_AdamLbRef,
    fun m ρ _ => Cert.AdamHead.Gen.frame m ρ, fun m ρ _ => Cert.AdamHeadIdeal.Gen.frame m ρ, frame_AdamHeadRef,
    fun m ρ _ => Cert.AdamConvW.Gen.frame m ρ, fun m ρ _ => Cert.AdamConvWIdeal.Gen.frame m ρ, frame_AdamConvWRef,
    fun m ρ _ => Cert.AdamConvB.Gen.frame m ρ, fun m ρ _ => Cert.AdamConvBIdeal.Gen.frame m ρ, frame_AdamConvBRef,
    fun m ρ _ => Cert.AdaBwd.Gen.frame m ρ, fun m ρ _ => Cert.AdaBwdIdeal.Gen.frame m ρ, frame_AdaBwdRef,
    fun m ρ _ => Cert.AdaFwd.Gen.frame m ρ, fun m ρ _ => Cert.AdaFwdIdeal.Gen.frame m ρ, frame_AdaFwdRef,
    fun m ρ _ => Cert.SumSmall.Gen.frame m ρ, fun m ρ _ => Cert.SumSmallIdeal.Gen.frame m ρ, frame_SumSmallRef,
    fun m ρ _ => Cert.SumBAda.Gen.frame m ρ, fun m ρ _ => Cert.SumBAdaIdeal.Gen.frame m ρ, frame_SumBAdaRef,
    fun m ρ _ => Cert.LbGrad.Gen.frame m ρ, fun m ρ _ => Cert.LbGradIdeal.Gen.frame m ρ, fun m ρ _ => Cert.LbGradIdeal.Gen.frame m ρ,
    frame_LbGradRef, fun m ρ _ => frame_LbGradRef m ρ trivial,
    fun m ρ _ => Cert.OutLoss.Gen.frame m ρ, fun m ρ _ => Cert.OutLossIdeal.Gen.frame m ρ, frame_OutLossRef,
    fun m ρ _ => Cert.Norm1Bwd.Gen.frame m ρ, fun m ρ _ => Cert.Norm1BwdIdeal.Gen.frame m ρ, frame_Norm1BwdRef,
    fun m ρ _ => Cert.Norm2Bwd.Gen.frame m ρ, fun m ρ _ => Cert.Norm2BwdIdeal.Gen.frame m ρ, frame_Norm2BwdRef,
    fun m ρ _ => Cert.QkNormBwd.Gen.frame m ρ, fun m ρ _ => Cert.QkNormBwdIdeal.Gen.frame m ρ, frame_QkNormBwdRef,
    fun m ρ _ => Cert.NormFwd.Gen.frame m ρ, fun m ρ _ => Cert.NormFwdIdeal.Gen.frame m ρ, frame_NormFwdRef,
    fun m ρ _ => Cert.ResidFwd.Gen.frame m ρ, fun m ρ _ => Cert.ResidFwdIdeal.Gen.frame m ρ, frame_ResidFwdRef,
    fun m ρ _ => Cert.QkPrep.Gen.frame m ρ, fun m ρ _ => Cert.QkPrepIdeal.Gen.frame m ρ, frame_QkPrepRef,
    trivial, algebraic,
    trivial, algebraic_UpBwdW,
    trivial, algebraic_UpBwdX,
    trivial, algebraic_DownBwdW,
    trivial, algebraic_DownBwdX,
    trivial, algebraic_ProjBwdW0,
    trivial, algebraic_ProjBwdW1,
    trivial, algebraic_ProjBwdX,
    trivial, algebraic_MixBwdW,
    trivial, algebraic_MixBwdX,
    trivial, algebraic_UpFwd,
    trivial, algebraic_DownFwd,
    trivial, algebraic_ProjFwd,
    trivial, algebraic_MixFwd,
    trivial, algebraic_AdamWIn,
    trivial, algebraic_AdamBAda,
    trivial, algebraic_AdamNorm,
    trivial, algebraic_AdamLb,
    trivial, algebraic_AdamHead,
    trivial, algebraic_AdamConvW,
    trivial, algebraic_AdamConvB,
    trivial, algebraic_AdaBwd,
    trivial, algebraic_AdaFwd,
    trivial, algebraic_SumSmall,
    trivial, algebraic_SumBAda,
    trivial, algebraic_LbGrad,
    trivial, algebraic_OutLoss,
    trivial, algebraic_Norm1Bwd,
    trivial, algebraic_Norm2Bwd,
    trivial, algebraic_QkNormBwd,
    trivial, algebraic_NormFwd,
    trivial, algebraic_ResidFwd,
    trivial, algebraic_QkPrep⟩

end Cert.Proof

end
